-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleRefIdeal (m : (ℓ : Loc Cert.MlpSampleRefIdeal.nD Cert.MlpSampleRefIdeal.τ Cert.MlpSampleRefIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def Pre_Joint (m : (ℓ : Loc Cert.Joint.nD Cert.Joint.τ Cert.Joint.sig) → Buf (Elt Bits) ℓ) : Prop :=
  True

def Pre_JointIdeal (m : (ℓ : Loc Cert.JointIdeal.nD Cert.JointIdeal.τ Cert.JointIdeal.sig) → Buf (Elt Ideal) ℓ) : Prop :=
  True

def Pre_JointRefIdeal (m : (ℓ : Loc Cert.JointRefIdeal.nD Cert.JointRefIdeal.τ Cert.JointRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2)
      ∧ r.2.mem ((c.tc : Thread Cert.RowsRefIdeal.nD Cert.RowsRefIdeal.τ).loc Cert.RowsRefIdeal.main_arg3) = m ((c.tc : Thread Cert.RowsRefIdeal.nD Cert.RowsRefIdeal.τ).loc Cert.RowsRefIdeal.main_arg3)
      ∧ r.2.mem ((c.tc : Thread Cert.RowsRefIdeal.nD Cert.RowsRefIdeal.τ).loc Cert.RowsRefIdeal.main_arg4) = m ((c.tc : Thread Cert.RowsRefIdeal.nD Cert.RowsRefIdeal.τ).loc Cert.RowsRefIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3))
      ∧ r.2.sem = fun _ => 0)

def quiescent_MlpSampleRefIdeal [hMlpSampleRefIdeal : Cert.MlpSampleRefIdeal.Facts] : Prop :=
  ∀ (m : (ℓ : Loc Cert.MlpSampleRefIdeal.nD Cert.MlpSampleRefIdeal.τ Cert.MlpSampleRefIdeal.sig) → Buf (Elt Ideal) ℓ) (g : Dev Cert.MlpSampleRefIdeal.nD → PrngReg), Pre_MlpSampleRefIdeal m →
    θ_run (Cert.MlpSampleRefIdeal.defs (F := Ideal)) (onTc (τ := Cert.MlpSampleRefIdeal.τ) (Cert.MlpSampleRefIdeal.main (F := Ideal))) ⟨m, fun _ => 0, g⟩ (fun r => (∀ c : Dev Cert.MlpSampleRefIdeal.nD,
      r.2.mem ((c.tc : Thread Cert.MlpSampleRefIdeal.nD Cert.MlpSampleRefIdeal.τ).loc Cert.MlpSampleRefIdeal.main_arg0) = m ((c.tc : Thread Cert.MlpSampleRefIdeal.nD Cert.MlpSampleRefIdeal.τ).loc Cert.MlpSampleRefIdeal.main_arg0)
      ∧ r.2.mem ((c.tc : Thread Cert.MlpSampleRefIdeal.nD Cert.MlpSampleRefIdeal.τ).loc Cert.MlpSampleRefIdeal.main_arg1) = m ((c.tc : Thread Cert.MlpSampleRefIdeal.nD Cert.MlpSampleRefIdeal.τ).loc Cert.MlpSampleRefIdeal.main_arg1)
      ∧ r.2.mem ((c.tc : Thread Cert.MlpSampleRefIdeal.nD Cert.MlpSampleRefIdeal.τ).loc Cert.MlpSampleRefIdeal.main_arg2) = m ((c.tc : Thread Cert.MlpSampleRefIdeal.nD Cert.MlpSampleRefIdeal.τ).loc Cert.MlpSampleRefIdeal.main_arg2)
      ∧ r.2.mem ((c.tc : Thread Cert.MlpSampleRefIdeal.nD Cert.MlpSampleRefIdeal.τ).loc Cert.MlpSampleRefIdeal.main_arg3) = m ((c.tc : Thread Cert.MlpSampleRefIdeal.nD Cert.MlpSampleRefIdeal.τ).loc Cert.MlpSampleRefIdeal.main_arg3))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7))
      ∧ r.2.sem = fun _ => 0)

def quiescent_Joint [hJoint : Cert.Joint.Facts] : Prop :=
  ∀ (m : (ℓ : Loc Cert.Joint.nD Cert.Joint.τ Cert.Joint.sig) → Buf (Elt Bits) ℓ) (g : Dev Cert.Joint.nD → PrngReg), Pre_Joint m →
    θ_run (Cert.Joint.defs (F := Bits)) (onTc (τ := Cert.Joint.τ) (Cert.Joint.main (F := Bits))) ⟨m, fun _ => 0, g⟩ (fun r => (∀ c : Dev Cert.Joint.nD,
      r.2.mem ((c.tc : Thread Cert.Joint.nD Cert.Joint.τ).loc Cert.Joint.main_arg0) = m ((c.tc : Thread Cert.Joint.nD Cert.Joint.τ).loc Cert.Joint.main_arg0)
      ∧ r.2.mem ((c.tc : Thread Cert.Joint.nD Cert.Joint.τ).loc Cert.Joint.main_arg1) = m ((c.tc : Thread Cert.Joint.nD Cert.Joint.τ).loc Cert.Joint.main_arg1)
      ∧ r.2.mem ((c.tc : Thread Cert.Joint.nD Cert.Joint.τ).loc Cert.Joint.main_arg2) = m ((c.tc : Thread Cert.Joint.nD Cert.Joint.τ).loc Cert.Joint.main_arg2)
      ∧ r.2.mem ((c.tc : Thread Cert.Joint.nD Cert.Joint.τ).loc Cert.Joint.main_arg3) = m ((c.tc : Thread Cert.Joint.nD Cert.Joint.τ).loc Cert.Joint.main_arg3)
      ∧ r.2.mem ((c.tc : Thread Cert.Joint.nD Cert.Joint.τ).loc Cert.Joint.main_arg4) = m ((c.tc : Thread Cert.Joint.nD Cert.Joint.τ).loc Cert.Joint.main_arg4)
      ∧ r.2.mem ((c.tc : Thread Cert.Joint.nD Cert.Joint.τ).loc Cert.Joint.main_arg5) = m ((c.tc : Thread Cert.Joint.nD Cert.Joint.τ).loc Cert.Joint.main_arg5)
      ∧ r.2.mem ((c.tc : Thread Cert.Joint.nD Cert.Joint.τ).loc Cert.Joint.main_arg6) = m ((c.tc : Thread Cert.Joint.nD Cert.Joint.τ).loc Cert.Joint.main_arg6)
      ∧ r.2.mem ((c.tc : Thread Cert.Joint.nD Cert.Joint.τ).loc Cert.Joint.main_arg7) = m ((c.tc : Thread Cert.Joint.nD Cert.Joint.τ).loc Cert.Joint.main_arg7)
      ∧ r.2.mem ((c.tc : Thread Cert.Joint.nD Cert.Joint.τ).loc Cert.Joint.main_arg8) = m ((c.tc : Thread Cert.Joint.nD Cert.Joint.τ).loc Cert.Joint.main_arg8)
      ∧ r.2.mem ((c.tc : Thread Cert.Joint.nD Cert.Joint.τ).loc Cert.Joint.main_arg9) = m ((c.tc : Thread Cert.Joint.nD Cert.Joint.τ).loc Cert.Joint.main_arg9)
      ∧ r.2.mem ((c.tc : Thread Cert.Joint.nD Cert.Joint.τ).loc Cert.Joint.main_arg10) = m ((c.tc : Thread Cert.Joint.nD Cert.Joint.τ).loc Cert.Joint.main_arg10)
      ∧ r.2.mem ((c.tc : Thread Cert.Joint.nD Cert.Joint.τ).loc Cert.Joint.main_arg11) = m ((c.tc : Thread Cert.Joint.nD Cert.Joint.τ).loc Cert.Joint.main_arg11))
      ∧ r.2.sem = fun _ => 0)

def quiescent_JointIdeal [hJointIdeal : Cert.JointIdeal.Facts] : Prop :=
  ∀ (m : (ℓ : Loc Cert.JointIdeal.nD Cert.JointIdeal.τ Cert.JointIdeal.sig) → Buf (Elt Ideal) ℓ) (g : Dev Cert.JointIdeal.nD → PrngReg), Pre_JointIdeal m →
    θ_run (Cert.JointIdeal.defs (F := Ideal)) (onTc (τ := Cert.JointIdeal.τ) (Cert.JointIdeal.main (F := Ideal))) ⟨m, fun _ => 0, g⟩ (fun r => (∀ c : Dev Cert.JointIdeal.nD,
      r.2.mem ((c.tc : Thread Cert.JointIdeal.nD Cert.JointIdeal.τ).loc Cert.JointIdeal.main_arg0) = m ((c.tc : Thread Cert.JointIdeal.nD Cert.JointIdeal.τ).loc Cert.JointIdeal.main_arg0)
      ∧ r.2.mem ((c.tc : Thread Cert.JointIdeal.nD Cert.JointIdeal.τ).loc Cert.JointIdeal.main_arg1) = m ((c.tc : Thread Cert.JointIdeal.nD Cert.JointIdeal.τ).loc Cert.JointIdeal.main_arg1)
      ∧ r.2.mem ((c.tc : Thread Cert.JointIdeal.nD Cert.JointIdeal.τ).loc Cert.JointIdeal.main_arg2) = m ((c.tc : Thread Cert.JointIdeal.nD Cert.JointIdeal.τ).loc Cert.JointIdeal.main_arg2)
      ∧ r.2.mem ((c.tc : Thread Cert.JointIdeal.nD Cert.JointIdeal.τ).loc Cert.JointIdeal.main_arg3) = m ((c.tc : Thread Cert.JointIdeal.nD Cert.JointIdeal.τ).loc Cert.JointIdeal.main_arg3)
      ∧ r.2.mem ((c.tc : Thread Cert.JointIdeal.nD Cert.JointIdeal.τ).loc Cert.JointIdeal.main_arg4) = m ((c.tc : Thread Cert.JointIdeal.nD Cert.JointIdeal.τ).loc Cert.JointIdeal.main_arg4)
      ∧ r.2.mem ((c.tc : Thread Cert.JointIdeal.nD Cert.JointIdeal.τ).loc Cert.JointIdeal.main_arg5) = m ((c.tc : Thread Cert.JointIdeal.nD Cert.JointIdeal.τ).loc Cert.JointIdeal.main_arg5)
      ∧ r.2.mem ((c.tc : Thread Cert.JointIdeal.nD Cert.JointIdeal.τ).loc Cert.JointIdeal.main_arg6) = m ((c.tc : Thread Cert.JointIdeal.nD Cert.JointIdeal.τ).loc Cert.JointIdeal.main_arg6)
      ∧ r.2.mem ((c.tc : Thread Cert.JointIdeal.nD Cert.JointIdeal.τ).loc Cert.JointIdeal.main_arg7) = m ((c.tc : Thread Cert.JointIdeal.nD Cert.JointIdeal.τ).loc Cert.JointIdeal.main_arg7)
      ∧ r.2.mem ((c.tc : Thread Cert.JointIdeal.nD Cert.JointIdeal.τ).loc Cert.JointIdeal.main_arg8) = m ((c.tc : Thread Cert.JointIdeal.nD Cert.JointIdeal.τ).loc Cert.JointIdeal.main_arg8)
      ∧ r.2.mem ((c.tc : Thread Cert.JointIdeal.nD Cert.JointIdeal.τ).loc Cert.JointIdeal.main_arg9) = m ((c.tc : Thread Cert.JointIdeal.nD Cert.JointIdeal.τ).loc Cert.JointIdeal.main_arg9)
      ∧ r.2.mem ((c.tc : Thread Cert.JointIdeal.nD Cert.JointIdeal.τ).loc Cert.JointIdeal.main_arg10) = m ((c.tc : Thread Cert.JointIdeal.nD Cert.JointIdeal.τ).loc Cert.JointIdeal.main_arg10)
      ∧ r.2.mem ((c.tc : Thread Cert.JointIdeal.nD Cert.JointIdeal.τ).loc Cert.JointIdeal.main_arg11) = m ((c.tc : Thread Cert.JointIdeal.nD Cert.JointIdeal.τ).loc Cert.JointIdeal.main_arg11))
      ∧ r.2.sem = fun _ => 0)

def quiescent_JointRefIdeal [hJointRefIdeal : Cert.JointRefIdeal.Facts] : Prop :=
  ∀ (m : (ℓ : Loc Cert.JointRefIdeal.nD Cert.JointRefIdeal.τ Cert.JointRefIdeal.sig) → Buf (Elt Ideal) ℓ) (g : Dev Cert.JointRefIdeal.nD → PrngReg), Pre_JointRefIdeal m →
    θ_run (Cert.JointRefIdeal.defs (F := Ideal)) (onTc (τ := Cert.JointRefIdeal.τ) (Cert.JointRefIdeal.main (F := Ideal))) ⟨m, fun _ => 0, g⟩ (fun r => (∀ c : Dev Cert.JointRefIdeal.nD,
      r.2.mem ((c.tc : Thread Cert.JointRefIdeal.nD Cert.JointRefIdeal.τ).loc Cert.JointRefIdeal.main_arg0) = m ((c.tc : Thread Cert.JointRefIdeal.nD Cert.JointRefIdeal.τ).loc Cert.JointRefIdeal.main_arg0)
      ∧ r.2.mem ((c.tc : Thread Cert.JointRefIdeal.nD Cert.JointRefIdeal.τ).loc Cert.JointRefIdeal.main_arg1) = m ((c.tc : Thread Cert.JointRefIdeal.nD Cert.JointRefIdeal.τ).loc Cert.JointRefIdeal.main_arg1)
      ∧ r.2.mem ((c.tc : Thread Cert.JointRefIdeal.nD Cert.JointRefIdeal.τ).loc Cert.JointRefIdeal.main_arg2) = m ((c.tc : Thread Cert.JointRefIdeal.nD Cert.JointRefIdeal.τ).loc Cert.JointRefIdeal.main_arg2)
      ∧ r.2.mem ((c.tc : Thread Cert.JointRefIdeal.nD Cert.JointRefIdeal.τ).loc Cert.JointRefIdeal.main_arg3) = m ((c.tc : Thread Cert.JointRefIdeal.nD Cert.JointRefIdeal.τ).loc Cert.JointRefIdeal.main_arg3)
      ∧ r.2.mem ((c.tc : Thread Cert.JointRefIdeal.nD Cert.JointRefIdeal.τ).loc Cert.JointRefIdeal.main_arg4) = m ((c.tc : Thread Cert.JointRefIdeal.nD Cert.JointRefIdeal.τ).loc Cert.JointRefIdeal.main_arg4)
      ∧ r.2.mem ((c.tc : Thread Cert.JointRefIdeal.nD Cert.JointRefIdeal.τ).loc Cert.JointRefIdeal.main_arg5) = m ((c.tc : Thread Cert.JointRefIdeal.nD Cert.JointRefIdeal.τ).loc Cert.JointRefIdeal.main_arg5)
      ∧ r.2.mem ((c.tc : Thread Cert.JointRefIdeal.nD Cert.JointRefIdeal.τ).loc Cert.JointRefIdeal.main_arg6) = m ((c.tc : Thread Cert.JointRefIdeal.nD Cert.JointRefIdeal.τ).loc Cert.JointRefIdeal.main_arg6)
      ∧ r.2.mem ((c.tc : Thread Cert.JointRefIdeal.nD Cert.JointRefIdeal.τ).loc Cert.JointRefIdeal.main_arg7) = m ((c.tc : Thread Cert.JointRefIdeal.nD Cert.JointRefIdeal.τ).loc Cert.JointRefIdeal.main_arg7)
      ∧ r.2.mem ((c.tc : Thread Cert.JointRefIdeal.nD Cert.JointRefIdeal.τ).loc Cert.JointRefIdeal.main_arg8) = m ((c.tc : Thread Cert.JointRefIdeal.nD Cert.JointRefIdeal.τ).loc Cert.JointRefIdeal.main_arg8)
      ∧ r.2.mem ((c.tc : Thread Cert.JointRefIdeal.nD Cert.JointRefIdeal.τ).loc Cert.JointRefIdeal.main_arg9) = m ((c.tc : Thread Cert.JointRefIdeal.nD Cert.JointRefIdeal.τ).loc Cert.JointRefIdeal.main_arg9)
      ∧ r.2.mem ((c.tc : Thread Cert.JointRefIdeal.nD Cert.JointRefIdeal.τ).loc Cert.JointRefIdeal.main_arg10) = m ((c.tc : Thread Cert.JointRefIdeal.nD Cert.JointRefIdeal.τ).loc Cert.JointRefIdeal.main_arg10)
      ∧ r.2.mem ((c.tc : Thread Cert.JointRefIdeal.nD Cert.JointRefIdeal.τ).loc Cert.JointRefIdeal.main_arg11) = m ((c.tc : Thread Cert.JointRefIdeal.nD Cert.JointRefIdeal.τ).loc Cert.JointRefIdeal.main_arg11))
      ∧ r.2.sem = fun _ => 0)

def preserves_Mla_MlaIdeal : Prop :=
  IdealRules.named_const.Statement Cert.MlaIdeal.κ "mask" .f32 0xF149F2CA#32 ⊥

def algebraic_MlaIdeal_MlaRefIdeal [hMlaIdeal : Cert.MlaIdeal.Facts] [hMlaRefIdeal : Cert.MlaRefIdeal.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v4)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v4) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v40) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v17) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v12) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)
      ∧ m' ((c.tc : Thread Cert.RowsRefIdeal.nD Cert.RowsRefIdeal.τ).loc Cert.RowsRefIdeal.main_arg2) = m ((c.tc : Thread Cert.RowsIdeal.nD Cert.RowsIdeal.τ).loc Cert.RowsIdeal.main_arg2)
      ∧ m' ((c.tc : Thread Cert.RowsRefIdeal.nD Cert.RowsRefIdeal.τ).loc Cert.RowsRefIdeal.main_arg3) = m ((c.tc : Thread Cert.RowsIdeal.nD Cert.RowsIdeal.τ).loc Cert.RowsIdeal.main_arg3)
      ∧ m' ((c.tc : Thread Cert.RowsRefIdeal.nD Cert.RowsRefIdeal.τ).loc Cert.RowsRefIdeal.main_arg4) = m ((c.tc : Thread Cert.RowsIdeal.nD Cert.RowsIdeal.τ).loc Cert.RowsIdeal.main_arg4)) →
    ∃ (v0 : (c : Dev Cert.RowsIdeal.nD) → Buf (Elt Ideal) ((c.tc : Thread Cert.RowsIdeal.nD Cert.RowsIdeal.τ).loc Cert.RowsIdeal.main_v116)) (v1 : (c : Dev Cert.RowsIdeal.nD) → Buf (Elt Ideal) ((c.tc : Thread Cert.RowsIdeal.nD Cert.RowsIdeal.τ).loc Cert.RowsIdeal.main_v161)) (v2 : (c : Dev Cert.RowsIdeal.nD) → Buf (Elt Ideal) ((c.tc : Thread Cert.RowsIdeal.nD Cert.RowsIdeal.τ).loc Cert.RowsIdeal.main_v162)) (v3 : (c : Dev Cert.RowsIdeal.nD) → Buf (Elt Ideal) ((c.tc : Thread Cert.RowsIdeal.nD Cert.RowsIdeal.τ).loc Cert.RowsIdeal.main_v166)) (v4 : (c : Dev Cert.RowsIdeal.nD) → Buf (Elt Ideal) ((c.tc : Thread Cert.RowsIdeal.nD Cert.RowsIdeal.τ).loc Cert.RowsIdeal.main_v229)) (v5 : (c : Dev Cert.RowsIdeal.nD) → Buf (Elt Ideal) ((c.tc : Thread Cert.RowsIdeal.nD Cert.RowsIdeal.τ).loc Cert.RowsIdeal.main_v262)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v116) = v0 c
          ∧ r.2.mem ((c.tc : Thread Cert.RowsIdeal.nD Cert.RowsIdeal.τ).loc Cert.RowsIdeal.main_v161) = v1 c
          ∧ r.2.mem ((c.tc : Thread Cert.RowsIdeal.nD Cert.RowsIdeal.τ).loc Cert.RowsIdeal.main_v162) = v2 c
          ∧ r.2.mem ((c.tc : Thread Cert.RowsIdeal.nD Cert.RowsIdeal.τ).loc Cert.RowsIdeal.main_v166) = v3 c
          ∧ r.2.mem ((c.tc : Thread Cert.RowsIdeal.nD Cert.RowsIdeal.τ).loc Cert.RowsIdeal.main_v229) = v4 c
          ∧ r.2.mem ((c.tc : Thread Cert.RowsIdeal.nD Cert.RowsIdeal.τ).loc Cert.RowsIdeal.main_v262) = v5 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v102) = v0 c
          ∧ r.2.mem ((c.tc : Thread Cert.RowsRefIdeal.nD Cert.RowsRefIdeal.τ).loc Cert.RowsRefIdeal.main_v147) = v1 c
          ∧ r.2.mem ((c.tc : Thread Cert.RowsRefIdeal.nD Cert.RowsRefIdeal.τ).loc Cert.RowsRefIdeal.main_v148) = v2 c
          ∧ r.2.mem ((c.tc : Thread Cert.RowsRefIdeal.nD Cert.RowsRefIdeal.τ).loc Cert.RowsRefIdeal.main_v152) = v3 c
          ∧ r.2.mem ((c.tc : Thread Cert.RowsRefIdeal.nD Cert.RowsRefIdeal.τ).loc Cert.RowsRefIdeal.main_v215) = v4 c
          ∧ r.2.mem ((c.tc : Thread Cert.RowsRefIdeal.nD Cert.RowsRefIdeal.τ).loc Cert.RowsRefIdeal.main_v248) = v5 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1)
          ∧ r.2.mem ((c.tc : Thread Cert.RowsRefIdeal.nD Cert.RowsRefIdeal.τ).loc Cert.RowsRefIdeal.main_arg2) = m' ((c.tc : Thread Cert.RowsRefIdeal.nD Cert.RowsRefIdeal.τ).loc Cert.RowsRefIdeal.main_arg2)
          ∧ r.2.mem ((c.tc : Thread Cert.RowsRefIdeal.nD Cert.RowsRefIdeal.τ).loc Cert.RowsRefIdeal.main_arg3) = m' ((c.tc : Thread Cert.RowsRefIdeal.nD Cert.RowsRefIdeal.τ).loc Cert.RowsRefIdeal.main_arg3)
          ∧ r.2.mem ((c.tc : Thread Cert.RowsRefIdeal.nD Cert.RowsRefIdeal.τ).loc Cert.RowsRefIdeal.main_arg4) = m' ((c.tc : Thread Cert.RowsRefIdeal.nD Cert.RowsRefIdeal.τ).loc Cert.RowsRefIdeal.main_arg4))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)) →
    ∃ (v0 : (c : Dev Cert.SampleIdeal.nD) → Buf (Elt Ideal) ((c.tc : Thread Cert.SampleIdeal.nD Cert.SampleIdeal.τ).loc Cert.SampleIdeal.main_v116)) (v1 : (c : Dev Cert.SampleIdeal.nD) → Buf (Elt Ideal) ((c.tc : Thread Cert.SampleIdeal.nD Cert.SampleIdeal.τ).loc Cert.SampleIdeal.main_v161)) (v2 : (c : Dev Cert.SampleIdeal.nD) → Buf (Elt Ideal) ((c.tc : Thread Cert.SampleIdeal.nD Cert.SampleIdeal.τ).loc Cert.SampleIdeal.main_v162)) (v3 : (c : Dev Cert.SampleIdeal.nD) → Buf (Elt Ideal) ((c.tc : Thread Cert.SampleIdeal.nD Cert.SampleIdeal.τ).loc Cert.SampleIdeal.main_v166)) (v4 : (c : Dev Cert.SampleIdeal.nD) → Buf (Elt Ideal) ((c.tc : Thread Cert.SampleIdeal.nD Cert.SampleIdeal.τ).loc Cert.SampleIdeal.main_v229)) (v5 : (c : Dev Cert.SampleIdeal.nD) → Buf (Elt Ideal) ((c.tc : Thread Cert.SampleIdeal.nD Cert.SampleIdeal.τ).loc Cert.SampleIdeal.main_v263)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v116) = v0 c
          ∧ r.2.mem ((c.tc : Thread Cert.SampleIdeal.nD Cert.SampleIdeal.τ).loc Cert.SampleIdeal.main_v161) = v1 c
          ∧ r.2.mem ((c.tc : Thread Cert.SampleIdeal.nD Cert.SampleIdeal.τ).loc Cert.SampleIdeal.main_v162) = v2 c
          ∧ r.2.mem ((c.tc : Thread Cert.SampleIdeal.nD Cert.SampleIdeal.τ).loc Cert.SampleIdeal.main_v166) = v3 c
          ∧ r.2.mem ((c.tc : Thread Cert.SampleIdeal.nD Cert.SampleIdeal.τ).loc Cert.SampleIdeal.main_v229) = v4 c
          ∧ r.2.mem ((c.tc : Thread Cert.SampleIdeal.nD Cert.SampleIdeal.τ).loc Cert.SampleIdeal.main_v263) = v5 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v102) = v0 c
          ∧ r.2.mem ((c.tc : Thread Cert.SampleRefIdeal.nD Cert.SampleRefIdeal.τ).loc Cert.SampleRefIdeal.main_v147) = v1 c
          ∧ r.2.mem ((c.tc : Thread Cert.SampleRefIdeal.nD Cert.SampleRefIdeal.τ).loc Cert.SampleRefIdeal.main_v148) = v2 c
          ∧ r.2.mem ((c.tc : Thread Cert.SampleRefIdeal.nD Cert.SampleRefIdeal.τ).loc Cert.SampleRefIdeal.main_v152) = v3 c
          ∧ r.2.mem ((c.tc : Thread Cert.SampleRefIdeal.nD Cert.SampleRefIdeal.τ).loc Cert.SampleRefIdeal.main_v215) = v4 c
          ∧ r.2.mem ((c.tc : Thread Cert.SampleRefIdeal.nD Cert.SampleRefIdeal.τ).loc Cert.SampleRefIdeal.main_v249) = v5 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)) →
    ∃ (v0 : (c : Dev Cert.CmpIdeal.nD) → Buf (Elt Ideal) ((c.tc : Thread Cert.CmpIdeal.nD Cert.CmpIdeal.τ).loc Cert.CmpIdeal.main_v22)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v22) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v40) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6))

def preserves_MlpSample_MlpSampleIdeal : Prop :=
  True

def algebraic_MlpSampleIdeal_MlpSampleRefIdeal [hMlpSampleIdeal : Cert.MlpSampleIdeal.Facts] [hMlpSampleRefIdeal : Cert.MlpSampleRefIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleRefIdeal.nD Cert.MlpSampleRefIdeal.τ Cert.MlpSampleRefIdeal.sig) → Buf (Elt Ideal) ℓ) (g' : Dev Cert.MlpSampleRefIdeal.nD → PrngReg), Pre_MlpSampleIdeal m →
    (∀ c : Dev Cert.MlpSampleIdeal.nD,
      m' ((c.tc : Thread Cert.MlpSampleRefIdeal.nD Cert.MlpSampleRefIdeal.τ).loc Cert.MlpSampleRefIdeal.main_arg0) = m ((c.tc : Thread Cert.MlpSampleIdeal.nD Cert.MlpSampleIdeal.τ).loc Cert.MlpSampleIdeal.main_arg0)
      ∧ m' ((c.tc : Thread Cert.MlpSampleRefIdeal.nD Cert.MlpSampleRefIdeal.τ).loc Cert.MlpSampleRefIdeal.main_arg1) = m ((c.tc : Thread Cert.MlpSampleIdeal.nD Cert.MlpSampleIdeal.τ).loc Cert.MlpSampleIdeal.main_arg1)
      ∧ m' ((c.tc : Thread Cert.MlpSampleRefIdeal.nD Cert.MlpSampleRefIdeal.τ).loc Cert.MlpSampleRefIdeal.main_arg2) = m ((c.tc : Thread Cert.MlpSampleIdeal.nD Cert.MlpSampleIdeal.τ).loc Cert.MlpSampleIdeal.main_arg2)
      ∧ m' ((c.tc : Thread Cert.MlpSampleRefIdeal.nD Cert.MlpSampleRefIdeal.τ).loc Cert.MlpSampleRefIdeal.main_arg3) = m ((c.tc : Thread Cert.MlpSampleIdeal.nD Cert.MlpSampleIdeal.τ).loc Cert.MlpSampleIdeal.main_arg3)) →
    ∃ (v0 : (c : Dev Cert.MlpSampleIdeal.nD) → Buf (Elt Ideal) ((c.tc : Thread Cert.MlpSampleIdeal.nD Cert.MlpSampleIdeal.τ).loc Cert.MlpSampleIdeal.main_v3)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v3) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3))
      ∧ θ_run (Cert.MlpSampleRefIdeal.defs (F := Ideal)) (onTc (τ := Cert.MlpSampleRefIdeal.τ) (Cert.MlpSampleRefIdeal.main (F := Ideal))) ⟨m', fun _ => 0, g'⟩ (fun r => ∀ c : Dev Cert.MlpSampleRefIdeal.nD,
          r.2.mem ((c.tc : Thread Cert.MlpSampleRefIdeal.nD Cert.MlpSampleRefIdeal.τ).loc Cert.MlpSampleRefIdeal.main_v17) = v0 c
          ∧ r.2.mem ((c.tc : Thread Cert.MlpSampleRefIdeal.nD Cert.MlpSampleRefIdeal.τ).loc Cert.MlpSampleRefIdeal.main_arg0) = m' ((c.tc : Thread Cert.MlpSampleRefIdeal.nD Cert.MlpSampleRefIdeal.τ).loc Cert.MlpSampleRefIdeal.main_arg0)
          ∧ r.2.mem ((c.tc : Thread Cert.MlpSampleRefIdeal.nD Cert.MlpSampleRefIdeal.τ).loc Cert.MlpSampleRefIdeal.main_arg1) = m' ((c.tc : Thread Cert.MlpSampleRefIdeal.nD Cert.MlpSampleRefIdeal.τ).loc Cert.MlpSampleRefIdeal.main_arg1)
          ∧ r.2.mem ((c.tc : Thread Cert.MlpSampleRefIdeal.nD Cert.MlpSampleRefIdeal.τ).loc Cert.MlpSampleRefIdeal.main_arg2) = m' ((c.tc : Thread Cert.MlpSampleRefIdeal.nD Cert.MlpSampleRefIdeal.τ).loc Cert.MlpSampleRefIdeal.main_arg2)
          ∧ r.2.mem ((c.tc : Thread Cert.MlpSampleRefIdeal.nD Cert.MlpSampleRefIdeal.τ).loc Cert.MlpSampleRefIdeal.main_arg3) = m' ((c.tc : Thread Cert.MlpSampleRefIdeal.nD Cert.MlpSampleRefIdeal.τ).loc Cert.MlpSampleRefIdeal.main_arg3))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)) →
    ∃ (v0 : (c : Dev Cert.MergeSampleIdeal.nD) → Buf (Elt Ideal) ((c.tc : Thread Cert.MergeSampleIdeal.nD Cert.MergeSampleIdeal.τ).loc Cert.MergeSampleIdeal.main_v2)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v2) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v35) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7))

def preserves_Joint_JointIdeal : Prop :=
  IdealRules.named_const.Statement Cert.JointIdeal.κ "mask" .f32 0xF149F2CA#32 ⊥

def algebraic_JointIdeal_JointRefIdeal [hJointIdeal : Cert.JointIdeal.Facts] [hJointRefIdeal : Cert.JointRefIdeal.Facts] : Prop :=
  ∀ (m : (ℓ : Loc Cert.JointIdeal.nD Cert.JointIdeal.τ Cert.JointIdeal.sig) → Buf (Elt Ideal) ℓ) (g : Dev Cert.JointIdeal.nD → PrngReg)
    (m' : (ℓ : Loc Cert.JointRefIdeal.nD Cert.JointRefIdeal.τ Cert.JointRefIdeal.sig) → Buf (Elt Ideal) ℓ) (g' : Dev Cert.JointRefIdeal.nD → PrngReg), Pre_JointIdeal m →
    (∀ c : Dev Cert.JointIdeal.nD,
      m' ((c.tc : Thread Cert.JointRefIdeal.nD Cert.JointRefIdeal.τ).loc Cert.JointRefIdeal.main_arg0) = m ((c.tc : Thread Cert.JointIdeal.nD Cert.JointIdeal.τ).loc Cert.JointIdeal.main_arg0)
      ∧ m' ((c.tc : Thread Cert.JointRefIdeal.nD Cert.JointRefIdeal.τ).loc Cert.JointRefIdeal.main_arg1) = m ((c.tc : Thread Cert.JointIdeal.nD Cert.JointIdeal.τ).loc Cert.JointIdeal.main_arg1)
      ∧ m' ((c.tc : Thread Cert.JointRefIdeal.nD Cert.JointRefIdeal.τ).loc Cert.JointRefIdeal.main_arg2) = m ((c.tc : Thread Cert.JointIdeal.nD Cert.JointIdeal.τ).loc Cert.JointIdeal.main_arg2)
      ∧ m' ((c.tc : Thread Cert.JointRefIdeal.nD Cert.JointRefIdeal.τ).loc Cert.JointRefIdeal.main_arg3) = m ((c.tc : Thread Cert.JointIdeal.nD Cert.JointIdeal.τ).loc Cert.JointIdeal.main_arg3)
      ∧ m' ((c.tc : Thread Cert.JointRefIdeal.nD Cert.JointRefIdeal.τ).loc Cert.JointRefIdeal.main_arg4) = m ((c.tc : Thread Cert.JointIdeal.nD Cert.JointIdeal.τ).loc Cert.JointIdeal.main_arg4)
      ∧ m' ((c.tc : Thread Cert.JointRefIdeal.nD Cert.JointRefIdeal.τ).loc Cert.JointRefIdeal.main_arg5) = m ((c.tc : Thread Cert.JointIdeal.nD Cert.JointIdeal.τ).loc Cert.JointIdeal.main_arg5)
      ∧ m' ((c.tc : Thread Cert.JointRefIdeal.nD Cert.JointRefIdeal.τ).loc Cert.JointRefIdeal.main_arg6) = m ((c.tc : Thread Cert.JointIdeal.nD Cert.JointIdeal.τ).loc Cert.JointIdeal.main_arg6)
      ∧ m' ((c.tc : Thread Cert.JointRefIdeal.nD Cert.JointRefIdeal.τ).loc Cert.JointRefIdeal.main_arg7) = m ((c.tc : Thread Cert.JointIdeal.nD Cert.JointIdeal.τ).loc Cert.JointIdeal.main_arg7)
      ∧ m' ((c.tc : Thread Cert.JointRefIdeal.nD Cert.JointRefIdeal.τ).loc Cert.JointRefIdeal.main_arg8) = m ((c.tc : Thread Cert.JointIdeal.nD Cert.JointIdeal.τ).loc Cert.JointIdeal.main_arg8)
      ∧ m' ((c.tc : Thread Cert.JointRefIdeal.nD Cert.JointRefIdeal.τ).loc Cert.JointRefIdeal.main_arg9) = m ((c.tc : Thread Cert.JointIdeal.nD Cert.JointIdeal.τ).loc Cert.JointIdeal.main_arg9)
      ∧ m' ((c.tc : Thread Cert.JointRefIdeal.nD Cert.JointRefIdeal.τ).loc Cert.JointRefIdeal.main_arg10) = m ((c.tc : Thread Cert.JointIdeal.nD Cert.JointIdeal.τ).loc Cert.JointIdeal.main_arg10)
      ∧ m' ((c.tc : Thread Cert.JointRefIdeal.nD Cert.JointRefIdeal.τ).loc Cert.JointRefIdeal.main_arg11) = m ((c.tc : Thread Cert.JointIdeal.nD Cert.JointIdeal.τ).loc Cert.JointIdeal.main_arg11)) →
    ∃ (v0 : (c : Dev Cert.JointIdeal.nD) → Buf (Elt Ideal) ((c.tc : Thread Cert.JointIdeal.nD Cert.JointIdeal.τ).loc Cert.JointIdeal.main_v8)),
      θ_run (Cert.JointIdeal.defs (F := Ideal)) (onTc (τ := Cert.JointIdeal.τ) (Cert.JointIdeal.main (F := Ideal))) ⟨m, fun _ => 0, g⟩ (fun r => ∀ c : Dev Cert.JointIdeal.nD,
          r.2.mem ((c.tc : Thread Cert.JointIdeal.nD Cert.JointIdeal.τ).loc Cert.JointIdeal.main_v8) = v0 c
          ∧ r.2.mem ((c.tc : Thread Cert.JointIdeal.nD Cert.JointIdeal.τ).loc Cert.JointIdeal.main_arg0) = m ((c.tc : Thread Cert.JointIdeal.nD Cert.JointIdeal.τ).loc Cert.JointIdeal.main_arg0)
          ∧ r.2.mem ((c.tc : Thread Cert.JointIdeal.nD Cert.JointIdeal.τ).loc Cert.JointIdeal.main_arg1) = m ((c.tc : Thread Cert.JointIdeal.nD Cert.JointIdeal.τ).loc Cert.JointIdeal.main_arg1)
          ∧ r.2.mem ((c.tc : Thread Cert.JointIdeal.nD Cert.JointIdeal.τ).loc Cert.JointIdeal.main_arg2) = m ((c.tc : Thread Cert.JointIdeal.nD Cert.JointIdeal.τ).loc Cert.JointIdeal.main_arg2)
          ∧ r.2.mem ((c.tc : Thread Cert.JointIdeal.nD Cert.JointIdeal.τ).loc Cert.JointIdeal.main_arg3) = m ((c.tc : Thread Cert.JointIdeal.nD Cert.JointIdeal.τ).loc Cert.JointIdeal.main_arg3)
          ∧ r.2.mem ((c.tc : Thread Cert.JointIdeal.nD Cert.JointIdeal.τ).loc Cert.JointIdeal.main_arg4) = m ((c.tc : Thread Cert.JointIdeal.nD Cert.JointIdeal.τ).loc Cert.JointIdeal.main_arg4)
          ∧ r.2.mem ((c.tc : Thread Cert.JointIdeal.nD Cert.JointIdeal.τ).loc Cert.JointIdeal.main_arg5) = m ((c.tc : Thread Cert.JointIdeal.nD Cert.JointIdeal.τ).loc Cert.JointIdeal.main_arg5)
          ∧ r.2.mem ((c.tc : Thread Cert.JointIdeal.nD Cert.JointIdeal.τ).loc Cert.JointIdeal.main_arg6) = m ((c.tc : Thread Cert.JointIdeal.nD Cert.JointIdeal.τ).loc Cert.JointIdeal.main_arg6)
          ∧ r.2.mem ((c.tc : Thread Cert.JointIdeal.nD Cert.JointIdeal.τ).loc Cert.JointIdeal.main_arg7) = m ((c.tc : Thread Cert.JointIdeal.nD Cert.JointIdeal.τ).loc Cert.JointIdeal.main_arg7)
          ∧ r.2.mem ((c.tc : Thread Cert.JointIdeal.nD Cert.JointIdeal.τ).loc Cert.JointIdeal.main_arg8) = m ((c.tc : Thread Cert.JointIdeal.nD Cert.JointIdeal.τ).loc Cert.JointIdeal.main_arg8)
          ∧ r.2.mem ((c.tc : Thread Cert.JointIdeal.nD Cert.JointIdeal.τ).loc Cert.JointIdeal.main_arg9) = m ((c.tc : Thread Cert.JointIdeal.nD Cert.JointIdeal.τ).loc Cert.JointIdeal.main_arg9)
          ∧ r.2.mem ((c.tc : Thread Cert.JointIdeal.nD Cert.JointIdeal.τ).loc Cert.JointIdeal.main_arg10) = m ((c.tc : Thread Cert.JointIdeal.nD Cert.JointIdeal.τ).loc Cert.JointIdeal.main_arg10)
          ∧ r.2.mem ((c.tc : Thread Cert.JointIdeal.nD Cert.JointIdeal.τ).loc Cert.JointIdeal.main_arg11) = m ((c.tc : Thread Cert.JointIdeal.nD Cert.JointIdeal.τ).loc Cert.JointIdeal.main_arg11))
      ∧ θ_run (Cert.JointRefIdeal.defs (F := Ideal)) (onTc (τ := Cert.JointRefIdeal.τ) (Cert.JointRefIdeal.main (F := Ideal))) ⟨m', fun _ => 0, g'⟩ (fun r => ∀ c : Dev Cert.JointRefIdeal.nD,
          r.2.mem ((c.tc : Thread Cert.JointRefIdeal.nD Cert.JointRefIdeal.τ).loc Cert.JointRefIdeal.main_v77) = v0 c
          ∧ r.2.mem ((c.tc : Thread Cert.JointRefIdeal.nD Cert.JointRefIdeal.τ).loc Cert.JointRefIdeal.main_arg0) = m' ((c.tc : Thread Cert.JointRefIdeal.nD Cert.JointRefIdeal.τ).loc Cert.JointRefIdeal.main_arg0)
          ∧ r.2.mem ((c.tc : Thread Cert.JointRefIdeal.nD Cert.JointRefIdeal.τ).loc Cert.JointRefIdeal.main_arg1) = m' ((c.tc : Thread Cert.JointRefIdeal.nD Cert.JointRefIdeal.τ).loc Cert.JointRefIdeal.main_arg1)
          ∧ r.2.mem ((c.tc : Thread Cert.JointRefIdeal.nD Cert.JointRefIdeal.τ).loc Cert.JointRefIdeal.main_arg2) = m' ((c.tc : Thread Cert.JointRefIdeal.nD Cert.JointRefIdeal.τ).loc Cert.JointRefIdeal.main_arg2)
          ∧ r.2.mem ((c.tc : Thread Cert.JointRefIdeal.nD Cert.JointRefIdeal.τ).loc Cert.JointRefIdeal.main_arg3) = m' ((c.tc : Thread Cert.JointRefIdeal.nD Cert.JointRefIdeal.τ).loc Cert.JointRefIdeal.main_arg3)
          ∧ r.2.mem ((c.tc : Thread Cert.JointRefIdeal.nD Cert.JointRefIdeal.τ).loc Cert.JointRefIdeal.main_arg4) = m' ((c.tc : Thread Cert.JointRefIdeal.nD Cert.JointRefIdeal.τ).loc Cert.JointRefIdeal.main_arg4)
          ∧ r.2.mem ((c.tc : Thread Cert.JointRefIdeal.nD Cert.JointRefIdeal.τ).loc Cert.JointRefIdeal.main_arg5) = m' ((c.tc : Thread Cert.JointRefIdeal.nD Cert.JointRefIdeal.τ).loc Cert.JointRefIdeal.main_arg5)
          ∧ r.2.mem ((c.tc : Thread Cert.JointRefIdeal.nD Cert.JointRefIdeal.τ).loc Cert.JointRefIdeal.main_arg6) = m' ((c.tc : Thread Cert.JointRefIdeal.nD Cert.JointRefIdeal.τ).loc Cert.JointRefIdeal.main_arg6)
          ∧ r.2.mem ((c.tc : Thread Cert.JointRefIdeal.nD Cert.JointRefIdeal.τ).loc Cert.JointRefIdeal.main_arg7) = m' ((c.tc : Thread Cert.JointRefIdeal.nD Cert.JointRefIdeal.τ).loc Cert.JointRefIdeal.main_arg7)
          ∧ r.2.mem ((c.tc : Thread Cert.JointRefIdeal.nD Cert.JointRefIdeal.τ).loc Cert.JointRefIdeal.main_arg8) = m' ((c.tc : Thread Cert.JointRefIdeal.nD Cert.JointRefIdeal.τ).loc Cert.JointRefIdeal.main_arg8)
          ∧ r.2.mem ((c.tc : Thread Cert.JointRefIdeal.nD Cert.JointRefIdeal.τ).loc Cert.JointRefIdeal.main_arg9) = m' ((c.tc : Thread Cert.JointRefIdeal.nD Cert.JointRefIdeal.τ).loc Cert.JointRefIdeal.main_arg9)
          ∧ r.2.mem ((c.tc : Thread Cert.JointRefIdeal.nD Cert.JointRefIdeal.τ).loc Cert.JointRefIdeal.main_arg10) = m' ((c.tc : Thread Cert.JointRefIdeal.nD Cert.JointRefIdeal.τ).loc Cert.JointRefIdeal.main_arg10)
          ∧ r.2.mem ((c.tc : Thread Cert.JointRefIdeal.nD Cert.JointRefIdeal.τ).loc Cert.JointRefIdeal.main_arg11) = m' ((c.tc : Thread Cert.JointRefIdeal.nD Cert.JointRefIdeal.τ).loc Cert.JointRefIdeal.main_arg11))

def Claim : Prop :=
  ∃ (hMla : Cert.Mla.Facts) (hMlaIdeal : Cert.MlaIdeal.Facts) (hMlaRefIdeal : Cert.MlaRefIdeal.Facts) (hMlp : Cert.Mlp.Facts) (hMlpIdeal : Cert.MlpIdeal.Facts) (hMlpRefIdeal : Cert.MlpRefIdeal.Facts) (hMerge : Cert.Merge.Facts) (hMergeIdeal : Cert.MergeIdeal.Facts) (hMergeRefIdeal : Cert.MergeRefIdeal.Facts) (hFinal : Cert.Final.Facts) (hFinalIdeal : Cert.FinalIdeal.Facts) (hFinalRefIdeal : Cert.FinalRefIdeal.Facts) (hLast : Cert.Last.Facts) (hLastIdeal : Cert.LastIdeal.Facts) (hLastRefIdeal : Cert.LastRefIdeal.Facts) (hProj : Cert.Proj.Facts) (hProjIdeal : Cert.ProjIdeal.Facts) (hProjRefIdeal : Cert.ProjRefIdeal.Facts) (hRows : Cert.Rows.Facts) (hRowsIdeal : Cert.RowsIdeal.Facts) (hRowsRefIdeal : Cert.RowsRefIdeal.Facts) (hSample : Cert.Sample.Facts) (hSampleIdeal : Cert.SampleIdeal.Facts) (hSampleRefIdeal : Cert.SampleRefIdeal.Facts) (hCmp : Cert.Cmp.Facts) (hCmpIdeal : Cert.CmpIdeal.Facts) (hCmpRefIdeal : Cert.CmpRefIdeal.Facts) (hMlpSample : Cert.MlpSample.Facts) (hMlpSampleIdeal : Cert.MlpSampleIdeal.Facts) (hMlpSampleRefIdeal : Cert.MlpSampleRefIdeal.Facts) (hMergeSample : Cert.MergeSample.Facts) (hMergeSampleIdeal : Cert.MergeSampleIdeal.Facts) (hMergeSampleRefIdeal : Cert.MergeSampleRefIdeal.Facts) (hJoint : Cert.Joint.Facts) (hJointIdeal : Cert.JointIdeal.Facts) (hJointRefIdeal : Cert.JointRefIdeal.Facts),
    quiescent_Mla (hMla := hMla)
    ∧ quiescent_MlaIdeal (hMlaIdeal := hMlaIdeal)
    ∧ quiescent_MlaRefIdeal (hMlaRefIdeal := hMlaRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Merge (hMerge := hMerge)
    ∧ quiescent_MergeIdeal (hMergeIdeal := hMergeIdeal)
    ∧ quiescent_MergeRefIdeal (hMergeRefIdeal := hMergeRefIdeal)
    ∧ quiescent_Final (hFinal := hFinal)
    ∧ quiescent_FinalIdeal (hFinalIdeal := hFinalIdeal)
    ∧ quiescent_FinalRefIdeal (hFinalRefIdeal := hFinalRefIdeal)
    ∧ quiescent_Last (hLast := hLast)
    ∧ quiescent_LastIdeal (hLastIdeal := hLastIdeal)
    ∧ quiescent_LastRefIdeal (hLastRefIdeal := hLastRefIdeal)
    ∧ quiescent_Proj (hProj := hProj)
    ∧ quiescent_ProjIdeal (hProjIdeal := hProjIdeal)
    ∧ quiescent_ProjRefIdeal (hProjRefIdeal := hProjRefIdeal)
    ∧ quiescent_Rows (hRows := hRows)
    ∧ quiescent_RowsIdeal (hRowsIdeal := hRowsIdeal)
    ∧ quiescent_RowsRefIdeal (hRowsRefIdeal := hRowsRefIdeal)
    ∧ quiescent_Sample (hSample := hSample)
    ∧ quiescent_SampleIdeal (hSampleIdeal := hSampleIdeal)
    ∧ quiescent_SampleRefIdeal (hSampleRefIdeal := hSampleRefIdeal)
    ∧ quiescent_Cmp (hCmp := hCmp)
    ∧ quiescent_CmpIdeal (hCmpIdeal := hCmpIdeal)
    ∧ quiescent_CmpRefIdeal (hCmpRefIdeal := hCmpRefIdeal)
    ∧ quiescent_MlpSample (hMlpSample := hMlpSample)
    ∧ quiescent_MlpSampleIdeal (hMlpSampleIdeal := hMlpSampleIdeal)
    ∧ quiescent_MlpSampleRefIdeal (hMlpSampleRefIdeal := hMlpSampleRefIdeal)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ quiescent_Joint (hJoint := hJoint)
    ∧ quiescent_JointIdeal (hJointIdeal := hJointIdeal)
    ∧ quiescent_JointRefIdeal (hJointRefIdeal := hJointRefIdeal)
    ∧ preserves_Mla_MlaIdeal
    ∧ algebraic_MlaIdeal_MlaRefIdeal (hMlaIdeal := hMlaIdeal) (hMlaRefIdeal := hMlaRefIdeal)
    ∧ preserves_Mlp_MlpIdeal
    ∧ algebraic_MlpIdeal_MlpRefIdeal (hMlpIdeal := hMlpIdeal) (hMlpRefIdeal := hMlpRefIdeal)
    ∧ preserves_Merge_MergeIdeal
    ∧ algebraic_MergeIdeal_MergeRefIdeal (hMergeIdeal := hMergeIdeal) (hMergeRefIdeal := hMergeRefIdeal)
    ∧ preserves_Final_FinalIdeal
    ∧ algebraic_FinalIdeal_FinalRefIdeal (hFinalIdeal := hFinalIdeal) (hFinalRefIdeal := hFinalRefIdeal)
    ∧ preserves_Last_LastIdeal
    ∧ algebraic_LastIdeal_LastRefIdeal (hLastIdeal := hLastIdeal) (hLastRefIdeal := hLastRefIdeal)
    ∧ preserves_Proj_ProjIdeal
    ∧ algebraic_ProjIdeal_ProjRefIdeal (hProjIdeal := hProjIdeal) (hProjRefIdeal := hProjRefIdeal)
    ∧ preserves_Rows_RowsIdeal
    ∧ algebraic_RowsIdeal_RowsRefIdeal (hRowsIdeal := hRowsIdeal) (hRowsRefIdeal := hRowsRefIdeal)
    ∧ preserves_Sample_SampleIdeal
    ∧ algebraic_SampleIdeal_SampleRefIdeal (hSampleIdeal := hSampleIdeal) (hSampleRefIdeal := hSampleRefIdeal)
    ∧ preserves_Cmp_CmpIdeal
    ∧ algebraic_CmpIdeal_CmpRefIdeal (hCmpIdeal := hCmpIdeal) (hCmpRefIdeal := hCmpRefIdeal)
    ∧ preserves_MlpSample_MlpSampleIdeal
    ∧ algebraic_MlpSampleIdeal_MlpSampleRefIdeal (hMlpSampleIdeal := hMlpSampleIdeal) (hMlpSampleRefIdeal := hMlpSampleRefIdeal)
    ∧ preserves_MergeSample_MergeSampleIdeal
    ∧ algebraic_MergeSampleIdeal_MergeSampleRefIdeal (hMergeSampleIdeal := hMergeSampleIdeal) (hMergeSampleRefIdeal := hMergeSampleRefIdeal)
    ∧ preserves_Joint_JointIdeal
    ∧ algebraic_JointIdeal_JointRefIdeal (hJointIdeal := hJointIdeal) (hJointRefIdeal := hJointRefIdeal)
-- ==== Mla.lean ====
abbrev S16x2048x256 : Shape := ⟨3, ![16, 2048, 256]⟩
abbrev S16x2048x128 : Shape := ⟨3, ![16, 2048, 128]⟩
abbrev S16x2048x288 : Shape := ⟨3, ![16, 2048, 288]⟩
abbrev S256x4x64 : Shape := ⟨3, ![256, 4, 64]⟩
abbrev S4x64x256 : Shape := ⟨3, ![4, 64, 256]⟩
abbrev S4x256x64 : Shape := ⟨3, ![4, 256, 64]⟩
abbrev S1x128x256 : Shape := ⟨3, ![1, 128, 256]⟩
abbrev S1x128x128 : Shape := ⟨3, ![1, 128, 128]⟩
abbrev S1x2048x288 : Shape := ⟨3, ![1, 2048, 288]⟩
abbrev S128x256 : Shape := ⟨2, ![128, 256]⟩
abbrev S128x128 : Shape := ⟨2, ![128, 128]⟩
abbrev S128x64 : Shape := ⟨2, ![128, 64]⟩
abbrev S1x64x256 : Shape := ⟨3, ![1, 64, 256]⟩
abbrev S64x256 : Shape := ⟨2, ![64, 256]⟩
abbrev S128x32 : Shape := ⟨2, ![128, 32]⟩
abbrev S128x288 : Shape := ⟨2, ![128, 288]⟩
abbrev S512x288 : Shape := ⟨2, ![512, 288]⟩
abbrev S128x1 : Shape := ⟨2, ![128, 1]⟩
abbrev S512x1 : Shape := ⟨2, ![512, 1]⟩
abbrev S512x256 : Shape := ⟨2, ![512, 256]⟩
abbrev S1x512x288 : Shape := ⟨3, ![1, 512, 288]⟩
abbrev S512x512 : Shape := ⟨2, ![512, 512]⟩
abbrev S1x512 : Shape := ⟨2, ![1, 512]⟩
abbrev S512 : Shape := ⟨1, ![512]⟩
abbrev S1x256x64 : Shape := ⟨3, ![1, 256, 64]⟩
abbrev S256x64 : Shape := ⟨2, ![256, 64]⟩
abbrev S1x128x64 : Shape := ⟨3, ![1, 128, 64]⟩

abbrev nBuf : Space → Nat
  | .hbm => 10
  | .vmem => 10
  | .smem => 0
  | _ => 0

abbrev bufTy : (tb : Table) → Fin (tcTables nBuf tb) → BufTy
  | .hbm, ⟨0, _⟩ => ⟨S16x2048x256, .f32⟩
  | .hbm, ⟨1, _⟩ => ⟨S16x2048x128, .f32⟩
  | .hbm, ⟨2, _⟩ => ⟨S16x2048x288, .f32⟩
  | .hbm, ⟨3, _⟩ => ⟨S256x4x64, .f32⟩
  | .hbm, ⟨4, _⟩ => ⟨S256x4x64, .f32⟩
  | .hbm, ⟨5, _⟩ => ⟨S4x64x256, .f32⟩
  | .hbm, ⟨6, _⟩ => ⟨S4x64x256, .bf16⟩
  | .hbm, ⟨7, _⟩ => ⟨S4x256x64, .f32⟩
  | .hbm, ⟨8, _⟩ => ⟨S4x256x64, .bf16⟩
  | .hbm, ⟨9, _⟩ => ⟨S16x2048x256, .f32⟩
  | .local _ .vmem, ⟨0, _⟩ => ⟨S1x128x256, .f32⟩
  | .local _ .vmem, ⟨1, _⟩ => ⟨S1x128x256, .f32⟩
  | .local _ .vmem, ⟨2, _⟩ => ⟨S1x128x128, .f32⟩
  | .local _ .vmem, ⟨3, _⟩ => ⟨S1x128x128, .f32⟩
  | .local _ .vmem, ⟨4, _⟩ => ⟨S1x2048x288, .f32⟩
  | .local _ .vmem, ⟨5, _⟩ => ⟨S1x2048x288, .f32⟩
  | .local _ .vmem, ⟨6, _⟩ => ⟨S4x64x256, .bf16⟩
  | .local _ .vmem, ⟨7, _⟩ => ⟨S4x256x64, .bf16⟩
  | .local _ .vmem, ⟨8, _⟩ => ⟨S1x128x256, .f32⟩
  | .local _ .vmem, ⟨9, _⟩ => ⟨S1x128x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_27 : BitVec 32 := 0#32
  let arg1 : BitVec 32 := BitVec.ofNat 32 (i 1).val
  let c128_i32 : BitVec 32 := 128#32
  let v4 : BitVec 32 := Scalar.muli arg1 c128_i32
  let c128_i32_5 : BitVec 32 := 128#32
  let v5 : BitVec 32 := Scalar.addi v4 c128_i32_5
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32 : BitVec 32 := 512#32
  let c0_i32_7 : BitVec 32 := 0#32
  let v13 : BitVec 1 := Scalar.cmpi .sgt c512_i32 c0_i32_7
  let v14 : BitVec 32 := Scalar.extui v13
  let c0_i32_8 : BitVec 32 := 0#32
  let v15 : BitVec 1 := Scalar.cmpi .slt c512_i32 c0_i32_8
  let v16 : BitVec 32 := Scalar.extui v15
  let v17 : BitVec 32 := Scalar.subi v14 v16
  let v18 : BitVec 1 := Scalar.cmpi .ne v12 v17
  let v19 : BitVec 32 := Scalar.remsi v6 c512_i32
  let c0_i32_9 : BitVec 32 := 0#32
  let v20 : BitVec 1 := Scalar.cmpi .ne v19 c0_i32_9
  let v21 : BitVec 1 := Scalar.andi v18 v20
  let v7 : BitVec 32 := Scalar.divsi v6 c512_i32
  let c1_i32_10 : BitVec 32 := 1#32
  let v22 : BitVec 32 := Scalar.subi v7 c1_i32_10
  let v23 : BitVec 32 := Scalar.select v21 v22 v7
  let c1_i32_11 : BitVec 32 := 1#32
  let v24 : BitVec 32 := Scalar.addi v23 c1_i32_11
  let v62 : BitVec 32 := Scalar.subi v24 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_29 : BitVec 32 := 1#32
  ⟨c0_i32_27, v66, c1_i32_29⟩
def k0_mult1 (i : grid0.Coords) (k0_t1 : Fin (k0_t1_loop i).trips) : BitVec 32 :=
  let c0_i32_27 : BitVec 32 := 0#32
  let c1_i32_29 : BitVec 32 := 1#32
  let arg8 : BitVec 32 := Scf.iv c0_i32_27 c1_i32_29 k0_t1
  let c512_i32_57 : BitVec 32 := 512#32
  let v105 : BitVec 32 := Scalar.muli arg8 c512_i32_57
  v105
def k0_off1 (i : grid0.Coords) (k0_t1 : Fin (k0_t1_loop i).trips) : Fin 3 → Nat :=
  let c0_58 : Index := 0#32
  let c0_i32_27 : BitVec 32 := 0#32
  let c1_i32_29 : BitVec 32 := 1#32
  let arg8 : BitVec 32 := Scf.iv c0_i32_27 c1_i32_29 k0_t1
  let c512_i32_57 : BitVec 32 := 512#32
  let v105 : BitVec 32 := Scalar.muli arg8 c512_i32_57
  let v106 : BitVec 32 := v105
  let v107 : Index := Scalar.indexCast v106
  let c0_59 : Index := 0#32
  ![0, v107.toNat, 0]
@[reducible] def k0_t2_loop (i : grid0.Coords) : Scf.Loop 32 :=
  let c0_i32_27 : BitVec 32 := 0#32
  let arg1 : BitVec 32 := BitVec.ofNat 32 (i 1).val
  let c128_i32 : BitVec 32 := 128#32
  let v4 : BitVec 32 := Scalar.muli arg1 c128_i32
  let c128_i32_5 : BitVec 32 := 128#32
  let v5 : BitVec 32 := Scalar.addi v4 c128_i32_5
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32 : BitVec 32 := 512#32
  let c0_i32_7 : BitVec 32 := 0#32
  let v13 : BitVec 1 := Scalar.cmpi .sgt c512_i32 c0_i32_7
  let v14 : BitVec 32 := Scalar.extui v13
  let c0_i32_8 : BitVec 32 := 0#32
  let v15 : BitVec 1 := Scalar.cmpi .slt c512_i32 c0_i32_8
  let v16 : BitVec 32 := Scalar.extui v15
  let v17 : BitVec 32 := Scalar.subi v14 v16
  let v18 : BitVec 1 := Scalar.cmpi .ne v12 v17
  let v19 : BitVec 32 := Scalar.remsi v6 c512_i32
  let c0_i32_9 : BitVec 32 := 0#32
  let v20 : BitVec 1 := Scalar.cmpi .ne v19 c0_i32_9
  let v21 : BitVec 1 := Scalar.andi v18 v20
  let v7 : BitVec 32 := Scalar.divsi v6 c512_i32
  let c1_i32_10 : BitVec 32 := 1#32
  let v22 : BitVec 32 := Scalar.subi v7 c1_i32_10
  let v23 : BitVec 32 := Scalar.select v21 v22 v7
  let c1_i32_11 : BitVec 32 := 1#32
  let v24 : BitVec 32 := Scalar.addi v23 c1_i32_11
  let v62 : BitVec 32 := Scalar.subi v24 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let v63 : BitVec 32 := Scalar.addi c0_i32_27 v62
  let c1_i32_30 : BitVec 32 := 1#32
  ⟨v66, v63, c1_i32_30⟩
def k0_mult2 (i : grid0.Coords) (k0_t2 : Fin (k0_t2_loop i).trips) : BitVec 32 :=
  let c0_i32_27 : BitVec 32 := 0#32
  let arg1 : BitVec 32 := BitVec.ofNat 32 (i 1).val
  let c128_i32 : BitVec 32 := 128#32
  let v4 : BitVec 32 := Scalar.muli arg1 c128_i32
  let c128_i32_5 : BitVec 32 := 128#32
  let v5 : BitVec 32 := Scalar.addi v4 c128_i32_5
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32 : BitVec 32 := 512#32
  let c0_i32_7 : BitVec 32 := 0#32
  let v13 : BitVec 1 := Scalar.cmpi .sgt c512_i32 c0_i32_7
  let v14 : BitVec 32 := Scalar.extui v13
  let c0_i32_8 : BitVec 32 := 0#32
  let v15 : BitVec 1 := Scalar.cmpi .slt c512_i32 c0_i32_8
  let v16 : BitVec 32 := Scalar.extui v15
  let v17 : BitVec 32 := Scalar.subi v14 v16
  let v18 : BitVec 1 := Scalar.cmpi .ne v12 v17
  let v19 : BitVec 32 := Scalar.remsi v6 c512_i32
  let c0_i32_9 : BitVec 32 := 0#32
  let v20 : BitVec 1 := Scalar.cmpi .ne v19 c0_i32_9
  let v21 : BitVec 1 := Scalar.andi v18 v20
  let v7 : BitVec 32 := Scalar.divsi v6 c512_i32
  let c1_i32_10 : BitVec 32 := 1#32
  let v22 : BitVec 32 := Scalar.subi v7 c1_i32_10
  let v23 : BitVec 32 := Scalar.select v21 v22 v7
  let c1_i32_11 : BitVec 32 := 1#32
  let v24 : BitVec 32 := Scalar.addi v23 c1_i32_11
  let v62 : BitVec 32 := Scalar.subi v24 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg8 : BitVec 32 := Scf.iv v66 c1_i32_30 k0_t2
  let c512_i32_57 : BitVec 32 := 512#32
  let v105 : BitVec 32 := Scalar.muli arg8 c512_i32_57
  v105
def k0_off2 (i : grid0.Coords) (k0_t2 : Fin (k0_t2_loop i).trips) : Fin 3 → Nat :=
  let c0_58 : Index := 0#32
  let c0_i32_27 : BitVec 32 := 0#32
  let arg1 : BitVec 32 := BitVec.ofNat 32 (i 1).val
  let c128_i32 : BitVec 32 := 128#32
  let v4 : BitVec 32 := Scalar.muli arg1 c128_i32
  let c128_i32_5 : BitVec 32 := 128#32
  let v5 : BitVec 32 := Scalar.addi v4 c128_i32_5
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32 : BitVec 32 := 512#32
  let c0_i32_7 : BitVec 32 := 0#32
  let v13 : BitVec 1 := Scalar.cmpi .sgt c512_i32 c0_i32_7
  let v14 : BitVec 32 := Scalar.extui v13
  let c0_i32_8 : BitVec 32 := 0#32
  let v15 : BitVec 1 := Scalar.cmpi .slt c512_i32 c0_i32_8
  let v16 : BitVec 32 := Scalar.extui v15
  let v17 : BitVec 32 := Scalar.subi v14 v16
  let v18 : BitVec 1 := Scalar.cmpi .ne v12 v17
  let v19 : BitVec 32 := Scalar.remsi v6 c512_i32
  let c0_i32_9 : BitVec 32 := 0#32
  let v20 : BitVec 1 := Scalar.cmpi .ne v19 c0_i32_9
  let v21 : BitVec 1 := Scalar.andi v18 v20
  let v7 : BitVec 32 := Scalar.divsi v6 c512_i32
  let c1_i32_10 : BitVec 32 := 1#32
  let v22 : BitVec 32 := Scalar.subi v7 c1_i32_10
  let v23 : BitVec 32 := Scalar.select v21 v22 v7
  let c1_i32_11 : BitVec 32 := 1#32
  let v24 : BitVec 32 := Scalar.addi v23 c1_i32_11
  let v62 : BitVec 32 := Scalar.subi v24 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg8 : BitVec 32 := Scf.iv v66 c1_i32_30 k0_t2
  let c512_i32_57 : BitVec 32 := 512#32
  let v105 : BitVec 32 := Scalar.muli arg8 c512_i32_57
  let v106 : BitVec 32 := v105
  let v107 : Index := Scalar.indexCast v106
  let c0_59 : Index := 0#32
  ![0, v107.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaIdeal.lean ====
variable {F : FTy → Type} [FloatOps F] [Named F]
def κ : String → Option EReal := fun
  | "mask" => some ⊥
  | _ => none
-- ==== MlaRefIdeal.lean ====
abbrev S16x2048x256 : Shape := ⟨3, ![16, 2048, 256]⟩
abbrev S16x2048x128 : Shape := ⟨3, ![16, 2048, 128]⟩
abbrev S16x2048x288 : Shape := ⟨3, ![16, 2048, 288]⟩
abbrev S256x4x64 : Shape := ⟨3, ![256, 4, 64]⟩
abbrev S16x2048x4x64 : Shape := ⟨4, ![16, 2048, 4, 64]⟩
abbrev S16x2048x4x32 : Shape := ⟨4, ![16, 2048, 4, 32]⟩
abbrev S16x2048x32 : Shape := ⟨3, ![16, 2048, 32]⟩
abbrev S4x256x16x2048 : Shape := ⟨4, ![4, 256, 16, 2048]⟩
abbrev S16x2048x4x256 : Shape := ⟨4, ![16, 2048, 4, 256]⟩
abbrev S16x2048x2048x4 : Shape := ⟨4, ![16, 2048, 2048, 4]⟩
abbrev S16x4x2048x2048 : Shape := ⟨4, ![16, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x2048 : Shape := ⟨3, ![16, 4, 2048]⟩
abbrev S16x4x2048x1 : Shape := ⟨4, ![16, 4, 2048, 1]⟩
abbrev S16x256x4x2048 : Shape := ⟨4, ![16, 256, 4, 2048]⟩
abbrev S4x64x16x2048 : Shape := ⟨4, ![4, 64, 16, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x128, .f32⟩
  | .hbm, ⟨2, _⟩ => ⟨S16x2048x288, .f32⟩
  | .hbm, ⟨3, _⟩ => ⟨S256x4x64, .f32⟩
  | .hbm, ⟨4, _⟩ => ⟨S256x4x64, .f32⟩
  | .hbm, ⟨5, _⟩ => ⟨S16x2048x4x64, .f32⟩
  | .hbm, ⟨6, _⟩ => ⟨S16x2048x4x32, .f32⟩
  | .hbm, ⟨7, _⟩ => ⟨S16x2048x256, .f32⟩
  | .hbm, ⟨8, _⟩ => ⟨S16x2048x32, .f32⟩
  | .hbm, ⟨9, _⟩ => ⟨S4x256x16x2048, .f32⟩
  | .hbm, ⟨10, _⟩ => ⟨S16x2048x4x256, .f32⟩
  | .hbm, ⟨11, _⟩ => ⟨S16x2048x2048x4, .f32⟩
  | .hbm, ⟨12, _⟩ => ⟨S16x4x2048x2048, .f32⟩
  | .hbm, ⟨13, _⟩ => ⟨S16x2048x2048x4, .f32⟩
  | .hbm, ⟨14, _⟩ => ⟨S16x4x2048x2048, .f32⟩
  | .hbm, ⟨15, _⟩ => ⟨S16x4x2048x2048, .f32⟩
  | .hbm, ⟨16, _⟩ => ⟨S_, .f32⟩
  | .hbm, ⟨17, _⟩ => ⟨S16x4x2048x2048, .f32⟩
  | .hbm, ⟨18, _⟩ => ⟨S16x4x2048x2048, .f32⟩
  | .hbm, ⟨19, _⟩ => ⟨S2048, .i32⟩
  | .hbm, ⟨20, _⟩ => ⟨S1x2048, .i32⟩
  | .hbm, ⟨21, _⟩ => ⟨S2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S16x4x2048x2048, .i1⟩
  | .hbm, ⟨29, _⟩ => ⟨S16x4x2048x2048, .f32⟩
  | .hbm, ⟨30, _⟩ => ⟨S16x4x2048x2048, .f32⟩
  | .hbm, ⟨31, _⟩ => ⟨S_, .f32⟩
  | .hbm, ⟨32, _⟩ => ⟨S16x4x2048, .f32⟩
  | .hbm, ⟨33, _⟩ => ⟨S16x4x2048x1, .f32⟩
  | .hbm, ⟨34, _⟩ => ⟨S16x4x2048x1, .f32⟩
  | .hbm, ⟨35, _⟩ => ⟨S_, .f32⟩
  | .hbm, ⟨36, _⟩ => ⟨S16x4x2048x1, .f32⟩
  | .hbm, ⟨37, _⟩ => ⟨S16x4x2048x1, .i1⟩
  | .hbm, ⟨38, _⟩ => ⟨S_, .f32⟩
  | .hbm, ⟨39, _⟩ => ⟨S_, .f32⟩
  | .hbm, ⟨40, _⟩ => ⟨S16x4x2048x1, .f32⟩
  | .hbm, ⟨41, _⟩ => ⟨S16x4x2048x1, .f32⟩
  | .hbm, ⟨42, _⟩ => ⟨S16x4x2048x2048, .f32⟩
  | .hbm, ⟨43, _⟩ => ⟨S16x4x2048x2048, .f32⟩
  | .hbm, ⟨44, _⟩ => ⟨S16x4x2048x2048, .f32⟩
  | .hbm, ⟨45, _⟩ => ⟨S_, .f32⟩
  | .hbm, ⟨46, _⟩ => ⟨S16x4x2048, .f32⟩
  | .hbm, ⟨47, _⟩ => ⟨S16x4x2048x1, .f32⟩
  | .hbm, ⟨48, _⟩ => ⟨S_, .f32⟩
  | .hbm, ⟨49, _⟩ => ⟨S16x4x2048x1, .f32⟩
  | .hbm, ⟨50, _⟩ => ⟨S16x4x2048x1, .f32⟩
  | .hbm, ⟨51, _⟩ => ⟨S16x4x2048x2048, .f32⟩
  | .hbm, ⟨52, _⟩ => ⟨S16x4x2048x2048, .f32⟩
  | .hbm, ⟨53, _⟩ => ⟨S16x256x4x2048, .f32⟩
  | .hbm, ⟨54, _⟩ => ⟨S16x2048x4x256, .f32⟩
  | .hbm, ⟨55, _⟩ => ⟨S4x64x16x2048, .f32⟩
  | .hbm, ⟨56, _⟩ => ⟨S16x2048x4x64, .f32⟩
  | .hbm, ⟨57, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Mlp.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x4096, .f32⟩
  | .hbm, ⟨21, _⟩ => ⟨S_, .f32⟩
  | .hbm, ⟨22, _⟩ => ⟨S32768x4096, .f32⟩
  | .hbm, ⟨23, _⟩ => ⟨S32768x4096, .f32⟩
  | .hbm, ⟨24, _⟩ => ⟨S32768x4096, .f32⟩
  | .hbm, ⟨25, _⟩ => ⟨S32768x1024, .f32⟩
  | .hbm, ⟨26, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Merge.lean ====
abbrev S32768x1024 : Shape := ⟨2, ![32768, 1024]⟩
abbrev S32768x256 : Shape := ⟨2, ![32768, 256]⟩
abbrev S32768x4096 : Shape := ⟨2, ![32768, 4096]⟩
abbrev S4x256x1024 : Shape := ⟨3, ![4, 256, 1024]⟩
abbrev S1024x1024 : Shape := ⟨2, ![1024, 1024]⟩
abbrev S256x1024 : Shape := ⟨2, ![256, 1024]⟩
abbrev S256x256 : Shape := ⟨2, ![256, 256]⟩
abbrev S256x4096 : Shape := ⟨2, ![256, 4096]⟩
abbrev S1x256x1024 : Shape := ⟨3, ![1, 256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x4096, .f32⟩
  | .hbm, ⟨6, _⟩ => ⟨S4x256x1024, .f32⟩
  | .hbm, ⟨7, _⟩ => ⟨S1024x1024, .f32⟩
  | .hbm, ⟨8, _⟩ => ⟨S4x256x1024, .bf16⟩
  | .hbm, ⟨9, _⟩ => ⟨S1024x1024, .bf16⟩
  | .hbm, ⟨10, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x4096, .f32⟩
  | .local _ .vmem, ⟨11, _⟩ => ⟨S256x4096, .f32⟩
  | .local _ .vmem, ⟨12, _⟩ => ⟨S4x256x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeIdeal.lean ====
abbrev S32768x1024 : Shape := ⟨2, ![32768, 1024]⟩
abbrev S32768x256 : Shape := ⟨2, ![32768, 256]⟩
abbrev S32768x4096 : Shape := ⟨2, ![32768, 4096]⟩
abbrev S4x256x1024 : Shape := ⟨3, ![4, 256, 1024]⟩
abbrev S1024x1024 : Shape := ⟨2, ![1024, 1024]⟩
abbrev S256x1024 : Shape := ⟨2, ![256, 1024]⟩
abbrev S256x256 : Shape := ⟨2, ![256, 256]⟩
abbrev S256x4096 : Shape := ⟨2, ![256, 4096]⟩
abbrev S1x256x1024 : Shape := ⟨3, ![1, 256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x4096, .f32⟩
  | .hbm, ⟨6, _⟩ => ⟨S4x256x1024, .f32⟩
  | .hbm, ⟨7, _⟩ => ⟨S1024x1024, .f32⟩
  | .hbm, ⟨8, _⟩ => ⟨S4x256x1024, .bf16⟩
  | .hbm, ⟨9, _⟩ => ⟨S1024x1024, .bf16⟩
  | .hbm, ⟨10, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x4096, .f32⟩
  | .local _ .vmem, ⟨11, _⟩ => ⟨S256x4096, .f32⟩
  | .local _ .vmem, ⟨12, _⟩ => ⟨S4x256x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S32768x1024 : Shape := ⟨2, ![32768, 1024]⟩
abbrev S32768x256 : Shape := ⟨2, ![32768, 256]⟩
abbrev S32768x4096 : Shape := ⟨2, ![32768, 4096]⟩
abbrev S4x256x1024 : Shape := ⟨3, ![4, 256, 1024]⟩
abbrev S1024x1024 : Shape := ⟨2, ![1024, 1024]⟩
abbrev S_ : Shape := ⟨0, ![]⟩
abbrev S32768x4x1024 : Shape := ⟨3, ![32768, 4, 1024]⟩
abbrev S32768x1x1024 : Shape := ⟨3, ![32768, 1, 1024]⟩
abbrev S1x256x1024 : Shape := ⟨3, ![1, 256, 1024]⟩
abbrev S256x1024 : Shape := ⟨2, ![256, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x4096, .f32⟩
  | .hbm, ⟨6, _⟩ => ⟨S4x256x1024, .f32⟩
  | .hbm, ⟨7, _⟩ => ⟨S1024x1024, .f32⟩
  | .hbm, ⟨8, _⟩ => ⟨S32768x4096, .f32⟩
  | .hbm, ⟨9, _⟩ => ⟨S32768x4096, .f32⟩
  | .hbm, ⟨10, _⟩ => ⟨S_, .f32⟩
  | .hbm, ⟨11, _⟩ => ⟨S32768x4096, .f32⟩
  | .hbm, ⟨12, _⟩ => ⟨S32768x4096, .f32⟩
  | .hbm, ⟨13, _⟩ => ⟨S_, .f32⟩
  | .hbm, ⟨14, _⟩ => ⟨S32768x4096, .f32⟩
  | .hbm, ⟨15, _⟩ => ⟨S32768x4096, .f32⟩
  | .hbm, ⟨16, _⟩ => ⟨S32768x4x1024, .f32⟩
  | .hbm, ⟨17, _⟩ => ⟨S32768x1x1024, .f32⟩
  | .hbm, ⟨18, _⟩ => ⟨S32768x1024, .f32⟩
  | .hbm, ⟨19, _⟩ => ⟨S1x256x1024, .f32⟩
  | .hbm, ⟨20, _⟩ => ⟨S256x1024, .f32⟩
  | .hbm, ⟨21, _⟩ => ⟨S32768x1024, .f32⟩
  | .hbm, ⟨22, _⟩ => ⟨S32768x1024, .f32⟩
  | .hbm, ⟨23, _⟩ => ⟨S32768x1x1024, .f32⟩
  | .hbm, ⟨24, _⟩ => ⟨S32768x1024, .f32⟩
  | .hbm, ⟨25, _⟩ => ⟨S1x256x1024, .f32⟩
  | .hbm, ⟨26, _⟩ => ⟨S256x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1x1024, .f32⟩
  | .hbm, ⟨31, _⟩ => ⟨S32768x1024, .f32⟩
  | .hbm, ⟨32, _⟩ => ⟨S1x256x1024, .f32⟩
  | .hbm, ⟨33, _⟩ => ⟨S256x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1x1024, .f32⟩
  | .hbm, ⟨38, _⟩ => ⟨S32768x1024, .f32⟩
  | .hbm, ⟨39, _⟩ => ⟨S1x256x1024, .f32⟩
  | .hbm, ⟨40, _⟩ => ⟨S256x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Final.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalIdeal.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Last.lean ====
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 4
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1x1024, .f32⟩
  | .hbm, ⟨3, _⟩ => ⟨S1024x1024, .f32⟩
  | .local _ .vmem, ⟨0, _⟩ => ⟨S1024x1024, .f32⟩
  | .local _ .vmem, ⟨1, _⟩ => ⟨S1x1024, .f32⟩
  | .local _ .vmem, ⟨2, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== LastRefIdeal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1x1024, .f32⟩
  | .hbm, ⟨16, _⟩ => ⟨S1024x1024, .f32⟩
  | .hbm, ⟨17, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x6644 : Shape := ⟨2, ![1024, 6644]⟩
abbrev S_ : Shape := ⟨0, ![]⟩
abbrev S1024x6656 : Shape := ⟨2, ![1024, 6656]⟩
abbrev S1x1024 : Shape := ⟨2, ![1, 1024]⟩
abbrev S32768x6656 : Shape := ⟨2, ![32768, 6656]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6644, .f32⟩
  | .hbm, ⟨3, _⟩ => ⟨S_, .i32⟩
  | .hbm, ⟨4, _⟩ => ⟨S_, .f32⟩
  | .hbm, ⟨5, _⟩ => ⟨S1024x6656, .f32⟩
  | .hbm, ⟨6, _⟩ => ⟨S1024x6656, .bf16⟩
  | .hbm, ⟨7, _⟩ => ⟨S1x1024, .f32⟩
  | .hbm, ⟨8, _⟩ => ⟨S32768x6656, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S32768x1024 : Shape := ⟨2, ![32768, 1024]⟩
abbrev S1024 : Shape := ⟨1, ![1024]⟩
abbrev S1024x6644 : Shape := ⟨2, ![1024, 6644]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6644 : Shape := ⟨2, ![32768, 6644]⟩
abbrev S32768x6656 : Shape := ⟨2, ![32768, 6656]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6644, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x6644, .f32⟩
  | .hbm, ⟨20, _⟩ => ⟨S_, .i32⟩
  | .hbm, ⟨21, _⟩ => ⟨S_, .f32⟩
  | .hbm, ⟨22, _⟩ => ⟨S32768x6656, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Rows.lean ====
abbrev S16x2048x1024 : Shape := ⟨3, ![16, 2048, 1024]⟩
abbrev S1024 : Shape := ⟨1, ![1024]⟩
abbrev S1024x6644 : Shape := ⟨2, ![1024, 6644]⟩
abbrev S4 : Shape := ⟨1, ![4]⟩
abbrev S256 : Shape := ⟨1, ![256]⟩
abbrev S32768x1024 : Shape := ⟨2, ![32768, 1024]⟩
abbrev S_ : Shape := ⟨0, ![]⟩
abbrev S1024x6656 : Shape := ⟨2, ![1024, 6656]⟩
abbrev S1x1024 : Shape := ⟨2, ![1, 1024]⟩
abbrev S32768x6656 : Shape := ⟨2, ![32768, 6656]⟩
abbrev S1024x1024 : Shape := ⟨2, ![1024, 1024]⟩
abbrev S1024x512 : Shape := ⟨2, ![1024, 512]⟩
abbrev S1024x1 : Shape := ⟨2, ![1024, 1]⟩
abbrev S32768x256 : Shape := ⟨2, ![32768, 256]⟩
abbrev S16x2048x256 : Shape := ⟨3, ![16, 2048, 256]⟩
abbrev S32768x64 : Shape := ⟨2, ![32768, 64]⟩
abbrev S16x2048x64 : Shape := ⟨3, ![16, 2048, 64]⟩
abbrev S32768x12 : Shape := ⟨2, ![32768, 12]⟩
abbrev S16x2048x12 : Shape := ⟨3, ![16, 2048, 12]⟩
abbrev S32768x128 : Shape := ⟨2, ![32768, 128]⟩
abbrev S16x2048x128 : Shape := ⟨3, ![16, 2048, 128]⟩
abbrev S32768x32 : Shape := ⟨2, ![32768, 32]⟩
abbrev S16x2048x32 : Shape := ⟨3, ![16, 2048, 32]⟩
abbrev S32768x4 : Shape := ⟨2, ![32768, 4]⟩
abbrev S16x2048x4 : Shape := ⟨3, ![16, 2048, 4]⟩
abbrev S32768x4096 : Shape := ⟨2, ![32768, 4096]⟩
abbrev S16x2048x4096 : Shape := ⟨3, ![16, 2048, 4096]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x32 : Shape := ⟨3, ![1, 2048, 32]⟩
abbrev S16x2048 : Shape := ⟨2, ![16, 2048]⟩
abbrev S16x2048x1 : Shape := ⟨3, ![16, 2048, 1]⟩
abbrev S1x1x256 : Shape := ⟨3, ![1, 1, 256]⟩
abbrev S16 : Shape := ⟨1, ![16]⟩
abbrev S1x16 : Shape := ⟨2, ![1, 16]⟩
abbrev S2048x16 : Shape := ⟨2, ![2048, 16]⟩
abbrev S16x2048x16 : Shape := ⟨3, ![16, 2048, 16]⟩
abbrev S1x2048x16 : Shape := ⟨3, ![1, 2048, 16]⟩
abbrev S16x2048x288 : Shape := ⟨3, ![16, 2048, 288]⟩
abbrev S1x1x4 : Shape := ⟨3, ![1, 1, 4]⟩
abbrev S16x2048x192 : Shape := ⟨3, ![16, 2048, 192]⟩
abbrev S16x512x128 : Shape := ⟨3, ![16, 512, 128]⟩

abbrev nBuf : Space → Nat
  | .hbm => 301
  | .vmem => 8
  | .smem => 0
  | _ => 0

abbrev hbmTy0_0 (i : Nat) : BufTy := match i % 128 with
  | 0 => ⟨S16x2048x1024, .f32⟩
  | 1 => ⟨S1024, .f32⟩
  | 2 => ⟨S1024x6644, .f32⟩
  | 3 => ⟨S4, .f32⟩
  | 4 => ⟨S256, .f32⟩
  | 5 => ⟨S32768x1024, .f32⟩
  | 6 => ⟨S_, .i32⟩
  | 7 => ⟨S_, .f32⟩
  | 8 => ⟨S1024x6656, .f32⟩
  | 9 => ⟨S1024x6656, .bf16⟩
  | 10 => ⟨S1x1024, .f32⟩
  | 11 => ⟨S32768x6656, .f32⟩
  | 12 => ⟨S32768x256, .f32⟩
  | 13 => ⟨S16x2048x256, .f32⟩
  | 14 => ⟨S32768x64, .f32⟩
  | 15 => ⟨S16x2048x64, .f32⟩
  | 16 => ⟨S32768x64, .f32⟩
  | 17 => ⟨S16x2048x64, .f32⟩
  | 18 => ⟨S32768x64, .f32⟩
  | 19 => ⟨S16x2048x64, .f32⟩
  | 20 => ⟨S32768x64, .f32⟩
  | 21 => ⟨S16x2048x64, .f32⟩
  | 22 => ⟨S32768x64, .f32⟩
  | 23 => ⟨S16x2048x64, .f32⟩
  | 24 => ⟨S32768x64, .f32⟩
  | 25 => ⟨S16x2048x64, .f32⟩
  | 26 => ⟨S32768x12, .f32⟩
  | 27 => ⟨S16x2048x12, .f32⟩
  | 28 => ⟨S32768x256, .f32⟩
  | 29 => ⟨S16x2048x256, .f32⟩
  | 30 => ⟨S32768x128, .f32⟩
  | 31 => ⟨S16x2048x128, .f32⟩
  | 32 => ⟨S32768x256, .f32⟩
  | 33 => ⟨S16x2048x256, .f32⟩
  | 34 => ⟨S32768x32, .f32⟩
  | 35 => ⟨S16x2048x32, .f32⟩
  | 36 => ⟨S32768x256, .f32⟩
  | 37 => ⟨S16x2048x256, .f32⟩
  | 38 => ⟨S32768x128, .f32⟩
  | 39 => ⟨S16x2048x128, .f32⟩
  | 40 => ⟨S32768x128, .f32⟩
  | 41 => ⟨S16x2048x128, .f32⟩
  | 42 => ⟨S32768x4, .f32⟩
  | 43 => ⟨S16x2048x4, .f32⟩
  | 44 => ⟨S32768x256, .f32⟩
  | 45 => ⟨S16x2048x256, .f32⟩
  | 46 => ⟨S32768x64, .f32⟩
  | 47 => ⟨S16x2048x64, .f32⟩
  | 48 => ⟨S32768x64, .f32⟩
  | 49 => ⟨S16x2048x64, .f32⟩
  | 50 => ⟨S32768x256, .f32⟩
  | 51 => ⟨S16x2048x256, .f32⟩
  | 52 => ⟨S32768x64, .f32⟩
  | 53 => ⟨S16x2048x64, .f32⟩
  | 54 => ⟨S32768x4, .f32⟩
  | 55 => ⟨S16x2048x4, .f32⟩
  | 56 => ⟨S32768x4096, .f32⟩
  | 57 => ⟨S16x2048x4096, .f32⟩
  | 58 => ⟨S2048, .i32⟩
  | 59 => ⟨S_, .i32⟩
  | 60 => ⟨S2048, .i32⟩
  | 61 => ⟨S2048, .i32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S2048, .f32⟩
  | 71 => ⟨S2048x1, .f32⟩
  | 72 => ⟨S1x32, .f32⟩
  | 73 => ⟨S2048x32, .f32⟩
  | 74 => ⟨S2048x32, .f32⟩
  | 75 => ⟨S2048x32, .f32⟩
  | 76 => ⟨S2048x32, .f32⟩
  | 77 => ⟨S2048x32, .f32⟩
  | 78 => ⟨S16x2048x32, .f32⟩
  | 79 => ⟨S16x2048x32, .f32⟩
  | 80 => ⟨S1x2048x32, .f32⟩
  | 81 => ⟨S16x2048x32, .f32⟩
  | 82 => ⟨S16x2048x32, .f32⟩
  | 83 => ⟨S1x2048x32, .f32⟩
  | 84 => ⟨S16x2048x32, .f32⟩
  | 85 => ⟨S16x2048x32, .f32⟩
  | 86 => ⟨S16x2048x32, .f32⟩
  | 87 => ⟨S1x2048x32, .f32⟩
  | 88 => ⟨S16x2048x32, .f32⟩
  | 89 => ⟨S16x2048x32, .f32⟩
  | 90 => ⟨S1x2048x32, .f32⟩
  | 91 => ⟨S16x2048x32, .f32⟩
  | 92 => ⟨S16x2048x32, .f32⟩
  | 93 => ⟨S16x2048x32, .f32⟩
  | 94 => ⟨S16x2048x64, .f32⟩
  | 95 => ⟨S32, .f32⟩
  | 96 => ⟨S32, .f32⟩
  | 97 => ⟨S_, .f32⟩
  | 98 => ⟨S32, .f32⟩
  | 99 => ⟨S32, .f32⟩
  | 100 => ⟨S_, .f32⟩
  | 101 => ⟨S32, .f32⟩
  | 102 => ⟨S32, .f32⟩
  | 103 => ⟨S2048, .f32⟩
  | 104 => ⟨S2048x1, .f32⟩
  | 105 => ⟨S1x32, .f32⟩
  | 106 => ⟨S2048x32, .f32⟩
  | 107 => ⟨S2048x32, .f32⟩
  | 108 => ⟨S2048x32, .f32⟩
  | 109 => ⟨S2048x32, .f32⟩
  | 110 => ⟨S2048x32, .f32⟩
  | 111 => ⟨S16x2048x32, .f32⟩
  | 112 => ⟨S16x2048x32, .f32⟩
  | 113 => ⟨S1x2048x32, .f32⟩
  | 114 => ⟨S16x2048x32, .f32⟩
  | 115 => ⟨S16x2048x32, .f32⟩
  | 116 => ⟨S1x2048x32, .f32⟩
  | 117 => ⟨S16x2048x32, .f32⟩
  | 118 => ⟨S16x2048x32, .f32⟩
  | 119 => ⟨S16x2048x32, .f32⟩
  | 120 => ⟨S1x2048x32, .f32⟩
  | 121 => ⟨S16x2048x32, .f32⟩
  | 122 => ⟨S16x2048x32, .f32⟩
  | 123 => ⟨S1x2048x32, .f32⟩
  | 124 => ⟨S16x2048x32, .f32⟩
  | 125 => ⟨S16x2048x32, .f32⟩
  | 126 => ⟨S16x2048x32, .f32⟩
  | 127 => ⟨S16x2048x64, .f32⟩
  | _ => ⟨S16x2048x1024, .f32⟩

abbrev hbmTy0_1 (i : Nat) : BufTy := match i % 128 with
  | 0 => ⟨S16x2048x256, .f32⟩
  | 1 => ⟨S16x2048x256, .f32⟩
  | 2 => ⟨S_, .f32⟩
  | 3 => ⟨S16x2048, .f32⟩
  | 4 => ⟨S16x2048x1, .f32⟩
  | 5 => ⟨S_, .f32⟩
  | 6 => ⟨S16x2048x1, .f32⟩
  | 7 => ⟨S16x2048x1, .f32⟩
  | 8 => ⟨S_, .f32⟩
  | 9 => ⟨S16x2048x1, .f32⟩
  | 10 => ⟨S16x2048x1, .f32⟩
  | 11 => ⟨S16x2048x1, .f32⟩
  | 12 => ⟨S16x2048x256, .f32⟩
  | 13 => ⟨S16x2048x256, .f32⟩
  | 14 => ⟨S1x1x256, .f32⟩
  | 15 => ⟨S16x2048x256, .f32⟩
  | 16 => ⟨S16x2048x256, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S2048, .f32⟩
  | 26 => ⟨S2048x1, .f32⟩
  | 27 => ⟨S1x16, .f32⟩
  | 28 => ⟨S2048x16, .f32⟩
  | 29 => ⟨S2048x16, .f32⟩
  | 30 => ⟨S2048x16, .f32⟩
  | 31 => ⟨S2048x16, .f32⟩
  | 32 => ⟨S2048x16, .f32⟩
  | 33 => ⟨S16x2048x16, .f32⟩
  | 34 => ⟨S16x2048x16, .f32⟩
  | 35 => ⟨S1x2048x16, .f32⟩
  | 36 => ⟨S16x2048x16, .f32⟩
  | 37 => ⟨S16x2048x16, .f32⟩
  | 38 => ⟨S1x2048x16, .f32⟩
  | 39 => ⟨S16x2048x16, .f32⟩
  | 40 => ⟨S16x2048x16, .f32⟩
  | 41 => ⟨S16x2048x16, .f32⟩
  | 42 => ⟨S1x2048x16, .f32⟩
  | 43 => ⟨S16x2048x16, .f32⟩
  | 44 => ⟨S16x2048x16, .f32⟩
  | 45 => ⟨S1x2048x16, .f32⟩
  | 46 => ⟨S16x2048x16, .f32⟩
  | 47 => ⟨S16x2048x16, .f32⟩
  | 48 => ⟨S16x2048x16, .f32⟩
  | 49 => ⟨S16x2048x32, .f32⟩
  | 50 => ⟨S16x2048x288, .f32⟩
  | 51 => ⟨S16x2048x256, .f32⟩
  | 52 => ⟨S1x1x4, .f32⟩
  | 53 => ⟨S16x2048x4, .f32⟩
  | 54 => ⟨S16x2048x4, .f32⟩
  | 55 => ⟨S16x2048x4, .f32⟩
  | 56 => ⟨S_, .f32⟩
  | 57 => ⟨S16x2048x4, .f32⟩
  | 58 => ⟨S16x2048x4, .f32⟩
  | 59 => ⟨S16x2048x4, .f32⟩
  | 60 => ⟨S16x2048x4, .f32⟩
  | 61 => ⟨S16x2048x4, .i1⟩
  | 62 => ⟨S16x2048x4, .f32⟩
  | 63 => ⟨S16x2048x4, .f32⟩
  | 64 => ⟨S16x2048x4, .f32⟩
  | 65 => ⟨S16x2048x4, .f32⟩
  | 66 => ⟨S16x2048x4, .f32⟩
  | 67 => ⟨S16x2048x4, .f32⟩
  | 68 => ⟨S16x2048x4, .f32⟩
  | 69 => ⟨S16x2048x4, .f32⟩
  | 70 => ⟨S16x2048x4, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S2048, .f32⟩
  | 80 => ⟨S2048x1, .f32⟩
  | 81 => ⟨S1x32, .f32⟩
  | 82 => ⟨S2048x32, .f32⟩
  | 83 => ⟨S2048x32, .f32⟩
  | 84 => ⟨S2048x32, .f32⟩
  | 85 => ⟨S2048x32, .f32⟩
  | 86 => ⟨S2048x32, .f32⟩
  | 87 => ⟨S16x2048x32, .f32⟩
  | 88 => ⟨S16x2048x32, .f32⟩
  | 89 => ⟨S1x2048x32, .f32⟩
  | 90 => ⟨S16x2048x32, .f32⟩
  | 91 => ⟨S16x2048x32, .f32⟩
  | 92 => ⟨S1x2048x32, .f32⟩
  | 93 => ⟨S16x2048x32, .f32⟩
  | 94 => ⟨S16x2048x32, .f32⟩
  | 95 => ⟨S16x2048x32, .f32⟩
  | 96 => ⟨S1x2048x32, .f32⟩
  | 97 => ⟨S16x2048x32, .f32⟩
  | 98 => ⟨S16x2048x32, .f32⟩
  | 99 => ⟨S1x2048x32, .f32⟩
  | 100 => ⟨S16x2048x32, .f32⟩
  | 101 => ⟨S16x2048x32, .f32⟩
  | 102 => ⟨S16x2048x32, .f32⟩
  | 103 => ⟨S16x2048x64, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S2048, .f32⟩
  | 113 => ⟨S2048x1, .f32⟩
  | 114 => ⟨S1x32, .f32⟩
  | 115 => ⟨S2048x32, .f32⟩
  | 116 => ⟨S2048x32, .f32⟩
  | 117 => ⟨S2048x32, .f32⟩
  | 118 => ⟨S2048x32, .f32⟩
  | 119 => ⟨S2048x32, .f32⟩
  | 120 => ⟨S16x2048x32, .f32⟩
  | 121 => ⟨S16x2048x32, .f32⟩
  | 122 => ⟨S1x2048x32, .f32⟩
  | 123 => ⟨S16x2048x32, .f32⟩
  | 124 => ⟨S16x2048x32, .f32⟩
  | 125 => ⟨S1x2048x32, .f32⟩
  | 126 => ⟨S16x2048x32, .f32⟩
  | 127 => ⟨S16x2048x32, .f32⟩
  | _ => ⟨S16x2048x1024, .f32⟩

abbrev hbmTy0_2 (i : Nat) : BufTy := match i % 128 with
  | 0 => ⟨S16x2048x32, .f32⟩
  | 1 => ⟨S1x2048x32, .f32⟩
  | 2 => ⟨S16x2048x32, .f32⟩
  | 3 => ⟨S16x2048x32, .f32⟩
  | 4 => ⟨S1x2048x32, .f32⟩
  | 5 => ⟨S16x2048x32, .f32⟩
  | 6 => ⟨S16x2048x32, .f32⟩
  | 7 => ⟨S16x2048x32, .f32⟩
  | 8 => ⟨S16x2048x64, .f32⟩
  | 9 => ⟨S16x2048x192, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S2048, .f32⟩
  | 19 => ⟨S2048x1, .f32⟩
  | 20 => ⟨S1x32, .f32⟩
  | 21 => ⟨S2048x32, .f32⟩
  | 22 => ⟨S2048x32, .f32⟩
  | 23 => ⟨S2048x32, .f32⟩
  | 24 => ⟨S2048x32, .f32⟩
  | 25 => ⟨S2048x32, .f32⟩
  | 26 => ⟨S16x2048x32, .f32⟩
  | 27 => ⟨S16x2048x32, .f32⟩
  | 28 => ⟨S1x2048x32, .f32⟩
  | 29 => ⟨S16x2048x32, .f32⟩
  | 30 => ⟨S16x2048x32, .f32⟩
  | 31 => ⟨S1x2048x32, .f32⟩
  | 32 => ⟨S16x2048x32, .f32⟩
  | 33 => ⟨S16x2048x32, .f32⟩
  | 34 => ⟨S16x2048x32, .f32⟩
  | 35 => ⟨S1x2048x32, .f32⟩
  | 36 => ⟨S16x2048x32, .f32⟩
  | 37 => ⟨S16x2048x32, .f32⟩
  | 38 => ⟨S1x2048x32, .f32⟩
  | 39 => ⟨S16x2048x32, .f32⟩
  | 40 => ⟨S16x2048x32, .f32⟩
  | 41 => ⟨S16x2048x32, .f32⟩
  | 42 => ⟨S16x2048x64, .f32⟩
  | 43 => ⟨S16x2048x128, .f32⟩
  | 44 => ⟨S16x512x128, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_c_0 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst : Ref sig .tc := ⟨.hbm, 64, rfl⟩
abbrev main_v56 : Ref sig .tc := ⟨.hbm, 65, rfl⟩
abbrev main_v57 : Ref sig .tc := ⟨.hbm, 66, rfl⟩
abbrev main_cst_1 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_2 : Ref sig .tc := ⟨.hbm, 97, rfl⟩
abbrev main_v87 : Ref sig .tc := ⟨.hbm, 98, rfl⟩
abbrev main_v88 : Ref sig .tc := ⟨.hbm, 99, rfl⟩
abbrev main_cst_3 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_cst_4 : Ref sig .tc := ⟨.hbm, 130, rfl⟩
abbrev main_v118 : Ref sig .tc := ⟨.hbm, 131, rfl⟩
abbrev main_v119 : Ref sig .tc := ⟨.hbm, 132, rfl⟩
abbrev main_cst_5 : Ref sig .tc := ⟨.hbm, 133, rfl⟩
abbrev main_v120 : Ref sig .tc := ⟨.hbm, 134, rfl⟩
abbrev main_v121 : Ref sig .tc := ⟨.hbm, 135, rfl⟩
abbrev main_cst_6 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_cst_7 : Ref sig .tc := ⟨.hbm, 147, rfl⟩
abbrev main_v132 : Ref sig .tc := ⟨.hbm, 148, rfl⟩
abbrev main_v133 : Ref sig .tc := ⟨.hbm, 149, rfl⟩
abbrev main_cst_8 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_call1_v0 : Ref sig .tc := ⟨.hbm, 183, rfl⟩
abbrev main_call1_call0_cst : Ref sig .tc := ⟨.hbm, 184, rfl⟩
abbrev main_call1_call0_v0 : Ref sig .tc := ⟨.hbm, 185, rfl⟩
abbrev main_call1_call0_v1 : Ref sig .tc := ⟨.hbm, 186, rfl⟩
abbrev main_call1_call0_v2 : Ref sig .tc := ⟨.hbm, 187, rfl⟩
abbrev main_call1_call0_v3 : Ref sig .tc := ⟨.hbm, 188, rfl⟩
abbrev main_call1_call0_v4 : Ref sig .tc := ⟨.hbm, 189, rfl⟩
abbrev main_call1_call0_v5 : Ref sig .tc := ⟨.hbm, 190, rfl⟩
abbrev main_call1_call0_v6 : Ref sig .tc := ⟨.hbm, 191, rfl⟩
abbrev main_call1_call0_v7 : Ref sig .tc := ⟨.hbm, 192, rfl⟩
abbrev main_call1_call0_v8 : Ref sig .tc := ⟨.hbm, 193, rfl⟩
abbrev main_call1_call0_v9 : Ref sig .tc := ⟨.hbm, 194, rfl⟩
abbrev main_call1_call0_v10 : Ref sig .tc := ⟨.hbm, 195, rfl⟩
abbrev main_call1_call0_v11 : Ref sig .tc := ⟨.hbm, 196, rfl⟩
abbrev main_call1_v1 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_cst_9 : Ref sig .tc := ⟨.hbm, 201, rfl⟩
abbrev main_v169 : Ref sig .tc := ⟨.hbm, 202, rfl⟩
abbrev main_v170 : Ref sig .tc := ⟨.hbm, 203, rfl⟩
abbrev main_cst_10 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_cst_11 : Ref sig .tc := ⟨.hbm, 234, rfl⟩
abbrev main_v200 : Ref sig .tc := ⟨.hbm, 235, rfl⟩
abbrev main_v201 : Ref sig .tc := ⟨.hbm, 236, rfl⟩
abbrev main_cst_12 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_cst_13 : Ref sig .tc := ⟨.hbm, 268, rfl⟩
abbrev main_v232 : Ref sig .tc := ⟨.hbm, 269, rfl⟩
abbrev main_v233 : Ref sig .tc := ⟨.hbm, 270, rfl⟩
abbrev main_cst_14 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RowsRefIdeal.lean ====
abbrev S16x2048x1024 : Shape := ⟨3, ![16, 2048, 1024]⟩
abbrev S1024 : Shape := ⟨1, ![1024]⟩
abbrev S1024x6644 : Shape := ⟨2, ![1024, 6644]⟩
abbrev S4 : Shape := ⟨1, ![4]⟩
abbrev S256 : Shape := ⟨1, ![256]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6644 : Shape := ⟨3, ![16, 2048, 6644]⟩
abbrev S16x2048x256 : Shape := ⟨3, ![16, 2048, 256]⟩
abbrev S16x2048x64 : Shape := ⟨3, ![16, 2048, 64]⟩
abbrev S16x2048x12 : Shape := ⟨3, ![16, 2048, 12]⟩
abbrev S16x2048x128 : Shape := ⟨3, ![16, 2048, 128]⟩
abbrev S16x2048x32 : Shape := ⟨3, ![16, 2048, 32]⟩
abbrev S16x2048x4 : Shape := ⟨3, ![16, 2048, 4]⟩
abbrev S16x2048x4096 : Shape := ⟨3, ![16, 2048, 4096]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x32 : Shape := ⟨3, ![1, 2048, 32]⟩
abbrev S1x1x256 : Shape := ⟨3, ![1, 1, 256]⟩
abbrev S16 : Shape := ⟨1, ![16]⟩
abbrev S1x16 : Shape := ⟨2, ![1, 16]⟩
abbrev S2048x16 : Shape := ⟨2, ![2048, 16]⟩
abbrev S16x2048x16 : Shape := ⟨3, ![16, 2048, 16]⟩
abbrev S1x2048x16 : Shape := ⟨3, ![1, 2048, 16]⟩
abbrev S16x2048x288 : Shape := ⟨3, ![16, 2048, 288]⟩
abbrev S1x1x4 : Shape := ⟨3, ![1, 1, 4]⟩
abbrev S16x2048x192 : Shape := ⟨3, ![16, 2048, 192]⟩
abbrev S16x512x128 : Shape := ⟨3, ![16, 512, 128]⟩

abbrev nBuf : Space → Nat
  | .hbm => 288
  | .vmem => 0
  | .smem => 0
  | _ => 0

abbrev hbmTy0_0 (i : Nat) : BufTy := match i % 128 with
  | 0 => ⟨S16x2048x1024, .f32⟩
  | 1 => ⟨S1024, .f32⟩
  | 2 => ⟨S1024x6644, .f32⟩
  | 3 => ⟨S4, .f32⟩
  | 4 => ⟨S256, .f32⟩
  | 5 => ⟨S2048, .i32⟩
  | 6 => ⟨S_, .i32⟩
  | 7 => ⟨S2048, .i32⟩
  | 8 => ⟨S2048, .i32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S16x2048x6644, .f32⟩
  | 26 => ⟨S16x2048x256, .f32⟩
  | 27 => ⟨S16x2048x64, .f32⟩
  | 28 => ⟨S16x2048x64, .f32⟩
  | 29 => ⟨S16x2048x64, .f32⟩
  | 30 => ⟨S16x2048x64, .f32⟩
  | 31 => ⟨S16x2048x64, .f32⟩
  | 32 => ⟨S16x2048x64, .f32⟩
  | 33 => ⟨S16x2048x12, .f32⟩
  | 34 => ⟨S16x2048x256, .f32⟩
  | 35 => ⟨S16x2048x128, .f32⟩
  | 36 => ⟨S16x2048x256, .f32⟩
  | 37 => ⟨S16x2048x32, .f32⟩
  | 38 => ⟨S16x2048x256, .f32⟩
  | 39 => ⟨S16x2048x128, .f32⟩
  | 40 => ⟨S16x2048x128, .f32⟩
  | 41 => ⟨S16x2048x4, .f32⟩
  | 42 => ⟨S16x2048x256, .f32⟩
  | 43 => ⟨S16x2048x64, .f32⟩
  | 44 => ⟨S16x2048x64, .f32⟩
  | 45 => ⟨S16x2048x256, .f32⟩
  | 46 => ⟨S16x2048x64, .f32⟩
  | 47 => ⟨S16x2048x4, .f32⟩
  | 48 => ⟨S16x2048x4096, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S2048, .f32⟩
  | 58 => ⟨S2048x1, .f32⟩
  | 59 => ⟨S1x32, .f32⟩
  | 60 => ⟨S2048x32, .f32⟩
  | 61 => ⟨S2048x32, .f32⟩
  | 62 => ⟨S2048x32, .f32⟩
  | 63 => ⟨S2048x32, .f32⟩
  | 64 => ⟨S2048x32, .f32⟩
  | 65 => ⟨S16x2048x32, .f32⟩
  | 66 => ⟨S16x2048x32, .f32⟩
  | 67 => ⟨S1x2048x32, .f32⟩
  | 68 => ⟨S16x2048x32, .f32⟩
  | 69 => ⟨S16x2048x32, .f32⟩
  | 70 => ⟨S1x2048x32, .f32⟩
  | 71 => ⟨S16x2048x32, .f32⟩
  | 72 => ⟨S16x2048x32, .f32⟩
  | 73 => ⟨S16x2048x32, .f32⟩
  | 74 => ⟨S1x2048x32, .f32⟩
  | 75 => ⟨S16x2048x32, .f32⟩
  | 76 => ⟨S16x2048x32, .f32⟩
  | 77 => ⟨S1x2048x32, .f32⟩
  | 78 => ⟨S16x2048x32, .f32⟩
  | 79 => ⟨S16x2048x32, .f32⟩
  | 80 => ⟨S16x2048x32, .f32⟩
  | 81 => ⟨S16x2048x64, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S2048, .f32⟩
  | 91 => ⟨S2048x1, .f32⟩
  | 92 => ⟨S1x32, .f32⟩
  | 93 => ⟨S2048x32, .f32⟩
  | 94 => ⟨S2048x32, .f32⟩
  | 95 => ⟨S2048x32, .f32⟩
  | 96 => ⟨S2048x32, .f32⟩
  | 97 => ⟨S2048x32, .f32⟩
  | 98 => ⟨S16x2048x32, .f32⟩
  | 99 => ⟨S16x2048x32, .f32⟩
  | 100 => ⟨S1x2048x32, .f32⟩
  | 101 => ⟨S16x2048x32, .f32⟩
  | 102 => ⟨S16x2048x32, .f32⟩
  | 103 => ⟨S1x2048x32, .f32⟩
  | 104 => ⟨S16x2048x32, .f32⟩
  | 105 => ⟨S16x2048x32, .f32⟩
  | 106 => ⟨S16x2048x32, .f32⟩
  | 107 => ⟨S1x2048x32, .f32⟩
  | 108 => ⟨S16x2048x32, .f32⟩
  | 109 => ⟨S16x2048x32, .f32⟩
  | 110 => ⟨S1x2048x32, .f32⟩
  | 111 => ⟨S16x2048x32, .f32⟩
  | 112 => ⟨S16x2048x32, .f32⟩
  | 113 => ⟨S16x2048x32, .f32⟩
  | 114 => ⟨S16x2048x64, .f32⟩
  | 115 => ⟨S16x2048x256, .f32⟩
  | 116 => ⟨S16x2048x256, .f32⟩
  | 117 => ⟨S_, .f32⟩
  | 118 => ⟨S16x2048, .f32⟩
  | 119 => ⟨S16x2048x1, .f32⟩
  | 120 => ⟨S_, .f32⟩
  | 121 => ⟨S16x2048x1, .f32⟩
  | 122 => ⟨S16x2048x1, .f32⟩
  | 123 => ⟨S_, .f32⟩
  | 124 => ⟨S16x2048x1, .f32⟩
  | 125 => ⟨S16x2048x1, .f32⟩
  | 126 => ⟨S16x2048x1, .f32⟩
  | 127 => ⟨S16x2048x256, .f32⟩
  | _ => ⟨S16x2048x1024, .f32⟩

abbrev hbmTy0_1 (i : Nat) : BufTy := match i % 128 with
  | 0 => ⟨S16x2048x256, .f32⟩
  | 1 => ⟨S1x1x256, .f32⟩
  | 2 => ⟨S16x2048x256, .f32⟩
  | 3 => ⟨S16x2048x256, .f32⟩
  | 4 => ⟨S16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S2048, .f32⟩
  | 13 => ⟨S2048x1, .f32⟩
  | 14 => ⟨S1x16, .f32⟩
  | 15 => ⟨S2048x16, .f32⟩
  | 16 => ⟨S2048x16, .f32⟩
  | 17 => ⟨S2048x16, .f32⟩
  | 18 => ⟨S2048x16, .f32⟩
  | 19 => ⟨S2048x16, .f32⟩
  | 20 => ⟨S16x2048x16, .f32⟩
  | 21 => ⟨S16x2048x16, .f32⟩
  | 22 => ⟨S1x2048x16, .f32⟩
  | 23 => ⟨S16x2048x16, .f32⟩
  | 24 => ⟨S16x2048x16, .f32⟩
  | 25 => ⟨S1x2048x16, .f32⟩
  | 26 => ⟨S16x2048x16, .f32⟩
  | 27 => ⟨S16x2048x16, .f32⟩
  | 28 => ⟨S16x2048x16, .f32⟩
  | 29 => ⟨S1x2048x16, .f32⟩
  | 30 => ⟨S16x2048x16, .f32⟩
  | 31 => ⟨S16x2048x16, .f32⟩
  | 32 => ⟨S1x2048x16, .f32⟩
  | 33 => ⟨S16x2048x16, .f32⟩
  | 34 => ⟨S16x2048x16, .f32⟩
  | 35 => ⟨S16x2048x16, .f32⟩
  | 36 => ⟨S16x2048x32, .f32⟩
  | 37 => ⟨S16x2048x288, .f32⟩
  | 38 => ⟨S16x2048x256, .f32⟩
  | 39 => ⟨S1x1x4, .f32⟩
  | 40 => ⟨S16x2048x4, .f32⟩
  | 41 => ⟨S16x2048x4, .f32⟩
  | 42 => ⟨S16x2048x4, .f32⟩
  | 43 => ⟨S_, .f32⟩
  | 44 => ⟨S16x2048x4, .f32⟩
  | 45 => ⟨S16x2048x4, .f32⟩
  | 46 => ⟨S16x2048x4, .f32⟩
  | 47 => ⟨S16x2048x4, .f32⟩
  | 48 => ⟨S16x2048x4, .i1⟩
  | 49 => ⟨S16x2048x4, .f32⟩
  | 50 => ⟨S16x2048x4, .f32⟩
  | 51 => ⟨S16x2048x4, .f32⟩
  | 52 => ⟨S16x2048x4, .f32⟩
  | 53 => ⟨S16x2048x4, .f32⟩
  | 54 => ⟨S16x2048x4, .f32⟩
  | 55 => ⟨S16x2048x4, .f32⟩
  | 56 => ⟨S16x2048x4, .f32⟩
  | 57 => ⟨S16x2048x4, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S2048, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S16x2048x32, .f32⟩
  | 75 => ⟨S16x2048x32, .f32⟩
  | 76 => ⟨S1x2048x32, .f32⟩
  | 77 => ⟨S16x2048x32, .f32⟩
  | 78 => ⟨S16x2048x32, .f32⟩
  | 79 => ⟨S1x2048x32, .f32⟩
  | 80 => ⟨S16x2048x32, .f32⟩
  | 81 => ⟨S16x2048x32, .f32⟩
  | 82 => ⟨S16x2048x32, .f32⟩
  | 83 => ⟨S1x2048x32, .f32⟩
  | 84 => ⟨S16x2048x32, .f32⟩
  | 85 => ⟨S16x2048x32, .f32⟩
  | 86 => ⟨S1x2048x32, .f32⟩
  | 87 => ⟨S16x2048x32, .f32⟩
  | 88 => ⟨S16x2048x32, .f32⟩
  | 89 => ⟨S16x2048x32, .f32⟩
  | 90 => ⟨S16x2048x64, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S2048, .f32⟩
  | 100 => ⟨S2048x1, .f32⟩
  | 101 => ⟨S1x32, .f32⟩
  | 102 => ⟨S2048x32, .f32⟩
  | 103 => ⟨S2048x32, .f32⟩
  | 104 => ⟨S2048x32, .f32⟩
  | 105 => ⟨S2048x32, .f32⟩
  | 106 => ⟨S2048x32, .f32⟩
  | 107 => ⟨S16x2048x32, .f32⟩
  | 108 => ⟨S16x2048x32, .f32⟩
  | 109 => ⟨S1x2048x32, .f32⟩
  | 110 => ⟨S16x2048x32, .f32⟩
  | 111 => ⟨S16x2048x32, .f32⟩
  | 112 => ⟨S1x2048x32, .f32⟩
  | 113 => ⟨S16x2048x32, .f32⟩
  | 114 => ⟨S16x2048x32, .f32⟩
  | 115 => ⟨S16x2048x32, .f32⟩
  | 116 => ⟨S1x2048x32, .f32⟩
  | 117 => ⟨S16x2048x32, .f32⟩
  | 118 => ⟨S16x2048x32, .f32⟩
  | 119 => ⟨S1x2048x32, .f32⟩
  | 120 => ⟨S16x2048x32, .f32⟩
  | 121 => ⟨S16x2048x32, .f32⟩
  | 122 => ⟨S16x2048x32, .f32⟩
  | 123 => ⟨S16x2048x64, .f32⟩
  | 124 => ⟨S16x2048x192, .f32⟩
  | 125 => ⟨S32, .f32⟩
  | 126 => ⟨S32, .f32⟩
  | 127 => ⟨S_, .f32⟩
  | _ => ⟨S16x2048x1024, .f32⟩

abbrev hbmTy0_2 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S2048, .f32⟩
  | 6 => ⟨S2048x1, .f32⟩
  | 7 => ⟨S1x32, .f32⟩
  | 8 => ⟨S2048x32, .f32⟩
  | 9 => ⟨S2048x32, .f32⟩
  | 10 => ⟨S2048x32, .f32⟩
  | 11 => ⟨S2048x32, .f32⟩
  | 12 => ⟨S2048x32, .f32⟩
  | 13 => ⟨S16x2048x32, .f32⟩
  | 14 => ⟨S16x2048x32, .f32⟩
  | 15 => ⟨S1x2048x32, .f32⟩
  | 16 => ⟨S16x2048x32, .f32⟩
  | 17 => ⟨S16x2048x32, .f32⟩
  | 18 => ⟨S1x2048x32, .f32⟩
  | 19 => ⟨S16x2048x32, .f32⟩
  | 20 => ⟨S16x2048x32, .f32⟩
  | 21 => ⟨S16x2048x32, .f32⟩
  | 22 => ⟨S1x2048x32, .f32⟩
  | 23 => ⟨S16x2048x32, .f32⟩
  | 24 => ⟨S16x2048x32, .f32⟩
  | 25 => ⟨S1x2048x32, .f32⟩
  | 26 => ⟨S16x2048x32, .f32⟩
  | 27 => ⟨S16x2048x32, .f32⟩
  | 28 => ⟨S16x2048x32, .f32⟩
  | 29 => ⟨S16x2048x64, .f32⟩
  | 30 => ⟨S16x2048x128, .f32⟩
  | 31 => ⟨S16x512x128, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_cst_5 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_6 : Ref sig .tc := ⟨.hbm, 117, rfl⟩
abbrev main_v104 : Ref sig .tc := ⟨.hbm, 118, rfl⟩
abbrev main_v105 : Ref sig .tc := ⟨.hbm, 119, rfl⟩
abbrev main_cst_7 : Ref sig .tc := ⟨.hbm, 120, rfl⟩
abbrev main_v106 : Ref sig .tc := ⟨.hbm, 121, rfl⟩
abbrev main_v107 : Ref sig .tc := ⟨.hbm, 122, rfl⟩
abbrev main_cst_8 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst_9 : Ref sig .tc := ⟨.hbm, 134, rfl⟩
abbrev main_v118 : Ref sig .tc := ⟨.hbm, 135, rfl⟩
abbrev main_v119 : Ref sig .tc := ⟨.hbm, 136, rfl⟩
abbrev main_cst_10 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_call0_v0 : Ref sig .tc := ⟨.hbm, 170, rfl⟩
abbrev main_call0_call0_cst : Ref sig .tc := ⟨.hbm, 171, rfl⟩
abbrev main_call0_call0_v0 : Ref sig .tc := ⟨.hbm, 172, rfl⟩
abbrev main_call0_call0_v1 : Ref sig .tc := ⟨.hbm, 173, rfl⟩
abbrev main_call0_call0_v2 : Ref sig .tc := ⟨.hbm, 174, rfl⟩
abbrev main_call0_call0_v3 : Ref sig .tc := ⟨.hbm, 175, rfl⟩
abbrev main_call0_call0_v4 : Ref sig .tc := ⟨.hbm, 176, rfl⟩
abbrev main_call0_call0_v5 : Ref sig .tc := ⟨.hbm, 177, rfl⟩
abbrev main_call0_call0_v6 : Ref sig .tc := ⟨.hbm, 178, rfl⟩
abbrev main_call0_call0_v7 : Ref sig .tc := ⟨.hbm, 179, rfl⟩
abbrev main_call0_call0_v8 : Ref sig .tc := ⟨.hbm, 180, rfl⟩
abbrev main_call0_call0_v9 : Ref sig .tc := ⟨.hbm, 181, rfl⟩
abbrev main_call0_call0_v10 : Ref sig .tc := ⟨.hbm, 182, rfl⟩
abbrev main_call0_call0_v11 : Ref sig .tc := ⟨.hbm, 183, rfl⟩
abbrev main_call0_v1 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_cst_11 : Ref sig .tc := ⟨.hbm, 188, rfl⟩
abbrev main_v155 : Ref sig .tc := ⟨.hbm, 189, rfl⟩
abbrev main_v156 : Ref sig .tc := ⟨.hbm, 190, rfl⟩
abbrev main_cst_12 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_cst_13 : Ref sig .tc := ⟨.hbm, 221, rfl⟩
abbrev main_v186 : Ref sig .tc := ⟨.hbm, 222, rfl⟩
abbrev main_v187 : Ref sig .tc := ⟨.hbm, 223, rfl⟩
abbrev main_cst_14 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_cst_15 : Ref sig .tc := ⟨.hbm, 255, rfl⟩
abbrev main_v218 : Ref sig .tc := ⟨.hbm, 256, rfl⟩
abbrev main_v219 : Ref sig .tc := ⟨.hbm, 257, rfl⟩
abbrev main_cst_16 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩

abbrev nD : Nat := 1
abbrev τ : Topo := Topo.v7x

variable {F : FTy → Type} [FloatOps F]
-- ==== Sample.lean ====
abbrev S128x8x1024 : Shape := ⟨3, ![128, 8, 1024]⟩
abbrev S128x512x128 : Shape := ⟨3, ![128, 512, 128]⟩
abbrev S1024 : Shape := ⟨1, ![1024]⟩
abbrev S1024x6644 : Shape := ⟨2, ![1024, 6644]⟩
abbrev S4 : Shape := ⟨1, ![4]⟩
abbrev S256 : Shape := ⟨1, ![256]⟩
abbrev S1024x1024 : Shape := ⟨2, ![1024, 1024]⟩
abbrev S_ : Shape := ⟨0, ![]⟩
abbrev S1024x6656 : Shape := ⟨2, ![1024, 6656]⟩
abbrev S1x1024 : Shape := ⟨2, ![1, 1024]⟩
abbrev S1024x512 : Shape := ⟨2, ![1024, 512]⟩
abbrev S1024x1 : Shape := ⟨2, ![1024, 1]⟩
abbrev S1024x256 : Shape := ⟨2, ![1024, 256]⟩
abbrev S128x8x256 : Shape := ⟨3, ![128, 8, 256]⟩
abbrev S1024x64 : Shape := ⟨2, ![1024, 64]⟩
abbrev S128x8x64 : Shape := ⟨3, ![128, 8, 64]⟩
abbrev S1024x12 : Shape := ⟨2, ![1024, 12]⟩
abbrev S128x8x12 : Shape := ⟨3, ![128, 8, 12]⟩
abbrev S1024x128 : Shape := ⟨2, ![1024, 128]⟩
abbrev S128x8x128 : Shape := ⟨3, ![128, 8, 128]⟩
abbrev S1024x32 : Shape := ⟨2, ![1024, 32]⟩
abbrev S128x8x32 : Shape := ⟨3, ![128, 8, 32]⟩
abbrev S1024x4 : Shape := ⟨2, ![1024, 4]⟩
abbrev S128x8x4 : Shape := ⟨3, ![128, 8, 4]⟩
abbrev S1024x4096 : Shape := ⟨2, ![1024, 4096]⟩
abbrev S128x8x4096 : Shape := ⟨3, ![128, 8, 4096]⟩
abbrev S8 : Shape := ⟨1, ![8]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x32 : Shape := ⟨3, ![1, 8, 32]⟩
abbrev S128x8 : Shape := ⟨2, ![128, 8]⟩
abbrev S128x8x1 : Shape := ⟨3, ![128, 8, 1]⟩
abbrev S1x1x256 : Shape := ⟨3, ![1, 1, 256]⟩
abbrev S16 : Shape := ⟨1, ![16]⟩
abbrev S1x16 : Shape := ⟨2, ![1, 16]⟩
abbrev S8x16 : Shape := ⟨2, ![8, 16]⟩
abbrev S128x8x16 : Shape := ⟨3, ![128, 8, 16]⟩
abbrev S1x8x16 : Shape := ⟨3, ![1, 8, 16]⟩
abbrev S128x8x288 : Shape := ⟨3, ![128, 8, 288]⟩
abbrev S1x1x4 : Shape := ⟨3, ![1, 1, 4]⟩
abbrev S128x8x192 : Shape := ⟨3, ![128, 8, 192]⟩
abbrev S128x520x128 : Shape := ⟨3, ![128, 520, 128]⟩

abbrev nBuf : Space → Nat
  | .hbm => 303
  | .vmem => 7
  | .smem => 0
  | _ => 0

abbrev hbmTy0_0 (i : Nat) : BufTy := match i % 128 with
  | 0 => ⟨S128x8x1024, .f32⟩
  | 1 => ⟨S128x512x128, .f32⟩
  | 2 => ⟨S1024, .f32⟩
  | 3 => ⟨S1024x6644, .f32⟩
  | 4 => ⟨S4, .f32⟩
  | 5 => ⟨S256, .f32⟩
  | 6 => ⟨S1024x1024, .f32⟩
  | 7 => ⟨S_, .i32⟩
  | 8 => ⟨S_, .f32⟩
  | 9 => ⟨S1024x6656, .f32⟩
  | 10 => ⟨S1024x6656, .bf16⟩
  | 11 => ⟨S1x1024, .f32⟩
  | 12 => ⟨S1024x6656, .f32⟩
  | 13 => ⟨S1024x256, .f32⟩
  | 14 => ⟨S128x8x256, .f32⟩
  | 15 => ⟨S1024x64, .f32⟩
  | 16 => ⟨S128x8x64, .f32⟩
  | 17 => ⟨S1024x64, .f32⟩
  | 18 => ⟨S128x8x64, .f32⟩
  | 19 => ⟨S1024x64, .f32⟩
  | 20 => ⟨S128x8x64, .f32⟩
  | 21 => ⟨S1024x64, .f32⟩
  | 22 => ⟨S128x8x64, .f32⟩
  | 23 => ⟨S1024x64, .f32⟩
  | 24 => ⟨S128x8x64, .f32⟩
  | 25 => ⟨S1024x64, .f32⟩
  | 26 => ⟨S128x8x64, .f32⟩
  | 27 => ⟨S1024x12, .f32⟩
  | 28 => ⟨S128x8x12, .f32⟩
  | 29 => ⟨S1024x256, .f32⟩
  | 30 => ⟨S128x8x256, .f32⟩
  | 31 => ⟨S1024x128, .f32⟩
  | 32 => ⟨S128x8x128, .f32⟩
  | 33 => ⟨S1024x256, .f32⟩
  | 34 => ⟨S128x8x256, .f32⟩
  | 35 => ⟨S1024x32, .f32⟩
  | 36 => ⟨S128x8x32, .f32⟩
  | 37 => ⟨S1024x256, .f32⟩
  | 38 => ⟨S128x8x256, .f32⟩
  | 39 => ⟨S1024x128, .f32⟩
  | 40 => ⟨S128x8x128, .f32⟩
  | 41 => ⟨S1024x128, .f32⟩
  | 42 => ⟨S128x8x128, .f32⟩
  | 43 => ⟨S1024x4, .f32⟩
  | 44 => ⟨S128x8x4, .f32⟩
  | 45 => ⟨S1024x256, .f32⟩
  | 46 => ⟨S128x8x256, .f32⟩
  | 47 => ⟨S1024x64, .f32⟩
  | 48 => ⟨S128x8x64, .f32⟩
  | 49 => ⟨S1024x64, .f32⟩
  | 50 => ⟨S128x8x64, .f32⟩
  | 51 => ⟨S1024x256, .f32⟩
  | 52 => ⟨S128x8x256, .f32⟩
  | 53 => ⟨S1024x64, .f32⟩
  | 54 => ⟨S128x8x64, .f32⟩
  | 55 => ⟨S1024x4, .f32⟩
  | 56 => ⟨S128x8x4, .f32⟩
  | 57 => ⟨S1024x4096, .f32⟩
  | 58 => ⟨S128x8x4096, .f32⟩
  | 59 => ⟨S8, .i32⟩
  | 60 => ⟨S_, .i32⟩
  | 61 => ⟨S8, .i32⟩
  | 62 => ⟨S8, .i32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S8, .f32⟩
  | 72 => ⟨S8x1, .f32⟩
  | 73 => ⟨S1x32, .f32⟩
  | 74 => ⟨S8x32, .f32⟩
  | 75 => ⟨S8x32, .f32⟩
  | 76 => ⟨S8x32, .f32⟩
  | 77 => ⟨S8x32, .f32⟩
  | 78 => ⟨S8x32, .f32⟩
  | 79 => ⟨S128x8x32, .f32⟩
  | 80 => ⟨S128x8x32, .f32⟩
  | 81 => ⟨S1x8x32, .f32⟩
  | 82 => ⟨S128x8x32, .f32⟩
  | 83 => ⟨S128x8x32, .f32⟩
  | 84 => ⟨S1x8x32, .f32⟩
  | 85 => ⟨S128x8x32, .f32⟩
  | 86 => ⟨S128x8x32, .f32⟩
  | 87 => ⟨S128x8x32, .f32⟩
  | 88 => ⟨S1x8x32, .f32⟩
  | 89 => ⟨S128x8x32, .f32⟩
  | 90 => ⟨S128x8x32, .f32⟩
  | 91 => ⟨S1x8x32, .f32⟩
  | 92 => ⟨S128x8x32, .f32⟩
  | 93 => ⟨S128x8x32, .f32⟩
  | 94 => ⟨S128x8x32, .f32⟩
  | 95 => ⟨S128x8x64, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S8, .f32⟩
  | 105 => ⟨S8x1, .f32⟩
  | 106 => ⟨S1x32, .f32⟩
  | 107 => ⟨S8x32, .f32⟩
  | 108 => ⟨S8x32, .f32⟩
  | 109 => ⟨S8x32, .f32⟩
  | 110 => ⟨S8x32, .f32⟩
  | 111 => ⟨S8x32, .f32⟩
  | 112 => ⟨S128x8x32, .f32⟩
  | 113 => ⟨S128x8x32, .f32⟩
  | 114 => ⟨S1x8x32, .f32⟩
  | 115 => ⟨S128x8x32, .f32⟩
  | 116 => ⟨S128x8x32, .f32⟩
  | 117 => ⟨S1x8x32, .f32⟩
  | 118 => ⟨S128x8x32, .f32⟩
  | 119 => ⟨S128x8x32, .f32⟩
  | 120 => ⟨S128x8x32, .f32⟩
  | 121 => ⟨S1x8x32, .f32⟩
  | 122 => ⟨S128x8x32, .f32⟩
  | 123 => ⟨S128x8x32, .f32⟩
  | 124 => ⟨S1x8x32, .f32⟩
  | 125 => ⟨S128x8x32, .f32⟩
  | 126 => ⟨S128x8x32, .f32⟩
  | 127 => ⟨S128x8x32, .f32⟩
  | _ => ⟨S128x8x1024, .f32⟩

abbrev hbmTy0_1 (i : Nat) : BufTy := match i % 128 with
  | 0 => ⟨S128x8x64, .f32⟩
  | 1 => ⟨S128x8x256, .f32⟩
  | 2 => ⟨S128x8x256, .f32⟩
  | 3 => ⟨S_, .f32⟩
  | 4 => ⟨S128x8, .f32⟩
  | 5 => ⟨S128x8x1, .f32⟩
  | 6 => ⟨S_, .f32⟩
  | 7 => ⟨S128x8x1, .f32⟩
  | 8 => ⟨S128x8x1, .f32⟩
  | 9 => ⟨S_, .f32⟩
  | 10 => ⟨S128x8x1, .f32⟩
  | 11 => ⟨S128x8x1, .f32⟩
  | 12 => ⟨S128x8x1, .f32⟩
  | 13 => ⟨S128x8x256, .f32⟩
  | 14 => ⟨S128x8x256, .f32⟩
  | 15 => ⟨S1x1x256, .f32⟩
  | 16 => ⟨S128x8x256, .f32⟩
  | 17 => ⟨S128x8x256, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S8, .f32⟩
  | 27 => ⟨S8x1, .f32⟩
  | 28 => ⟨S1x16, .f32⟩
  | 29 => ⟨S8x16, .f32⟩
  | 30 => ⟨S8x16, .f32⟩
  | 31 => ⟨S8x16, .f32⟩
  | 32 => ⟨S8x16, .f32⟩
  | 33 => ⟨S8x16, .f32⟩
  | 34 => ⟨S128x8x16, .f32⟩
  | 35 => ⟨S128x8x16, .f32⟩
  | 36 => ⟨S1x8x16, .f32⟩
  | 37 => ⟨S128x8x16, .f32⟩
  | 38 => ⟨S128x8x16, .f32⟩
  | 39 => ⟨S1x8x16, .f32⟩
  | 40 => ⟨S128x8x16, .f32⟩
  | 41 => ⟨S128x8x16, .f32⟩
  | 42 => ⟨S128x8x16, .f32⟩
  | 43 => ⟨S1x8x16, .f32⟩
  | 44 => ⟨S128x8x16, .f32⟩
  | 45 => ⟨S128x8x16, .f32⟩
  | 46 => ⟨S1x8x16, .f32⟩
  | 47 => ⟨S128x8x16, .f32⟩
  | 48 => ⟨S128x8x16, .f32⟩
  | 49 => ⟨S128x8x16, .f32⟩
  | 50 => ⟨S128x8x32, .f32⟩
  | 51 => ⟨S128x8x288, .f32⟩
  | 52 => ⟨S128x8x256, .f32⟩
  | 53 => ⟨S1x1x4, .f32⟩
  | 54 => ⟨S128x8x4, .f32⟩
  | 55 => ⟨S128x8x4, .f32⟩
  | 56 => ⟨S128x8x4, .f32⟩
  | 57 => ⟨S_, .f32⟩
  | 58 => ⟨S128x8x4, .f32⟩
  | 59 => ⟨S128x8x4, .f32⟩
  | 60 => ⟨S128x8x4, .f32⟩
  | 61 => ⟨S128x8x4, .f32⟩
  | 62 => ⟨S128x8x4, .i1⟩
  | 63 => ⟨S128x8x4, .f32⟩
  | 64 => ⟨S128x8x4, .f32⟩
  | 65 => ⟨S128x8x4, .f32⟩
  | 66 => ⟨S128x8x4, .f32⟩
  | 67 => ⟨S128x8x4, .f32⟩
  | 68 => ⟨S128x8x4, .f32⟩
  | 69 => ⟨S128x8x4, .f32⟩
  | 70 => ⟨S128x8x4, .f32⟩
  | 71 => ⟨S128x8x4, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S8, .f32⟩
  | 81 => ⟨S8x1, .f32⟩
  | 82 => ⟨S1x32, .f32⟩
  | 83 => ⟨S8x32, .f32⟩
  | 84 => ⟨S8x32, .f32⟩
  | 85 => ⟨S8x32, .f32⟩
  | 86 => ⟨S8x32, .f32⟩
  | 87 => ⟨S8x32, .f32⟩
  | 88 => ⟨S128x8x32, .f32⟩
  | 89 => ⟨S128x8x32, .f32⟩
  | 90 => ⟨S1x8x32, .f32⟩
  | 91 => ⟨S128x8x32, .f32⟩
  | 92 => ⟨S128x8x32, .f32⟩
  | 93 => ⟨S1x8x32, .f32⟩
  | 94 => ⟨S128x8x32, .f32⟩
  | 95 => ⟨S128x8x32, .f32⟩
  | 96 => ⟨S128x8x32, .f32⟩
  | 97 => ⟨S1x8x32, .f32⟩
  | 98 => ⟨S128x8x32, .f32⟩
  | 99 => ⟨S128x8x32, .f32⟩
  | 100 => ⟨S1x8x32, .f32⟩
  | 101 => ⟨S128x8x32, .f32⟩
  | 102 => ⟨S128x8x32, .f32⟩
  | 103 => ⟨S128x8x32, .f32⟩
  | 104 => ⟨S128x8x64, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S8, .f32⟩
  | 114 => ⟨S8x1, .f32⟩
  | 115 => ⟨S1x32, .f32⟩
  | 116 => ⟨S8x32, .f32⟩
  | 117 => ⟨S8x32, .f32⟩
  | 118 => ⟨S8x32, .f32⟩
  | 119 => ⟨S8x32, .f32⟩
  | 120 => ⟨S8x32, .f32⟩
  | 121 => ⟨S128x8x32, .f32⟩
  | 122 => ⟨S128x8x32, .f32⟩
  | 123 => ⟨S1x8x32, .f32⟩
  | 124 => ⟨S128x8x32, .f32⟩
  | 125 => ⟨S128x8x32, .f32⟩
  | 126 => ⟨S1x8x32, .f32⟩
  | 127 => ⟨S128x8x32, .f32⟩
  | _ => ⟨S128x8x1024, .f32⟩

abbrev hbmTy0_2 (i : Nat) : BufTy := match i % 128 with
  | 0 => ⟨S128x8x32, .f32⟩
  | 1 => ⟨S128x8x32, .f32⟩
  | 2 => ⟨S1x8x32, .f32⟩
  | 3 => ⟨S128x8x32, .f32⟩
  | 4 => ⟨S128x8x32, .f32⟩
  | 5 => ⟨S1x8x32, .f32⟩
  | 6 => ⟨S128x8x32, .f32⟩
  | 7 => ⟨S128x8x32, .f32⟩
  | 8 => ⟨S128x8x32, .f32⟩
  | 9 => ⟨S128x8x64, .f32⟩
  | 10 => ⟨S128x8x192, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S8, .f32⟩
  | 20 => ⟨S8x1, .f32⟩
  | 21 => ⟨S1x32, .f32⟩
  | 22 => ⟨S8x32, .f32⟩
  | 23 => ⟨S8x32, .f32⟩
  | 24 => ⟨S8x32, .f32⟩
  | 25 => ⟨S8x32, .f32⟩
  | 26 => ⟨S8x32, .f32⟩
  | 27 => ⟨S128x8x32, .f32⟩
  | 28 => ⟨S128x8x32, .f32⟩
  | 29 => ⟨S1x8x32, .f32⟩
  | 30 => ⟨S128x8x32, .f32⟩
  | 31 => ⟨S128x8x32, .f32⟩
  | 32 => ⟨S1x8x32, .f32⟩
  | 33 => ⟨S128x8x32, .f32⟩
  | 34 => ⟨S128x8x32, .f32⟩
  | 35 => ⟨S128x8x32, .f32⟩
  | 36 => ⟨S1x8x32, .f32⟩
  | 37 => ⟨S128x8x32, .f32⟩
  | 38 => ⟨S128x8x32, .f32⟩
  | 39 => ⟨S1x8x32, .f32⟩
  | 40 => ⟨S128x8x32, .f32⟩
  | 41 => ⟨S128x8x32, .f32⟩
  | 42 => ⟨S128x8x32, .f32⟩
  | 43 => ⟨S128x8x64, .f32⟩
  | 44 => ⟨S128x8x128, .f32⟩
  | 45 => ⟨S128x520x128, .f32⟩
  | 46 => ⟨S128x512x128, .f32⟩
  | _ => ⟨S128x8x1024, .f32⟩

abbrev hbmTy (i : Nat) : BufTy := match i / 128 with
  | 0 => hbmTy0_0 i
  | 1 => hbmTy0_1 i
  | 2 => hbmTy0_2 i
  | _ => ⟨S128x8x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_c_0 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst : Ref sig .tc := ⟨.hbm, 65, rfl⟩
abbrev main_v56 : Ref sig .tc := ⟨.hbm, 66, rfl⟩
abbrev main_v57 : Ref sig .tc := ⟨.hbm, 67, rfl⟩
abbrev main_cst_1 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_2 : Ref sig .tc := ⟨.hbm, 98, rfl⟩
abbrev main_v87 : Ref sig .tc := ⟨.hbm, 99, rfl⟩
abbrev main_v88 : Ref sig .tc := ⟨.hbm, 100, rfl⟩
abbrev main_cst_3 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_cst_4 : Ref sig .tc := ⟨.hbm, 131, rfl⟩
abbrev main_v118 : Ref sig .tc := ⟨.hbm, 132, rfl⟩
abbrev main_v119 : Ref sig .tc := ⟨.hbm, 133, rfl⟩
abbrev main_cst_5 : Ref sig .tc := ⟨.hbm, 134, rfl⟩
abbrev main_v120 : Ref sig .tc := ⟨.hbm, 135, rfl⟩
abbrev main_v121 : Ref sig .tc := ⟨.hbm, 136, rfl⟩
abbrev main_cst_6 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_cst_7 : Ref sig .tc := ⟨.hbm, 148, rfl⟩
abbrev main_v132 : Ref sig .tc := ⟨.hbm, 149, rfl⟩
abbrev main_v133 : Ref sig .tc := ⟨.hbm, 150, rfl⟩
abbrev main_cst_8 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_call1_v0 : Ref sig .tc := ⟨.hbm, 184, rfl⟩
abbrev main_call1_call0_cst : Ref sig .tc := ⟨.hbm, 185, rfl⟩
abbrev main_call1_call0_v0 : Ref sig .tc := ⟨.hbm, 186, rfl⟩
abbrev main_call1_call0_v1 : Ref sig .tc := ⟨.hbm, 187, rfl⟩
abbrev main_call1_call0_v2 : Ref sig .tc := ⟨.hbm, 188, rfl⟩
abbrev main_call1_call0_v3 : Ref sig .tc := ⟨.hbm, 189, rfl⟩
abbrev main_call1_call0_v4 : Ref sig .tc := ⟨.hbm, 190, rfl⟩
abbrev main_call1_call0_v5 : Ref sig .tc := ⟨.hbm, 191, rfl⟩
abbrev main_call1_call0_v6 : Ref sig .tc := ⟨.hbm, 192, rfl⟩
abbrev main_call1_call0_v7 : Ref sig .tc := ⟨.hbm, 193, rfl⟩
abbrev main_call1_call0_v8 : Ref sig .tc := ⟨.hbm, 194, rfl⟩
abbrev main_call1_call0_v9 : Ref sig .tc := ⟨.hbm, 195, rfl⟩
abbrev main_call1_call0_v10 : Ref sig .tc := ⟨.hbm, 196, rfl⟩
abbrev main_call1_call0_v11 : Ref sig .tc := ⟨.hbm, 197, rfl⟩
abbrev main_call1_v1 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_cst_9 : Ref sig .tc := ⟨.hbm, 202, rfl⟩
abbrev main_v169 : Ref sig .tc := ⟨.hbm, 203, rfl⟩
abbrev main_v170 : Ref sig .tc := ⟨.hbm, 204, rfl⟩
abbrev main_cst_10 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_cst_11 : Ref sig .tc := ⟨.hbm, 235, rfl⟩
abbrev main_v200 : Ref sig .tc := ⟨.hbm, 236, rfl⟩
abbrev main_v201 : Ref sig .tc := ⟨.hbm, 237, rfl⟩
abbrev main_cst_12 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_cst_13 : Ref sig .tc := ⟨.hbm, 269, rfl⟩
abbrev main_v232 : Ref sig .tc := ⟨.hbm, 270, rfl⟩
abbrev main_v233 : Ref sig .tc := ⟨.hbm, 271, rfl⟩
abbrev main_cst_14 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleRefIdeal.lean ====
abbrev S128x8x1024 : Shape := ⟨3, ![128, 8, 1024]⟩
abbrev S128x512x128 : Shape := ⟨3, ![128, 512, 128]⟩
abbrev S1024 : Shape := ⟨1, ![1024]⟩
abbrev S1024x6644 : Shape := ⟨2, ![1024, 6644]⟩
abbrev S4 : Shape := ⟨1, ![4]⟩
abbrev S256 : Shape := ⟨1, ![256]⟩
abbrev S8 : Shape := ⟨1, ![8]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x6644 : Shape := ⟨3, ![128, 8, 6644]⟩
abbrev S128x8x256 : Shape := ⟨3, ![128, 8, 256]⟩
abbrev S128x8x64 : Shape := ⟨3, ![128, 8, 64]⟩
abbrev S128x8x12 : Shape := ⟨3, ![128, 8, 12]⟩
abbrev S128x8x128 : Shape := ⟨3, ![128, 8, 128]⟩
abbrev S128x8x32 : Shape := ⟨3, ![128, 8, 32]⟩
abbrev S128x8x4 : Shape := ⟨3, ![128, 8, 4]⟩
abbrev S128x8x4096 : Shape := ⟨3, ![128, 8, 4096]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x32 : Shape := ⟨3, ![1, 8, 32]⟩
abbrev S1x1x256 : Shape := ⟨3, ![1, 1, 256]⟩
abbrev S16 : Shape := ⟨1, ![16]⟩
abbrev S1x16 : Shape := ⟨2, ![1, 16]⟩
abbrev S8x16 : Shape := ⟨2, ![8, 16]⟩
abbrev S128x8x16 : Shape := ⟨3, ![128, 8, 16]⟩
abbrev S1x8x16 : Shape := ⟨3, ![1, 8, 16]⟩
abbrev S128x8x288 : Shape := ⟨3, ![128, 8, 288]⟩
abbrev S1x1x4 : Shape := ⟨3, ![1, 1, 4]⟩
abbrev S128x8x192 : Shape := ⟨3, ![128, 8, 192]⟩
abbrev S128x520x128 : Shape := ⟨3, ![128, 520, 128]⟩

abbrev nBuf : Space → Nat
  | .hbm => 290
  | .vmem => 0
  | .smem => 0
  | _ => 0

abbrev hbmTy0_0 (i : Nat) : BufTy := match i % 128 with
  | 0 => ⟨S128x8x1024, .f32⟩
  | 1 => ⟨S128x512x128, .f32⟩
  | 2 => ⟨S1024, .f32⟩
  | 3 => ⟨S1024x6644, .f32⟩
  | 4 => ⟨S4, .f32⟩
  | 5 => ⟨S256, .f32⟩
  | 6 => ⟨S8, .i32⟩
  | 7 => ⟨S_, .i32⟩
  | 8 => ⟨S8, .i32⟩
  | 9 => ⟨S8, .i32⟩
  | 10 => ⟨S128x8x1024, .f32⟩
  | 11 => ⟨S_, .f32⟩
  | 12 => ⟨S128x8, .f32⟩
  | 13 => ⟨S128x8x1, .f32⟩
  | 14 => ⟨S_, .f32⟩
  | 15 => ⟨S128x8x1, .f32⟩
  | 16 => ⟨S128x8x1, .f32⟩
  | 17 => ⟨S_, .f32⟩
  | 18 => ⟨S128x8x1, .f32⟩
  | 19 => ⟨S128x8x1, .f32⟩
  | 20 => ⟨S128x8x1, .f32⟩
  | 21 => ⟨S128x8x1024, .f32⟩
  | 22 => ⟨S128x8x1024, .f32⟩
  | 23 => ⟨S1x1x1024, .f32⟩
  | 24 => ⟨S128x8x1024, .f32⟩
  | 25 => ⟨S128x8x1024, .f32⟩
  | 26 => ⟨S128x8x6644, .f32⟩
  | 27 => ⟨S128x8x256, .f32⟩
  | 28 => ⟨S128x8x64, .f32⟩
  | 29 => ⟨S128x8x64, .f32⟩
  | 30 => ⟨S128x8x64, .f32⟩
  | 31 => ⟨S128x8x64, .f32⟩
  | 32 => ⟨S128x8x64, .f32⟩
  | 33 => ⟨S128x8x64, .f32⟩
  | 34 => ⟨S128x8x12, .f32⟩
  | 35 => ⟨S128x8x256, .f32⟩
  | 36 => ⟨S128x8x128, .f32⟩
  | 37 => ⟨S128x8x256, .f32⟩
  | 38 => ⟨S128x8x32, .f32⟩
  | 39 => ⟨S128x8x256, .f32⟩
  | 40 => ⟨S128x8x128, .f32⟩
  | 41 => ⟨S128x8x128, .f32⟩
  | 42 => ⟨S128x8x4, .f32⟩
  | 43 => ⟨S128x8x256, .f32⟩
  | 44 => ⟨S128x8x64, .f32⟩
  | 45 => ⟨S128x8x64, .f32⟩
  | 46 => ⟨S128x8x256, .f32⟩
  | 47 => ⟨S128x8x64, .f32⟩
  | 48 => ⟨S128x8x4, .f32⟩
  | 49 => ⟨S128x8x4096, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S8, .f32⟩
  | 59 => ⟨S8x1, .f32⟩
  | 60 => ⟨S1x32, .f32⟩
  | 61 => ⟨S8x32, .f32⟩
  | 62 => ⟨S8x32, .f32⟩
  | 63 => ⟨S8x32, .f32⟩
  | 64 => ⟨S8x32, .f32⟩
  | 65 => ⟨S8x32, .f32⟩
  | 66 => ⟨S128x8x32, .f32⟩
  | 67 => ⟨S128x8x32, .f32⟩
  | 68 => ⟨S1x8x32, .f32⟩
  | 69 => ⟨S128x8x32, .f32⟩
  | 70 => ⟨S128x8x32, .f32⟩
  | 71 => ⟨S1x8x32, .f32⟩
  | 72 => ⟨S128x8x32, .f32⟩
  | 73 => ⟨S128x8x32, .f32⟩
  | 74 => ⟨S128x8x32, .f32⟩
  | 75 => ⟨S1x8x32, .f32⟩
  | 76 => ⟨S128x8x32, .f32⟩
  | 77 => ⟨S128x8x32, .f32⟩
  | 78 => ⟨S1x8x32, .f32⟩
  | 79 => ⟨S128x8x32, .f32⟩
  | 80 => ⟨S128x8x32, .f32⟩
  | 81 => ⟨S128x8x32, .f32⟩
  | 82 => ⟨S128x8x64, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S8, .f32⟩
  | 92 => ⟨S8x1, .f32⟩
  | 93 => ⟨S1x32, .f32⟩
  | 94 => ⟨S8x32, .f32⟩
  | 95 => ⟨S8x32, .f32⟩
  | 96 => ⟨S8x32, .f32⟩
  | 97 => ⟨S8x32, .f32⟩
  | 98 => ⟨S8x32, .f32⟩
  | 99 => ⟨S128x8x32, .f32⟩
  | 100 => ⟨S128x8x32, .f32⟩
  | 101 => ⟨S1x8x32, .f32⟩
  | 102 => ⟨S128x8x32, .f32⟩
  | 103 => ⟨S128x8x32, .f32⟩
  | 104 => ⟨S1x8x32, .f32⟩
  | 105 => ⟨S128x8x32, .f32⟩
  | 106 => ⟨S128x8x32, .f32⟩
  | 107 => ⟨S128x8x32, .f32⟩
  | 108 => ⟨S1x8x32, .f32⟩
  | 109 => ⟨S128x8x32, .f32⟩
  | 110 => ⟨S128x8x32, .f32⟩
  | 111 => ⟨S1x8x32, .f32⟩
  | 112 => ⟨S128x8x32, .f32⟩
  | 113 => ⟨S128x8x32, .f32⟩
  | 114 => ⟨S128x8x32, .f32⟩
  | 115 => ⟨S128x8x64, .f32⟩
  | 116 => ⟨S128x8x256, .f32⟩
  | 117 => ⟨S128x8x256, .f32⟩
  | 118 => ⟨S_, .f32⟩
  | 119 => ⟨S128x8, .f32⟩
  | 120 => ⟨S128x8x1, .f32⟩
  | 121 => ⟨S_, .f32⟩
  | 122 => ⟨S128x8x1, .f32⟩
  | 123 => ⟨S128x8x1, .f32⟩
  | 124 => ⟨S_, .f32⟩
  | 125 => ⟨S128x8x1, .f32⟩
  | 126 => ⟨S128x8x1, .f32⟩
  | 127 => ⟨S128x8x1, .f32⟩
  | _ => ⟨S128x8x1024, .f32⟩

abbrev hbmTy0_1 (i : Nat) : BufTy := match i % 128 with
  | 0 => ⟨S128x8x256, .f32⟩
  | 1 => ⟨S128x8x256, .f32⟩
  | 2 => ⟨S1x1x256, .f32⟩
  | 3 => ⟨S128x8x256, .f32⟩
  | 4 => ⟨S128x8x256, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S8, .f32⟩
  | 14 => ⟨S8x1, .f32⟩
  | 15 => ⟨S1x16, .f32⟩
  | 16 => ⟨S8x16, .f32⟩
  | 17 => ⟨S8x16, .f32⟩
  | 18 => ⟨S8x16, .f32⟩
  | 19 => ⟨S8x16, .f32⟩
  | 20 => ⟨S8x16, .f32⟩
  | 21 => ⟨S128x8x16, .f32⟩
  | 22 => ⟨S128x8x16, .f32⟩
  | 23 => ⟨S1x8x16, .f32⟩
  | 24 => ⟨S128x8x16, .f32⟩
  | 25 => ⟨S128x8x16, .f32⟩
  | 26 => ⟨S1x8x16, .f32⟩
  | 27 => ⟨S128x8x16, .f32⟩
  | 28 => ⟨S128x8x16, .f32⟩
  | 29 => ⟨S128x8x16, .f32⟩
  | 30 => ⟨S1x8x16, .f32⟩
  | 31 => ⟨S128x8x16, .f32⟩
  | 32 => ⟨S128x8x16, .f32⟩
  | 33 => ⟨S1x8x16, .f32⟩
  | 34 => ⟨S128x8x16, .f32⟩
  | 35 => ⟨S128x8x16, .f32⟩
  | 36 => ⟨S128x8x16, .f32⟩
  | 37 => ⟨S128x8x32, .f32⟩
  | 38 => ⟨S128x8x288, .f32⟩
  | 39 => ⟨S128x8x256, .f32⟩
  | 40 => ⟨S1x1x4, .f32⟩
  | 41 => ⟨S128x8x4, .f32⟩
  | 42 => ⟨S128x8x4, .f32⟩
  | 43 => ⟨S128x8x4, .f32⟩
  | 44 => ⟨S_, .f32⟩
  | 45 => ⟨S128x8x4, .f32⟩
  | 46 => ⟨S128x8x4, .f32⟩
  | 47 => ⟨S128x8x4, .f32⟩
  | 48 => ⟨S128x8x4, .f32⟩
  | 49 => ⟨S128x8x4, .i1⟩
  | 50 => ⟨S128x8x4, .f32⟩
  | 51 => ⟨S128x8x4, .f32⟩
  | 52 => ⟨S128x8x4, .f32⟩
  | 53 => ⟨S128x8x4, .f32⟩
  | 54 => ⟨S128x8x4, .f32⟩
  | 55 => ⟨S128x8x4, .f32⟩
  | 56 => ⟨S128x8x4, .f32⟩
  | 57 => ⟨S128x8x4, .f32⟩
  | 58 => ⟨S128x8x4, .f32⟩
  | 59 => ⟨S32, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S8, .f32⟩
  | 68 => ⟨S8x1, .f32⟩
  | 69 => ⟨S1x32, .f32⟩
  | 70 => ⟨S8x32, .f32⟩
  | 71 => ⟨S8x32, .f32⟩
  | 72 => ⟨S8x32, .f32⟩
  | 73 => ⟨S8x32, .f32⟩
  | 74 => ⟨S8x32, .f32⟩
  | 75 => ⟨S128x8x32, .f32⟩
  | 76 => ⟨S128x8x32, .f32⟩
  | 77 => ⟨S1x8x32, .f32⟩
  | 78 => ⟨S128x8x32, .f32⟩
  | 79 => ⟨S128x8x32, .f32⟩
  | 80 => ⟨S1x8x32, .f32⟩
  | 81 => ⟨S128x8x32, .f32⟩
  | 82 => ⟨S128x8x32, .f32⟩
  | 83 => ⟨S128x8x32, .f32⟩
  | 84 => ⟨S1x8x32, .f32⟩
  | 85 => ⟨S128x8x32, .f32⟩
  | 86 => ⟨S128x8x32, .f32⟩
  | 87 => ⟨S1x8x32, .f32⟩
  | 88 => ⟨S128x8x32, .f32⟩
  | 89 => ⟨S128x8x32, .f32⟩
  | 90 => ⟨S128x8x32, .f32⟩
  | 91 => ⟨S128x8x64, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S8, .f32⟩
  | 101 => ⟨S8x1, .f32⟩
  | 102 => ⟨S1x32, .f32⟩
  | 103 => ⟨S8x32, .f32⟩
  | 104 => ⟨S8x32, .f32⟩
  | 105 => ⟨S8x32, .f32⟩
  | 106 => ⟨S8x32, .f32⟩
  | 107 => ⟨S8x32, .f32⟩
  | 108 => ⟨S128x8x32, .f32⟩
  | 109 => ⟨S128x8x32, .f32⟩
  | 110 => ⟨S1x8x32, .f32⟩
  | 111 => ⟨S128x8x32, .f32⟩
  | 112 => ⟨S128x8x32, .f32⟩
  | 113 => ⟨S1x8x32, .f32⟩
  | 114 => ⟨S128x8x32, .f32⟩
  | 115 => ⟨S128x8x32, .f32⟩
  | 116 => ⟨S128x8x32, .f32⟩
  | 117 => ⟨S1x8x32, .f32⟩
  | 118 => ⟨S128x8x32, .f32⟩
  | 119 => ⟨S128x8x32, .f32⟩
  | 120 => ⟨S1x8x32, .f32⟩
  | 121 => ⟨S128x8x32, .f32⟩
  | 122 => ⟨S128x8x32, .f32⟩
  | 123 => ⟨S128x8x32, .f32⟩
  | 124 => ⟨S128x8x64, .f32⟩
  | 125 => ⟨S128x8x192, .f32⟩
  | 126 => ⟨S32, .f32⟩
  | 127 => ⟨S32, .f32⟩
  | _ => ⟨S128x8x1024, .f32⟩

abbrev hbmTy0_2 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S32, .f32⟩
  | 6 => ⟨S8, .f32⟩
  | 7 => ⟨S8x1, .f32⟩
  | 8 => ⟨S1x32, .f32⟩
  | 9 => ⟨S8x32, .f32⟩
  | 10 => ⟨S8x32, .f32⟩
  | 11 => ⟨S8x32, .f32⟩
  | 12 => ⟨S8x32, .f32⟩
  | 13 => ⟨S8x32, .f32⟩
  | 14 => ⟨S128x8x32, .f32⟩
  | 15 => ⟨S128x8x32, .f32⟩
  | 16 => ⟨S1x8x32, .f32⟩
  | 17 => ⟨S128x8x32, .f32⟩
  | 18 => ⟨S128x8x32, .f32⟩
  | 19 => ⟨S1x8x32, .f32⟩
  | 20 => ⟨S128x8x32, .f32⟩
  | 21 => ⟨S128x8x32, .f32⟩
  | 22 => ⟨S128x8x32, .f32⟩
  | 23 => ⟨S1x8x32, .f32⟩
  | 24 => ⟨S128x8x32, .f32⟩
  | 25 => ⟨S128x8x32, .f32⟩
  | 26 => ⟨S1x8x32, .f32⟩
  | 27 => ⟨S128x8x32, .f32⟩
  | 28 => ⟨S128x8x32, .f32⟩
  | 29 => ⟨S128x8x32, .f32⟩
  | 30 => ⟨S128x8x64, .f32⟩
  | 31 => ⟨S128x8x128, .f32⟩
  | 32 => ⟨S128x520x128, .f32⟩
  | 33 => ⟨S128x512x128, .f32⟩
  | _ => ⟨S128x8x1024, .f32⟩

abbrev hbmTy (i : Nat) : BufTy := match i / 128 with
  | 0 => hbmTy0_0 i
  | 1 => hbmTy0_1 i
  | 2 => hbmTy0_2 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_4 : Ref sig .tc := ⟨.hbm, 85, rfl⟩
abbrev main_v73 : Ref sig .tc := ⟨.hbm, 86, rfl⟩
abbrev main_v74 : Ref sig .tc := ⟨.hbm, 87, rfl⟩
abbrev main_cst_5 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_6 : Ref sig .tc := ⟨.hbm, 118, rfl⟩
abbrev main_v104 : Ref sig .tc := ⟨.hbm, 119, rfl⟩
abbrev main_v105 : Ref sig .tc := ⟨.hbm, 120, rfl⟩
abbrev main_cst_7 : Ref sig .tc := ⟨.hbm, 121, rfl⟩
abbrev main_v106 : Ref sig .tc := ⟨.hbm, 122, rfl⟩
abbrev main_v107 : Ref sig .tc := ⟨.hbm, 123, rfl⟩
abbrev main_cst_8 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_cst_9 : Ref sig .tc := ⟨.hbm, 135, rfl⟩
abbrev main_v118 : Ref sig .tc := ⟨.hbm, 136, rfl⟩
abbrev main_v119 : Ref sig .tc := ⟨.hbm, 137, rfl⟩
abbrev main_cst_10 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_call0_v0 : Ref sig .tc := ⟨.hbm, 171, rfl⟩
abbrev main_call0_call0_cst : Ref sig .tc := ⟨.hbm, 172, rfl⟩
abbrev main_call0_call0_v0 : Ref sig .tc := ⟨.hbm, 173, rfl⟩
abbrev main_call0_call0_v1 : Ref sig .tc := ⟨.hbm, 174, rfl⟩
abbrev main_call0_call0_v2 : Ref sig .tc := ⟨.hbm, 175, rfl⟩
abbrev main_call0_call0_v3 : Ref sig .tc := ⟨.hbm, 176, rfl⟩
abbrev main_call0_call0_v4 : Ref sig .tc := ⟨.hbm, 177, rfl⟩
abbrev main_call0_call0_v5 : Ref sig .tc := ⟨.hbm, 178, rfl⟩
abbrev main_call0_call0_v6 : Ref sig .tc := ⟨.hbm, 179, rfl⟩
abbrev main_call0_call0_v7 : Ref sig .tc := ⟨.hbm, 180, rfl⟩
abbrev main_call0_call0_v8 : Ref sig .tc := ⟨.hbm, 181, rfl⟩
abbrev main_call0_call0_v9 : Ref sig .tc := ⟨.hbm, 182, rfl⟩
abbrev main_call0_call0_v10 : Ref sig .tc := ⟨.hbm, 183, rfl⟩
abbrev main_call0_call0_v11 : Ref sig .tc := ⟨.hbm, 184, rfl⟩
abbrev main_call0_v1 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_11 : Ref sig .tc := ⟨.hbm, 189, rfl⟩
abbrev main_v155 : Ref sig .tc := ⟨.hbm, 190, rfl⟩
abbrev main_v156 : Ref sig .tc := ⟨.hbm, 191, rfl⟩
abbrev main_cst_12 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_cst_13 : Ref sig .tc := ⟨.hbm, 222, rfl⟩
abbrev main_v186 : Ref sig .tc := ⟨.hbm, 223, rfl⟩
abbrev main_v187 : Ref sig .tc := ⟨.hbm, 224, rfl⟩
abbrev main_cst_14 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_cst_15 : Ref sig .tc := ⟨.hbm, 256, rfl⟩
abbrev main_v218 : Ref sig .tc := ⟨.hbm, 257, rfl⟩
abbrev main_v219 : Ref sig .tc := ⟨.hbm, 258, rfl⟩
abbrev main_cst_16 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩

abbrev nD : Nat := 1
abbrev τ : Topo := Topo.v7x

variable {F : FTy → Type} [FloatOps F]
-- ==== Cmp.lean ====
abbrev S16x2048x256 : Shape := ⟨3, ![16, 2048, 256]⟩
abbrev S32x64 : Shape := ⟨2, ![32, 64]⟩
abbrev S2048x64 : Shape := ⟨2, ![2048, 64]⟩
abbrev S64x64 : Shape := ⟨2, ![64, 64]⟩
abbrev S2x16x64x64 : Shape := ⟨4, ![2, 16, 64, 64]⟩
abbrev S1x16x64x64 : Shape := ⟨4, ![1, 16, 64, 64]⟩
abbrev S16x64x64 : Shape := ⟨3, ![16, 64, 64]⟩
abbrev S_ : Shape := ⟨0, ![]⟩
abbrev S16x64x256 : Shape := ⟨3, ![16, 64, 256]⟩
abbrev S16x128x256 : Shape := ⟨3, ![16, 128, 256]⟩
abbrev S2048x1 : Shape := ⟨2, ![2048, 1]⟩
abbrev S16x128x128 : Shape := ⟨3, ![16, 128, 128]⟩
abbrev S1x2048x128 : Shape := ⟨3, ![1, 2048, 128]⟩
abbrev S1x128x128 : Shape := ⟨3, ![1, 128, 128]⟩
abbrev S128x256 : Shape := ⟨2, ![128, 256]⟩
abbrev S128x128 : Shape := ⟨2, ![128, 128]⟩
abbrev S1x128x256 : Shape := ⟨3, ![1, 128, 256]⟩
abbrev S128x64 : Shape := ⟨2, ![128, 64]⟩
abbrev S64 : Shape := ⟨1, ![64]⟩
abbrev S1x64 : Shape := ⟨2, ![1, 64]⟩
abbrev S16x127x128 : Shape := ⟨3, ![16, 127, 128]⟩

abbrev nBuf : Space → Nat
  | .hbm => 31
  | .vmem => 11
  | .smem => 0
  | _ => 0

abbrev bufTy : (tb : Table) → Fin (tcTables nBuf tb) → BufTy
  | .hbm, ⟨0, _⟩ => ⟨S16x2048x256, .f32⟩
  | .hbm, ⟨1, _⟩ => ⟨S32x64, .f32⟩
  | .hbm, ⟨2, _⟩ => ⟨S32x64, .f32⟩
  | .hbm, ⟨3, _⟩ => ⟨S2048x64, .f32⟩
  | .hbm, ⟨4, _⟩ => ⟨S64x64, .f32⟩
  | .hbm, ⟨5, _⟩ => ⟨S2048x64, .f32⟩
  | .hbm, ⟨6, _⟩ => ⟨S64x64, .f32⟩
  | .hbm, ⟨7, _⟩ => ⟨S2x16x64x64, .f32⟩
  | .hbm, ⟨8, _⟩ => ⟨S2x16x64x64, .f32⟩
  | .hbm, ⟨9, _⟩ => ⟨S1x16x64x64, .f32⟩
  | .hbm, ⟨10, _⟩ => ⟨S16x64x64, .f32⟩
  | .hbm, ⟨11, _⟩ => ⟨S_, .f32⟩
  | .hbm, ⟨12, _⟩ => ⟨S16x64x64, .f32⟩
  | .hbm, ⟨13, _⟩ => ⟨S1x16x64x64, .f32⟩
  | .hbm, ⟨14, _⟩ => ⟨S16x64x64, .f32⟩
  | .hbm, ⟨15, _⟩ => ⟨S1x16x64x64, .f32⟩
  | .hbm, ⟨16, _⟩ => ⟨S16x64x64, .f32⟩
  | .hbm, ⟨17, _⟩ => ⟨S16x64x256, .f32⟩
  | .hbm, ⟨18, _⟩ => ⟨S1x16x64x64, .f32⟩
  | .hbm, ⟨19, _⟩ => ⟨S16x64x64, .f32⟩
  | .hbm, ⟨20, _⟩ => ⟨S1x16x64x64, .f32⟩
  | .hbm, ⟨21, _⟩ => ⟨S16x64x64, .f32⟩
  | .hbm, ⟨22, _⟩ => ⟨S16x64x256, .f32⟩
  | .hbm, ⟨23, _⟩ => ⟨S16x128x256, .f32⟩
  | .hbm, ⟨24, _⟩ => ⟨S16x128x256, .bf16⟩
  | .hbm, ⟨25, _⟩ => ⟨S2048x1, .f32⟩
  | .hbm, ⟨26, _⟩ => ⟨S2048x1, .f32⟩
  | .hbm, ⟨27, _⟩ => ⟨S64x64, .bf16⟩
  | .hbm, ⟨28, _⟩ => ⟨S64x64, .bf16⟩
  | .hbm, ⟨29, _⟩ => ⟨S16x128x128, .f32⟩
  | .hbm, ⟨30, _⟩ => ⟨S16x127x128, .f32⟩
  | .local _ .vmem, ⟨0, _⟩ => ⟨S1x2048x128, .f32⟩
  | .local _ .vmem, ⟨1, _⟩ => ⟨S1x2048x128, .f32⟩
  | .local _ .vmem, ⟨2, _⟩ => ⟨S16x128x256, .bf16⟩
  | .local _ .vmem, ⟨3, _⟩ => ⟨S2048x1, .f32⟩
  | .local _ .vmem, ⟨4, _⟩ => ⟨S2048x1, .f32⟩
  | .local _ .vmem, ⟨5, _⟩ => ⟨S2048x64, .f32⟩
  | .local _ .vmem, ⟨6, _⟩ => ⟨S2048x64, .f32⟩
  | .local _ .vmem, ⟨7, _⟩ => ⟨S64x64, .bf16⟩
  | .local _ .vmem, ⟨8, _⟩ => ⟨S64x64, .bf16⟩
  | .local _ .vmem, ⟨9, _⟩ => ⟨S1x128x128, .f32⟩
  | .local _ .vmem, ⟨10, _⟩ => ⟨S1x128x128, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CmpRefIdeal.lean ====
abbrev S16x2048x256 : Shape := ⟨3, ![16, 2048, 256]⟩
abbrev S32x64 : Shape := ⟨2, ![32, 64]⟩
abbrev S2048x64 : Shape := ⟨2, ![2048, 64]⟩
abbrev S64x64 : Shape := ⟨2, ![64, 64]⟩
abbrev S16x2048x64 : Shape := ⟨3, ![16, 2048, 64]⟩
abbrev S_ : Shape := ⟨0, ![]⟩
abbrev S16x128x1024 : Shape := ⟨3, ![16, 128, 1024]⟩
abbrev S2x1024x64 : Shape := ⟨3, ![2, 1024, 64]⟩
abbrev S2048 : Shape := ⟨1, ![2048]⟩
abbrev S64 : Shape := ⟨1, ![64]⟩
abbrev S16x127x1024 : Shape := ⟨3, ![16, 127, 1024]⟩
abbrev S1x1024x64 : Shape := ⟨3, ![1, 1024, 64]⟩
abbrev S1024x64 : Shape := ⟨2, ![1024, 64]⟩
abbrev S16x127x64 : Shape := ⟨3, ![16, 127, 64]⟩
abbrev S1x1x64 : Shape := ⟨3, ![1, 1, 64]⟩
abbrev S16x127x128 : Shape := ⟨3, ![16, 127, 128]⟩

abbrev nBuf : Space → Nat
  | .hbm => 68
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S32x64, .f32⟩
  | .hbm, ⟨2, _⟩ => ⟨S32x64, .f32⟩
  | .hbm, ⟨3, _⟩ => ⟨S2048x64, .f32⟩
  | .hbm, ⟨4, _⟩ => ⟨S64x64, .f32⟩
  | .hbm, ⟨5, _⟩ => ⟨S2048x64, .f32⟩
  | .hbm, ⟨6, _⟩ => ⟨S64x64, .f32⟩
  | .hbm, ⟨7, _⟩ => ⟨S16x2048x64, .f32⟩
  | .hbm, ⟨8, _⟩ => ⟨S_, .i32⟩
  | .hbm, ⟨9, _⟩ => ⟨S_, .f32⟩
  | .hbm, ⟨10, _⟩ => ⟨S16x2048x64, .f32⟩
  | .hbm, ⟨11, _⟩ => ⟨S16x128x1024, .f32⟩
  | .hbm, ⟨12, _⟩ => ⟨S2x1024x64, .f32⟩
  | .hbm, ⟨13, _⟩ => ⟨S2048, .f32⟩
  | .hbm, ⟨14, _⟩ => ⟨S64, .f32⟩
  | .hbm, ⟨15, _⟩ => ⟨S16x127x1024, .f32⟩
  | .hbm, ⟨16, _⟩ => ⟨S1x1024x64, .f32⟩
  | .hbm, ⟨17, _⟩ => ⟨S1024x64, .f32⟩
  | .hbm, ⟨18, _⟩ => ⟨S16x127x64, .f32⟩
  | .hbm, ⟨19, _⟩ => ⟨S1x1x64, .f32⟩
  | .hbm, ⟨20, _⟩ => ⟨S16x127x64, .f32⟩
  | .hbm, ⟨21, _⟩ => ⟨S16x127x64, .f32⟩
  | .hbm, ⟨22, _⟩ => ⟨S16x127x1024, .f32⟩
  | .hbm, ⟨23, _⟩ => ⟨S1x1024x64, .f32⟩
  | .hbm, ⟨24, _⟩ => ⟨S1024x64, .f32⟩
  | .hbm, ⟨25, _⟩ => ⟨S16x127x64, .f32⟩
  | .hbm, ⟨26, _⟩ => ⟨S16x127x64, .f32⟩
  | .hbm, ⟨27, _⟩ => ⟨S16x127x64, .f32⟩
  | .hbm, ⟨28, _⟩ => ⟨S16x127x64, .f32⟩
  | .hbm, ⟨29, _⟩ => ⟨S_, .f32⟩
  | .hbm, ⟨30, _⟩ => ⟨S16x127x64, .f32⟩
  | .hbm, ⟨31, _⟩ => ⟨S16x127x64, .f32⟩
  | .hbm, ⟨32, _⟩ => ⟨S_, .f32⟩
  | .hbm, ⟨33, _⟩ => ⟨S16x127x64, .f32⟩
  | .hbm, ⟨34, _⟩ => ⟨S16x127x64, .f32⟩
  | .hbm, ⟨35, _⟩ => ⟨S16x127x64, .f32⟩
  | .hbm, ⟨36, _⟩ => ⟨S16x127x64, .f32⟩
  | .hbm, ⟨37, _⟩ => ⟨S16x2048x64, .f32⟩
  | .hbm, ⟨38, _⟩ => ⟨S_, .i32⟩
  | .hbm, ⟨39, _⟩ => ⟨S_, .f32⟩
  | .hbm, ⟨40, _⟩ => ⟨S16x2048x64, .f32⟩
  | .hbm, ⟨41, _⟩ => ⟨S16x128x1024, .f32⟩
  | .hbm, ⟨42, _⟩ => ⟨S2x1024x64, .f32⟩
  | .hbm, ⟨43, _⟩ => ⟨S2048, .f32⟩
  | .hbm, ⟨44, _⟩ => ⟨S64, .f32⟩
  | .hbm, ⟨45, _⟩ => ⟨S16x127x1024, .f32⟩
  | .hbm, ⟨46, _⟩ => ⟨S1x1024x64, .f32⟩
  | .hbm, ⟨47, _⟩ => ⟨S1024x64, .f32⟩
  | .hbm, ⟨48, _⟩ => ⟨S16x127x64, .f32⟩
  | .hbm, ⟨49, _⟩ => ⟨S1x1x64, .f32⟩
  | .hbm, ⟨50, _⟩ => ⟨S16x127x64, .f32⟩
  | .hbm, ⟨51, _⟩ => ⟨S16x127x64, .f32⟩
  | .hbm, ⟨52, _⟩ => ⟨S16x127x1024, .f32⟩
  | .hbm, ⟨53, _⟩ => ⟨S1x1024x64, .f32⟩
  | .hbm, ⟨54, _⟩ => ⟨S1024x64, .f32⟩
  | .hbm, ⟨55, _⟩ => ⟨S16x127x64, .f32⟩
  | .hbm, ⟨56, _⟩ => ⟨S16x127x64, .f32⟩
  | .hbm, ⟨57, _⟩ => ⟨S16x127x64, .f32⟩
  | .hbm, ⟨58, _⟩ => ⟨S16x127x64, .f32⟩
  | .hbm, ⟨59, _⟩ => ⟨S_, .f32⟩
  | .hbm, ⟨60, _⟩ => ⟨S16x127x64, .f32⟩
  | .hbm, ⟨61, _⟩ => ⟨S16x127x64, .f32⟩
  | .hbm, ⟨62, _⟩ => ⟨S_, .f32⟩
  | .hbm, ⟨63, _⟩ => ⟨S16x127x64, .f32⟩
  | .hbm, ⟨64, _⟩ => ⟨S16x127x64, .f32⟩
  | .hbm, ⟨65, _⟩ => ⟨S16x127x64, .f32⟩
  | .hbm, ⟨66, _⟩ => ⟨S16x127x64, .f32⟩
  | .hbm, ⟨67, _⟩ => ⟨S16x127x128, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_0 : Ref sig .tc := ⟨.hbm, 38, rfl⟩
abbrev main_call2_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call3_v0 : Ref sig .tc := ⟨.hbm, 57, rfl⟩
abbrev main_call3_v1 : Ref sig .tc := ⟨.hbm, 58, rfl⟩
abbrev main_call3_cst : Ref sig .tc := ⟨.hbm, 59, rfl⟩
abbrev main_call3_v2 : Ref sig .tc := ⟨.hbm, 60, rfl⟩
abbrev main_call3_v3 : Ref sig .tc := ⟨.hbm, 61, rfl⟩
abbrev main_call3_cst_0 : Ref sig .tc := ⟨.hbm, 62, rfl⟩
abbrev main_call3_v4 : Ref sig .tc := ⟨.hbm, 63, rfl⟩
abbrev main_call3_v5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== MlpSample.lean ====
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S1024x1024, .f32⟩
  | .local _ .vmem, ⟨0, _⟩ => ⟨S1024x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .bf16⟩
  | .local _ .vmem, ⟨8, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== MlpSampleRefIdeal.lean ====
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1024x1 : Shape := ⟨2, ![1024, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x4096, .f32⟩
  | .hbm, ⟨21, _⟩ => ⟨S_, .f32⟩
  | .hbm, ⟨22, _⟩ => ⟨S1024x4096, .f32⟩
  | .hbm, ⟨23, _⟩ => ⟨S1024x4096, .f32⟩
  | .hbm, ⟨24, _⟩ => ⟨S1024x4096, .f32⟩
  | .hbm, ⟨25, _⟩ => ⟨S1024x1024, .f32⟩
  | .hbm, ⟨26, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== MergeSample.lean ====
abbrev S1024x1024 : Shape := ⟨2, ![1024, 1024]⟩
abbrev S1024x256 : Shape := ⟨2, ![1024, 256]⟩
abbrev S1024x4096 : Shape := ⟨2, ![1024, 4096]⟩
abbrev S4x256x1024 : Shape := ⟨3, ![4, 256, 1024]⟩
abbrev S256x1024 : Shape := ⟨2, ![256, 1024]⟩
abbrev S256x256 : Shape := ⟨2, ![256, 256]⟩
abbrev S256x4096 : Shape := ⟨2, ![256, 4096]⟩
abbrev S1x256x1024 : Shape := ⟨3, ![1, 256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x4096, .f32⟩
  | .hbm, ⟨6, _⟩ => ⟨S4x256x1024, .f32⟩
  | .hbm, ⟨7, _⟩ => ⟨S1024x1024, .f32⟩
  | .hbm, ⟨8, _⟩ => ⟨S4x256x1024, .bf16⟩
  | .hbm, ⟨9, _⟩ => ⟨S1024x1024, .bf16⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x4096, .f32⟩
  | .local _ .vmem, ⟨11, _⟩ => ⟨S256x4096, .f32⟩
  | .local _ .vmem, ⟨12, _⟩ => ⟨S4x256x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeSampleRefIdeal.lean ====
abbrev S1024x1024 : Shape := ⟨2, ![1024, 1024]⟩
abbrev S1024x256 : Shape := ⟨2, ![1024, 256]⟩
abbrev S1024x4096 : Shape := ⟨2, ![1024, 4096]⟩
abbrev S4x256x1024 : Shape := ⟨3, ![4, 256, 1024]⟩
abbrev S_ : Shape := ⟨0, ![]⟩
abbrev S1024x4x1024 : Shape := ⟨3, ![1024, 4, 1024]⟩
abbrev S1024x1x1024 : Shape := ⟨3, ![1024, 1, 1024]⟩
abbrev S1x256x1024 : Shape := ⟨3, ![1, 256, 1024]⟩
abbrev S256x1024 : Shape := ⟨2, ![256, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x4096, .f32⟩
  | .hbm, ⟨6, _⟩ => ⟨S4x256x1024, .f32⟩
  | .hbm, ⟨7, _⟩ => ⟨S1024x1024, .f32⟩
  | .hbm, ⟨8, _⟩ => ⟨S1024x4096, .f32⟩
  | .hbm, ⟨9, _⟩ => ⟨S1024x4096, .f32⟩
  | .hbm, ⟨10, _⟩ => ⟨S_, .f32⟩
  | .hbm, ⟨11, _⟩ => ⟨S1024x4096, .f32⟩
  | .hbm, ⟨12, _⟩ => ⟨S1024x4096, .f32⟩
  | .hbm, ⟨13, _⟩ => ⟨S_, .f32⟩
  | .hbm, ⟨14, _⟩ => ⟨S1024x4096, .f32⟩
  | .hbm, ⟨15, _⟩ => ⟨S1024x4096, .f32⟩
  | .hbm, ⟨16, _⟩ => ⟨S1024x4x1024, .f32⟩
  | .hbm, ⟨17, _⟩ => ⟨S1024x1x1024, .f32⟩
  | .hbm, ⟨18, _⟩ => ⟨S1024x1024, .f32⟩
  | .hbm, ⟨19, _⟩ => ⟨S1x256x1024, .f32⟩
  | .hbm, ⟨20, _⟩ => ⟨S256x1024, .f32⟩
  | .hbm, ⟨21, _⟩ => ⟨S1024x1024, .f32⟩
  | .hbm, ⟨22, _⟩ => ⟨S1024x1024, .f32⟩
  | .hbm, ⟨23, _⟩ => ⟨S1024x1x1024, .f32⟩
  | .hbm, ⟨24, _⟩ => ⟨S1024x1024, .f32⟩
  | .hbm, ⟨25, _⟩ => ⟨S1x256x1024, .f32⟩
  | .hbm, ⟨26, _⟩ => ⟨S256x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1x1024, .f32⟩
  | .hbm, ⟨31, _⟩ => ⟨S1024x1024, .f32⟩
  | .hbm, ⟨32, _⟩ => ⟨S1x256x1024, .f32⟩
  | .hbm, ⟨33, _⟩ => ⟨S256x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1x1024, .f32⟩
  | .hbm, ⟨38, _⟩ => ⟨S1024x1024, .f32⟩
  | .hbm, ⟨39, _⟩ => ⟨S1x256x1024, .f32⟩
  | .hbm, ⟨40, _⟩ => ⟨S256x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Joint.lean ====
abbrev S16x2048x256 : Shape := ⟨3, ![16, 2048, 256]⟩
abbrev S16x2048x128 : Shape := ⟨3, ![16, 2048, 128]⟩
abbrev S16x2048x288 : Shape := ⟨3, ![16, 2048, 288]⟩
abbrev S256x4x64 : Shape := ⟨3, ![256, 4, 64]⟩
abbrev S32768x1024 : Shape := ⟨2, ![32768, 1024]⟩
abbrev S32768x256 : Shape := ⟨2, ![32768, 256]⟩
abbrev S32768x4096 : Shape := ⟨2, ![32768, 4096]⟩
abbrev S4x256x1024 : Shape := ⟨3, ![4, 256, 1024]⟩
abbrev S1024x1024 : Shape := ⟨2, ![1024, 1024]⟩
abbrev S4x64x256 : Shape := ⟨3, ![4, 64, 256]⟩
abbrev S4x256x64 : Shape := ⟨3, ![4, 256, 64]⟩
abbrev S1x128x256 : Shape := ⟨3, ![1, 128, 256]⟩
abbrev S1x128x128 : Shape := ⟨3, ![1, 128, 128]⟩
abbrev S1x2048x288 : Shape := ⟨3, ![1, 2048, 288]⟩
abbrev S128x256 : Shape := ⟨2, ![128, 256]⟩
abbrev S128x128 : Shape := ⟨2, ![128, 128]⟩
abbrev S128x64 : Shape := ⟨2, ![128, 64]⟩
abbrev S1x64x256 : Shape := ⟨3, ![1, 64, 256]⟩
abbrev S64x256 : Shape := ⟨2, ![64, 256]⟩
abbrev S128x32 : Shape := ⟨2, ![128, 32]⟩
abbrev S128x288 : Shape := ⟨2, ![128, 288]⟩
abbrev S512x288 : Shape := ⟨2, ![512, 288]⟩
abbrev S128x1 : Shape := ⟨2, ![128, 1]⟩
abbrev S512x1 : Shape := ⟨2, ![512, 1]⟩
abbrev S512x256 : Shape := ⟨2, ![512, 256]⟩
abbrev S1x512x288 : Shape := ⟨3, ![1, 512, 288]⟩
abbrev S512x512 : Shape := ⟨2, ![512, 512]⟩
abbrev S1x512 : Shape := ⟨2, ![1, 512]⟩
abbrev S512 : Shape := ⟨1, ![512]⟩
abbrev S1x256x64 : Shape := ⟨3, ![1, 256, 64]⟩
abbrev S256x64 : Shape := ⟨2, ![256, 64]⟩
abbrev S1x128x64 : Shape := ⟨3, ![1, 128, 64]⟩
abbrev S256x1024 : Shape := ⟨2, ![256, 1024]⟩
abbrev S256x256 : Shape := ⟨2, ![256, 256]⟩
abbrev S256x4096 : Shape := ⟨2, ![256, 4096]⟩
abbrev S1x256x1024 : Shape := ⟨3, ![1, 256, 1024]⟩

abbrev nBuf : Space → Nat
  | .hbm => 21
  | .vmem => 26
  | .smem => 0
  | _ => 0

abbrev bufTy : (tb : Table) → Fin (tcTables nBuf tb) → BufTy
  | .hbm, ⟨0, _⟩ => ⟨S16x2048x256, .f32⟩
  | .hbm, ⟨1, _⟩ => ⟨S16x2048x128, .f32⟩
  | .hbm, ⟨2, _⟩ => ⟨S16x2048x288, .f32⟩
  | .hbm, ⟨3, _⟩ => ⟨S256x4x64, .f32⟩
  | .hbm, ⟨4, _⟩ => ⟨S256x4x64, .f32⟩
  | .hbm, ⟨5, _⟩ => ⟨S32768x1024, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x4096, .f32⟩
  | .hbm, ⟨10, _⟩ => ⟨S4x256x1024, .f32⟩
  | .hbm, ⟨11, _⟩ => ⟨S1024x1024, .f32⟩
  | .hbm, ⟨12, _⟩ => ⟨S4x64x256, .f32⟩
  | .hbm, ⟨13, _⟩ => ⟨S4x64x256, .bf16⟩
  | .hbm, ⟨14, _⟩ => ⟨S4x256x64, .f32⟩
  | .hbm, ⟨15, _⟩ => ⟨S4x256x64, .bf16⟩
  | .hbm, ⟨16, _⟩ => ⟨S16x2048x256, .f32⟩
  | .hbm, ⟨17, _⟩ => ⟨S32768x256, .f32⟩
  | .hbm, ⟨18, _⟩ => ⟨S4x256x1024, .bf16⟩
  | .hbm, ⟨19, _⟩ => ⟨S1024x1024, .bf16⟩
  | .hbm, ⟨20, _⟩ => ⟨S32768x1024, .f32⟩
  | .local _ .vmem, ⟨0, _⟩ => ⟨S1x128x256, .f32⟩
  | .local _ .vmem, ⟨1, _⟩ => ⟨S1x128x256, .f32⟩
  | .local _ .vmem, ⟨2, _⟩ => ⟨S1x128x128, .f32⟩
  | .local _ .vmem, ⟨3, _⟩ => ⟨S1x128x128, .f32⟩
  | .local _ .vmem, ⟨4, _⟩ => ⟨S1x2048x288, .f32⟩
  | .local _ .vmem, ⟨5, _⟩ => ⟨S1x2048x288, .f32⟩
  | .local _ .vmem, ⟨6, _⟩ => ⟨S4x64x256, .bf16⟩
  | .local _ .vmem, ⟨7, _⟩ => ⟨S4x256x64, .bf16⟩
  | .local _ .vmem, ⟨8, _⟩ => ⟨S1x128x256, .f32⟩
  | .local _ .vmem, ⟨9, _⟩ => ⟨S1x128x256, .f32⟩
  | .local _ .vmem, ⟨10, _⟩ => ⟨S256x1024, .f32⟩
  | .local _ .vmem, ⟨11, _⟩ => ⟨S256x1024, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x4096, .f32⟩
  | .local _ .vmem, ⟨21, _⟩ => ⟨S256x4096, .f32⟩
  | .local _ .vmem, ⟨22, _⟩ => ⟨S4x256x1024, .bf16⟩
  | .local _ .vmem, ⟨23, _⟩ => ⟨S1024x1024, .bf16⟩
  | .local _ .vmem, ⟨24, _⟩ => ⟨S256x1024, .f32⟩
  | .local _ .vmem, ⟨25, _⟩ => ⟨S256x1024, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_27 : BitVec 32 := 0#32
  let arg1 : BitVec 32 := BitVec.ofNat 32 (i 1).val
  let c128_i32 : BitVec 32 := 128#32
  let v4 : BitVec 32 := Scalar.muli arg1 c128_i32
  let c128_i32_5 : BitVec 32 := 128#32
  let v5 : BitVec 32 := Scalar.addi v4 c128_i32_5
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32 : BitVec 32 := 512#32
  let c0_i32_7 : BitVec 32 := 0#32
  let v13 : BitVec 1 := Scalar.cmpi .sgt c512_i32 c0_i32_7
  let v14 : BitVec 32 := Scalar.extui v13
  let c0_i32_8 : BitVec 32 := 0#32
  let v15 : BitVec 1 := Scalar.cmpi .slt c512_i32 c0_i32_8
  let v16 : BitVec 32 := Scalar.extui v15
  let v17 : BitVec 32 := Scalar.subi v14 v16
  let v18 : BitVec 1 := Scalar.cmpi .ne v12 v17
  let v19 : BitVec 32 := Scalar.remsi v6 c512_i32
  let c0_i32_9 : BitVec 32 := 0#32
  let v20 : BitVec 1 := Scalar.cmpi .ne v19 c0_i32_9
  let v21 : BitVec 1 := Scalar.andi v18 v20
  let v7 : BitVec 32 := Scalar.divsi v6 c512_i32
  let c1_i32_10 : BitVec 32 := 1#32
  let v22 : BitVec 32 := Scalar.subi v7 c1_i32_10
  let v23 : BitVec 32 := Scalar.select v21 v22 v7
  let c1_i32_11 : BitVec 32 := 1#32
  let v24 : BitVec 32 := Scalar.addi v23 c1_i32_11
  let v62 : BitVec 32 := Scalar.subi v24 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_29 : BitVec 32 := 1#32
  ⟨c0_i32_27, v66, c1_i32_29⟩
def k0_mult1 (i : grid0.Coords) (k0_t1 : Fin (k0_t1_loop i).trips) : BitVec 32 :=
  let c0_i32_27 : BitVec 32 := 0#32
  let c1_i32_29 : BitVec 32 := 1#32
  let arg8 : BitVec 32 := Scf.iv c0_i32_27 c1_i32_29 k0_t1
  let c512_i32_57 : BitVec 32 := 512#32
  let v105 : BitVec 32 := Scalar.muli arg8 c512_i32_57
  v105
def k0_off1 (i : grid0.Coords) (k0_t1 : Fin (k0_t1_loop i).trips) : Fin 3 → Nat :=
  let c0_58 : Index := 0#32
  let c0_i32_27 : BitVec 32 := 0#32
  let c1_i32_29 : BitVec 32 := 1#32
  let arg8 : BitVec 32 := Scf.iv c0_i32_27 c1_i32_29 k0_t1
  let c512_i32_57 : BitVec 32 := 512#32
  let v105 : BitVec 32 := Scalar.muli arg8 c512_i32_57
  let v106 : BitVec 32 := v105
  let v107 : Index := Scalar.indexCast v106
  let c0_59 : Index := 0#32
  ![0, v107.toNat, 0]
@[reducible] def k0_t2_loop (i : grid0.Coords) : Scf.Loop 32 :=
  let c0_i32_27 : BitVec 32 := 0#32
  let arg1 : BitVec 32 := BitVec.ofNat 32 (i 1).val
  let c128_i32 : BitVec 32 := 128#32
  let v4 : BitVec 32 := Scalar.muli arg1 c128_i32
  let c128_i32_5 : BitVec 32 := 128#32
  let v5 : BitVec 32 := Scalar.addi v4 c128_i32_5
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32 : BitVec 32 := 512#32
  let c0_i32_7 : BitVec 32 := 0#32
  let v13 : BitVec 1 := Scalar.cmpi .sgt c512_i32 c0_i32_7
  let v14 : BitVec 32 := Scalar.extui v13
  let c0_i32_8 : BitVec 32 := 0#32
  let v15 : BitVec 1 := Scalar.cmpi .slt c512_i32 c0_i32_8
  let v16 : BitVec 32 := Scalar.extui v15
  let v17 : BitVec 32 := Scalar.subi v14 v16
  let v18 : BitVec 1 := Scalar.cmpi .ne v12 v17
  let v19 : BitVec 32 := Scalar.remsi v6 c512_i32
  let c0_i32_9 : BitVec 32 := 0#32
  let v20 : BitVec 1 := Scalar.cmpi .ne v19 c0_i32_9
  let v21 : BitVec 1 := Scalar.andi v18 v20
  let v7 : BitVec 32 := Scalar.divsi v6 c512_i32
  let c1_i32_10 : BitVec 32 := 1#32
  let v22 : BitVec 32 := Scalar.subi v7 c1_i32_10
  let v23 : BitVec 32 := Scalar.select v21 v22 v7
  let c1_i32_11 : BitVec 32 := 1#32
  let v24 : BitVec 32 := Scalar.addi v23 c1_i32_11
  let v62 : BitVec 32 := Scalar.subi v24 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let v63 : BitVec 32 := Scalar.addi c0_i32_27 v62
  let c1_i32_30 : BitVec 32 := 1#32
  ⟨v66, v63, c1_i32_30⟩
def k0_mult2 (i : grid0.Coords) (k0_t2 : Fin (k0_t2_loop i).trips) : BitVec 32 :=
  let c0_i32_27 : BitVec 32 := 0#32
  let arg1 : BitVec 32 := BitVec.ofNat 32 (i 1).val
  let c128_i32 : BitVec 32 := 128#32
  let v4 : BitVec 32 := Scalar.muli arg1 c128_i32
  let c128_i32_5 : BitVec 32 := 128#32
  let v5 : BitVec 32 := Scalar.addi v4 c128_i32_5
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32 : BitVec 32 := 512#32
  let c0_i32_7 : BitVec 32 := 0#32
  let v13 : BitVec 1 := Scalar.cmpi .sgt c512_i32 c0_i32_7
  let v14 : BitVec 32 := Scalar.extui v13
  let c0_i32_8 : BitVec 32 := 0#32
  let v15 : BitVec 1 := Scalar.cmpi .slt c512_i32 c0_i32_8
  let v16 : BitVec 32 := Scalar.extui v15
  let v17 : BitVec 32 := Scalar.subi v14 v16
  let v18 : BitVec 1 := Scalar.cmpi .ne v12 v17
  let v19 : BitVec 32 := Scalar.remsi v6 c512_i32
  let c0_i32_9 : BitVec 32 := 0#32
  let v20 : BitVec 1 := Scalar.cmpi .ne v19 c0_i32_9
  let v21 : BitVec 1 := Scalar.andi v18 v20
  let v7 : BitVec 32 := Scalar.divsi v6 c512_i32
  let c1_i32_10 : BitVec 32 := 1#32
  let v22 : BitVec 32 := Scalar.subi v7 c1_i32_10
  let v23 : BitVec 32 := Scalar.select v21 v22 v7
  let c1_i32_11 : BitVec 32 := 1#32
  let v24 : BitVec 32 := Scalar.addi v23 c1_i32_11
  let v62 : BitVec 32 := Scalar.subi v24 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg8 : BitVec 32 := Scf.iv v66 c1_i32_30 k0_t2
  let c512_i32_57 : BitVec 32 := 512#32
  let v105 : BitVec 32 := Scalar.muli arg8 c512_i32_57
  v105
def k0_off2 (i : grid0.Coords) (k0_t2 : Fin (k0_t2_loop i).trips) : Fin 3 → Nat :=
  let c0_58 : Index := 0#32
  let c0_i32_27 : BitVec 32 := 0#32
  let arg1 : BitVec 32 := BitVec.ofNat 32 (i 1).val
  let c128_i32 : BitVec 32 := 128#32
  let v4 : BitVec 32 := Scalar.muli arg1 c128_i32
  let c128_i32_5 : BitVec 32 := 128#32
  let v5 : BitVec 32 := Scalar.addi v4 c128_i32_5
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32 : BitVec 32 := 512#32
  let c0_i32_7 : BitVec 32 := 0#32
  let v13 : BitVec 1 := Scalar.cmpi .sgt c512_i32 c0_i32_7
  let v14 : BitVec 32 := Scalar.extui v13
  let c0_i32_8 : BitVec 32 := 0#32
  let v15 : BitVec 1 := Scalar.cmpi .slt c512_i32 c0_i32_8
  let v16 : BitVec 32 := Scalar.extui v15
  let v17 : BitVec 32 := Scalar.subi v14 v16
  let v18 : BitVec 1 := Scalar.cmpi .ne v12 v17
  let v19 : BitVec 32 := Scalar.remsi v6 c512_i32
  let c0_i32_9 : BitVec 32 := 0#32
  let v20 : BitVec 1 := Scalar.cmpi .ne v19 c0_i32_9
  let v21 : BitVec 1 := Scalar.andi v18 v20
  let v7 : BitVec 32 := Scalar.divsi v6 c512_i32
  let c1_i32_10 : BitVec 32 := 1#32
  let v22 : BitVec 32 := Scalar.subi v7 c1_i32_10
  let v23 : BitVec 32 := Scalar.select v21 v22 v7
  let c1_i32_11 : BitVec 32 := 1#32
  let v24 : BitVec 32 := Scalar.addi v23 c1_i32_11
  let v62 : BitVec 32 := Scalar.subi v24 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg8 : BitVec 32 := Scf.iv v66 c1_i32_30 k0_t2
  let c512_i32_57 : BitVec 32 := 512#32
  let v105 : BitVec 32 := Scalar.muli arg8 c512_i32_57
  let v106 : BitVec 32 := v105
  let v107 : Index := Scalar.indexCast v106
  let c0_59 : Index := 0#32
  ![0, v107.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S4x256x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== JointIdeal.lean ====
variable {F : FTy → Type} [FloatOps F] [Named F]
def κ : String → Option EReal := fun
  | "mask" => some ⊥
  | _ => none
-- ==== JointRefIdeal.lean ====
abbrev S16x2048x256 : Shape := ⟨3, ![16, 2048, 256]⟩
abbrev S16x2048x128 : Shape := ⟨3, ![16, 2048, 128]⟩
abbrev S16x2048x288 : Shape := ⟨3, ![16, 2048, 288]⟩
abbrev S256x4x64 : Shape := ⟨3, ![256, 4, 64]⟩
abbrev S32768x1024 : Shape := ⟨2, ![32768, 1024]⟩
abbrev S32768x256 : Shape := ⟨2, ![32768, 256]⟩
abbrev S32768x4096 : Shape := ⟨2, ![32768, 4096]⟩
abbrev S4x256x1024 : Shape := ⟨3, ![4, 256, 1024]⟩
abbrev S1024x1024 : Shape := ⟨2, ![1024, 1024]⟩
abbrev S16x2048x4x64 : Shape := ⟨4, ![16, 2048, 4, 64]⟩
abbrev S16x2048x4x32 : Shape := ⟨4, ![16, 2048, 4, 32]⟩
abbrev S16x2048x32 : Shape := ⟨3, ![16, 2048, 32]⟩
abbrev S4x256x16x2048 : Shape := ⟨4, ![4, 256, 16, 2048]⟩
abbrev S16x2048x4x256 : Shape := ⟨4, ![16, 2048, 4, 256]⟩
abbrev S16x2048x2048x4 : Shape := ⟨4, ![16, 2048, 2048, 4]⟩
abbrev S16x4x2048x2048 : Shape := ⟨4, ![16, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x2048 : Shape := ⟨3, ![16, 4, 2048]⟩
abbrev S16x4x2048x1 : Shape := ⟨4, ![16, 4, 2048, 1]⟩
abbrev S16x256x4x2048 : Shape := ⟨4, ![16, 256, 4, 2048]⟩
abbrev S4x64x16x2048 : Shape := ⟨4, ![4, 64, 16, 2048]⟩
abbrev S32768x4x1024 : Shape := ⟨3, ![32768, 4, 1024]⟩
abbrev S32768x1x1024 : Shape := ⟨3, ![32768, 1, 1024]⟩
abbrev S1x256x1024 : Shape := ⟨3, ![1, 256, 1024]⟩
abbrev S256x1024 : Shape := ⟨2, ![256, 1024]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x128, .f32⟩
  | .hbm, ⟨2, _⟩ => ⟨S16x2048x288, .f32⟩
  | .hbm, ⟨3, _⟩ => ⟨S256x4x64, .f32⟩
  | .hbm, ⟨4, _⟩ => ⟨S256x4x64, .f32⟩
  | .hbm, ⟨5, _⟩ => ⟨S32768x1024, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x4096, .f32⟩
  | .hbm, ⟨10, _⟩ => ⟨S4x256x1024, .f32⟩
  | .hbm, ⟨11, _⟩ => ⟨S1024x1024, .f32⟩
  | .hbm, ⟨12, _⟩ => ⟨S16x2048x4x64, .f32⟩
  | .hbm, ⟨13, _⟩ => ⟨S16x2048x4x32, .f32⟩
  | .hbm, ⟨14, _⟩ => ⟨S16x2048x256, .f32⟩
  | .hbm, ⟨15, _⟩ => ⟨S16x2048x32, .f32⟩
  | .hbm, ⟨16, _⟩ => ⟨S4x256x16x2048, .f32⟩
  | .hbm, ⟨17, _⟩ => ⟨S16x2048x4x256, .f32⟩
  | .hbm, ⟨18, _⟩ => ⟨S16x2048x2048x4, .f32⟩
  | .hbm, ⟨19, _⟩ => ⟨S16x4x2048x2048, .f32⟩
  | .hbm, ⟨20, _⟩ => ⟨S16x2048x2048x4, .f32⟩
  | .hbm, ⟨21, _⟩ => ⟨S16x4x2048x2048, .f32⟩
  | .hbm, ⟨22, _⟩ => ⟨S16x4x2048x2048, .f32⟩
  | .hbm, ⟨23, _⟩ => ⟨S_, .f32⟩
  | .hbm, ⟨24, _⟩ => ⟨S16x4x2048x2048, .f32⟩
  | .hbm, ⟨25, _⟩ => ⟨S16x4x2048x2048, .f32⟩
  | .hbm, ⟨26, _⟩ => ⟨S2048, .i32⟩
  | .hbm, ⟨27, _⟩ => ⟨S1x2048, .i32⟩
  | .hbm, ⟨28, _⟩ => ⟨S2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .f32⟩
  | .hbm, ⟨34, _⟩ => ⟨S_, .f32⟩
  | .hbm, ⟨35, _⟩ => ⟨S16x4x2048x2048, .i1⟩
  | .hbm, ⟨36, _⟩ => ⟨S16x4x2048x2048, .f32⟩
  | .hbm, ⟨37, _⟩ => ⟨S16x4x2048x2048, .f32⟩
  | .hbm, ⟨38, _⟩ => ⟨S_, .f32⟩
  | .hbm, ⟨39, _⟩ => ⟨S16x4x2048, .f32⟩
  | .hbm, ⟨40, _⟩ => ⟨S16x4x2048x1, .f32⟩
  | .hbm, ⟨41, _⟩ => ⟨S16x4x2048x1, .f32⟩
  | .hbm, ⟨42, _⟩ => ⟨S_, .f32⟩
  | .hbm, ⟨43, _⟩ => ⟨S16x4x2048x1, .f32⟩
  | .hbm, ⟨44, _⟩ => ⟨S16x4x2048x1, .i1⟩
  | .hbm, ⟨45, _⟩ => ⟨S_, .f32⟩
  | .hbm, ⟨46, _⟩ => ⟨S_, .f32⟩
  | .hbm, ⟨47, _⟩ => ⟨S16x4x2048x1, .f32⟩
  | .hbm, ⟨48, _⟩ => ⟨S16x4x2048x1, .f32⟩
  | .hbm, ⟨49, _⟩ => ⟨S16x4x2048x2048, .f32⟩
  | .hbm, ⟨50, _⟩ => ⟨S16x4x2048x2048, .f32⟩
  | .hbm, ⟨51, _⟩ => ⟨S16x4x2048x2048, .f32⟩
  | .hbm, ⟨52, _⟩ => ⟨S_, .f32⟩
  | .hbm, ⟨53, _⟩ => ⟨S16x4x2048, .f32⟩
  | .hbm, ⟨54, _⟩ => ⟨S16x4x2048x1, .f32⟩
  | .hbm, ⟨55, _⟩ => ⟨S_, .f32⟩
  | .hbm, ⟨56, _⟩ => ⟨S16x4x2048x1, .f32⟩
  | .hbm, ⟨57, _⟩ => ⟨S16x4x2048x1, .f32⟩
  | .hbm, ⟨58, _⟩ => ⟨S16x4x2048x2048, .f32⟩
  | .hbm, ⟨59, _⟩ => ⟨S16x4x2048x2048, .f32⟩
  | .hbm, ⟨60, _⟩ => ⟨S16x256x4x2048, .f32⟩
  | .hbm, ⟨61, _⟩ => ⟨S16x2048x4x256, .f32⟩
  | .hbm, ⟨62, _⟩ => ⟨S4x64x16x2048, .f32⟩
  | .hbm, ⟨63, _⟩ => ⟨S16x2048x4x64, .f32⟩
  | .hbm, ⟨64, _⟩ => ⟨S16x2048x256, .f32⟩
  | .hbm, ⟨65, _⟩ => ⟨S32768x256, .f32⟩
  | .hbm, ⟨66, _⟩ => ⟨S32768x4096, .f32⟩
  | .hbm, ⟨67, _⟩ => ⟨S32768x4096, .f32⟩
  | .hbm, ⟨68, _⟩ => ⟨S_, .f32⟩
  | .hbm, ⟨69, _⟩ => ⟨S32768x4096, .f32⟩
  | .hbm, ⟨70, _⟩ => ⟨S32768x4096, .f32⟩
  | .hbm, ⟨71, _⟩ => ⟨S_, .f32⟩
  | .hbm, ⟨72, _⟩ => ⟨S32768x4096, .f32⟩
  | .hbm, ⟨73, _⟩ => ⟨S32768x4096, .f32⟩
  | .hbm, ⟨74, _⟩ => ⟨S32768x4x1024, .f32⟩
  | .hbm, ⟨75, _⟩ => ⟨S32768x1x1024, .f32⟩
  | .hbm, ⟨76, _⟩ => ⟨S32768x1024, .f32⟩
  | .hbm, ⟨77, _⟩ => ⟨S1x256x1024, .f32⟩
  | .hbm, ⟨78, _⟩ => ⟨S256x1024, .f32⟩
  | .hbm, ⟨79, _⟩ => ⟨S32768x1024, .f32⟩
  | .hbm, ⟨80, _⟩ => ⟨S32768x1024, .f32⟩
  | .hbm, ⟨81, _⟩ => ⟨S32768x1x1024, .f32⟩
  | .hbm, ⟨82, _⟩ => ⟨S32768x1024, .f32⟩
  | .hbm, ⟨83, _⟩ => ⟨S1x256x1024, .f32⟩
  | .hbm, ⟨84, _⟩ => ⟨S256x1024, .f32⟩
  | .hbm, ⟨85, _⟩ => ⟨S32768x1024, .f32⟩
  | .hbm, ⟨86, _⟩ => ⟨S32768x1024, .f32⟩
  | .hbm, ⟨87, _⟩ => ⟨S32768x1024, .f32⟩
  | .hbm, ⟨88, _⟩ => ⟨S32768x1x1024, .f32⟩
  | .hbm, ⟨89, _⟩ => ⟨S32768x1024, .f32⟩
  | .hbm, ⟨90, _⟩ => ⟨S1x256x1024, .f32⟩
  | .hbm, ⟨91, _⟩ => ⟨S256x1024, .f32⟩
  | .hbm, ⟨92, _⟩ => ⟨S32768x1024, .f32⟩
  | .hbm, ⟨93, _⟩ => ⟨S32768x1024, .f32⟩
  | .hbm, ⟨94, _⟩ => ⟨S32768x1024, .f32⟩
  | .hbm, ⟨95, _⟩ => ⟨S32768x1x1024, .f32⟩
  | .hbm, ⟨96, _⟩ => ⟨S32768x1024, .f32⟩
  | .hbm, ⟨97, _⟩ => ⟨S1x256x1024, .f32⟩
  | .hbm, ⟨98, _⟩ => ⟨S256x1024, .f32⟩
  | .hbm, ⟨99, _⟩ => ⟨S32768x1024, .f32⟩
  | .hbm, ⟨100, _⟩ => ⟨S32768x1024, .f32⟩
  | .hbm, ⟨101, _⟩ => ⟨S32768x1024, .f32⟩
  | .hbm, ⟨102, _⟩ => ⟨S32768x1024, .f32⟩
  | .hbm, ⟨103, _⟩ => ⟨S32768x1024, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Proof.Math.Online.lean ====
/-
  The mathematics of an attention row computed tile by tile, over the extended reals.

  A row has scores `s k`, a mask `keep k` and values `v k` on the keys `k = 0, 1, 2, …`. After the first `n` keys the
  tiled computation carries three numbers: the greatest kept score, the sum of the exponentials taken from that maximum,
  and the sum of the values weighted by them. This file defines the three numbers for every `n`, shows that one more
  tile turns those of `n` keys into those of `n + T` keys, and that the quotient at the end is the masked softmax's
  weighted sum. No score, value or maximum needs to be finite.
-/
module

public import Idealize.ShloMosaic.PureOps.Ideal
public import Mathlib.Data.EReal.Inv

@[expose] public section

noncomputable section

namespace Attn

open Idealize.ShloMosaic Finset

/-! ### Arithmetic of the extended reals -/

/-- The exponential is never negative. -/
theorem exp_nonneg (x : EReal) : 0 ≤ Ideal.exp x := by
  induction x using EReal.rec with
  | bot => exact le_refl 0
  | coe r => exact EReal.coe_nonneg.2 (Real.exp_pos r).le
  | top => exact le_top

/-- The exponential of a difference `a - b` with `a ≤ b` is not `⊤`. -/
theorem exp_sub_ne_top {a b : EReal} (h : a ≤ b) : Ideal.exp (a - b) ≠ ⊤ := by
  induction b using EReal.rec with
  | bot => obtain rfl : a = ⊥ := le_bot_iff.1 h; exact EReal.zero_ne_top
  | coe r =>
    induction a using EReal.rec with
    | bot => exact EReal.zero_ne_top
    | coe q => rw [← EReal.coe_sub]; exact EReal.coe_ne_top _
    | top => exact absurd h (not_le.2 (EReal.coe_lt_top r))
  | top =>
    rw [EReal.sub_top]; exact EReal.zero_ne_top

/-- Changing the reference point of an exponential: for `x ≤ m ≤ m'`. -/
theorem exp_rebase {x m m' : EReal} (hx : x ≤ m) (hm : m ≤ m') :
    Ideal.exp (m - m') * Ideal.exp (x - m) = Ideal.exp (x - m') := by
  induction m' using EReal.rec with
  | bot =>
    obtain rfl : m = ⊥ := le_bot_iff.1 hm
    obtain rfl : x = ⊥ := le_bot_iff.1 hx
    show (0 : EReal) * 0 = 0
    exact zero_mul 0
  | top =>
    rw [EReal.sub_top, EReal.sub_top]
    show (0 : EReal) * _ = 0
    exact zero_mul _
  | coe r =>
    induction m using EReal.rec with
    | bot =>
      obtain rfl : x = ⊥ := le_bot_iff.1 hx
      show (0 : EReal) * 0 = 0
      exact zero_mul 0
    | top => exact absurd hm (not_le.2 (EReal.coe_lt_top r))
    | coe q =>
      induction x using EReal.rec with
      | bot =>
        show _ * (0 : EReal) = 0
        exact mul_zero _
      | top => exact absurd hx (not_le.2 (EReal.coe_lt_top q))
      | coe y =>
        rw [← EReal.coe_sub, ← EReal.coe_sub, ← EReal.coe_sub]
        show ((Real.exp (q - r) : ℝ) : EReal) * ((Real.exp (y - q) : ℝ) : EReal) = ((Real.exp (y - r) : ℝ) : EReal)
        rw [← EReal.coe_mul, ← Real.exp_add]
        congr 2; ring

/-- A nonnegative factor below `⊤` goes into a finite sum. -/
theorem mul_sum_of_nonneg {ι : Type*} (t : Finset ι) {c : EReal} (h0 : 0 ≤ c) (ht : c ≠ ⊤) (f : ι → EReal) :
    c * ∑ k ∈ t, f k = ∑ k ∈ t, c * f k := by
  classical
  induction t using Finset.induction_on with
  | empty => simp
  | insert a t ha ih =>
    rw [sum_insert ha, sum_insert ha, EReal.left_distrib_of_nonneg_of_ne_top h0 ht, ih]

/-- A greatest element over a finite index, computed by a fold from `⊥`, is the supremum. -/
theorem fold_max_eq_sup {ι : Type*} (t : Finset ι) (f : ι → EReal) : t.fold max ⊥ f = t.sup f := rfl

/-! ### A row after its first `n` keys -/

section Row

variable (s : ℕ → EReal) (keep : ℕ → Prop) [DecidablePred keep] (v : ℕ → EReal)

/-- The score of key `k`, `⊥` where the mask drops it. -/
def kept (k : ℕ) : EReal := if keep k then s k else ⊥

/-- The greatest kept score among the first `n` keys. -/
def top (n : ℕ) : EReal := (range n).sup (kept s keep)

/-- The weight of key `k` before the division, from the maximum `m`. -/
def wt (m : EReal) (k : ℕ) : EReal := if keep k then Ideal.exp (s k - m) else 0

/-- The sum of the weights of the first `n` keys. -/
def den (n : ℕ) : EReal := ∑ k ∈ range n, wt s keep (top s keep n) k

/-- The sum of the values of the first `n` keys, by weight. -/
def num (n : ℕ) : EReal := ∑ k ∈ range n, wt s keep (top s keep n) k * v k

theorem top_zero : top s keep 0 = ⊥ := rfl
theorem den_zero : den s keep 0 = 0 := rfl
theorem num_zero : num s keep v 0 = 0 := rfl

/-- The maximum over `n + T` keys is that over `n` and that over the tile. -/
theorem top_add (n T : ℕ) :
    top s keep (n + T) = max (top s keep n) ((range T).sup fun t => kept s keep (n + t)) := by
  refine le_antisymm (Finset.sup_le fun k hk => ?_) (max_le ?_ ?_)
  · rcases lt_or_ge k n with h | h
    · exact le_max_of_le_left (le_sup (f := kept s keep) (mem_range.2 h))
    · have hk' := mem_range.1 hk
      obtain ⟨t, rfl⟩ := Nat.exists_eq_add_of_le h
      exact le_max_of_le_right (le_sup (f := fun t => kept s keep (n + t)) (mem_range.2 (by omega)))
  · exact Finset.sup_mono (range_subset_range.2 (Nat.le_add_right n T))
  · refine Finset.sup_le fun t ht => ?_
    have := mem_range.1 ht
    exact le_sup (f := kept s keep) (mem_range.2 (by omega))

theorem top_le_add (n T : ℕ) : top s keep n ≤ top s keep (n + T) := by
  rw [top_add]; exact le_max_left _ _

theorem le_top_of_keep {n k : ℕ} (hk : k < n) (h : keep k) : s k ≤ top s keep n := by
  have := le_sup (f := kept s keep) (mem_range.2 hk)
  rwa [kept, if_pos h] at this

/-- A weight moved to a greater maximum. -/
theorem wt_rebase {n k : ℕ} (hk : k < n) {m' : EReal} (hm : top s keep n ≤ m') :
    Ideal.exp (top s keep n - m') * wt s keep (top s keep n) k = wt s keep m' k := by
  unfold wt
  by_cases h : keep k
  · rw [if_pos h, if_pos h]; exact exp_rebase (le_top_of_keep s keep hk h) hm
  · rw [if_neg h, if_neg h, mul_zero]

/-- The sum of weights over `n + T` keys from that over `n` keys and the tile's. -/
theorem den_add (n T : ℕ) :
    den s keep (n + T) = Ideal.exp (top s keep n - top s keep (n + T)) * den s keep n
      + ∑ t ∈ range T, wt s keep (top s keep (n + T)) (n + t) := by
  have hm := top_le_add s keep n T
  unfold den
  rw [mul_sum_of_nonneg _ (exp_nonneg _) (exp_sub_ne_top hm), sum_range_add]
  congr 1
  exact sum_congr rfl fun k hk => (wt_rebase s keep (mem_range.1 hk) hm).symm

/-- The weighted sum over `n + T` keys from that over `n` keys and the tile's. -/
theorem num_add (n T : ℕ) :
    num s keep v (n + T) = Ideal.exp (top s keep n - top s keep (n + T)) * num s keep v n
      + ∑ t ∈ range T, wt s keep (top s keep (n + T)) (n + t) * v (n + t) := by
  have hm := top_le_add s keep n T
  unfold num
  rw [mul_sum_of_nonneg _ (exp_nonneg _) (exp_sub_ne_top hm), sum_range_add]
  congr 1
  exact sum_congr rfl fun k hk => by rw [← mul_assoc, wt_rebase s keep (mem_range.1 hk) hm]

/-- Keys beyond the last kept one change nothing. -/
theorem top_of_dropped {n N : ℕ} (hn : n ≤ N) (h : ∀ k, n ≤ k → k < N → ¬ keep k) : top s keep N = top s keep n := by
  refine le_antisymm (Finset.sup_le fun k hk => ?_) (Finset.sup_mono (range_subset_range.2 hn))
  rcases lt_or_ge k n with hk' | hk'
  · exact le_sup (f := kept s keep) (mem_range.2 hk')
  · rw [kept, if_neg (h k hk' (mem_range.1 hk))]; exact bot_le

theorem den_of_dropped {n N : ℕ} (hn : n ≤ N) (h : ∀ k, n ≤ k → k < N → ¬ keep k) : den s keep N = den s keep n := by
  unfold den
  rw [top_of_dropped s keep hn h]
  refine (sum_subset (range_subset_range.2 hn) fun k hk hk' => ?_).symm
  rw [wt, if_neg (h k (by simpa using hk') (mem_range.1 hk))]

theorem num_of_dropped {n N : ℕ} (hn : n ≤ N) (h : ∀ k, n ≤ k → k < N → ¬ keep k) :
    num s keep v N = num s keep v n := by
  unfold num
  rw [top_of_dropped s keep hn h]
  refine (sum_subset (range_subset_range.2 hn) fun k hk hk' => ?_).symm
  rw [wt, if_neg (h k (by simpa using hk') (mem_range.1 hk)), zero_mul]

/-! ### The masked softmax of the whole row -/

/-- The point the masked softmax subtracts: the maximum where it is finite, else `0`. -/
def base (m : EReal) : EReal := if m = ⊤ ∨ m = ⊥ then 0 else m

/-- The masked softmax's exponential at key `k`: of the kept score, `⊥` where dropped. -/
def expo (n k : ℕ) : EReal := Ideal.exp (kept s keep k - base (top s keep n))

/-- The masked softmax's probability at key `k` of `n`, its denominator not below `ε`. -/
def prob (ε : EReal) (n k : ℕ) : EReal :=
  Ideal.div (expo s keep n k) (max (∑ k ∈ range n, expo s keep n k) ε)

theorem div_of_pos {x y : EReal} (h : 0 < y) : Ideal.div x y = x * y⁻¹ := by
  rw [Ideal.div, if_neg h.ne']

theorem inv_nonneg_of_pos {y : EReal} (h : 0 < y) : 0 ≤ y⁻¹ := EReal.inv_nonneg_of_nonneg h.le

theorem inv_ne_top_of_pos {y : EReal} (h : 0 < y) : y⁻¹ ≠ ⊤ := by
  induction y using EReal.rec with
  | bot => exact absurd h (by simp)
  | top => rw [EReal.inv_top]; exact EReal.zero_ne_top
  | coe r => rw [← EReal.coe_inv]; exact EReal.coe_ne_top _

/-- With a finite maximum the masked softmax's exponential is the weight. -/
theorem expo_eq_wt {n k : ℕ} (h1 : top s keep n ≠ ⊤) (h2 : top s keep n ≠ ⊥) :
    expo s keep n k = wt s keep (top s keep n) k := by
  have hb : base (top s keep n) = top s keep n := if_neg (not_or.2 ⟨h1, h2⟩)
  unfold expo wt kept
  rw [hb]
  by_cases h : keep k
  · rw [if_pos h, if_pos h]
  · rw [if_neg h, if_neg h, EReal.bot_sub]; rfl

/-- With maximum `⊤` every weight is `0`. -/
theorem wt_top (k : ℕ) : wt s keep ⊤ k = 0 := by
  unfold wt; rw [EReal.sub_top]; split <;> rfl

/-- With maximum `⊥` every weight is `0`, and so is every exponential. -/
theorem wt_bot {n k : ℕ} (hk : k < n) (h : top s keep n = ⊥) : wt s keep ⊥ k = 0 := by
  unfold wt
  by_cases hk' : keep k
  · have hs : s k = ⊥ := le_bot_iff.1 (h ▸ le_top_of_keep s keep hk hk')
    rw [if_pos hk', hs]; rfl
  · rw [if_neg hk']

theorem expo_bot {n k : ℕ} (hk : k < n) (h : top s keep n = ⊥) : expo s keep n k = 0 := by
  have : kept s keep k = ⊥ := le_bot_iff.1 (h ▸ le_sup (f := kept s keep) (mem_range.2 hk))
  unfold expo; rw [this, EReal.bot_sub]; rfl

/-- With maximum `⊤` some exponential is `⊤`, so the denominator is. -/
theorem expo_sum_top {n : ℕ} (h : top s keep n = ⊤) : ∑ k ∈ range n, expo s keep n k = ⊤ := by
  have hex : ∃ k ∈ range n, kept s keep k = ⊤ := by
    by_contra hc
    push Not at hc
    have : top s keep n < ⊤ := (Finset.sup_lt_iff (by exact bot_lt_top)).2 fun k hk => lt_top_iff_ne_top.2 (hc k hk)
    exact this.ne h
  obtain ⟨k, hk, hkt⟩ := hex
  have hek : expo s keep n k = ⊤ := by
    unfold expo base; rw [h, if_pos (Or.inl rfl), hkt, sub_zero]; rfl
  exact top_le_iff.1 (hek ▸ single_le_sum (f := expo s keep n) (fun i _ => exp_nonneg _) hk)

/-- THE ROW: the tiled computation's quotient is the masked softmax's weighted sum of the values. -/
theorem quotient_eq {ε : EReal} (hε : 0 < ε) (n : ℕ) :
    Ideal.div (num s keep v n) (max (den s keep n) ε) = ∑ k ∈ range n, prob s keep ε n k * v k := by
  have hpos : ∀ x : EReal, 0 < max x ε := fun x => lt_max_of_lt_right hε
  by_cases h1 : top s keep n = ⊤
  · have hz : num s keep v n = 0 := sum_eq_zero fun k _ => by rw [h1, wt_top, zero_mul]
    rw [hz, div_of_pos (hpos _), zero_mul]
    refine (sum_eq_zero fun k _ => ?_).symm
    rw [prob, expo_sum_top s keep h1, div_of_pos (hpos _), max_eq_left le_top, EReal.inv_top, mul_zero, zero_mul]
  by_cases h2 : top s keep n = ⊥
  · have hz : num s keep v n = 0 := sum_eq_zero fun k hk => by rw [h2, wt_bot s keep (mem_range.1 hk) h2, zero_mul]
    rw [hz, div_of_pos (hpos _), zero_mul]
    refine (sum_eq_zero fun k hk => ?_).symm
    rw [prob, expo_bot s keep (mem_range.1 hk) h2, div_of_pos (hpos _), zero_mul, zero_mul]
  · have hd : ∑ k ∈ range n, expo s keep n k = den s keep n := sum_congr rfl fun k _ => expo_eq_wt s keep h1 h2
    unfold prob
    rw [hd, div_of_pos (hpos _), mul_comm, num,
      mul_sum_of_nonneg _ (inv_nonneg_of_pos (hpos _)) (inv_ne_top_of_pos (hpos _))]
    refine sum_congr rfl fun k _ => ?_
    rw [div_of_pos (hpos _), expo_eq_wt s keep h1 h2, ← mul_assoc, mul_comm (max _ _)⁻¹]

end Row

/-- A supremum over `Fin n` is one over the numbers below `n`. -/
theorem sup_fin (n : ℕ) (f : ℕ → EReal) : (Finset.univ : Finset (Fin n)).sup (fun t => f t.val) = (Finset.range n).sup f := by
  refine le_antisymm (Finset.sup_le fun t _ => Finset.le_sup (f := f) (Finset.mem_range.2 t.isLt)) (Finset.sup_le fun t ht => ?_)
  exact Finset.le_sup (f := fun t : Fin n => f t.val) (Finset.mem_univ (⟨t, Finset.mem_range.1 ht⟩ : Fin n))

end Attn

end
-- ==== Proof.Mla.Row.lean ====
/-
  One query row of the latent attention, as functions of plain families of numbers.

  `qn` is the row's 256 no-position query numbers (4 heads of 64), `qr` its 128 rotary ones (4 heads of 32), `kv k` the 288
  numbers cached for key `k` (256 latent, 32 rotary), `wuk h` head `h`'s up-projection. Both programs are read in these terms.
-/
module

public import proofs.«01_k».proof.Proof.Math.Online

@[expose] public section

noncomputable section

namespace Attn.Mla

open Idealize.ShloMosaic

/-- The softmax scale both programs multiply by. -/
def SCALE : EReal := Ideal.ofBits .f32 0x3DD105EC#32

/-- The floor both programs keep the denominator above. -/
def FLOOR : EReal := Ideal.ofBits .f32 0x0DA24260#32

/-- The query of head `h` taken into the latent space, at latent coordinate `r`. -/
def lat (qn : Fin 256 → EReal) (wuk : Fin 4 → Fin 64 → Fin 256 → EReal) (h : Fin 4) (r : Fin 256) : EReal :=
  ∑ d : Fin 64, qn ⟨64 * h.val + d.val, by omega⟩ * wuk h d r

/-- The score of head `h` against key `k`: latent part and rotary part, scaled. -/
def score (qn : Fin 256 → EReal) (qr : Fin 128 → EReal) (kv : ℕ → Fin 288 → EReal) (wuk : Fin 4 → Fin 64 → Fin 256 → EReal)
    (h : Fin 4) (k : ℕ) : EReal :=
  ((∑ r : Fin 256, lat qn wuk h r * kv k ⟨r.val, by omega⟩)
    + ∑ r : Fin 32, qr ⟨32 * h.val + r.val, by omega⟩ * kv k ⟨256 + r.val, by omega⟩) * SCALE

theorem floor_pos : 0 < FLOOR := by
  show (0 : EReal) < Ideal.ieee 8 23 0x0DA24260#32
  unfold Ideal.ieee
  dsimp only
  rw [show (BitVec.extractLsb' 23 8 (0x0DA24260#32)).toNat = 27 from by decide,
    show (BitVec.extractLsb' (8 + 23) 1 (0x0DA24260#32) == 1#1) = false from by decide,
    show (BitVec.extractLsb' 0 23 (0x0DA24260#32)).toNat = 2245216 from by decide]
  norm_num

/-- One entry of the attention's result: the row's probabilities summed with the latent part of the cached rows, and
    that sum taken through the head's `w_uv`. The keys kept are those at or before position `pos`. -/
def out (qn : Fin 256 → EReal) (qr : Fin 128 → EReal) (kv : ℕ → Fin 288 → EReal) (wuk : Fin 4 → Fin 64 → Fin 256 → EReal)
    (wuv : Fin 256 → EReal) (pos : ℕ) (h : Fin 4) : EReal :=
  ∑ r : Fin 256, (∑ n ∈ Finset.range 2048, Attn.prob (score qn qr kv wuk h) (fun n => n ≤ pos) FLOOR 2048 n * kv n ⟨r.val, by omega⟩) * wuv r

end Attn.Mla

end
-- ==== Proof.Mla.Query.lean ====
module

public import proofs.«01_k».proof.Proof.Gen.MlaIdeal.Value
public import proofs.«01_k».proof.Proof.Mla.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlaIdeal.Rows

open Cert.MlaIdeal Cert.MlaIdeal.Gen
open Attn.Mla (lat score SCALE FLOOR)

/-- Row `128 h + q` of the 512 stacked rows: head `h`, query `q` of the block. -/
abbrev row (h : Fin 4) (q : Fin 128) : Fin 512 := ⟨128 * h.val + q.val, by omega⟩

variable (x0 : FVec Ideal S1x128x256 .f32) (x1 : FVec Ideal S1x128x128 .f32) (w : Fin 4 → FVec Ideal S1x64x256 .bf16)

/-- The stacked query matrix the kernel builds: head `h`'s latent query, then its rotary one. -/
theorem query_at (h : Fin 4) (q : Fin 128) (j : Fin 288) :
    k0_pay5 (F := Ideal) (k0_pay1 x0) (k0_pay2 x1) (k0_pay3 x0 x1 (w 0)) (k0_pay4 x0) (w 1) (w 2) (w 3) (ix2 (row h q) j)
      = if hj : j.val < 256 then lat (fun a => x0 (ix3 0 q a)) (fun h d r => w h (ix3 0 d r)) h ⟨j.val, hj⟩
        else x1 (ix3 0 q ⟨32 * h.val + (j.val - 256), by omega⟩) := by
  pointwise [k0_pay5, k0_pay1, k0_pay2, k0_pay3, k0_pay4]
  unfold lat
  have hq := q.isLt
  obtain ⟨n, hn⟩ := h
  by_cases hj : j.val < 256
  · simp only [dif_pos hj]
    interval_cases n <;> split_ifs <;> first | (exfalso; omega) | skip
    all_goals (refine Finset.sum_congr rfl fun d _ => ?_; refine congrArg₂ (· * ·) ?_ rfl; blk_ext [])
  · simp only [dif_neg hj]
    interval_cases n <;> split_ifs <;> first | (exfalso; omega) | blk_ext []

/-- The mask word at key `512 k + t` of row `(h, q)` of query block `i`: kept when the key is not after the query. -/
theorem mask_at (i : grid0.Coords) (hi : (i 1).val < 16) (k : Fin (k0_t1_loop i).trips) (hk : k.val < 4) (h : Fin 4) (q : Fin 128) (t : Fin 512) :
    k0_pay11 i (Scalar.muli (BitVec.ofNat 32 (i 1).val) 128#32) k (ix2 (row h q) t)
      = BitVec.ofBool (decide (512 * k.val + t.val ≤ 128 * (i 1).val + q.val)) := by
  pointwise [k0_pay11, k0_pay6]
  have hq := q.isLt
  have hh := h.isLt
  have ht := t.isLt
  have hL : IntOp.addi (Scalar.muli (Scf.iv 0#32 1#32 k.val) 512#32) (BitVec.ofNat 32 t.val) = BitVec.ofNat 32 (512 * k.val + t.val) := by
    show (0#32 + BitVec.ofNat 32 k.val * 1#32) * 512#32 + BitVec.ofNat 32 t.val = _
    rw [BitVec.zero_add, BitVec.mul_one, ← BitVec.ofNat_mul, ← BitVec.ofNat_add, mul_comm]
  have hR : ∀ n : ℕ, IntOp.addi (Scalar.muli (BitVec.ofNat 32 (i 1).val) 128#32) (BitVec.ofNat 32 n) = BitVec.ofNat 32 (128 * (i 1).val + n) := fun n => by
    show BitVec.ofNat 32 (i 1).val * 128#32 + BitVec.ofNat 32 n = _
    rw [← BitVec.ofNat_mul, ← BitVec.ofNat_add, mul_comm]
  simp only [hR, dite_eq_ite, hL]
  generalize (i 1).val = a at *
  rw [(show (∀ c : ℕ, c = 128 * h.val + q.val → (if c < 128 then BitVec.ofNat 32 (128 * a + c) else
    if c - 128 < 128 then BitVec.ofNat 32 (128 * a + (c - 128)) else
    if c - 128 - 128 < 128 then BitVec.ofNat 32 (128 * a + (c - 128 - 128)) else
    BitVec.ofNat 32 (128 * a + (c - 128 - 128 - 128))) = BitVec.ofNat 32 (128 * a + q.val)) from fun c hc => by
      split_ifs <;> congr 2 <;> omega) _ rfl]
  exact WordCmp.cmpi_sle_ofNat (by simp; omega) (by simp; omega)

/-- The tile's masked scores: at row `(h, q)` and key `512 k + t`, the row's score where the key is kept, `⊥` elsewhere. -/
theorem tile_at (i : grid0.Coords) (hi : (i 1).val < 16) (k : Fin (k0_t1_loop i).trips) (hk : k.val < 4) (v : FVec Ideal S1x512x288 .f32) (kv : ℕ → Fin 288 → EReal)
    (hv : ∀ (t : Fin 512) (j : Fin 288), v (ix3 0 t j) = kv (512 * k.val + t.val) j) (h : Fin 4) (q : Fin 128) (t : Fin 512) :
    k0_pay12 (F := Ideal) i (k0_pay1 x0) (k0_pay2 x1) (Scalar.muli (BitVec.ofNat 32 (i 1).val) 128#32) (k0_pay3 x0 x1 (w 0)) (k0_pay4 x0) (w 1) (w 2) (w 3) k v (ix2 (row h q) t)
      = Attn.kept (score (fun a => x0 (ix3 0 q a)) (fun a => x1 (ix3 0 q a)) kv (fun h d r => w h (ix3 0 d r)) h)
          (fun n => n ≤ 128 * (i 1).val + q.val) (512 * k.val + t.val) := by
  pointwise [k0_pay12, k0_pay10, mask_at i hi k hk]
  unfold Attn.kept
  refine if_congr Iff.rfl ?_ rfl
  unfold score
  refine congrArg₂ (· * ·) ?_ rfl
  rw [Fin.sum_univ_two_halves 256 32 rfl]
  refine congrArg₂ (· + ·) (Finset.sum_congr rfl fun r _ => ?_) (Finset.sum_congr rfl fun r _ => ?_)
  · refine congrArg₂ (· * ·) ((query_at x0 x1 w h q _).trans ?_) (hv t _)
    rw [dif_pos (show r.val < 256 from r.isLt)]
  · refine congrArg₂ (· * ·) ((query_at x0 x1 w h q _).trans ?_) (hv t _)
    rw [dif_neg (by simp)]
    simp

end Cert.MlaIdeal.Rows

end
-- ==== Proof.Mla.Tile.lean ====
module

public import proofs.«01_k».proof.Proof.Gen.MlaIdeal.Value
public import proofs.«01_k».proof.Proof.Mla.Query
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlaIdeal.Rows

open Cert.MlaIdeal Cert.MlaIdeal.Gen
open Attn.Mla (lat score SCALE FLOOR)

/-! ### One row across one tile of keys -/

section Tile

variable (i : grid0.Coords) (v1 : FVec Ideal S128x256 .f32) (v3 : FVec Ideal S128x128 .f32) (v4 : BitVec 32)
  (v31 : FVec Ideal S128x288 .f32) (v32 : FVec Ideal S128x64 .f32) (v33 v40 v47 : FVec Ideal S1x64x256 .bf16)
  (k : Fin (k0_t1_loop i).trips) (v : FVec Ideal S1x512x288 .f32) (M L : FVec Ideal S512x1 .f32) (A : FVec Ideal S512x256 .f32)
  (kv : ℕ → Fin 288 → EReal) (s : ℕ → EReal) (keep : ℕ → Prop) [DecidablePred keep] (r : Fin 512)

/-- The running maximum after tile `k`, the tile's scores being the kept ones of the row. -/
theorem max_at
    (hs : ∀ t : Fin 512, k0_pay12 (F := Ideal) i v1 v3 v4 v31 v32 v33 v40 v47 k v (ix2 r t) = Attn.kept s keep (512 * k.val + t.val))
    (hM : M (ix2 r 0) = Attn.top s keep (512 * k.val)) :
    k0_pay13 (F := Ideal) i v1 v3 v4 v31 v32 v33 v40 v47 k M v (ix2 r 0) = Attn.top s keep (512 * (k.val + 1)) := by
  pointwise [k0_pay13, hs, hM]
  rw [show 512 * (k.val + 1) = 512 * k.val + 512 from by ring, Attn.top_add]
  refine congrArg (max _) ?_
  rw [show Ideal.ofBits FTy.f32 4286578688#32 = ⊥ from by simp [Ideal.ofBits, Ideal.ieee], Attn.fold_max_eq_sup]
  exact Attn.sup_fin 512 fun t => Attn.kept s keep (512 * k.val + t)

variable (hs : ∀ t : Fin 512, k0_pay12 (F := Ideal) i v1 v3 v4 v31 v32 v33 v40 v47 k v (ix2 r t) = Attn.kept s keep (512 * k.val + t.val))
  (hm : ∀ t : Fin 512, k0_pay11 i v4 k (ix2 r t) = BitVec.ofBool (decide (keep (512 * k.val + t.val))))
  (hM : M (ix2 r 0) = Attn.top s keep (512 * k.val))
include hs hm hM

/-- The weight a key of tile `k` has: zero where the key is dropped. -/
theorem weight_at (t : Fin 512) :
    k0_pay14 (F := Ideal) i v1 v3 v4 v31 v32 v33 v40 v47 k M v (ix2 r t)
      = Attn.wt s keep (Attn.top s keep (512 * (k.val + 1))) (512 * k.val + t.val) := by
  have e := max_at i v1 v3 v4 v31 v32 v33 v40 v47 k v M s keep r hs hM
  pointwise [k0_pay14, hs, hm, e]
  unfold Attn.wt Attn.kept
  split_ifs <;> rfl

/-- What the older sums are multiplied by. -/
theorem rebase_at :
    k0_pay15 (F := Ideal) i v1 v3 v4 v31 v32 v33 v40 v47 k M v (ix2 r 0)
      = Ideal.exp (Attn.top s keep (512 * k.val) - Attn.top s keep (512 * (k.val + 1))) := by
  have e := max_at i v1 v3 v4 v31 v32 v33 v40 v47 k v M s keep r hs hM
  pointwise [k0_pay15, e, hM]

/-- The running sum of weights after tile `k`. -/
theorem den_at (hL : L (ix2 r 0) = Attn.den s keep (512 * k.val)) :
    k0_pay16 (F := Ideal) i v1 v3 v4 v31 v32 v33 v40 v47 k M L v (ix2 r 0) = Attn.den s keep (512 * (k.val + 1)) := by
  have e1 := weight_at i v1 v3 v4 v31 v32 v33 v40 v47 k v M s keep r hs hm hM
  have e2 := rebase_at i v1 v3 v4 v31 v32 v33 v40 v47 k v M s keep r hs hm hM
  pointwise [k0_pay16, e1, e2, hL]
  rw [show 512 * (k.val + 1) = 512 * k.val + 512 from by ring, Attn.den_add, Finset.sum_range]

/-- The running weighted sum of the cached rows after tile `k`. -/
theorem num_at (j : Fin 256) (hv : ∀ t : Fin 512, v (ix3 0 t ⟨j.val, by omega⟩) = kv (512 * k.val + t.val) ⟨j.val, by omega⟩)
    (hA : A (ix2 r j) = Attn.num s keep (fun n => kv n ⟨j.val, by omega⟩) (512 * k.val)) :
    k0_pay17 (F := Ideal) i v1 v3 v4 v31 v32 v33 v40 v47 k M A v (ix2 r j)
      = Attn.num s keep (fun n => kv n ⟨j.val, by omega⟩) (512 * (k.val + 1)) := by
  have e1 := weight_at i v1 v3 v4 v31 v32 v33 v40 v47 k v M s keep r hs hm hM
  have e2 := rebase_at i v1 v3 v4 v31 v32 v33 v40 v47 k v M s keep r hs hm hM
  pointwise [k0_pay17, k0_pay10, e1, e2, hA]
  rw [show 512 * (k.val + 1) = 512 * k.val + 512 from by ring, Attn.num_add, Finset.sum_range]
  simp only [hv]

end Tile

end Cert.MlaIdeal.Rows

end
-- ==== Proof.Mla.Loop.lean ====
module

public import proofs.«01_k».proof.Proof.Gen.MlaIdeal.Value
public import proofs.«01_k».proof.Proof.Mla.Tile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlaIdeal.Rows

open Cert.MlaIdeal Cert.MlaIdeal.Gen
open Attn.Mla (lat score SCALE FLOOR)

/-- How far the two loops over the keys run at each grid point: the first to the tile that holds the block's last
    position, the second (left for a part that is not whole) not at all. -/
theorem points : ∀ t : Fin cfg0.N, (k0_t1_loop (grid0.coords t)).trips = ((grid0.coords t 1).val * 128 + 127) / 512 + 1
    ∧ (k0_t2_loop (grid0.coords t)).trips = 0 :=
  (by decide +kernel : ∀ t : Fin grid0.N, _)

/-- Where tile `k` begins among the cached rows. -/
theorem offs : ∀ (t : Fin cfg0.N) (k : Fin (k0_t1_loop (grid0.coords t)).trips), k0_off1 (grid0.coords t) k = ![0, 512 * k.val, 0] :=
  (by decide +kernel : ∀ (t : Fin grid0.N) (k : Fin (k0_t1_loop (grid0.coords t)).trips), _)

/-! ### The loop over the tiles of keys -/

section Trip

variable (c : Dev nD) (bd : Option Variants.none.V) (i : grid0.Coords)
  (arg2 : Memref sig .tc .vmem S1x128x256 .f32) (harg2 : arg2.IsWhole) (arg3 : Memref sig .tc .vmem S1x128x128 .f32) (harg3 : arg3.IsWhole)
  (arg4 : Memref sig .tc .vmem S1x2048x288 .f32) (harg4 : arg4.IsWhole) (arg5 : Memref sig .tc .vmem S4x64x256 .bf16) (harg5 : arg5.IsWhole)
  (arg6 : Memref sig .tc .vmem S4x256x64 .bf16) (harg6 : arg6.IsWhole) (arg7 : Memref sig .tc .vmem S1x128x256 .f32) (harg7 : arg7.IsWhole)
  (v1 : FVec Ideal S128x256 .f32) (v3 : FVec Ideal S128x128 .f32) (v4 v24 : BitVec 32) (v31 : FVec Ideal S128x288 .f32) (v32 : FVec Ideal S128x64 .f32)
  (v33 v40 v47 : Vec Ideal S1x64x256 .bf16) (x2 : Vec Ideal S1x2048x288 .f32)

/-- One trip, as the three values it carries. -/
theorem trip_eq (k : Fin (k0_t1_loop i).trips) (acc : FVec Ideal S512x1 .f32 × FVec Ideal S512x1 .f32 × FVec Ideal S512x256 .f32) :
    tripR_k0_t1 Variants.none c bd i arg2 harg2 arg3 harg3 arg4 harg4 arg5 harg5 arg6 harg6 arg7 harg7 v1 v3 v4 v24 v31 v32 v33 v40 v47
        (harg4.unread x2) k acc
      = (k0_pay13 i v1 v3 v4 v31 v32 v33 v40 v47 k acc.1 (View.ld x2 (Rect.unit (k0_off1 i k) S1x512x288.size (k0_off1_inb i k))),
         k0_pay16 i v1 v3 v4 v31 v32 v33 v40 v47 k acc.1 acc.2.1 (View.ld x2 (Rect.unit (k0_off1 i k) S1x512x288.size (k0_off1_inb i k))),
         k0_pay17 i v1 v3 v4 v31 v32 v33 v40 v47 k acc.1 acc.2.2 (View.ld x2 (Rect.unit (k0_off1 i k) S1x512x288.size (k0_off1_inb i k)))) := by
  unfold tripR_k0_t1 trip_k0_t1
  dsimp only
  simp only [View.readAt_eq_ld, harg4.read_unread]

/-- The cached rows as a sequence. -/
def rows (x2 : Vec Ideal S1x2048x288 .f32) (n : ℕ) (j : Fin 288) : EReal := if h : n < 2048 then x2 (ix3 0 ⟨n, h⟩ j) else 0

/-- The scores of row `(h, q)`. -/
abbrev rowScore (x0 : FVec Ideal S1x128x256 .f32) (x1 : FVec Ideal S1x128x128 .f32) (w : Fin 4 → FVec Ideal S1x64x256 .bf16)
    (x2 : Vec Ideal S1x2048x288 .f32) (h : Fin 4) (q : Fin 128) : ℕ → EReal :=
  score (fun a => x0 (ix3 0 q a)) (fun a => x1 (ix3 0 q a)) (rows x2) (fun h d r => w h (ix3 0 d r)) h

/-- What the loop carries after `n` tiles, at row `(h, q)`: the maximum, the sum of the weights and the weighted sum of
    the cached rows over the first `512 n` keys. -/
theorem carried (t : Fin cfg0.N) (x0 : FVec Ideal S1x128x256 .f32) (x1 : FVec Ideal S1x128x128 .f32) (w : Fin 4 → FVec Ideal S1x64x256 .bf16)
    (h : Fin 4) (q : Fin 128) (n : ℕ) (hn : n ≤ (k0_t1_loop (grid0.coords t)).trips) :
    let st := st_k0_t1 (F := Ideal) Variants.none c bd (grid0.coords t) arg2 harg2 arg3 harg3 arg4 harg4 arg5 harg5 arg6 harg6 arg7 harg7
      (k0_pay1 x0) (k0_pay2 x1) (Scalar.muli (BitVec.ofNat 32 (grid0.coords t 1).val) 128#32) v24 (k0_pay3 x0 x1 (w 0)) (k0_pay4 x0) (w 1) (w 2) (w 3)
      (harg4.unread x2) (k0_pay7, k0_pay8, k0_pay9) n
    st.1 (ix2 (row h q) 0) = Attn.top (rowScore x0 x1 w x2 h q) (fun n => n ≤ 128 * (grid0.coords t 1).val + q.val) (512 * n)
    ∧ st.2.1 (ix2 (row h q) 0) = Attn.den (rowScore x0 x1 w x2 h q) (fun n => n ≤ 128 * (grid0.coords t 1).val + q.val) (512 * n)
    ∧ ∀ r : Fin 256, st.2.2 (ix2 (row h q) r)
        = Attn.num (rowScore x0 x1 w x2 h q) (fun n => n ≤ 128 * (grid0.coords t 1).val + q.val) (fun n => rows x2 n ⟨r.val, by omega⟩) (512 * n) := by
  have hi : (grid0.coords t 1).val < 16 := (grid0.coords t 1).isLt
  induction n with
  | zero =>
    dsimp only
    rw [st_k0_t1_zero, Nat.mul_zero, Attn.top_zero, Attn.den_zero]
    refine ⟨?_, ?_, fun r => ?_⟩
    · pointwise [k0_pay7]
      rfl
    · pointwise [k0_pay8]
    · rw [Attn.num_zero]
      pointwise [k0_pay9]
  | succ n ih =>
    obtain ⟨ihM, ihL, ihA⟩ := ih (by omega)
    have hk : n < 4 := by
      have := (points t).1
      omega
    have hv : ∀ (x : Fin 512) (j : Fin 288), View.ld x2 (Rect.unit (k0_off1 (grid0.coords t) ⟨n, hn⟩) S1x512x288.size (k0_off1_inb (grid0.coords t) ⟨n, hn⟩)) (ix3 0 x j)
        = rows x2 (512 * n + x.val) j := by
      intro x j
      unfold rows
      rw [dif_pos (by omega)]
      refine View.ld_unit_apply_of x2 _ _ _ _ (ix3 0 ⟨512 * n + x.val, by omega⟩ j) fun a => ?_
      refine Eq.trans ?_ (congrArg (· + _) (congrFun (offs t ⟨n, hn⟩) a).symm)
      fin_cases a <;> simp
    have hs := fun x => tile_at x0 x1 w (grid0.coords t) hi ⟨n, hn⟩ hk _ (rows x2) hv h q x
    have hm := fun x => mask_at (grid0.coords t) hi ⟨n, hn⟩ hk h q x
    dsimp only
    rw [st_k0_t1_succ (k := ⟨n, hn⟩), trip_eq]
    refine ⟨?_, ?_, fun r => ?_⟩
    · exact max_at _ _ _ _ _ _ _ _ _ _ _ _ _ _ _ hs ihM
    · exact den_at _ _ _ _ _ _ _ _ _ _ _ _ _ _ _ _ hs hm ihM ihL
    · exact num_at _ _ _ _ _ _ _ _ _ _ _ _ _ (rows x2) _ _ _ hs hm ihM r (fun x => hv x _) (ihA r)

end Trip

/-- A loop of no trips leaves what it was given. -/
theorem st2_none {n : ℕ} (𝒱 : Variants) (c : Dev nD) (bd : Option 𝒱.V) (i : grid0.Coords)
  (arg2 : Memref sig .tc .vmem S1x128x256 .f32) (harg2 : arg2.IsWhole) (arg3 : Memref sig .tc .vmem S1x128x128 .f32) (harg3 : arg3.IsWhole)
  (arg4 : Memref sig .tc .vmem S1x2048x288 .f32) (harg4 : arg4.IsWhole) (arg5 : Memref sig .tc .vmem S4x64x256 .bf16) (harg5 : arg5.IsWhole)
  (arg6 : Memref sig .tc .vmem S4x256x64 .bf16) (harg6 : arg6.IsWhole) (arg7 : Memref sig .tc .vmem S1x128x256 .f32) (harg7 : arg7.IsWhole)
  (v1 : FVec Ideal S128x256 .f32) (v3 : FVec Ideal S128x128 .f32) (v4 v24 : BitVec 32) (v31 : FVec Ideal S128x288 .f32) (v32 : FVec Ideal S128x64 .f32)
  (v33 v40 v47 : Vec Ideal S1x64x256 .bf16) (X) (init) (hn : n = 0) :
    st_k0_t2 (F := Ideal) 𝒱 c bd i arg2 harg2 arg3 harg3 arg4 harg4 arg5 harg5 arg6 harg6 arg7 harg7 v1 v3 v4 v24 v31 v32 v33 v40 v47 X init n = init := by
  subst hn; rfl

end Cert.MlaIdeal.Rows

end
-- ==== Proof.Mla.Out.lean ====
module

public import proofs.«01_k».proof.Proof.Gen.MlaIdeal.Value
public import proofs.«01_k».proof.Proof.Mla.Loop
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlaIdeal.Rows

open Cert.MlaIdeal Cert.MlaIdeal.Gen
open Attn.Mla (lat score out SCALE FLOOR)

variable (m : (ℓ : Loc nD τ sig) → Buf (Elt Ideal) ℓ)

/-- What the loop leaves at row `(h, q)`, once all the tiles that hold kept keys are done: dropping the tiles after them
    changes nothing, so the sums are those over all 2048 keys. -/
theorem fin_at (c : Dev nD) (t : Fin cfg0.N) (bd) (v24 : BitVec 32)
    (arg2 : Memref sig .tc .vmem S1x128x256 .f32) (harg2 : arg2.IsWhole) (arg3 : Memref sig .tc .vmem S1x128x128 .f32) (harg3 : arg3.IsWhole)
    (arg4 : Memref sig .tc .vmem S1x2048x288 .f32) (harg4 : arg4.IsWhole) (arg5 : Memref sig .tc .vmem S4x64x256 .bf16) (harg5 : arg5.IsWhole)
    (arg6 : Memref sig .tc .vmem S4x256x64 .bf16) (harg6 : arg6.IsWhole) (arg7 : Memref sig .tc .vmem S1x128x256 .f32) (harg7 : arg7.IsWhole)
    (x0 : FVec Ideal S1x128x256 .f32) (x1 : FVec Ideal S1x128x128 .f32) (w : Fin 4 → FVec Ideal S1x64x256 .bf16) (x2 : Vec Ideal S1x2048x288 .f32)
    (FIN : FVec Ideal S512x1 .f32 × FVec Ideal S512x1 .f32 × FVec Ideal S512x256 .f32)
    (hF : st_k0_t1 (F := Ideal) Variants.none c bd (grid0.coords t) arg2 harg2 arg3 harg3 arg4 harg4 arg5 harg5 arg6 harg6 arg7 harg7
      (k0_pay1 x0) (k0_pay2 x1) (Scalar.muli (BitVec.ofNat 32 (grid0.coords t 1).val) 128#32) v24 (k0_pay3 x0 x1 (w 0)) (k0_pay4 x0) (w 1) (w 2) (w 3)
      (harg4.unread x2) (k0_pay7, k0_pay8, k0_pay9) (k0_t1_loop (grid0.coords t)).trips = FIN)
    (h : Fin 4) (q : Fin 128) (r : Fin 256) :
    Ideal.div (FIN.2.2 (ix2 (row h q) r)) (max (FIN.2.1 (ix2 (row h q) 0)) FLOOR)
      = ∑ n ∈ Finset.range 2048, Attn.prob (rowScore x0 x1 w x2 h q) (fun n => n ≤ 128 * (grid0.coords t 1).val + q.val) FLOOR 2048 n
          * rows x2 n ⟨r.val, by omega⟩ := by
  obtain ⟨_, hL, hA⟩ := carried c bd arg2 harg2 arg3 harg3 arg4 harg4 arg5 harg5 arg6 harg6 arg7 harg7 v24 x2 t x0 x1 w h q _ le_rfl
  have hi : (grid0.coords t 1).val < 16 := (grid0.coords t 1).isLt
  have hT := (points t).1
  have hq := q.isLt
  rw [hF] at hL hA
  have hle : 512 * (k0_t1_loop (grid0.coords t)).trips ≤ 2048 := by omega
  have hdrop : ∀ k, 512 * (k0_t1_loop (grid0.coords t)).trips ≤ k → k < 2048 → ¬ k ≤ 128 * (grid0.coords t 1).val + q.val := by omega
  rw [hL, hA r, ← Attn.den_of_dropped _ _ hle hdrop, ← Attn.num_of_dropped _ _ _ hle hdrop]
  exact Attn.quotient_eq _ _ _ Attn.Mla.floor_pos 2048

/-- One entry of the block written at a grid point. -/
theorem out_at (c : Dev nD) (t : Fin cfg0.N) (h : Fin 4) (q : Fin 128) (d : Fin 64) (y : S1x128x256.Idx) (hy1 : (y 1).val = q.val) (hy2 : (y 2).val = 64 * h.val + d.val) :
    outsAt0 m c t y = out (fun a => iblk m c 0 t (ix3 0 q a)) (fun a => iblk m c 1 t (ix3 0 q a)) (rows (iblk m c 2 t))
      (fun h d r => iblk m c 3 t (ix3 h d r)) (fun r => iblk m c 4 t (ix3 h r d)) (128 * (grid0.coords t 1).val + q.val) h := by
  have hh := h.isLt
  have hd := d.isLt
  unfold outsAt0
  frame_out
  rw [st2_none]
  case hn => exact (points t).2
  generalize hF : st_k0_t1 (F := Ideal) _ _ _ _ _ _ _ _ _ _ _ _ _ _ _ _ _ _ _ _ _ _ _ _ _ _ _ _ = FIN
  have hw : ∀ (h : Fin 4) (d : Fin 64) (r : Fin 256),
      (![View.ld (iblk m c 3 t) (Rect.unit ![0, 0, 0] ![1, 64, 256] inb_S4x64x256_S1x64x256_0_0_0), View.ld (iblk m c 3 t) (Rect.unit ![1, 0, 0] ![1, 64, 256] inb_S4x64x256_S1x64x256_1_0_0),
         View.ld (iblk m c 3 t) (Rect.unit ![2, 0, 0] ![1, 64, 256] inb_S4x64x256_S1x64x256_2_0_0), View.ld (iblk m c 3 t) (Rect.unit ![3, 0, 0] ![1, 64, 256] inb_S4x64x256_S1x64x256_3_0_0)]
        : Fin 4 → FVec Ideal S1x64x256 .bf16) h (ix3 0 d r) = iblk m c 3 t (ix3 h d r) := by
    intro h d r
    have hld : ∀ (o : Fin 4) (inb), View.ld (iblk m c 3 t) (Rect.unit ![o.val, 0, 0] ![1, 64, 256] inb) (ix3 0 d r) = iblk m c 3 t (ix3 o d r) := by
      intro o inb
      refine View.ld_unit_apply_of _ _ _ _ _ (ix3 o d r) fun a => ?_
      fin_cases a <;> simp
    fin_cases h
    · exact hld 0 _
    · exact hld 1 _
    · exact hld 2 _
    · exact hld 3 _
  have e := fin_at c t none _ _ _ _ _ _ _ _ _ _ _ _ _ (iblk m c 0 t) (iblk m c 1 t)
    ![View.ld (iblk m c 3 t) (Rect.unit ![0, 0, 0] ![1, 64, 256] inb_S4x64x256_S1x64x256_0_0_0), View.ld (iblk m c 3 t) (Rect.unit ![1, 0, 0] ![1, 64, 256] inb_S4x64x256_S1x64x256_1_0_0),
      View.ld (iblk m c 3 t) (Rect.unit ![2, 0, 0] ![1, 64, 256] inb_S4x64x256_S1x64x256_2_0_0), View.ld (iblk m c 3 t) (Rect.unit ![3, 0, 0] ![1, 64, 256] inb_S4x64x256_S1x64x256_3_0_0)]
    (iblk m c 2 t) FIN hF h q
  clear hF
  simp only [rowScore, hw] at e
  unfold out
  simp only [← e]
  clear e hw
  canon_tiles x hx
  all_goals pointwise [k0_pay29, k0_pay28, k0_pay30, k0_pay31, k0_pay27, k0_pay26]
  all_goals
    obtain rfl : q = ⟨(x 1).val, x1_lt⟩ := Fin.ext (show q.val = (x 1).val by omega)
  · have hk : h.val = 3 := by omega
    obtain rfl : d = ⟨(x 2).val, x2_lt⟩ := Fin.ext (show d.val = (x 2).val by omega)
    obtain rfl : h = 3 := Fin.ext hk
    rfl
  · have hk : h.val = 2 := by omega
    obtain rfl : d = ⟨(x 2).val, x2_lt⟩ := Fin.ext (show d.val = (x 2).val by omega)
    obtain rfl : h = 2 := Fin.ext hk
    rfl
  · have hk : h.val = 1 := by omega
    obtain rfl : d = ⟨(x 2).val, x2_lt⟩ := Fin.ext (show d.val = (x 2).val by omega)
    obtain rfl : h = 1 := Fin.ext hk
    rfl
  · have hk : h.val = 0 := by omega
    obtain rfl : d = ⟨(x 2).val, x2_lt⟩ := Fin.ext (show d.val = (x 2).val by omega)
    obtain rfl : h = 0 := Fin.ext hk
    rw [show row 0 ⟨(x 1).val, x1_lt⟩ = ⟨(x 1).val, by omega⟩ from Fin.ext (by simp [row])]
    rfl

end Cert.MlaIdeal.Rows

end
-- ==== Proof.Mla.Entry.lean ====
/-
  One query row of the latent attention, as functions of plain families of numbers.

  `qn` is the row's 256 no-position query numbers (4 heads of 64), `qr` its 128 rotary ones (4 heads of 32), `kv k` the 288
  numbers cached for key `k` (256 latent, 32 rotary), `wuk h` head `h`'s up-projection. Both programs are read in these terms.
-/
module

public import proofs.«01_k».proof.Proof.Mla.Row
public import Idealize.ShloMosaic.Lib.Pointwise

@[expose] public section

noncomputable section

namespace Attn.Mla

open Idealize.ShloMosaic

/-- Entry `(b, q, 64 h + d)` of the attention over whole arrays: the query at position `q` sees the cached rows of its
    batch entry at positions up to `q`. -/
def entry (Q : (⟨3, ![16, 2048, 256]⟩ : Shape).Idx → EReal) (QR : (⟨3, ![16, 2048, 128]⟩ : Shape).Idx → EReal)
    (KV : (⟨3, ![16, 2048, 288]⟩ : Shape).Idx → EReal) (WK WV : (⟨3, ![256, 4, 64]⟩ : Shape).Idx → EReal)
    (b : Fin 16) (q : Fin 2048) (h : Fin 4) (d : Fin 64) : EReal :=
  out (fun a => Q (ix3 b q a)) (fun a => QR (ix3 b q a)) (fun n j => if h : n < 2048 then KV (ix3 b ⟨n, h⟩ j) else 0)
    (fun h d r => WK (ix3 r h d)) (fun r => WV (ix3 r h d)) q.val h

end Attn.Mla

end
-- ==== Proof.Mla.Array.lean ====
module

public import proofs.«01_k».proof.Proof.Gen.MlaIdeal.Value
public import proofs.«01_k».proof.Proof.Mla.Out
public import proofs.«01_k».proof.Proof.Mla.Entry
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlaIdeal.Rows

open Cert.MlaIdeal Cert.MlaIdeal.Gen
open Attn.Mla (lat score out entry SCALE FLOOR)

variable (m : (ℓ : Loc nD τ sig) → Buf (Elt Ideal) ℓ)

theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, 0, 0] ∧ win0_3.index t = ![0, 0, 0] ∧ win0_4.index t = ![0, 0, 0]
    ∧ win0_5.index t = ![(grid0.coords t 0).val, (grid0.coords t 1).val, 0] :=
  (by decide +kernel : ∀ t : Fin grid0.N, _)

theorem wuk_at (c : Dev nD) (h : Fin 4) (d : Fin 64) (r : Fin 256) :
    V m c main_v1 (ix3 h d r) = m ((c.tc : Thread nD τ).loc main_arg3) (ix3 r h d) := by
  entry_read
  pointwise

theorem wuv_at (c : Dev nD) (h : Fin 4) (r : Fin 256) (d : Fin 64) :
    V m c main_v3 (ix3 h r d) = m ((c.tc : Thread nD τ).loc main_arg4) (ix3 r h d) := by
  entry_read
  pointwise

/-- The batch entry and the query position that row `q` of a grid point's block has in the arrays. -/
abbrev bat (t : Fin cfg0.N) : Fin 16 := ⟨(grid0.coords t 0).val, (grid0.coords t 0).isLt⟩
abbrev qpos (t : Fin cfg0.N) (q : Fin 128) : Fin 2048 :=
  ⟨128 * (grid0.coords t 1).val + q.val, by have h : (grid0.coords t 1).val < 16 := (grid0.coords t 1).isLt; have := q.isLt; omega⟩

theorem blk0_at (c : Dev nD) (t : Fin cfg0.N) (q : Fin 128) (a : Fin 256) :
    iblk m c 0 t (ix3 0 q a) = m ((c.tc : Thread nD τ).loc main_arg0) (ix3 (bat t) (qpos t q) a) := by
  blk_ext [iblk, V, idx t]

theorem blk1_at (c : Dev nD) (t : Fin cfg0.N) (q : Fin 128) (a : Fin 128) :
    iblk m c 1 t (ix3 0 q a) = m ((c.tc : Thread nD τ).loc main_arg1) (ix3 (bat t) (qpos t q) a) := by
  blk_ext [iblk, V, idx t]

theorem blk2_at (c : Dev nD) (t : Fin cfg0.N) (n : Fin 2048) (a : Fin 288) :
    iblk m c 2 t (ix3 0 n a) = m ((c.tc : Thread nD τ).loc main_arg2) (ix3 (bat t) n a) := by
  blk_ext [iblk, V, idx t]

theorem blk3_at (c : Dev nD) (t : Fin cfg0.N) (h : Fin 4) (d : Fin 64) (r : Fin 256) :
    iblk m c 3 t (ix3 h d r) = m ((c.tc : Thread nD τ).loc main_arg3) (ix3 r h d) := by
  rw [← wuk_at m c]
  blk_ext [iblk, idx t]

theorem blk4_at (c : Dev nD) (t : Fin cfg0.N) (h : Fin 4) (r : Fin 256) (d : Fin 64) :
    iblk m c 4 t (ix3 h r d) = m ((c.tc : Thread nD τ).loc main_arg4) (ix3 r h d) := by
  rw [← wuv_at m c]
  blk_ext [iblk, idx t]

theorem emb_at (t : Fin cfg0.N) (q : Fin 128) (j : Fin 256) : (win0_5.blk t).view.emb (ix3 0 q j) = ix3 (bat t) (qpos t q) j := by
  blk_ext [idx t]

/-- The block written at a grid point, in the arrays' terms. -/
theorem block_at (c : Dev nD) (t : Fin cfg0.N) (h : Fin 4) (q : Fin 128) (d : Fin 64) (y : S1x128x256.Idx) (hy1 : (y 1).val = q.val)
    (hy2 : (y 2).val = 64 * h.val + d.val) :
    outsAt0 m c t y = entry (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (bat t) (qpos t q) h d := by
  unfold entry
  rw [out_at m c t h q d y hy1 hy2]
  simp only [blk0_at, blk1_at, blk3_at, blk4_at]
  unfold rows
  simp only [blk2_at]

theorem head_lt (y : S16x2048x256.Idx) : (y 2).val / 64 < 4 := by
  have h : (y 2).val < 256 := (y 2).isLt
  omega

/-- THE RESULT ARRAY, entry by entry. -/
theorem final (c : Dev nD) : (dats m 0 c).arrAt 5 cfg0.N = fun y : S16x2048x256.Idx =>
    entry (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (y 0) (y 1)
      ⟨(y 2).val / 64, head_lt y⟩ ⟨(y 2).val % 64, Nat.mod_lt _ (by decide)⟩ := by
  refine (dats m 0 c).arrAt_eq_of_covers 5 _ (by decide +kernel) fun t hf y => ?_
  have i5 := (idx t).2.2.2.2.2
  blk_simp
  rw [after0_5]
  have y2 : (y 2).val < 256 := (y 2).isLt
  rw [block_at m c t ⟨(y 2).val / 64, by omega⟩ (y 1) ⟨(y 2).val % 64, by omega⟩ y rfl (show (y 2).val = 64 * ((y 2).val / 64) + (y 2).val % 64 by omega)]
  have z0 : (win0_5.blk t).view.emb y 0 = bat t := Fin.ext (by
    have y0 : (y 0).val < 1 := (y 0).isLt
    blk_simp [i5])
  have z1 : (win0_5.blk t).view.emb y 1 = qpos t (y 1) := Fin.ext (by
    blk_simp [i5]
    show _ = 128 * (grid0.coords t 1).val + (y 1).val
    omega)
  have z2 : win0_5.index t 2 * 256 + (y 2).val = (y 2).val := by rw [i5]; simp
  rw [z0, z1]
  simp only [z2]

end Cert.MlaIdeal.Rows

end
-- ==== Proof.Mla.Ref.lean ====
module

public import proofs.«01_k».proof.Proof.Gen.MlaRefIdeal.Run
public import proofs.«01_k».proof.Defs
public import proofs.«01_k».proof.Proof.Mla.Entry
public import Idealize.ShloMosaic.Lib.Pointwise
public import Idealize.ShloMosaic.Lib.WordCmp
public import Idealize.ShloMosaic.PureOps.Ideal.Laws

@[expose] public section

set_option maxRecDepth 16384

noncomputable section

open Idealize.ShloMosaic Idealize.ShloMosaic.TcCoe Idealize.SL.Sem

namespace Cert.MlaRefIdeal.Value

open Cert.MlaRefIdeal Cert.MlaRefIdeal.Gen
open Attn.Mla (lat score out entry SCALE FLOOR)

variable (m : (ℓ : Loc nD τ sig) → Buf (Elt Ideal) ℓ)

/-- The test for a finite maximum, and the shift it leaves. -/
theorem base_eq (x z : EReal) (hz : z = 0) : (if FloatOps.absf (F := Ideal) (φ := .f32) x < Ideal.ofBits FTy.f32 2139095040#32 then x else z) = Attn.base x := by
  subst hz
  rw [show Ideal.ofBits FTy.f32 2139095040#32 = ⊤ from by simp [Ideal.ofBits, Ideal.ieee]]
  show (if max x (-x) < ⊤ then x else 0) = Attn.base x
  unfold Attn.base
  induction x <;> simp [EReal.coe_ne_top, EReal.coe_ne_bot]

/-- The reference's score at a key, dropped keys at `⊥`. -/
theorem kept_at (A0 : S16x2048x256.Idx → EReal) (A1 : S16x2048x128.Idx → EReal) (A2 : S16x2048x288.Idx → EReal) (A3 : S256x4x64.Idx → EReal)
    (b : Fin 16) (q : Fin 2048) (h : Fin 4) (x : Fin 2048) (z : EReal) (hz : z = ⊥) :
    Scalar.select (IntOp.cmpi CmpIPredicate.sle (BitVec.ofNat 32 x.val) (BitVec.ofNat 32 q.val))
        ((∑ r : Fin 256, A2 (ix3 b x ⟨r.val, by omega⟩) * ∑ d : Fin 64, A3 (ix3 r h d) * A0 (ix3 b q ⟨h.val * 64 + d.val, by omega⟩)
          + ∑ r : Fin 32, A2 (ix3 b x ⟨256 + r.val, by omega⟩) * A1 (ix3 b q ⟨h.val * 32 + r.val, by omega⟩)) * Ideal.ofBits FTy.f32 1037108716#32) z
      = Attn.kept (score (fun a => A0 (ix3 b q a)) (fun a => A1 (ix3 b q a)) (fun n j => if h : n < 2048 then A2 (ix3 b ⟨n, h⟩ j) else 0)
          (fun h d r => A3 (ix3 r h d)) h) (fun n => n ≤ q.val) x.val := by
  subst hz
  rw [show IntOp.cmpi CmpIPredicate.sle (BitVec.ofNat 32 x.val) (BitVec.ofNat 32 q.val) = BitVec.ofBool (decide (x.val ≤ q.val)) from
    Idealize.ShloMosaic.WordCmp.cmpi_sle_ofNat (by omega) (by omega)]
  unfold Attn.kept score lat
  have hx := x.isLt
  simp only [hx, dif_pos]
  by_cases hk : x.val ≤ q.val
  · simp only [hk, decide_true, if_true]
    show _ * _ = _
    refine congrArg₂ (· * ·) (congrArg₂ (· + ·) (Finset.sum_congr rfl fun r _ => ?_) (Finset.sum_congr rfl fun r _ => ?_)) rfl
    · rw [mul_comm]
      refine congrArg₂ (· * ·) (Finset.sum_congr rfl fun d _ => ?_) rfl
      rw [mul_comm]
      simp only [mul_comm 64]
    · rw [mul_comm]
      simp only [mul_comm 32]
  · simp only [hk, decide_false, if_false]
    rfl

theorem bot_lit : id (constant (F := Ideal) S_ FTy.f32 4286578688#32) ix0 = (⊥ : EReal) := by
  show Ideal.ofBits FTy.f32 4286578688#32 = ⊥
  simp [Ideal.ofBits, Ideal.ieee]

theorem neg_inf : Ideal.ofBits FTy.f32 4286578688#32 = ⊥ := by
  simp [Ideal.ofBits, Ideal.ieee]

theorem zero_lit : id (constant (F := Ideal) S_ FTy.f32 0#32) ix0 = (0 : EReal) := by
  show Ideal.ofBits FTy.f32 0#32 = 0
  simp [Ideal.ofBits, Ideal.ieee]

/-! ### The reference's term, stage by stage -/

/-- The masked scores. -/
def scoresT (A0 : FVec Ideal S16x2048x256 .f32) (A1 : FVec Ideal S16x2048x128 .f32) (A2 : FVec Ideal S16x2048x288 .f32) (A3 : FVec Ideal S256x4x64 .f32) :
    FVec Ideal S16x4x2048x2048 .f32 :=
  select (broadcastInDim S16x4x2048x2048 ![2, 3] bcast_S2048x2048_S16x4x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (transpose S16x4x2048x2048 [0, 3, 2, 1] (Host.dotGeneral dot_S16x2048x256_S16x2048x4x256_S16x2048x2048x4_2_3_1_12_0_0 none (extractStridedSlice S16x2048x256 ![0, 0, 0] A2 slices_S16x2048x288_S16x2048x256_0_0_0) (transpose S16x2048x4x256 [2, 3, 0, 1] (Host.dotGeneral dot_S256x4x64_S16x2048x4x64_S4x256x16x2048_2_3_0_01_1_2 none A3 (shapeCast _ A0 shapeCasts_S16x2048x256_S16x2048x4x64)) transposes_S4x256x16x2048_S16x2048x4x256_2_3_0_1)) transposes_S16x2048x2048x4_S16x4x2048x2048_0_3_2_1) (transpose S16x4x2048x2048 [0, 3, 2, 1] (Host.dotGeneral dot_S16x2048x32_S16x2048x4x32_S16x2048x2048x4_2_3_1_12_0_0 none (extractStridedSlice S16x2048x32 ![0, 0, 256] A2 slices_S16x2048x288_S16x2048x32_0_0_256) (shapeCast _ A1 shapeCasts_S16x2048x128_S16x2048x4x32)) transposes_S16x2048x2048x4_S16x4x2048x2048_0_3_2_1)) (broadcastInDim S16x4x2048x2048 ![] bcast_S_S16x4x2048x2048 (constant S_ .f32 0x3DD105EC#32))) (broadcastInDim S16x4x2048x2048 ![] bcast_S_S16x4x2048x2048 (id (constant S_ .f32 0xFF800000#32)))

/-- Each row's maximum. -/
def maxT (S : FVec Ideal S16x4x2048x2048 .f32) : FVec Ideal S16x4x2048 .f32 :=
  Host.reduce FloatOps.maximumf S (constant S_ .f32 0xFF800000#32) reducesTo_S16x4x2048x2048_S16x4x2048_d3 h_S_

/-- The exponentials, shifted by the maximum where it is finite. -/
def expT (S : FVec Ideal S16x4x2048x2048 .f32) (M : FVec Ideal S16x4x2048 .f32) : FVec Ideal S16x4x2048x2048 .f32 :=
  Host.exp (subf S (broadcastInDim S16x4x2048x2048 ![0, 1, 2, 3] bcast_S16x4x2048x1_S16x4x2048x2048_0_1_2_3 (select (cmpf .olt (Host.absf (broadcastInDim S16x4x2048x1 ![0, 1, 2] bcast_S16x4x2048_S16x4x2048x1_0_1_2 M)) (broadcastInDim S16x4x2048x1 ![] bcast_S_S16x4x2048x1 (constant S_ .f32 0x7F800000#32))) (broadcastInDim S16x4x2048x1 ![0, 1, 2] bcast_S16x4x2048_S16x4x2048x1_0_1_2 M) (broadcastInDim S16x4x2048x1 ![] bcast_S_S16x4x2048x1 (id (constant S_ .f32 0x00000000#32))))))

/-- The probabilities. -/
def probT (E : FVec Ideal S16x4x2048x2048 .f32) : FVec Ideal S16x4x2048x2048 .f32 :=
  Host.divf E (broadcastInDim S16x4x2048x2048 ![0, 1, 2, 3] bcast_S16x4x2048x1_S16x4x2048x2048_0_1_2_3 (maximumf (broadcastInDim S16x4x2048x1 ![0, 1, 2] bcast_S16x4x2048_S16x4x2048x1_0_1_2 (Host.reduceAdd E (constant S_ .f32 0x00000000#32) reducesTo_S16x4x2048x2048_S16x4x2048_d3 h_S_)) (broadcastInDim S16x4x2048x1 ![] bcast_S_S16x4x2048x1 (constant S_ .f32 0x0DA24260#32))))

/-- The result from the probabilities. -/
def outT (P : FVec Ideal S16x4x2048x2048 .f32) (A2 : FVec Ideal S16x2048x288 .f32) (A4 : FVec Ideal S256x4x64 .f32) : FVec Ideal S16x2048x256 .f32 :=
  shapeCast _ (transpose S16x2048x4x64 [2, 3, 0, 1] (Host.dotGeneral dot_S256x4x64_S16x2048x4x256_S4x64x16x2048_0_3_2_01_1_2 none A4 (transpose S16x2048x4x256 [0, 3, 2, 1] (Host.dotGeneral dot_S16x2048x256_S16x4x2048x2048_S16x256x4x2048_1_3_2_12_0_0 none (extractStridedSlice S16x2048x256 ![0, 0, 0] A2 slices_S16x2048x288_S16x2048x256_0_0_0) P) transposes_S16x256x4x2048_S16x2048x4x256_0_3_2_1)) transposes_S4x64x16x2048_S16x2048x4x64_2_3_0_1) shapeCasts_S16x2048x4x64_S16x2048x256

theorem res_stages (c : Dev nD) : res_main_v40 m c =
    outT (probT (expT (scoresT (m ((c.tc : Thread nD τ).loc main_arg0)) (m ((c.tc : Thread nD τ).loc main_arg1)) (m ((c.tc : Thread nD τ).loc main_arg2)) (m ((c.tc : Thread nD τ).loc main_arg3)))
      (maxT (scoresT (m ((c.tc : Thread nD τ).loc main_arg0)) (m ((c.tc : Thread nD τ).loc main_arg1)) (m ((c.tc : Thread nD τ).loc main_arg2)) (m ((c.tc : Thread nD τ).loc main_arg3))))))
      (m ((c.tc : Thread nD τ).loc main_arg2)) (m ((c.tc : Thread nD τ).loc main_arg4)) := rfl

theorem scores_at (A0 : FVec Ideal S16x2048x256 .f32) (A1 : FVec Ideal S16x2048x128 .f32) (A2 : FVec Ideal S16x2048x288 .f32) (A3 : FVec Ideal S256x4x64 .f32)
    (b : Fin 16) (h : Fin 4) (q k : Fin 2048) :
    scoresT A0 A1 A2 A3 (ix4 b h q k) = Attn.kept (score (fun a => A0 (ix3 b q a)) (fun a => A1 (ix3 b q a))
      (fun n j => if h : n < 2048 then A2 (ix3 b ⟨n, h⟩ j) else 0) (fun h d r => A3 (ix3 r h d)) h) (fun n => n ≤ q.val) k.val := by
  pointwise [scoresT]
  exact kept_at A0 A1 A2 A3 b q h k _ bot_lit

section Row

variable (S : FVec Ideal S16x4x2048x2048 .f32) (M : FVec Ideal S16x4x2048 .f32) (E : FVec Ideal S16x4x2048x2048 .f32)
  (s : ℕ → EReal) (keep : ℕ → Prop) [DecidablePred keep] (b : Fin 16) (h : Fin 4) (q : Fin 2048)

theorem max_at (hS : ∀ k : Fin 2048, S (ix4 b h q k) = Attn.kept s keep k.val) : maxT S (ix3 b h q) = Attn.top s keep 2048 := by
  pointwise [maxT, hS]
  rw [neg_inf, Attn.fold_max_eq_sup, Attn.top]
  exact Attn.sup_fin 2048 (Attn.kept s keep)

theorem exp_at (hS : ∀ k : Fin 2048, S (ix4 b h q k) = Attn.kept s keep k.val) (hM : M (ix3 b h q) = Attn.top s keep 2048) (k : Fin 2048) :
    expT S M (ix4 b h q k) = Attn.expo s keep 2048 k.val := by
  pointwise [expT, hS, hM]
  rw [base_eq _ _ zero_lit, Attn.expo]

theorem div_at (hE : ∀ k : Fin 2048, E (ix4 b h q k) = Attn.expo s keep 2048 k.val) (k : Fin 2048) :
    probT E (ix4 b h q k) = Attn.prob s keep FLOOR 2048 k.val := by
  pointwise [probT, hE]
  rw [Attn.prob, Finset.sum_range, FLOOR]

/-- The probabilities of one row, its masked scores being the kept ones of a sequence. -/
theorem prob_at (hS : ∀ k : Fin 2048, S (ix4 b h q k) = Attn.kept s keep k.val) (k : Fin 2048) :
    probT (expT S (maxT S)) (ix4 b h q k) = Attn.prob s keep FLOOR 2048 k.val :=
  div_at _ s keep b h q (exp_at S (maxT S) s keep b h q hS (max_at S s keep b h q hS)) k

end Row

theorem out_at (A0 : FVec Ideal S16x2048x256 .f32) (A1 : FVec Ideal S16x2048x128 .f32) (A2 : FVec Ideal S16x2048x288 .f32) (A3 A4 : FVec Ideal S256x4x64 .f32)
    (P : FVec Ideal S16x4x2048x2048 .f32) (b : Fin 16) (q : Fin 2048) (j : Fin 256)
    (hP : ∀ k : Fin 2048, P (ix4 b ⟨j.val / 64, by omega⟩ q k) = Attn.prob (score (fun a => A0 (ix3 b q a)) (fun a => A1 (ix3 b q a))
      (fun n j => if h : n < 2048 then A2 (ix3 b ⟨n, h⟩ j) else 0) (fun h d r => A3 (ix3 r h d)) ⟨j.val / 64, by omega⟩) (fun n => n ≤ q.val) FLOOR 2048 k.val) :
    outT P A2 A4 (ix3 b q j) = entry A0 A1 A2 A3 A4 b q ⟨j.val / 64, by omega⟩ ⟨j.val % 64, by omega⟩ := by
  pointwise [outT, hP]
  unfold entry out
  refine Finset.sum_congr rfl fun r _ => (mul_comm (G := EReal) _ _).trans ?_
  rw [Finset.sum_range]
  refine congrArg₂ (· * ·) (Finset.sum_congr rfl fun n _ => (mul_comm (G := EReal) _ _).trans ?_) rfl
  refine congrArg₂ (· * ·) rfl (Eq.symm ?_)
  exact dif_pos (c := n.val < 2048) n.isLt

/-- THE REFERENCE'S RESULT, entry by entry. -/
theorem res_at (c : Dev nD) (b : Fin 16) (q : Fin 2048) (j : Fin 256) :
    res_main_v40 m c (ix3 b q j) = entry (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) b q ⟨j.val / 64, by omega⟩ ⟨j.val % 64, by omega⟩ := by
  rw [res_stages]
  exact out_at _ _ _ _ _ _ b q j fun k => prob_at _ _ _ b _ q (fun k => scores_at _ _ _ _ b _ q k) k

end Cert.MlaRefIdeal.Value

end
-- ==== Proof.Mla.Claims.lean ====
module

public import proofs.«01_k».proof.Defs
public import proofs.«01_k».proof.Proof.Mla.Array
public import proofs.«01_k».proof.Proof.Mla.Ref
public import proofs.«01_k».proof.Proof.Gen.Mla.Frame
public import proofs.«01_k».proof.Proof.Gen.MlaIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.Mla

open Cert

/-- The reference's whole result, as the function of its index that `entry` gives. -/
theorem ref_array (m : (ℓ : Loc MlaRefIdeal.nD MlaRefIdeal.τ MlaRefIdeal.sig) → Buf (Elt Ideal) ℓ)
    (c : Dev MlaRefIdeal.nD) :
    MlaRefIdeal.Value.res_main_v40 m c = fun y : MlaIdeal.S16x2048x256.Idx =>
      entry (m (c.tc.loc MlaRefIdeal.main_arg0)) (m (c.tc.loc MlaRefIdeal.main_arg1))
        (m (c.tc.loc MlaRefIdeal.main_arg2)) (m (c.tc.loc MlaRefIdeal.main_arg3))
        (m (c.tc.loc MlaRefIdeal.main_arg4)) (y 0) (y 1)
        ⟨(y 2).val / 64, MlaIdeal.Rows.head_lt y⟩ ⟨(y 2).val % 64, Nat.mod_lt _ (by decide)⟩ :=
  funext fun y : MlaIdeal.S16x2048x256.Idx =>
    (congrArg (MlaRefIdeal.Value.res_main_v40 m c) (Idealize.ShloMosaic.eq_ix3 y)).trans
      (MlaRefIdeal.Value.res_at m c (y 0) (y 1) (y 2))

/-- The kernel's idealization and the reference leave the same array: both are `entry`, index by index. -/
theorem algebraic : Cert.algebraic_MlaIdeal_MlaRefIdeal := by
  pair_intro
  · run_from Cert.MlaIdeal.Gen.run_main m g
  · run_from Cert.MlaRefIdeal.Value.run m' g'
    obtain ⟨h0, h1, h2, h3, h4⟩ := hagree c
    refine (ref_array m' c).trans (Eq.trans ?_ (Cert.MlaIdeal.Rows.final m c).symm)
    rw [h0, h1, h2, h3, h4]

/-- The reference terminates without a fault and leaves its arguments and the semaphores alone. -/
theorem frame_ref : Cert.quiescent_MlaRefIdeal := by
  intro m g _
  refine (θ_run Cert.MlaRefIdeal.defs _ _).mono
    (fun r h => ⟨fun c => (h c).2, sem_eq_zero_of_no_sems (by decide) r.2⟩) (Cert.MlaRefIdeal.Value.run (F := Ideal) m g)

/-- The kernel and its idealization differ in the constant named `mask` alone. -/
theorem preserves : Cert.preserves_Mla_MlaIdeal := by
  exact IdealRules.named_const.statement Cert.MlaIdeal.κ "mask" .f32 0xF149F2CA#32 ⊥ rfl

end Attn.Mla

end
-- ==== Proof.Math.Norm.lean ====
module

public import Idealize.ShloMosaic.PureOps.Ideal
public import Idealize.ShloMosaic.Lib.Pointwise

@[expose] public section

noncomputable section

open Idealize.ShloMosaic

namespace Attn

/-- Entry `j` of the root-mean-square normalisation of a row `x` of 1024 entries, with gains `g`:
    `x j / sqrt (mean of the squares + ε) · g j`. -/
def normed (x g : Fin 1024 → EReal) (j : Fin 1024) : EReal :=
  x j * Ideal.rsqrt (Ideal.div (∑ k, x k * x k) (Ideal.ofBits .f32 0x44800000#32) + Ideal.ofBits .f32 0x358637BD#32) * g j

/-- The integer zero that fills a padding, as a number. -/
theorem fill_zero : (FloatOps.sitofp .f32 (0#32 : BitVec 32) : Ideal .f32) = (0 : EReal) := by
  simp [FloatOps.sitofp]

end Attn

end
-- ==== Proof.Math.Mlp.lean ====
module

public import proofs.«01_k».proof.Proof.Math.Norm

@[expose] public section

noncomputable section

open Idealize.ShloMosaic

namespace Attn

/-- What hidden unit `p` adds to coordinate `j` of a normalised row `h`'s result: its product with column `p` of the
    first weights, cut off at zero and squared, times entry `j` of row `p` of the second. -/
def unit (h : Fin 1024 → EReal) (wu : Fin 1024 → Fin 4096 → EReal) (wd : Fin 4096 → Fin 1024 → EReal) (j : Fin 1024) (p : Fin 4096) : EReal :=
  max (∑ k, h k * wu k p) 0 * max (∑ k, h k * wu k p) 0 * wd p j

/-- The same at any number, zero past the last hidden unit. -/
def unitAt (h : Fin 1024 → EReal) (wu : Fin 1024 → Fin 4096 → EReal) (wd : Fin 4096 → Fin 1024 → EReal) (j : Fin 1024) (p : ℕ) : EReal :=
  if hp : p < 4096 then unit h wu wd j ⟨p, hp⟩ else 0

/-- The first `n` hidden units' share of a result, on top of the row itself. -/
def upTo (x g : Fin 1024 → EReal) (wu : Fin 1024 → Fin 4096 → EReal) (wd : Fin 4096 → Fin 1024 → EReal) (j : Fin 1024) (n : ℕ) : EReal :=
  x j + ∑ p ∈ Finset.range n, unitAt (normed x g) wu wd j p

/-- A row of the layer after its feed-forward part. -/
def fedRow (x g : Fin 1024 → EReal) (wu : Fin 1024 → Fin 4096 → EReal) (wd : Fin 4096 → Fin 1024 → EReal) (j : Fin 1024) : EReal :=
  x j + ∑ p, unit (normed x g) wu wd j p

theorem upTo_zero (x g : Fin 1024 → EReal) (wu : Fin 1024 → Fin 4096 → EReal) (wd : Fin 4096 → Fin 1024 → EReal) (j : Fin 1024) :
    upTo x g wu wd j 0 = x j := by
  simp [upTo]

/-- The next 512 hidden units added. -/
theorem upTo_add (x g : Fin 1024 → EReal) (wu : Fin 1024 → Fin 4096 → EReal) (wd : Fin 4096 → Fin 1024 → EReal) (j : Fin 1024) (n : ℕ) (hn : n + 512 ≤ 4096) :
    upTo x g wu wd j (n + 512) = upTo x g wu wd j n + ∑ s : Fin 512, unit (normed x g) wu wd j ⟨n + s.val, by omega⟩ := by
  unfold upTo
  rw [Finset.sum_range_add, ← add_assoc]
  congr 1
  rw [Finset.sum_range]
  refine Finset.sum_congr rfl fun s _ => ?_
  exact dif_pos (by omega)

/-- All of them. -/
theorem upTo_all (x g : Fin 1024 → EReal) (wu : Fin 1024 → Fin 4096 → EReal) (wd : Fin 4096 → Fin 1024 → EReal) (j : Fin 1024) :
    upTo x g wu wd j 4096 = fedRow x g wu wd j := by
  unfold upTo fedRow
  rw [Finset.sum_range]
  exact congrArg (x j + ·) (Finset.sum_congr rfl fun p _ => dif_pos p.isLt)

end Attn

end
-- ==== Proof.Mlp.Block.lean ====
module

public import proofs.«01_k».proof.Proof.Gen.MlpIdeal.Value
public import proofs.«01_k».proof.Proof.Math.Mlp
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlpIdeal.Rows

open Cert.MlpIdeal Cert.MlpIdeal.Gen Attn

/-- The normalised rows that the first step of a sweep stores. -/
theorem pay1_at (x : FVec Ideal S1024x1024 .f32) (g : FVec Ideal S1x1024 .f32) (r j : Fin 1024) :
    k0_pay1 (F := Ideal) x g (ix2 r j) = normed (fun k => x (ix2 r k)) (fun k => g (ix2 0 k)) j := by
  pointwise [k0_pay1]
  rfl

/-- What the sum starts from: the rows themselves. -/
theorem pay2_at (x : FVec Ideal S1024x1024 .f32) (r j : Fin 1024) : k0_pay2 (F := Ideal) x (ix2 r j) = x (ix2 r j) := by
  pointwise [k0_pay2]

/-- One step: 512 hidden units added to the sum. -/
theorem pay3_at (h : FVec Ideal S1024x1024 .bf16) (wu : FVec Ideal S1024x512 .bf16) (acc : FVec Ideal S1024x1024 .f32) (wd : FVec Ideal S512x1024 .bf16) (r j : Fin 1024) :
    k0_pay3 (F := Ideal) h wu acc wd (ix2 r j) =
      acc (ix2 r j) + ∑ s : Fin 512, max (∑ k, h (ix2 r k) * wu (ix2 k s)) 0 * max (∑ k, h (ix2 r k) * wu (ix2 k s)) 0 * wd (ix2 s j) := by
  pointwise [k0_pay3]

variable (m : (ℓ : Loc nD τ sig) → Buf (Elt Ideal) ℓ)

/-- The blocks' positions: grid point `t` is step `t % 8` of the sweep of row block `t / 8`. -/
theorem idx : ∀ t : Fin cfg0.N, win0_0.index t = ![t.val / 8, 0] ∧ win0_1.index t = ![0, 0] ∧ win0_2.index t = ![0, t.val % 8]
    ∧ win0_3.index t = ![t.val % 8, 0] ∧ win0_4.index t = ![t.val / 8, 0] :=
  (by decide +kernel : ∀ t : Fin grid0.N, _)

/-- The gains, laid out by the host as one row. -/
theorem gain_at (c : Dev nD) (k : Fin 1024) : V m c main_v2 (ix2 0 k) = m ((c.tc : Thread nD τ).loc main_arg1) (ix1 k) := by
  entry_read
  pointwise

/-- The first weights after the host's cast. -/
theorem up_at (c : Dev nD) (k : Fin 1024) (p : Fin 4096) : V m c main_v0 (ix2 k p) = m ((c.tc : Thread nD τ).loc main_arg2) (ix2 k p) := by
  entry_read
  pointwise

/-- The second weights after the host's cast. -/
theorem down_at (c : Dev nD) (p : Fin 4096) (j : Fin 1024) : V m c main_v1 (ix2 p j) = m ((c.tc : Thread nD τ).loc main_arg3) (ix2 p j) := by
  entry_read
  pointwise

theorem lt_N (t : Fin cfg0.N) : t.val < 256 := lt_of_lt_of_eq t.isLt (show cfg0.N = 256 from N_0)

/-- The row of the arrays that row `r` of grid point `t`'s blocks is. -/
abbrev rowOf (t : Fin cfg0.N) (r : Fin 1024) : Fin 32768 := ⟨1024 * (t.val / 8) + r.val, by have := lt_N t; omega⟩

/-- The hidden unit that column `s` of grid point `t`'s weights is. -/
abbrev hidOf (t : Fin cfg0.N) (s : Fin 512) : Fin 4096 := ⟨512 * (t.val % 8) + s.val, by omega⟩

theorem blk0_at (c : Dev nD) (t : Fin cfg0.N) (r k : Fin 1024) :
    iblk m c 0 t (ix2 r k) = m ((c.tc : Thread nD τ).loc main_arg0) (ix2 (rowOf t r) k) := by
  blk_ext [iblk, V, idx t]

theorem blk1_at (c : Dev nD) (t : Fin cfg0.N) (k : Fin 1024) :
    iblk m c 1 t (ix2 0 k) = m ((c.tc : Thread nD τ).loc main_arg1) (ix1 k) := by
  rw [← gain_at m c]
  blk_ext [iblk, idx t]

theorem blk2_at (c : Dev nD) (t : Fin cfg0.N) (k : Fin 1024) (s : Fin 512) :
    iblk m c 2 t (ix2 k s) = m ((c.tc : Thread nD τ).loc main_arg2) (ix2 k (hidOf t s)) := by
  rw [← up_at m c]
  blk_ext [iblk, idx t]

theorem blk3_at (c : Dev nD) (t : Fin cfg0.N) (s : Fin 512) (j : Fin 1024) :
    iblk m c 3 t (ix2 s j) = m ((c.tc : Thread nD τ).loc main_arg3) (ix2 (hidOf t s) j) := by
  rw [← down_at m c]
  blk_ext [iblk, idx t]

/-- The arguments by row and column. -/
abbrev xRow (c : Dev nD) (r : Fin 32768) : Fin 1024 → EReal := fun k => m ((c.tc : Thread nD τ).loc main_arg0) (ix2 r k)
abbrev gain (c : Dev nD) : Fin 1024 → EReal := fun k => m ((c.tc : Thread nD τ).loc main_arg1) (ix1 k)
abbrev up (c : Dev nD) : Fin 1024 → Fin 4096 → EReal := fun k p => m ((c.tc : Thread nD τ).loc main_arg2) (ix2 k p)
abbrev down (c : Dev nD) : Fin 4096 → Fin 1024 → EReal := fun p j => m ((c.tc : Thread nD τ).loc main_arg3) (ix2 p j)

/-- One step at a grid point, from normalised rows and a sum that has reached this step's hidden units. -/
theorem step_at (c : Dev nD) (t : Fin cfg0.N) (h : FVec Ideal S1024x1024 .bf16) (acc : FVec Ideal S1024x1024 .f32)
    (hh : ∀ r j : Fin 1024, h (ix2 r j) = normed (xRow m c (rowOf t r)) (gain m c) j)
    (ha : ∀ r j : Fin 1024, acc (ix2 r j) = upTo (xRow m c (rowOf t r)) (gain m c) (up m c) (down m c) j (512 * (t.val % 8))) (r j : Fin 1024) :
    k0_pay3 (F := Ideal) h (iblk m c 2 t) acc (iblk m c 3 t) (ix2 r j) =
      upTo (xRow m c (rowOf t r)) (gain m c) (up m c) (down m c) j (512 * (t.val % 8) + 512) := by
  rw [pay3_at, upTo_add _ _ _ _ _ _ (by omega), ha]
  simp only [hh, blk2_at, blk3_at]
  rfl

theorem norm_blk_at (c : Dev nD) (t : Fin cfg0.N) (r j : Fin 1024) :
    k0_pay1 (F := Ideal) (iblk m c 0 t) (iblk m c 1 t) (ix2 r j) = normed (xRow m c (rowOf t r)) (gain m c) j := by
  rw [pay1_at]
  simp only [blk0_at, blk1_at]

/-- What the two scratches hold after a grid point: the normalised rows, and the sum over the hidden units so far. -/
def Holds (c : Dev nD) (t : Fin cfg0.N) (h : FVec Ideal S1024x1024 .bf16) (acc : FVec Ideal S1024x1024 .f32) : Prop :=
  ∀ r j : Fin 1024, h (ix2 r j) = normed (xRow m c (rowOf t r)) (gain m c) j
    ∧ acc (ix2 r j) = upTo (xRow m c (rowOf t r)) (gain m c) (up m c) (down m c) j (512 * (t.val % 8) + 512)

/-- The first step of a sweep. -/
theorem holds_first (c : Dev nD) (t : Fin cfg0.N) (h0 : t.val % 8 = 0) :
    Holds m c t (outsAt0 m c t.val t.isLt).2.1 (outsAt0 m c t.val t.isLt).2.2 := by
  rw [outsAt0_A m c t h0 (by omega)]
  intro r j
  dsimp only
  constructor
  · unfold sout0_A_0
    frame_out
    exact norm_blk_at m c t r j
  · unfold sout0_A_1
    frame_out
    refine step_at m c t _ _ (norm_blk_at m c t) (fun r j => ?_) r j
    rw [pay2_at, blk0_at, h0, Nat.mul_zero, upTo_zero]

/-- A later step, from what the step before it left. -/
theorem holds_later (c : Dev nD) (t : Fin cfg0.N) (h0 : ¬t.val % 8 = 0)
    (ih : Holds m c ⟨t.val - 1, Nat.lt_of_le_of_lt (Nat.sub_le _ _) t.isLt⟩ (outsAt0 m c (t.val - 1) (Nat.lt_of_le_of_lt (Nat.sub_le _ _) t.isLt)).2.1
      (outsAt0 m c (t.val - 1) (Nat.lt_of_le_of_lt (Nat.sub_le _ _) t.isLt)).2.2) :
    Holds m c t (outsAt0 m c t.val t.isLt).2.1 (outsAt0 m c t.val t.isLt).2.2 := by
  have hr : ∀ r : Fin 1024, rowOf ⟨t.val - 1, Nat.lt_of_le_of_lt (Nat.sub_le _ _) t.isLt⟩ r = rowOf t r := fun r => Fin.ext (by
    show 1024 * ((t.val - 1) / 8) + r.val = 1024 * (t.val / 8) + r.val
    omega)
  have hn : 512 * ((t.val - 1) % 8) + 512 = 512 * (t.val % 8) := by omega
  have ih1 := fun r j => (ih r j).1
  have ih2 := fun r j => (ih r j).2
  simp only [hr, hn] at ih1 ih2
  intro r j
  by_cases h1 : t.val % 8 = 7
  · rw [outsAt0_C m c t h0 h1]
    dsimp only
    constructor
    · exact ih1 r j
    · unfold sout0_C_1
      frame_out
      refine (congrArg₂ (fun h a => k0_pay3 (F := Ideal) h (iblk m c 2 t) a (iblk m c 3 t) (ix2 r j))
        ((Memref.isWhole_whole cc0_scratch0).read_unread _) ((Memref.isWhole_whole cc0_scratch1).read_unread _)).trans ?_
      exact step_at m c t _ _ ih1 ih2 r j
  · rw [outsAt0_B m c t h0 h1]
    dsimp only
    constructor
    · exact ih1 r j
    · unfold sout0_B_1
      frame_out
      refine (congrArg₂ (fun h a => k0_pay3 (F := Ideal) h (iblk m c 2 t) a (iblk m c 3 t) (ix2 r j))
        ((Memref.isWhole_whole cc0_scratch0).read_unread _) ((Memref.isWhole_whole cc0_scratch1).read_unread _)).trans ?_
      exact step_at m c t _ _ ih1 ih2 r j

end Cert.MlpIdeal.Rows

end
-- ==== Proof.Mlp.Array.lean ====
module

public import proofs.«01_k».proof.Proof.Mlp.Block

@[expose] public section

set_option maxRecDepth 16384

noncomputable section

open Idealize.ShloMosaic Idealize.ShloMosaic.TcCoe Idealize.SL.Sem

namespace Cert.MlpIdeal.Rows

open Cert.MlpIdeal Cert.MlpIdeal.Gen Attn

variable (m : (ℓ : Loc nD τ sig) → Buf (Elt Ideal) ℓ)

/-- After every grid point the scratches hold the normalised rows and the sum so far. -/
theorem holds (c : Dev nD) : ∀ (n : ℕ) (hn : n < cfg0.N), Holds m c ⟨n, hn⟩ (outsAt0 m c n hn).2.1 (outsAt0 m c n hn).2.2
  | 0, hn => holds_first m c ⟨0, hn⟩ rfl
  | n + 1, hn => by
    by_cases h0 : (n + 1) % 8 = 0
    · exact holds_first m c ⟨n + 1, hn⟩ h0
    · exact holds_later m c ⟨n + 1, hn⟩ h0 (holds c n (Nat.lt_of_succ_lt hn))

/-- The last step of a sweep writes the whole sum. -/
theorem out_at (c : Dev nD) (t : Fin cfg0.N) (h1 : t.val % 8 = 7) (r j : Fin 1024) :
    (outsAt0 m c t.val t.isLt).1 (ix2 r j) = fedRow (xRow m c (rowOf t r)) (gain m c) (up m c) (down m c) j := by
  have e : (outsAt0 m c t.val t.isLt).1 = (outsAt0 m c t.val t.isLt).2.2 := by
    rw [outsAt0_C m c t (by omega) h1]
    dsimp only
    unfold out0_C_4 sout0_C_1
    frame_out
  rw [e, (holds m c t.val t.isLt r j).2]
  show upTo _ _ _ _ _ (512 * (t.val % 8) + 512) = _
  rw [h1]
  exact upTo_all _ _ _ _ _

/-- An entry of the result, in the arguments' terms. -/
def entry (a0 : FVec Ideal S32768x1024 .f32) (a1 : FVec Ideal S1024 .f32) (a2 : FVec Ideal S1024x4096 .f32) (a3 : FVec Ideal S4096x1024 .f32)
    (r : Fin 32768) (j : Fin 1024) : EReal :=
  fedRow (fun k => a0 (ix2 r k)) (fun k => a1 (ix1 k)) (fun k p => a2 (ix2 k p)) (fun p j => a3 (ix2 p j)) j

/-- THE RESULT ARRAY, entry by entry. -/
theorem final (c : Dev nD) : (dats m 0 c).arrAt 4 cfg0.N = fun y : S32768x1024.Idx =>
    entry (m ((c.tc : Thread nD τ).loc main_arg0)) (m ((c.tc : Thread nD τ).loc main_arg1)) (m ((c.tc : Thread nD τ).loc main_arg2))
      (m ((c.tc : Thread nD τ).loc main_arg3)) (y 0) (y 1) := by
  refine (dats m 0 c).arrAt_eq_of_covers 4 _ (by decide +kernel) fun t hf y => ?_
  have i4 := (idx t).2.2.2.2
  have h1 : t.val % 8 = 7 := (flush0_4 t).mp hf
  blk_simp
  rw [after0_4]
  have z0 : (win0_4.blk t).view.emb y 0 = rowOf t (y 0) := Fin.ext (by
    blk_simp [i4]
    show _ = 1024 * (t.val / 8) + (y 0).val
    omega)
  have z1 : (win0_4.blk t).view.emb y 1 = (y 1 : Fin 1024) := Fin.ext (by
    blk_simp [i4])
  rw [z0, z1]
  exact (congrArg (outsAt0 m c t.val t.isLt).1 (Idealize.ShloMosaic.eq_ix2 (y : S1024x1024.Idx))).trans (out_at m c t h1 (y 0) (y 1))

end Cert.MlpIdeal.Rows

end
-- ==== Proof.Final.Ref.lean ====
module

public import proofs.«01_k».proof.Proof.Gen.FinalRefIdeal.Run
public import proofs.«01_k».proof.Proof.Math.Norm
public import Idealize.ShloMosaic.Lib.Pointwise

@[expose] public section

set_option maxRecDepth 16384

noncomputable section

open Idealize.ShloMosaic Idealize.ShloMosaic.TcCoe Idealize.SL.Sem

namespace Cert.FinalRefIdeal.Value

open Cert.FinalRefIdeal Cert.FinalRefIdeal.Gen Attn

/-- The reference's lines for the normalisation of 32768 rows. -/
abbrev normT (x0 : FVec Ideal S32768x1024 .f32) (x1 : FVec Ideal S1024 .f32) : FVec Ideal S32768x1024 .f32 :=
  mulf (mulf x0 (broadcastInDim S32768x1024 ![0, 1] bcast_S32768x1_S32768x1024_0_1 (Host.rsqrt (addf (Host.divf (broadcastInDim S32768x1 ![0] bcast_S32768_S32768x1_0 (Host.reduceAdd (mulf x0 x0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 x1))

/-- Read at an entry. -/
theorem norm_at (x0 : FVec Ideal S32768x1024 .f32) (x1 : FVec Ideal S1024 .f32) (r : Fin 32768) (j : Fin 1024) :
    normT x0 x1 (ix2 r j) = normed (fun k => x0 (ix2 r k)) (fun k => x1 (ix1 k)) j := by
  pointwise [normT]
  rfl

end Cert.FinalRefIdeal.Value

end
-- ==== Proof.Mlp.Ref.lean ====
module

public import proofs.«01_k».proof.Proof.Gen.MlpRefIdeal.Run
public import proofs.«01_k».proof.Proof.Final.Ref
public import proofs.«01_k».proof.Proof.Math.Mlp
public import Idealize.ShloMosaic.Lib.Pointwise

@[expose] public section

set_option maxRecDepth 16384

noncomputable section

open Idealize.ShloMosaic Idealize.ShloMosaic.TcCoe Idealize.SL.Sem

namespace Cert.MlpRefIdeal.Value

open Cert.MlpRefIdeal Cert.MlpRefIdeal.Gen Attn

/-- The reference's lines after the normalisation, from the rows and the normalised rows. -/
abbrev feedT (a0 h : FVec Ideal S32768x1024 .f32) (a2 : FVec Ideal S1024x4096 .f32) (a3 : FVec Ideal S4096x1024 .f32) :
    FVec Ideal S32768x1024 .f32 :=
  addf a0 (Host.dotGeneral dot_S32768x4096_S4096x1024_S32768x1024_1_0_0_1_n_n none
    (mulf (maximumf (Host.dotGeneral dot_S32768x1024_S1024x4096_S32768x4096_1_0_0_1_n_n none h a2) (broadcastInDim S32768x4096 ![] bcast_S_S32768x4096 (constant S_ .f32 0x00000000#32)))
      (maximumf (Host.dotGeneral dot_S32768x1024_S1024x4096_S32768x4096_1_0_0_1_n_n none h a2) (broadcastInDim S32768x4096 ![] bcast_S_S32768x4096 (constant S_ .f32 0x00000000#32)))) a3)

/-- Read at an entry. -/
theorem feed_at (a0 h : FVec Ideal S32768x1024 .f32) (a2 : FVec Ideal S1024x4096 .f32) (a3 : FVec Ideal S4096x1024 .f32) (r : Fin 32768) (j : Fin 1024) :
    feedT a0 h a2 a3 (ix2 r j) = a0 (ix2 r j) + ∑ p, unit (fun k => h (ix2 r k)) (fun k p => a2 (ix2 k p)) (fun p j => a3 (ix2 p j)) j p := by
  pointwise [feedT]
  rfl

/-- The reference's result at an entry. -/
theorem fed_at (a0 : FVec Ideal S32768x1024 .f32) (a1 : FVec Ideal S1024 .f32) (a2 : FVec Ideal S1024x4096 .f32) (a3 : FVec Ideal S4096x1024 .f32)
    (r : Fin 32768) (j : Fin 1024) :
    feedT a0 (Cert.FinalRefIdeal.Value.normT a0 a1) a2 a3 (ix2 r j) =
      fedRow (fun k => a0 (ix2 r k)) (fun k => a1 (ix1 k)) (fun k p => a2 (ix2 k p)) (fun p j => a3 (ix2 p j)) j := by
  rw [feed_at]
  unfold fedRow
  have e : (fun k => Cert.FinalRefIdeal.Value.normT a0 a1 (ix2 r k)) = normed (fun k => a0 (ix2 r k)) (fun k => a1 (ix1 k)) :=
    funext fun k => Cert.FinalRefIdeal.Value.norm_at a0 a1 r k
  rw [e]

end Cert.MlpRefIdeal.Value

end
-- ==== Proof.Mlp.Claims.lean ====
module

public import proofs.«01_k».proof.Defs
public import proofs.«01_k».proof.Proof.Mlp.Array
public import proofs.«01_k».proof.Proof.Mlp.Ref
public import proofs.«01_k».proof.Proof.Gen.Mlp.Frame
public import proofs.«01_k».proof.Proof.Gen.MlpIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.Mlp

open Cert

/-- The reference's whole result, as the function of its index that `entry` gives. -/
theorem ref_array (a0 : FVec Ideal MlpIdeal.S32768x1024 .f32) (a1 : FVec Ideal MlpIdeal.S1024 .f32) (a2 : FVec Ideal MlpIdeal.S1024x4096 .f32)
    (a3 : FVec Ideal MlpIdeal.S4096x1024 .f32) :
    MlpRefIdeal.Value.feedT a0 (FinalRefIdeal.Value.normT a0 a1) a2 a3 = fun y : MlpIdeal.S32768x1024.Idx =>
      MlpIdeal.Rows.entry a0 a1 a2 a3 (y 0) (y 1) :=
  funext fun y : MlpIdeal.S32768x1024.Idx =>
    (congrArg (MlpRefIdeal.Value.feedT a0 (FinalRefIdeal.Value.normT a0 a1) a2 a3) (Idealize.ShloMosaic.eq_ix2 y)).trans
      (MlpRefIdeal.Value.fed_at a0 a1 a2 a3 (y 0) (y 1))

/-- The kernel and the reference leave the same array. -/
theorem algebraic : Cert.algebraic_MlpIdeal_MlpRefIdeal := by
  pair_intro
  · run_from Cert.MlpIdeal.Gen.run_main m g
  · run_from Cert.MlpRefIdeal.Value.run m' g'
    exact (ref_array _ _ _ _).trans (Cert.MlpIdeal.Rows.final m c).symm

/-- The reference terminates without a fault and leaves its arguments and the semaphores alone. -/
theorem frame_ref : Cert.quiescent_MlpRefIdeal := by
  intro m g _
  refine (θ_run Cert.MlpRefIdeal.defs _ _).mono
    (fun r h => ⟨fun c => (h c).2, sem_eq_zero_of_no_sems (by decide) r.2⟩) (Cert.MlpRefIdeal.Value.run (F := Ideal) m g)

/-- The kernel terminates without a fault and leaves its arguments and the semaphores alone. -/
theorem frame : Cert.quiescent_Mlp := fun m ρ _ => Cert.Mlp.Gen.frame m ρ

/-- So does the kernel read over the extended reals. -/
theorem frame_ideal : Cert.quiescent_MlpIdeal := fun m ρ _ => Cert.MlpIdeal.Gen.frame m ρ

end Attn.Mlp

end
-- ==== Proof.Math.Merge.lean ====
module

public import Idealize.ShloMosaic.PureOps.Ideal
public import Idealize.ShloMosaic.Lib.ValueIdx

@[expose] public section

noncomputable section

open Idealize.ShloMosaic

namespace Attn

/-- The four branch results of one row, each through its own weights and gated, added up: coordinate `k` of their sum.
    The gates of branch `b` are the row `gate`'s columns `1024 b` on. -/
def gated (o0 o1 o2 o3 : Fin 256 → EReal) (gate : Fin 4096 → EReal) (wb : Fin 4 → Fin 256 → Fin 1024 → EReal) (k : Fin 1024) : EReal :=
  Ideal.logistic (gate ⟨k.val, by omega⟩) * (∑ d, o0 d * wb 0 d k) + Ideal.logistic (gate ⟨1024 + k.val, by omega⟩) * (∑ d, o1 d * wb 1 d k)
    + Ideal.logistic (gate ⟨2048 + k.val, by omega⟩) * (∑ d, o2 d * wb 2 d k) + Ideal.logistic (gate ⟨3072 + k.val, by omega⟩) * (∑ d, o3 d * wb 3 d k)

/-- One row of the layer after its attention part: the row itself and the gated branches through the output weights. -/
def mergedRow (x : Fin 1024 → EReal) (o0 o1 o2 o3 : Fin 256 → EReal) (gate : Fin 4096 → EReal) (wb : Fin 4 → Fin 256 → Fin 1024 → EReal)
    (wo : Fin 1024 → Fin 1024 → EReal) (j : Fin 1024) : EReal :=
  x j + ∑ k, gated o0 o1 o2 o3 gate wb k * wo k j

end Attn

end
-- ==== Proof.Merge.Block.lean ====
module

public import proofs.«01_k».proof.Proof.Gen.MergeIdeal.Value
public import proofs.«01_k».proof.Proof.Math.Merge
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MergeIdeal.Rows

open Cert.MergeIdeal Cert.MergeIdeal.Gen Attn

/-- The block written at a grid point, row by row. -/
theorem out_at (x0 : FVec Ideal S256x1024 .f32) (x1 x2 x3 x4 : FVec Ideal S256x256 .f32) (x5 : FVec Ideal S256x4096 .f32) (x6 : FVec Ideal S4x256x1024 .bf16) (x7 : FVec Ideal S1024x1024 .bf16) (r : Fin 256) (j : Fin 1024) :
    out0_8 (F := Ideal) x0 x1 x2 x3 x4 x5 x6 x7 (ix2 r j) =
      mergedRow (fun k => x0 (ix2 r k)) (fun d => x1 (ix2 r d)) (fun d => x2 (ix2 r d)) (fun d => x3 (ix2 r d)) (fun d => x4 (ix2 r d))
        (fun k => x5 (ix2 r k)) (fun b d k => x6 (ix3 b d k)) (fun k j => x7 (ix2 k j)) j := by
  unfold out0_8
  frame_out
  pointwise [k0_pay1, k0_pay2, k0_pay3]
  rfl

variable (m : (ℓ : Loc nD τ sig) → Buf (Elt Ideal) ℓ)

/-- The blocks' positions: grid point `t` takes and writes rows `256 t` on, and the weights whole. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0, 0] ∧ win0_7.index t = ![0, 0] ∧ win0_8.index t = ![t.val, 0] :=
  (by decide +kernel : ∀ t : Fin grid0.N, _)

/-- The branches' weights after the host's cast. -/
theorem wb_at (c : Dev nD) (b : Fin 4) (d : Fin 256) (k : Fin 1024) :
    V m c main_v0 (ix3 b d k) = m ((c.tc : Thread nD τ).loc main_arg6) (ix3 b d k) := by
  entry_read
  pointwise

/-- The output weights after the host's cast. -/
theorem wo_at (c : Dev nD) (k j : Fin 1024) : V m c main_v1 (ix2 k j) = m ((c.tc : Thread nD τ).loc main_arg7) (ix2 k j) := by
  entry_read
  pointwise

/-- The row of the arrays that row `r` of grid point `t`'s blocks is. -/
abbrev rowOf (t : Fin cfg0.N) (r : Fin 256) : Fin 32768 :=
  ⟨256 * t.val + r.val, by have := lt_of_lt_of_eq t.isLt (show cfg0.N = 128 from N_0); omega⟩

theorem blk0_at (c : Dev nD) (t : Fin cfg0.N) (r : Fin 256) (k : Fin 1024) :
    iblk m c 0 t (ix2 r k) = m ((c.tc : Thread nD τ).loc main_arg0) (ix2 (rowOf t r) k) := by
  blk_ext [iblk, V, idx t]

theorem blk1_at (c : Dev nD) (t : Fin cfg0.N) (r d : Fin 256) :
    iblk m c 1 t (ix2 r d) = m ((c.tc : Thread nD τ).loc main_arg1) (ix2 (rowOf t r) d) := by
  blk_ext [iblk, V, idx t]

theorem blk2_at (c : Dev nD) (t : Fin cfg0.N) (r d : Fin 256) :
    iblk m c 2 t (ix2 r d) = m ((c.tc : Thread nD τ).loc main_arg2) (ix2 (rowOf t r) d) := by
  blk_ext [iblk, V, idx t]

theorem blk3_at (c : Dev nD) (t : Fin cfg0.N) (r d : Fin 256) :
    iblk m c 3 t (ix2 r d) = m ((c.tc : Thread nD τ).loc main_arg3) (ix2 (rowOf t r) d) := by
  blk_ext [iblk, V, idx t]

theorem blk4_at (c : Dev nD) (t : Fin cfg0.N) (r d : Fin 256) :
    iblk m c 4 t (ix2 r d) = m ((c.tc : Thread nD τ).loc main_arg4) (ix2 (rowOf t r) d) := by
  blk_ext [iblk, V, idx t]

theorem blk5_at (c : Dev nD) (t : Fin cfg0.N) (r : Fin 256) (k : Fin 4096) :
    iblk m c 5 t (ix2 r k) = m ((c.tc : Thread nD τ).loc main_arg5) (ix2 (rowOf t r) k) := by
  blk_ext [iblk, V, idx t]

theorem blk6_at (c : Dev nD) (t : Fin cfg0.N) (b : Fin 4) (d : Fin 256) (k : Fin 1024) :
    iblk m c 6 t (ix3 b d k) = m ((c.tc : Thread nD τ).loc main_arg6) (ix3 b d k) := by
  rw [← wb_at m c]
  blk_ext [iblk, idx t]

theorem blk7_at (c : Dev nD) (t : Fin cfg0.N) (k j : Fin 1024) :
    iblk m c 7 t (ix2 k j) = m ((c.tc : Thread nD τ).loc main_arg7) (ix2 k j) := by
  rw [← wo_at m c]
  blk_ext [iblk, idx t]

/-- An entry of the result, in the arguments' terms. -/
def entry (a0 : FVec Ideal S32768x1024 .f32) (a1 a2 a3 a4 : FVec Ideal S32768x256 .f32) (a5 : FVec Ideal S32768x4096 .f32)
    (a6 : FVec Ideal S4x256x1024 .f32) (a7 : FVec Ideal S1024x1024 .f32) (r : Fin 32768) (j : Fin 1024) : EReal :=
  mergedRow (fun k => a0 (ix2 r k)) (fun d => a1 (ix2 r d)) (fun d => a2 (ix2 r d)) (fun d => a3 (ix2 r d)) (fun d => a4 (ix2 r d))
    (fun k => a5 (ix2 r k)) (fun b d k => a6 (ix3 b d k)) (fun k j => a7 (ix2 k j)) j

/-- The block written at a grid point, in the arguments' terms. -/
theorem block_at (c : Dev nD) (t : Fin cfg0.N) (r : Fin 256) (j : Fin 1024) :
    out0_8 (F := Ideal) (iblk m c 0 t) (iblk m c 1 t) (iblk m c 2 t) (iblk m c 3 t) (iblk m c 4 t) (iblk m c 5 t) (iblk m c 6 t) (iblk m c 7 t) (ix2 r j) =
      entry (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (rowOf t r) j := by
  rw [out_at]
  simp only [blk0_at, blk1_at, blk2_at, blk3_at, blk4_at, blk5_at, blk6_at, blk7_at]
  rfl

/-- THE RESULT ARRAY, entry by entry. -/
theorem final (c : Dev nD) : (dats m 0 c).arrAt 8 cfg0.N = fun y : S32768x1024.Idx =>
    entry (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (y 0) (y 1) := by
  refine (dats m 0 c).arrAt_eq_of_covers 8 _ (by decide +kernel) fun t hf y => ?_
  have i8 := (idx t).2.2.2.2.2.2.2.2
  blk_simp
  rw [after0_8]
  have z0 : (win0_8.blk t).view.emb y 0 = rowOf t (y 0) := Fin.ext (by
    blk_simp [i8]
    show _ = 256 * t.val + (y 0).val
    omega)
  have z1 : (win0_8.blk t).view.emb y 1 = (y 1 : Fin 1024) := Fin.ext (by
    blk_simp [i8])
  rw [z0, z1]
  exact (congrArg (out0_8 (F := Ideal) (iblk m c 0 t) (iblk m c 1 t) (iblk m c 2 t) (iblk m c 3 t) (iblk m c 4 t) (iblk m c 5 t) (iblk m c 6 t) (iblk m c 7 t))
    (Idealize.ShloMosaic.eq_ix2 (y : S256x1024.Idx))).trans (block_at m c t (y 0) (y 1))

end Cert.MergeIdeal.Rows

end
-- ==== Proof.Merge.Ref.lean ====
module

public import proofs.«01_k».proof.Proof.Gen.MergeRefIdeal.Run
public import proofs.«01_k».proof.Proof.Math.Merge
public import Idealize.ShloMosaic.Lib.Pointwise

@[expose] public section

set_option maxRecDepth 16384

noncomputable section

open Idealize.ShloMosaic Idealize.ShloMosaic.TcCoe Idealize.SL.Sem

namespace Cert.MergeRefIdeal.Value

open Cert.MergeRefIdeal Cert.MergeRefIdeal.Gen Attn

/-- The reference's result, as its lines compose it from the arguments. -/
abbrev mergeT (a0 : FVec Ideal S32768x1024 .f32) (a1 a2 a3 a4 : FVec Ideal S32768x256 .f32) (a5 : FVec Ideal S32768x4096 .f32)
    (a6 : FVec Ideal S4x256x1024 .f32) (a7 : FVec Ideal S1024x1024 .f32) : FVec Ideal S32768x1024 .f32 :=
  addf a0 (Host.dotGeneral dot_S32768x1024_S1024x1024_S32768x1024_1_0_0_1_n_n none (addf (addf (addf (mulf (shapeCast _ (extractStridedSlice S32768x1x1024 ![0, 0, 0] (shapeCast _ (Host.divf (broadcastInDim S32768x4096 ![] bcast_S_S32768x4096 (constant S_ .f32 0x3F800000#32)) (addf (broadcastInDim S32768x4096 ![] bcast_S_S32768x4096 (constant S_ .f32 0x3F800000#32)) (Host.exp (Host.negf a5)))) shapeCasts_S32768x4096_S32768x4x1024) slices_S32768x4x1024_S32768x1x1024_0_0_0) shapeCasts_S32768x1x1024_S32768x1024) (Host.dotGeneral dot_S32768x256_S256x1024_S32768x1024_1_0_0_1_n_n none a1 (shapeCast _ (extractStridedSlice S1x256x1024 ![0, 0, 0] a6 slices_S4x256x1024_S1x256x1024_0_0_0) shapeCasts_S1x256x1024_S256x1024))) (mulf (shapeCast _ (extractStridedSlice S32768x1x1024 ![0, 1, 0] (shapeCast _ (Host.divf (broadcastInDim S32768x4096 ![] bcast_S_S32768x4096 (constant S_ .f32 0x3F800000#32)) (addf (broadcastInDim S32768x4096 ![] bcast_S_S32768x4096 (constant S_ .f32 0x3F800000#32)) (Host.exp (Host.negf a5)))) shapeCasts_S32768x4096_S32768x4x1024) slices_S32768x4x1024_S32768x1x1024_0_1_0) shapeCasts_S32768x1x1024_S32768x1024) (Host.dotGeneral dot_S32768x256_S256x1024_S32768x1024_1_0_0_1_n_n none a2 (shapeCast _ (extractStridedSlice S1x256x1024 ![1, 0, 0] a6 slices_S4x256x1024_S1x256x1024_1_0_0) shapeCasts_S1x256x1024_S256x1024)))) (mulf (shapeCast _ (extractStridedSlice S32768x1x1024 ![0, 2, 0] (shapeCast _ (Host.divf (broadcastInDim S32768x4096 ![] bcast_S_S32768x4096 (constant S_ .f32 0x3F800000#32)) (addf (broadcastInDim S32768x4096 ![] bcast_S_S32768x4096 (constant S_ .f32 0x3F800000#32)) (Host.exp (Host.negf a5)))) shapeCasts_S32768x4096_S32768x4x1024) slices_S32768x4x1024_S32768x1x1024_0_2_0) shapeCasts_S32768x1x1024_S32768x1024) (Host.dotGeneral dot_S32768x256_S256x1024_S32768x1024_1_0_0_1_n_n none a3 (shapeCast _ (extractStridedSlice S1x256x1024 ![2, 0, 0] a6 slices_S4x256x1024_S1x256x1024_2_0_0) shapeCasts_S1x256x1024_S256x1024)))) (mulf (shapeCast _ (extractStridedSlice S32768x1x1024 ![0, 3, 0] (shapeCast _ (Host.divf (broadcastInDim S32768x4096 ![] bcast_S_S32768x4096 (constant S_ .f32 0x3F800000#32)) (addf (broadcastInDim S32768x4096 ![] bcast_S_S32768x4096 (constant S_ .f32 0x3F800000#32)) (Host.exp (Host.negf a5)))) shapeCasts_S32768x4096_S32768x4x1024) slices_S32768x4x1024_S32768x1x1024_0_3_0) shapeCasts_S32768x1x1024_S32768x1024) (Host.dotGeneral dot_S32768x256_S256x1024_S32768x1024_1_0_0_1_n_n none a4 (shapeCast _ (extractStridedSlice S1x256x1024 ![3, 0, 0] a6 slices_S4x256x1024_S1x256x1024_3_0_0) shapeCasts_S1x256x1024_S256x1024)))) a7)

/-- Read at an entry. -/
theorem merge_at (a0 : FVec Ideal S32768x1024 .f32) (a1 a2 a3 a4 : FVec Ideal S32768x256 .f32) (a5 : FVec Ideal S32768x4096 .f32)
    (a6 : FVec Ideal S4x256x1024 .f32) (a7 : FVec Ideal S1024x1024 .f32) (r : Fin 32768) (j : Fin 1024) :
    mergeT a0 a1 a2 a3 a4 a5 a6 a7 (ix2 r j) =
      mergedRow (fun k => a0 (ix2 r k)) (fun d => a1 (ix2 r d)) (fun d => a2 (ix2 r d)) (fun d => a3 (ix2 r d)) (fun d => a4 (ix2 r d))
        (fun k => a5 (ix2 r k)) (fun b d k => a6 (ix3 b d k)) (fun k j => a7 (ix2 k j)) j := by
  pointwise [mergeT]
  rfl

end Cert.MergeRefIdeal.Value

end
-- ==== Proof.Merge.Claims.lean ====
module

public import proofs.«01_k».proof.Defs
public import proofs.«01_k».proof.Proof.Merge.Block
public import proofs.«01_k».proof.Proof.Merge.Ref
public import proofs.«01_k».proof.Proof.Gen.Merge.Frame
public import proofs.«01_k».proof.Proof.Gen.MergeIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.Merge

open Cert

/-- The reference's whole result, as the function of its index that `entry` gives. -/
theorem ref_array (a0 : FVec Ideal MergeIdeal.S32768x1024 .f32) (a1 a2 a3 a4 : FVec Ideal MergeIdeal.S32768x256 .f32)
    (a5 : FVec Ideal MergeIdeal.S32768x4096 .f32) (a6 : FVec Ideal MergeIdeal.S4x256x1024 .f32) (a7 : FVec Ideal MergeIdeal.S1024x1024 .f32) :
    MergeRefIdeal.Value.mergeT a0 a1 a2 a3 a4 a5 a6 a7 = fun y : MergeIdeal.S32768x1024.Idx =>
      MergeIdeal.Rows.entry a0 a1 a2 a3 a4 a5 a6 a7 (y 0) (y 1) :=
  funext fun y : MergeIdeal.S32768x1024.Idx =>
    (congrArg (MergeRefIdeal.Value.mergeT a0 a1 a2 a3 a4 a5 a6 a7) (Idealize.ShloMosaic.eq_ix2 y)).trans
      (MergeRefIdeal.Value.merge_at a0 a1 a2 a3 a4 a5 a6 a7 (y 0) (y 1))

/-- The kernel and the reference leave the same array. -/
theorem algebraic : Cert.algebraic_MergeIdeal_MergeRefIdeal := by
  pair_intro
  · run_from Cert.MergeIdeal.Gen.run_main m g
  · run_from Cert.MergeRefIdeal.Value.run m' g'
    exact (ref_array _ _ _ _ _ _ _ _).trans (Cert.MergeIdeal.Rows.final m c).symm

/-- The reference terminates without a fault and leaves its arguments and the semaphores alone. -/
theorem frame_ref : Cert.quiescent_MergeRefIdeal := by
  intro m g _
  refine (θ_run Cert.MergeRefIdeal.defs _ _).mono
    (fun r h => ⟨fun c => (h c).2, sem_eq_zero_of_no_sems (by decide) r.2⟩) (Cert.MergeRefIdeal.Value.run (F := Ideal) m g)

/-- The kernel terminates without a fault and leaves its arguments and the semaphores alone. -/
theorem frame : Cert.quiescent_Merge := fun m ρ _ => Cert.Merge.Gen.frame m ρ

/-- So does the kernel read over the extended reals. -/
theorem frame_ideal : Cert.quiescent_MergeIdeal := fun m ρ _ => Cert.MergeIdeal.Gen.frame m ρ

end Attn.Merge

end
-- ==== Proof.Final.Block.lean ====
module

public import proofs.«01_k».proof.Proof.Gen.FinalIdeal.Value
public import proofs.«01_k».proof.Proof.Math.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FinalIdeal.Rows

open Cert.FinalIdeal Cert.FinalIdeal.Gen Attn

/-- The block written at a grid point: every row normalised. -/
theorem out_at (x0 : FVec Ideal S1024x1024 .f32) (x1 : FVec Ideal S1x1024 .f32) (r j : Fin 1024) :
    out0_2 (F := Ideal) x0 x1 (ix2 r j) = normed (fun k => x0 (ix2 r k)) (fun k => x1 (ix2 0 k)) j := by
  unfold out0_2
  frame_out
  pointwise [k0_pay1]
  rfl

variable (m : (ℓ : Loc nD τ sig) → Buf (Elt Ideal) ℓ)

/-- The blocks' positions: grid point `t` takes and writes rows `1024 t` on, and the gains whole. -/
theorem idx : ∀ t : Fin cfg0.N, win0_0.index t = ![t.val, 0] ∧ win0_1.index t = ![0, 0] ∧ win0_2.index t = ![t.val, 0] :=
  (by decide +kernel : ∀ t : Fin grid0.N, _)

/-- The gains, laid out by the host as one row. -/
theorem gain_at (c : Dev nD) (k : Fin 1024) : V m c main_v0 (ix2 0 k) = m ((c.tc : Thread nD τ).loc main_arg1) (ix1 k) := by
  entry_read
  pointwise

/-- The row of the array that row `r` of grid point `t`'s block is. -/
abbrev rowOf (t : Fin cfg0.N) (r : Fin 1024) : Fin 32768 :=
  ⟨1024 * t.val + r.val, by have := lt_of_lt_of_eq t.isLt (show cfg0.N = 32 from N_0); omega⟩

theorem blk0_at (c : Dev nD) (t : Fin cfg0.N) (r k : Fin 1024) :
    iblk m c 0 t (ix2 r k) = m ((c.tc : Thread nD τ).loc main_arg0) (ix2 (rowOf t r) k) := by
  blk_ext [iblk, V, idx t]

theorem blk1_at (c : Dev nD) (t : Fin cfg0.N) (k : Fin 1024) :
    iblk m c 1 t (ix2 0 k) = m ((c.tc : Thread nD τ).loc main_arg1) (ix1 k) := by
  rw [← gain_at m c]
  blk_ext [iblk, idx t]

/-- The block written at a grid point, in the arrays' terms. -/
theorem block_at (c : Dev nD) (t : Fin cfg0.N) (r j : Fin 1024) : out0_2 (F := Ideal) (iblk m c 0 t) (iblk m c 1 t) (ix2 r j) =
    normed (fun k => m ((c.tc : Thread nD τ).loc main_arg0) (ix2 (rowOf t r) k)) (fun k => m ((c.tc : Thread nD τ).loc main_arg1) (ix1 k)) j := by
  rw [out_at]
  simp only [blk0_at, blk1_at]

/-- THE RESULT ARRAY, entry by entry: every row normalised. -/
theorem final (c : Dev nD) : (dats m 0 c).arrAt 2 cfg0.N = fun y : S32768x1024.Idx =>
    normed (fun k => m ((c.tc : Thread nD τ).loc main_arg0) (ix2 (y 0) k)) (fun k => m ((c.tc : Thread nD τ).loc main_arg1) (ix1 k)) (y 1) := by
  refine (dats m 0 c).arrAt_eq_of_covers 2 _ (by decide +kernel) fun t hf y => ?_
  have i2 := (idx t).2.2
  blk_simp
  rw [after0_2]
  have z0 : (win0_2.blk t).view.emb y 0 = rowOf t (y 0) := Fin.ext (by
    blk_simp [i2]
    show _ = 1024 * t.val + (y 0).val
    omega)
  have z1 : (win0_2.blk t).view.emb y 1 = (y 1 : Fin 1024) := Fin.ext (by
    blk_simp [i2])
  rw [z0, z1]
  exact (congrArg (out0_2 (F := Ideal) (iblk m c 0 t) (iblk m c 1 t)) (Idealize.ShloMosaic.eq_ix2 (y : S1024x1024.Idx))).trans (block_at m c t (y 0) (y 1))

end Cert.FinalIdeal.Rows

end
-- ==== Proof.Final.Claims.lean ====
module

public import proofs.«01_k».proof.Defs
public import proofs.«01_k».proof.Proof.Final.Block
public import proofs.«01_k».proof.Proof.Final.Ref
public import proofs.«01_k».proof.Proof.Gen.Final.Frame
public import proofs.«01_k».proof.Proof.Gen.FinalIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.Final

open Cert

/-- The reference's whole result, row by row. -/
theorem ref_array (x0 : FVec Ideal FinalIdeal.S32768x1024 .f32) (x1 : FVec Ideal FinalIdeal.S1024 .f32) :
    FinalRefIdeal.Value.normT x0 x1 = fun y : FinalIdeal.S32768x1024.Idx => normed (fun k => x0 (ix2 (y 0) k)) (fun k => x1 (ix1 k)) (y 1) :=
  funext fun y : FinalIdeal.S32768x1024.Idx =>
    (congrArg (FinalRefIdeal.Value.normT x0 x1) (Idealize.ShloMosaic.eq_ix2 y)).trans (FinalRefIdeal.Value.norm_at x0 x1 (y 0) (y 1))

/-- The kernel and the reference leave the same array: every row normalised. -/
theorem algebraic : Cert.algebraic_FinalIdeal_FinalRefIdeal := by
  pair_intro
  · run_from Cert.FinalIdeal.Gen.run_main m g
  · run_from Cert.FinalRefIdeal.Value.run m' g'
    exact (ref_array _ _).trans (Cert.FinalIdeal.Rows.final m c).symm

/-- The reference terminates without a fault and leaves its arguments and the semaphores alone. -/
theorem frame_ref : Cert.quiescent_FinalRefIdeal := by
  intro m g _
  refine (θ_run Cert.FinalRefIdeal.defs _ _).mono
    (fun r h => ⟨fun c => (h c).2, sem_eq_zero_of_no_sems (by decide) r.2⟩) (Cert.FinalRefIdeal.Value.run (F := Ideal) m g)

/-- The kernel terminates without a fault and leaves its arguments and the semaphores alone. -/
theorem frame : Cert.quiescent_Final := fun m ρ _ => Cert.Final.Gen.frame m ρ

/-- So does the kernel read over the extended reals. -/
theorem frame_ideal : Cert.quiescent_FinalIdeal := fun m ρ _ => Cert.FinalIdeal.Gen.frame m ρ

end Attn.Final

end
-- ==== Proof.Last.Block.lean ====
module

public import proofs.«01_k».proof.Proof.Gen.LastIdeal.Value
public import proofs.«01_k».proof.Proof.Math.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.LastIdeal.Rows

open Cert.LastIdeal Cert.LastIdeal.Gen Attn

/-- The block written at a grid point: every row normalised. -/
theorem out_at (x0 : FVec Ideal S1024x1024 .f32) (x1 : FVec Ideal S1x1024 .f32) (r j : Fin 1024) :
    out0_2 (F := Ideal) x0 x1 (ix2 r j) = normed (fun k => x0 (ix2 r k)) (fun k => x1 (ix2 0 k)) j := by
  unfold out0_2
  frame_out
  pointwise [k0_pay1]
  rfl

variable (m : (ℓ : Loc nD τ sig) → Buf (Elt Ideal) ℓ)

/-- The blocks' positions: the one grid point takes and writes all the rows, and the gains whole. -/
theorem idx : ∀ t : Fin cfg0.N, win0_0.index t = ![t.val, 0] ∧ win0_1.index t = ![0, 0] ∧ win0_2.index t = ![t.val, 0] :=
  (by decide +kernel : ∀ t : Fin grid0.N, _)

/-- The gains, laid out by the host as one row. -/
theorem gain_at (c : Dev nD) (k : Fin 1024) : V m c main_v0 (ix2 0 k) = m ((c.tc : Thread nD τ).loc main_arg1) (ix1 k) := by
  entry_read
  pointwise

/-- The row of the array that row `r` of grid point `t`'s block is. -/
abbrev rowOf (t : Fin cfg0.N) (r : Fin 1024) : Fin 1024 :=
  ⟨1024 * t.val + r.val, by have := lt_of_lt_of_eq t.isLt (show cfg0.N = 1 from N_0); omega⟩

theorem blk0_at (c : Dev nD) (t : Fin cfg0.N) (r k : Fin 1024) :
    iblk m c 0 t (ix2 r k) = m ((c.tc : Thread nD τ).loc main_arg0) (ix2 (rowOf t r) k) := by
  blk_ext [iblk, V, idx t]

theorem blk1_at (c : Dev nD) (t : Fin cfg0.N) (k : Fin 1024) :
    iblk m c 1 t (ix2 0 k) = m ((c.tc : Thread nD τ).loc main_arg1) (ix1 k) := by
  rw [← gain_at m c]
  blk_ext [iblk, idx t]

/-- The block written at a grid point, in the arrays' terms. -/
theorem block_at (c : Dev nD) (t : Fin cfg0.N) (r j : Fin 1024) : out0_2 (F := Ideal) (iblk m c 0 t) (iblk m c 1 t) (ix2 r j) =
    normed (fun k => m ((c.tc : Thread nD τ).loc main_arg0) (ix2 (rowOf t r) k)) (fun k => m ((c.tc : Thread nD τ).loc main_arg1) (ix1 k)) j := by
  rw [out_at]
  simp only [blk0_at, blk1_at]

/-- THE RESULT ARRAY, entry by entry: every row normalised. -/
theorem final (c : Dev nD) : (dats m 0 c).arrAt 2 cfg0.N = fun y : S1024x1024.Idx =>
    normed (fun k => m ((c.tc : Thread nD τ).loc main_arg0) (ix2 (y 0) k)) (fun k => m ((c.tc : Thread nD τ).loc main_arg1) (ix1 k)) (y 1) := by
  refine (dats m 0 c).arrAt_eq_of_covers 2 _ (by decide +kernel) fun t hf y => ?_
  have i2 := (idx t).2.2
  blk_simp
  rw [after0_2]
  have z0 : (win0_2.blk t).view.emb y 0 = rowOf t (y 0) := Fin.ext (by
    blk_simp [i2]
    show _ = 1024 * t.val + (y 0).val
    have := lt_of_lt_of_eq t.isLt (show cfg0.N = 1 from N_0)
    omega)
  have z1 : (win0_2.blk t).view.emb y 1 = (y 1 : Fin 1024) := Fin.ext (by
    blk_simp [i2])
  rw [z0, z1]
  exact (congrArg (out0_2 (F := Ideal) (iblk m c 0 t) (iblk m c 1 t)) (Idealize.ShloMosaic.eq_ix2 (y : S1024x1024.Idx))).trans (block_at m c t (y 0) (y 1))

end Cert.LastIdeal.Rows

end
-- ==== Proof.Last.Ref.lean ====
module

public import proofs.«01_k».proof.Proof.Gen.LastRefIdeal.Run
public import proofs.«01_k».proof.Proof.Math.Norm
public import Idealize.ShloMosaic.Lib.Pointwise

@[expose] public section

set_option maxRecDepth 16384

noncomputable section

open Idealize.ShloMosaic Idealize.ShloMosaic.TcCoe Idealize.SL.Sem

namespace Cert.LastRefIdeal.Value

open Cert.LastRefIdeal Cert.LastRefIdeal.Gen Attn

/-- The reference's lines for the normalisation of the sample's 1024 rows. -/
abbrev normT (x0 : FVec Ideal S1024x1024 .f32) (x1 : FVec Ideal S1024 .f32) : FVec Ideal S1024x1024 .f32 :=
  mulf (mulf x0 (broadcastInDim S1024x1024 ![0, 1] bcast_S1024x1_S1024x1024_0_1 (Host.rsqrt (addf (Host.divf (broadcastInDim S1024x1 ![0] bcast_S1024_S1024x1_0 (Host.reduceAdd (mulf x0 x0) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 x1))

/-- Read at an entry. -/
theorem norm_at (x0 : FVec Ideal S1024x1024 .f32) (x1 : FVec Ideal S1024 .f32) (r : Fin 1024) (j : Fin 1024) :
    normT x0 x1 (ix2 r j) = normed (fun k => x0 (ix2 r k)) (fun k => x1 (ix1 k)) j := by
  pointwise [normT]
  rfl

end Cert.LastRefIdeal.Value

end
-- ==== Proof.Last.Claims.lean ====
module

public import proofs.«01_k».proof.Defs
public import proofs.«01_k».proof.Proof.Last.Block
public import proofs.«01_k».proof.Proof.Last.Ref
public import proofs.«01_k».proof.Proof.Gen.Last.Frame
public import proofs.«01_k».proof.Proof.Gen.LastIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.Last

open Cert

/-- The reference's whole result, row by row. -/
theorem ref_array (x0 : FVec Ideal LastIdeal.S1024x1024 .f32) (x1 : FVec Ideal LastIdeal.S1024 .f32) :
    LastRefIdeal.Value.normT x0 x1 = fun y : LastIdeal.S1024x1024.Idx => normed (fun k => x0 (ix2 (y 0) k)) (fun k => x1 (ix1 k)) (y 1) :=
  funext fun y : LastIdeal.S1024x1024.Idx =>
    (congrArg (LastRefIdeal.Value.normT x0 x1) (Idealize.ShloMosaic.eq_ix2 y)).trans (LastRefIdeal.Value.norm_at x0 x1 (y 0) (y 1))

/-- The kernel and the reference leave the same array: every row normalised. -/
theorem algebraic : Cert.algebraic_LastIdeal_LastRefIdeal := by
  pair_intro
  · run_from Cert.LastIdeal.Gen.run_main m g
  · run_from Cert.LastRefIdeal.Value.run m' g'
    exact (ref_array _ _).trans (Cert.LastIdeal.Rows.final m c).symm

/-- The reference terminates without a fault and leaves its arguments and the semaphores alone. -/
theorem frame_ref : Cert.quiescent_LastRefIdeal := by
  intro m g _
  refine (θ_run Cert.LastRefIdeal.defs _ _).mono
    (fun r h => ⟨fun c => (h c).2, sem_eq_zero_of_no_sems (by decide) r.2⟩) (Cert.LastRefIdeal.Value.run (F := Ideal) m g)

/-- The kernel terminates without a fault and leaves its arguments and the semaphores alone. -/
theorem frame : Cert.quiescent_Last := fun m ρ _ => Cert.Last.Gen.frame m ρ

/-- So does the kernel read over the extended reals. -/
theorem frame_ideal : Cert.quiescent_LastIdeal := fun m ρ _ => Cert.LastIdeal.Gen.frame m ρ

end Attn.Last

end
-- ==== Proof.Proj.Block.lean ====
module

public import proofs.«01_k».proof.Proof.Gen.ProjIdeal.Value
public import proofs.«01_k».proof.Proof.Math.Norm
public import Idealize.ShloMosaic.Lib.Pipeline.ValueKit
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem

namespace Cert.ProjIdeal.Rows

open Cert.ProjIdeal Cert.ProjIdeal.Gen Attn

/-- The normalised rows that the first step of a sweep stores. -/
theorem pay1_at (x : FVec Ideal S1024x1024 .f32) (g : FVec Ideal S1x1024 .f32) (r j : Fin 1024) :
    k0_pay1 (F := Ideal) x g (ix2 r j) = normed (fun k => x (ix2 r k)) (fun k => g (ix2 0 k)) j := by
  pointwise [k0_pay1]
  rfl

/-- One step: 512 columns of the projection. -/
theorem pay2_at (h : FVec Ideal S1024x1024 .bf16) (w : FVec Ideal S1024x512 .bf16) (r : Fin 1024) (s : Fin 512) :
    k0_pay2 (F := Ideal) h w (ix2 r s) = ∑ k, h (ix2 r k) * w (ix2 k s) := by
  pointwise [k0_pay2]

variable (m : (ℓ : Loc nD τ sig) → Buf (Elt Ideal) ℓ)

/-- The blocks' positions: grid point `t` is step `t % 13` of the sweep of row block `t / 13`. -/
theorem idx : ∀ t : Fin cfg0.N, win0_0.index t = ![t.val / 13, 0] ∧ win0_1.index t = ![0, 0] ∧ win0_2.index t = ![0, t.val % 13]
    ∧ win0_3.index t = ![t.val / 13, t.val % 13] :=
  (by decide +kernel : ∀ t : Fin grid0.N, _)

/-- The gains, laid out by the host as one row. -/
theorem gain_at (c : Dev nD) (k : Fin 1024) : V m c main_v2 (ix2 0 k) = m ((c.tc : Thread nD τ).loc main_arg1) (ix1 k) := by
  show StableHlo.after (hostOps0 ++ (hostOps0_1 ++ hostOps0_2)) _ _ _ = _
  after_reads_at

/-- The weights with their twelve columns of zeros. -/
def padded (w : FVec Ideal S1024x6644 .f32) (k : Fin 1024) (q : Fin 6656) : EReal :=
  if h : q.val < 6644 then w (ix2 k ⟨q.val, h⟩) else 0

/-- The weights after the host's padding and cast. -/
theorem weight_at (c : Dev nD) (k : Fin 1024) (q : Fin 6656) : V m c main_v1 (ix2 k q) = padded (m ((c.tc : Thread nD τ).loc main_arg2)) k q := by
  show StableHlo.after (hostOps0 ++ (hostOps0_1 ++ hostOps0_2)) _ _ _ = _
  after_reads_at
  unfold padded
  rw [fill_zero]

theorem lt_N (t : Fin cfg0.N) : t.val < 416 := lt_of_lt_of_eq t.isLt (show cfg0.N = 416 from N_0)

/-- The row of the arrays that row `r` of grid point `t`'s blocks is. -/
abbrev rowOf (t : Fin cfg0.N) (r : Fin 1024) : Fin 32768 := ⟨1024 * (t.val / 13) + r.val, by have := lt_N t; omega⟩

/-- The column of the projection that column `s` of grid point `t`'s block is. -/
abbrev colOf (t : Fin cfg0.N) (s : Fin 512) : Fin 6656 := ⟨512 * (t.val % 13) + s.val, by omega⟩

theorem blk0_at (c : Dev nD) (t : Fin cfg0.N) (r k : Fin 1024) :
    iblk m c 0 t (ix2 r k) = m ((c.tc : Thread nD τ).loc main_arg0) (ix2 (rowOf t r) k) := by
  blk_ext [iblk, V_main_arg0, idx t]

theorem blk1_at (c : Dev nD) (t : Fin cfg0.N) (k : Fin 1024) :
    iblk m c 1 t (ix2 0 k) = m ((c.tc : Thread nD τ).loc main_arg1) (ix1 k) := by
  rw [← gain_at m c]
  blk_ext [iblk, idx t]

theorem blk2_at (c : Dev nD) (t : Fin cfg0.N) (k : Fin 1024) (s : Fin 512) :
    iblk m c 2 t (ix2 k s) = padded (m ((c.tc : Thread nD τ).loc main_arg2)) k (colOf t s) := by
  rw [← weight_at m c]
  blk_ext [iblk, idx t]

/-- The arguments' rows and gains. -/
abbrev xRow (c : Dev nD) (r : Fin 32768) : Fin 1024 → EReal := fun k => m ((c.tc : Thread nD τ).loc main_arg0) (ix2 r k)
abbrev gain (c : Dev nD) : Fin 1024 → EReal := fun k => m ((c.tc : Thread nD τ).loc main_arg1) (ix1 k)

theorem norm_blk_at (c : Dev nD) (t : Fin cfg0.N) (r j : Fin 1024) :
    k0_pay1 (F := Ideal) (iblk m c 0 t) (iblk m c 1 t) (ix2 r j) = normed (xRow m c (rowOf t r)) (gain m c) j := by
  rw [pay1_at]
  simp only [blk0_at, blk1_at]

/-- A row of the projection. -/
def projRow (x g : Fin 1024 → EReal) (w : FVec Ideal S1024x6644 .f32) (q : Fin 6656) : EReal := ∑ k, normed x g k * padded w k q

/-- One step at a grid point, from normalised rows. -/
theorem step_at (c : Dev nD) (t : Fin cfg0.N) (h : FVec Ideal S1024x1024 .bf16)
    (hh : ∀ r j : Fin 1024, h (ix2 r j) = normed (xRow m c (rowOf t r)) (gain m c) j) (r : Fin 1024) (s : Fin 512) :
    k0_pay2 (F := Ideal) h (iblk m c 2 t) (ix2 r s) =
      projRow (xRow m c (rowOf t r)) (gain m c) (m ((c.tc : Thread nD τ).loc main_arg2)) (colOf t s) := by
  rw [pay2_at]
  simp only [hh, blk2_at]
  rfl

/-- What a grid point leaves: its columns of the projection in the block to write, and the normalised rows in the scratch. -/
def Holds (c : Dev nD) (t : Fin cfg0.N) (o : FVec Ideal S1024x512 .f32) (h : FVec Ideal S1024x1024 .bf16) : Prop :=
  (∀ (r : Fin 1024) (s : Fin 512), o (ix2 r s) = projRow (xRow m c (rowOf t r)) (gain m c) (m ((c.tc : Thread nD τ).loc main_arg2)) (colOf t s))
    ∧ ∀ r j : Fin 1024, h (ix2 r j) = normed (xRow m c (rowOf t r)) (gain m c) j

/-- The first step of a sweep. -/
theorem holds_first (c : Dev nD) (t : Fin cfg0.N) (h0 : t.val % 13 = 0) : Holds m c t (outsAt0 m c t.val t.isLt).1 (outsAt0 m c t.val t.isLt).2 := by
  rw [outsAt0_A m c t h0]
  dsimp only
  constructor
  · intro r s
    unfold out0_A_3
    frame_out
    exact step_at m c t _ (norm_blk_at m c t) r s
  · intro r j
    unfold sout0_A_0
    frame_out
    exact norm_blk_at m c t r j

/-- A later step, from what the step before it left. -/
theorem holds_later (c : Dev nD) (t : Fin cfg0.N) (h0 : ¬t.val % 13 = 0)
    (ih : Holds m c ⟨t.val - 1, Nat.lt_of_le_of_lt (Nat.sub_le _ _) t.isLt⟩ (outsAt0 m c (t.val - 1) (Nat.lt_of_le_of_lt (Nat.sub_le _ _) t.isLt)).1
      (outsAt0 m c (t.val - 1) (Nat.lt_of_le_of_lt (Nat.sub_le _ _) t.isLt)).2) :
    Holds m c t (outsAt0 m c t.val t.isLt).1 (outsAt0 m c t.val t.isLt).2 := by
  have hr : ∀ r : Fin 1024, rowOf ⟨t.val - 1, Nat.lt_of_le_of_lt (Nat.sub_le _ _) t.isLt⟩ r = rowOf t r := fun r => Fin.ext (by
    show 1024 * ((t.val - 1) / 13) + r.val = 1024 * (t.val / 13) + r.val
    omega)
  have ih2 := ih.2
  simp only [hr] at ih2
  rw [outsAt0_B m c t h0]
  dsimp only
  constructor
  · intro r s
    unfold out0_B_3
    frame_out
    refine (congrArg (fun h => k0_pay2 (F := Ideal) h (iblk m c 2 t) (ix2 r s)) ((Memref.isWhole_whole cc0_scratch0).read_unread _)).trans ?_
    exact step_at m c t _ ih2 r s
  · exact ih2

/-- After every grid point. -/
theorem holds (c : Dev nD) : ∀ (n : ℕ) (hn : n < cfg0.N), Holds m c ⟨n, hn⟩ (outsAt0 m c n hn).1 (outsAt0 m c n hn).2
  | 0, hn => holds_first m c ⟨0, hn⟩ rfl
  | n + 1, hn => by
    by_cases h0 : (n + 1) % 13 = 0
    · exact holds_first m c ⟨n + 1, hn⟩ h0
    · exact holds_later m c ⟨n + 1, hn⟩ h0 (holds c n (Nat.lt_of_succ_lt hn))

/-- An entry of the result, in the arguments' terms. -/
def entry (a0 : FVec Ideal S32768x1024 .f32) (a1 : FVec Ideal S1024 .f32) (a2 : FVec Ideal S1024x6644 .f32) (r : Fin 32768) (q : Fin 6656) : EReal :=
  projRow (fun k => a0 (ix2 r k)) (fun k => a1 (ix1 k)) a2 q

/-- THE RESULT ARRAY, entry by entry. -/
theorem final (c : Dev nD) : (dats m 0 c).arrAt 3 cfg0.N = fun y : S32768x6656.Idx =>
    entry (m ((c.tc : Thread nD τ).loc main_arg0)) (m ((c.tc : Thread nD τ).loc main_arg1)) (m ((c.tc : Thread nD τ).loc main_arg2)) (y 0) (y 1) := by
  refine (dats m 0 c).arrAt_eq_of_covers 3 _ (by decide +kernel) fun t hf y => ?_
  have i3 := (idx t).2.2.2
  blk_simp
  rw [after0_3]
  have z0 : (win0_3.blk t).view.emb y 0 = rowOf t (y 0) := Fin.ext (by
    blk_simp [i3]
    show _ = 1024 * (t.val / 13) + (y 0).val
    omega)
  have z1 : (win0_3.blk t).view.emb y 1 = colOf t (y 1) := Fin.ext (by
    blk_simp [i3]
    show _ = 512 * (t.val % 13) + (y 1).val
    omega)
  rw [z0, z1]
  exact (congrArg (outsAt0 m c t.val t.isLt).1 (Idealize.ShloMosaic.eq_ix2 (y : S1024x512.Idx))).trans ((holds m c t.val t.isLt).1 (y 0) (y 1))

end Cert.ProjIdeal.Rows

end
-- ==== Proof.Proj.Ref.lean ====
module

public import proofs.«01_k».proof.Proof.Gen.ProjRefIdeal.Run
public import proofs.«01_k».proof.Proof.Final.Ref
public import Idealize.ShloMosaic.Lib.Pointwise

@[expose] public section

set_option maxRecDepth 16384

noncomputable section

open Idealize.ShloMosaic Idealize.ShloMosaic.TcCoe Idealize.SL.Sem

namespace Cert.ProjRefIdeal.Value

open Cert.ProjRefIdeal Cert.ProjRefIdeal.Gen Attn

/-- The reference's lines after the normalisation, from the normalised rows. -/
abbrev projT (h : FVec Ideal S32768x1024 .f32) (a2 : FVec Ideal S1024x6644 .f32) : FVec Ideal S32768x6656 .f32 :=
  pad S32768x6656 ![0, 0] ![0, 12] ![0, 0] (Host.dotGeneral dot_S32768x1024_S1024x6644_S32768x6644_1_0_0_1_n_n none h a2)
    (sitofp .f32 (constantI S_ 32 0#32)) pads_S32768x6644_S32768x6656_000_0120 h_S_

/-- Read at an entry: a product inside, a zero in the last twelve columns. -/
theorem proj_at (h : FVec Ideal S32768x1024 .f32) (a2 : FVec Ideal S1024x6644 .f32) (r : Fin 32768) (q : Fin 6656) :
    projT h a2 (ix2 r q) = if hq : q.val < 6644 then ∑ k, h (ix2 r k) * a2 (ix2 k ⟨q.val, hq⟩) else 0 := by
  pointwise [projT]
  rw [fill_zero]

/-- The reference's result at an entry, the normalisation opened. -/
theorem res_at (a0 : FVec Ideal S32768x1024 .f32) (a1 : FVec Ideal S1024 .f32) (a2 : FVec Ideal S1024x6644 .f32) (r : Fin 32768) (q : Fin 6656) :
    projT (Cert.FinalRefIdeal.Value.normT a0 a1) a2 (ix2 r q) =
      if hq : q.val < 6644 then ∑ k, normed (fun k => a0 (ix2 r k)) (fun k => a1 (ix1 k)) k * a2 (ix2 k ⟨q.val, hq⟩) else 0 := by
  rw [proj_at]
  by_cases hq : q.val < 6644
  · rw [dif_pos hq, dif_pos hq]
    exact Finset.sum_congr rfl fun k _ => congrArg (· * _) (Cert.FinalRefIdeal.Value.norm_at a0 a1 r k)
  · rw [dif_neg hq, dif_neg hq]

end Cert.ProjRefIdeal.Value

end
-- ==== Proof.Proj.Claims.lean ====
module

public import proofs.«01_k».proof.Defs
public import proofs.«01_k».proof.Proof.Proj.Block
public import proofs.«01_k».proof.Proof.Proj.Ref
public import proofs.«01_k».proof.Proof.Gen.Proj.Frame
public import proofs.«01_k».proof.Proof.Gen.ProjIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.Proj

open Cert

/-- The two entries agree: a product with a column of zeros is the zero that pads the reference's result. -/
theorem entry_eq (a0 : FVec Ideal ProjIdeal.S32768x1024 .f32) (a1 : FVec Ideal ProjIdeal.S1024 .f32) (a2 : FVec Ideal ProjIdeal.S1024x6644 .f32)
    (r : Fin 32768) (q : Fin 6656) :
    ProjRefIdeal.Value.projT (FinalRefIdeal.Value.normT a0 a1) a2 (ix2 r q) = ProjIdeal.Rows.entry a0 a1 a2 r q := by
  rw [ProjRefIdeal.Value.res_at]
  unfold ProjIdeal.Rows.entry ProjIdeal.Rows.projRow ProjIdeal.Rows.padded
  by_cases hq : q.val < 6644
  · simp only [dif_pos hq]
  · simp only [dif_neg hq, mul_zero, Finset.sum_const_zero]

/-- The reference's whole result, as the function of its index that `entry` gives. -/
theorem ref_array (a0 : FVec Ideal ProjIdeal.S32768x1024 .f32) (a1 : FVec Ideal ProjIdeal.S1024 .f32) (a2 : FVec Ideal ProjIdeal.S1024x6644 .f32) :
    ProjRefIdeal.Value.projT (FinalRefIdeal.Value.normT a0 a1) a2 = fun y : ProjIdeal.S32768x6656.Idx =>
      ProjIdeal.Rows.entry a0 a1 a2 (y 0) (y 1) :=
  funext fun y : ProjIdeal.S32768x6656.Idx =>
    (congrArg (ProjRefIdeal.Value.projT (FinalRefIdeal.Value.normT a0 a1) a2) (Idealize.ShloMosaic.eq_ix2 y)).trans (entry_eq a0 a1 a2 (y 0) (y 1))

/-- The kernel and the reference leave the same array. -/
theorem algebraic : Cert.algebraic_ProjIdeal_ProjRefIdeal := by
  pair_intro
  · run_from Cert.ProjIdeal.Gen.run_main m g
    · exact Cert.ProjIdeal.Gen.V_main_arg1 m c
    · exact Cert.ProjIdeal.Gen.V_main_arg2 m c
  · run_from Cert.ProjRefIdeal.Value.run m' g'
    exact (ref_array _ _ _).trans (Cert.ProjIdeal.Rows.final m c).symm

/-- The reference terminates without a fault and leaves its arguments and the semaphores alone. -/
theorem frame_ref : Cert.quiescent_ProjRefIdeal := by
  intro m g _
  refine (θ_run Cert.ProjRefIdeal.defs _ _).mono
    (fun r h => ⟨fun c => (h c).2, sem_eq_zero_of_no_sems (by decide) r.2⟩) (Cert.ProjRefIdeal.Value.run (F := Ideal) m g)

/-- The kernel terminates without a fault and leaves its arguments and the semaphores alone. -/
theorem frame : Cert.quiescent_Proj := fun m ρ _ => Cert.Proj.Gen.frame m ρ

/-- So does the kernel read over the extended reals. -/
theorem frame_ideal : Cert.quiescent_ProjIdeal := fun m ρ _ => Cert.ProjIdeal.Gen.frame m ρ

end Attn.Proj

end
-- ==== Proof.Rows.Block.lean ====
module

public import proofs.«01_k».proof.Proof.Gen.RowsIdeal.Frame
public import proofs.«01_k».proof.Proof.Proj.Block
public import Idealize.ShloMosaic.Lib.Pipeline.ValueKit
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem

namespace Cert.RowsIdeal.Rows

open Cert.RowsIdeal Cert.RowsIdeal.Gen Attn
open Cert.ProjIdeal.Rows (padded projRow)

/-- The normalised rows that the first step of a sweep stores. -/
theorem pay1_at (x : FVec Ideal S1024x1024 .f32) (g : FVec Ideal S1x1024 .f32) (r j : Fin 1024) :
    k0_pay1 (F := Ideal) x g (ix2 r j) = normed (fun k => x (ix2 r k)) (fun k => g (ix2 0 k)) j := by
  pointwise [k0_pay1]
  rfl

/-- The product of a step is the one of the projection by itself. -/
theorem pay2_eq (h : FVec Ideal S1024x1024 .bf16) (w : FVec Ideal S1024x512 .bf16) : k0_pay2 (F := Ideal) h w = Cert.ProjIdeal.Gen.k0_pay2 (F := Ideal) h w := rfl

variable (m : (ℓ : Loc nD τ sig) → Buf (Elt Ideal) ℓ)

/-- The blocks' positions: grid point `t` is step `t % 13` of the sweep of row block `t / 13`. -/
theorem idx : ∀ t : Fin cfg0.N, win0_0.index t = ![t.val / 13, 0] ∧ win0_1.index t = ![0, 0] ∧ win0_2.index t = ![0, t.val % 13]
    ∧ win0_3.index t = ![t.val / 13, t.val % 13] :=
  (by decide +kernel : ∀ t : Fin grid0.N, _)

/-- The gains, laid out by the host as one row. -/
theorem gain_at (c : Dev nD) (k : Fin 1024) : V m c main_v3 (ix2 0 k) = m ((c.tc : Thread nD τ).loc main_arg1) (ix1 k) := by
  show StableHlo.after (hostOps0 ++ (hostOps0_1 ++ hostOps0_2)) _ _ _ = _
  after_reads_at

/-- The weights after the host's padding and cast. -/
theorem weight_at (c : Dev nD) (k : Fin 1024) (q : Fin 6656) : V m c main_v2 (ix2 k q) = padded (m ((c.tc : Thread nD τ).loc main_arg2)) k q := by
  show StableHlo.after (hostOps0 ++ (hostOps0_1 ++ hostOps0_2)) _ _ _ = _
  after_reads_at
  unfold padded
  rw [fill_zero]

/-- The arguments' rows and gains. -/
abbrev xRow (c : Dev nD) (r : Fin 32768) : Fin 1024 → EReal := fun k => m ((c.tc : Thread nD τ).loc main_arg0) (ix3 ⟨r.val / 2048, by omega⟩ ⟨r.val % 2048, by omega⟩ k)
abbrev gain (c : Dev nD) : Fin 1024 → EReal := fun k => m ((c.tc : Thread nD τ).loc main_arg1) (ix1 k)

/-- The rows, laid out by the host one after another. -/
theorem rows_at (c : Dev nD) (r : Fin 32768) (k : Fin 1024) : V m c main_v0 (ix2 r k) = xRow m c r k := by
  show StableHlo.after (hostOps0 ++ (hostOps0_1 ++ hostOps0_2)) _ _ _ = _
  after_reads_at

theorem lt_N (t : Fin cfg0.N) : t.val < 416 := lt_of_lt_of_eq t.isLt (show cfg0.N = 416 from N_0)

/-- The row of the arrays that row `r` of grid point `t`'s blocks is. -/
abbrev rowOf (t : Fin cfg0.N) (r : Fin 1024) : Fin 32768 := ⟨1024 * (t.val / 13) + r.val, by have := lt_N t; omega⟩

/-- The column of the projection that column `s` of grid point `t`'s block is. -/
abbrev colOf (t : Fin cfg0.N) (s : Fin 512) : Fin 6656 := ⟨512 * (t.val % 13) + s.val, by omega⟩

theorem blk0_at (c : Dev nD) (t : Fin cfg0.N) (r k : Fin 1024) :
    iblk m c 0 t (ix2 r k) = xRow m c (rowOf t r) k := by
  rw [← rows_at m c]
  blk_ext [iblk, idx t]

theorem blk1_at (c : Dev nD) (t : Fin cfg0.N) (k : Fin 1024) :
    iblk m c 1 t (ix2 0 k) = m ((c.tc : Thread nD τ).loc main_arg1) (ix1 k) := by
  rw [← gain_at m c]
  blk_ext [iblk, idx t]

theorem blk2_at (c : Dev nD) (t : Fin cfg0.N) (k : Fin 1024) (s : Fin 512) :
    iblk m c 2 t (ix2 k s) = padded (m ((c.tc : Thread nD τ).loc main_arg2)) k (colOf t s) := by
  rw [← weight_at m c]
  blk_ext [iblk, idx t]

theorem norm_blk_at (c : Dev nD) (t : Fin cfg0.N) (r j : Fin 1024) :
    k0_pay1 (F := Ideal) (iblk m c 0 t) (iblk m c 1 t) (ix2 r j) = normed (xRow m c (rowOf t r)) (gain m c) j := by
  rw [pay1_at]
  simp only [blk0_at, blk1_at]

/-- One step at a grid point, from normalised rows. -/
theorem step_at (c : Dev nD) (t : Fin cfg0.N) (h : FVec Ideal S1024x1024 .bf16)
    (hh : ∀ r j : Fin 1024, h (ix2 r j) = normed (xRow m c (rowOf t r)) (gain m c) j) (r : Fin 1024) (s : Fin 512) :
    k0_pay2 (F := Ideal) h (iblk m c 2 t) (ix2 r s) =
      projRow (xRow m c (rowOf t r)) (gain m c) (m ((c.tc : Thread nD τ).loc main_arg2)) (colOf t s) := by
  rw [pay2_eq, Cert.ProjIdeal.Rows.pay2_at]
  simp only [hh, blk2_at]
  rfl

/-- What a grid point leaves: its columns of the projection in the block to write, and the normalised rows in the scratch. -/
def Holds (c : Dev nD) (t : Fin cfg0.N) (o : FVec Ideal S1024x512 .f32) (h : FVec Ideal S1024x1024 .bf16) : Prop :=
  (∀ (r : Fin 1024) (s : Fin 512), o (ix2 r s) = projRow (xRow m c (rowOf t r)) (gain m c) (m ((c.tc : Thread nD τ).loc main_arg2)) (colOf t s))
    ∧ ∀ r j : Fin 1024, h (ix2 r j) = normed (xRow m c (rowOf t r)) (gain m c) j

/-- The first step of a sweep. -/
theorem holds_first (c : Dev nD) (t : Fin cfg0.N) (h0 : t.val % 13 = 0) : Holds m c t (outsAt0 m c t.val t.isLt).1 (outsAt0 m c t.val t.isLt).2 := by
  rw [outsAt0_A m c t h0]
  dsimp only
  constructor
  · intro r s
    unfold out0_A_3
    frame_out
    exact step_at m c t _ (norm_blk_at m c t) r s
  · intro r j
    unfold sout0_A_0
    frame_out
    exact norm_blk_at m c t r j

/-- A later step, from what the step before it left. -/
theorem holds_later (c : Dev nD) (t : Fin cfg0.N) (h0 : ¬t.val % 13 = 0)
    (ih : Holds m c ⟨t.val - 1, Nat.lt_of_le_of_lt (Nat.sub_le _ _) t.isLt⟩ (outsAt0 m c (t.val - 1) (Nat.lt_of_le_of_lt (Nat.sub_le _ _) t.isLt)).1
      (outsAt0 m c (t.val - 1) (Nat.lt_of_le_of_lt (Nat.sub_le _ _) t.isLt)).2) :
    Holds m c t (outsAt0 m c t.val t.isLt).1 (outsAt0 m c t.val t.isLt).2 := by
  have hr : ∀ r : Fin 1024, rowOf ⟨t.val - 1, Nat.lt_of_le_of_lt (Nat.sub_le _ _) t.isLt⟩ r = rowOf t r := fun r => Fin.ext (by
    show 1024 * ((t.val - 1) / 13) + r.val = 1024 * (t.val / 13) + r.val
    omega)
  have ih2 := ih.2
  simp only [hr] at ih2
  rw [outsAt0_B m c t h0]
  dsimp only
  constructor
  · intro r s
    unfold out0_B_3
    frame_out
    refine (congrArg (fun h => k0_pay2 (F := Ideal) h (iblk m c 2 t) (ix2 r s)) ((Memref.isWhole_whole cc0_scratch0).read_unread _)).trans ?_
    exact step_at m c t _ ih2 r s
  · exact ih2

/-- After every grid point. -/
theorem holds (c : Dev nD) : ∀ (n : ℕ) (hn : n < cfg0.N), Holds m c ⟨n, hn⟩ (outsAt0 m c n hn).1 (outsAt0 m c n hn).2
  | 0, hn => holds_first m c ⟨0, hn⟩ rfl
  | n + 1, hn => by
    by_cases h0 : (n + 1) % 13 = 0
    · exact holds_first m c ⟨n + 1, hn⟩ h0
    · exact holds_later m c ⟨n + 1, hn⟩ h0 (holds c n (Nat.lt_of_succ_lt hn))

/-- THE PRODUCT, entry by entry. -/
theorem final (c : Dev nD) : (dats m 0 c).arrAt 3 cfg0.N = fun y : S32768x6656.Idx =>
    projRow (xRow m c (y 0)) (gain m c) (m ((c.tc : Thread nD τ).loc main_arg2)) (y 1) := by
  refine (dats m 0 c).arrAt_eq_of_covers 3 _ (by decide +kernel) fun t hf y => ?_
  have i3 := (idx t).2.2.2
  blk_simp
  rw [after0_3]
  have z0 : (win0_3.blk t).view.emb y 0 = rowOf t (y 0) := Fin.ext (by
    blk_simp [i3]
    show _ = 1024 * (t.val / 13) + (y 0).val
    omega)
  have z1 : (win0_3.blk t).view.emb y 1 = colOf t (y 1) := Fin.ext (by
    blk_simp [i3]
    show _ = 512 * (t.val % 13) + (y 1).val
    omega)
  rw [z0, z1]
  exact (congrArg (outsAt0 m c t.val t.isLt).1 (Idealize.ShloMosaic.eq_ix2 (y : S1024x512.Idx))).trans ((holds m c t.val t.isLt).1 (y 0) (y 1))

end Cert.RowsIdeal.Rows

end
-- ==== Proof.Rows.Ref.lean ====
module

public import proofs.«01_k».proof.Proof.Gen.RowsRefIdeal.Run
public import proofs.«01_k».proof.Proof.Math.Norm
public import Idealize.ShloMosaic.Lib.Pointwise

@[expose] public section

set_option maxRecDepth 16384

noncomputable section

open Idealize.ShloMosaic Idealize.ShloMosaic.TcCoe Idealize.SL.Sem

namespace Cert.RowsRefIdeal.Value

open Cert.RowsRefIdeal Cert.RowsRefIdeal.Gen Attn

variable (V0 : Valuation τ sig (Elt Ideal))

/-- The reference's arguments. -/
abbrev xArr : FVec Ideal S16x2048x1024 .f32 := V0 (Proc.devRef .tc main_arg0)
abbrev gArr : FVec Ideal S1024 .f32 := V0 (Proc.devRef .tc main_arg1)
abbrev wArr : FVec Ideal S1024x6644 .f32 := V0 (Proc.devRef .tc main_arg2)

/-- The reference's product of the normalised rows with the weights, at an entry. -/
theorem proj_at (b : Fin 16) (t : Fin 2048) (q : Fin 6644) :
    res_main_v16 V0 (ix3 b t q) = ∑ k, normed (fun k => xArr V0 (ix3 b t k)) (fun k => gArr V0 (ix1 k)) k * wArr V0 (ix2 k q) := by
  pointwise [res_main_v16]
  rfl

end Cert.RowsRefIdeal.Value

end
-- ==== Proof.Rows.Cut.lean ====
module

public import Idealize.ShloMosaic.Lib.Pipeline.Value
public import Idealize.ShloMosaic.Lib.Pointwise

@[expose] public section

noncomputable section

open Idealize.ShloMosaic

namespace Attn

/-- A product over `B * T` rows, padded to 6656 columns, and a product by sequence and position agree at every column of the second. -/
def Agree {B T n : ℕ} (x : FVec Ideal ⟨2, ![n, 6656]⟩ .f32) (y : FVec Ideal ⟨3, ![B, T, 6644]⟩ .f32) : Prop :=
  ∀ (b : Fin B) (t : Fin T) (q : Fin 6644) (r : Fin n), r.val = T * b.val + t.val → x (ix2 r ⟨q.val, by omega⟩) = y (ix3 b t q)

/-- A cut of the first, laid out by sequence, is then the same cut of the second. -/
theorem cut {B T n L o : ℕ} {x : FVec Ideal ⟨2, ![n, 6656]⟩ .f32} {y : FVec Ideal ⟨3, ![B, T, 6644]⟩ .f32} (h : Agree x y)
    (h1 : (⟨2, ![n, 6656]⟩ : Shape).Slices ![0, o] ⟨2, ![n, L]⟩) (h2 : (⟨2, ![n, L]⟩ : Shape).ShapeCasts ⟨3, ![B, T, L]⟩) (hn : n = B * T)
    (h3 : (⟨3, ![B, T, 6644]⟩ : Shape).Slices ![0, 0, o] ⟨3, ![B, T, L]⟩) :
    shapeCast ⟨3, ![B, T, L]⟩ (extractStridedSlice ⟨2, ![n, L]⟩ ![0, o] x h1) h2 = extractStridedSlice ⟨3, ![B, T, L]⟩ ![0, 0, o] y h3 := by
  funext j
  have hL : o + L ≤ 6644 := h3.2 2
  have hj : (j 2).val < L := (j 2).isLt
  have hb : (j 0).val < B := (j 0).isLt
  have ht : (j 1).val < T := (j 1).isLt
  have hr : T * (j 0).val + (j 1).val < n := by
    have := Nat.mul_le_mul_left T (Nat.succ_le_of_lt hb)
    rw [hn, Nat.mul_comm B T]
    rw [Nat.mul_succ] at this
    omega
  rw [extractStridedSlice_apply _ _ h3 j (ix3 (j 0) (j 1) ⟨o + (j 2).val, by omega⟩) (by intro a; fin_cases a <;> simp)]
  refine (shapeCast_apply _ h2 j (ix2 ⟨T * (j 0).val + (j 1).val, hr⟩ (j 2)) ?_).trans ?_
  · rw [Shape.rowMajor_val_two, Shape.rowMajor_val_three]
    simp
    left
    ring
  · rw [extractStridedSlice_apply _ _ h1 _ (ix2 ⟨T * (j 0).val + (j 1).val, hr⟩ ⟨o + (j 2).val, by omega⟩) (by intro a; fin_cases a <;> simp)]
    exact h (j 0) (j 1) ⟨o + (j 2).val, by omega⟩ _ rfl

end Attn

end
-- ==== Proof.Rows.Tail.lean ====
module

public import proofs.«01_k».proof.Proof.Gen.RowsIdeal.Frame
public import proofs.«01_k».proof.Proof.Gen.RowsRefIdeal.Run
public import proofs.«01_k».proof.Proof.Rows.Cut
public import Idealize.ShloMosaic.Lib.StableHlo.ReadAt

@[expose] public section

set_option maxRecDepth 16384

noncomputable section

open Idealize.ShloMosaic Idealize.ShloMosaic.TcCoe Idealize.SL.Sem

namespace Attn.Rows

open Cert
open Cert.RowsRefIdeal.Value (ops after_ops res_main_v16)
open Cert.RowsRefIdeal.Gen

/-- What the kernel's lines after its product leave in a buffer. -/
abbrev tail (V : Valuation RowsIdeal.τ RowsIdeal.sig (Elt Ideal)) (b : Ref RowsIdeal.sig .tc) :=
  StableHlo.after [RowsIdeal.Gen.hostOps1, RowsIdeal.Gen.hostOps1_1, RowsIdeal.Gen.hostOps1_2].flatten V (Proc.devRef .tc b)

variable (V : Valuation RowsIdeal.τ RowsIdeal.sig (Elt Ideal)) (V0 : Valuation RowsRefIdeal.τ RowsRefIdeal.sig (Elt Ideal))
  (h : Agree (V (Proc.devRef .tc RowsIdeal.main_v4) : FVec Ideal RowsIdeal.S32768x6656 .f32) (res_main_v16 V0))

include h in
/-- Result: the compressed and the selected keys and values. -/
theorem nsa_eq : tail V RowsIdeal.main_v116 = StableHlo.after ops V0 (Proc.devRef .tc RowsRefIdeal.main_v102) := by
  refine Eq.trans ?_ ((congrFun (after_ops V0) _).trans (RowsRefIdeal.Value.val5_main_v102 V0)).symm
  simp only [StableHlo.readAfter, StableHlo.nary_result']
  dsimp only [Matrix.cons_val]
  after_reads_simp [↓StableHlo.readPieces]
  try simp -implicitDefEqProofs only [StableHlo.TRef.toBuf, StableHlo.TRef.ofBuf, cast_cast, cast_eq, ↓StableHlo.readPieces]
  clean_types
  rw [cut h _ _ rfl slices_S16x2048x6644_S16x2048x64_0_0_256,
    cut h _ _ rfl slices_S16x2048x6644_S16x2048x64_0_0_320,
    cut h _ _ rfl slices_S16x2048x6644_S16x2048x64_0_0_384,
    cut h _ _ rfl slices_S16x2048x6644_S16x2048x64_0_0_448]
  rfl

include h in
/-- Result: the latent row and its rotary part. -/
theorem mla_eq
    (h4 : V (Proc.devRef .tc RowsIdeal.main_arg4) = V0 (Proc.devRef .tc RowsRefIdeal.main_arg4)) : tail V RowsIdeal.main_v161 = StableHlo.after ops V0 (Proc.devRef .tc RowsRefIdeal.main_v147) := by
  refine Eq.trans ?_ ((congrFun (after_ops V0) _).trans (RowsRefIdeal.Value.val5_main_v147 V0)).symm
  after_reads_simp [↓StableHlo.readPieces]
  try simp -implicitDefEqProofs only [StableHlo.TRef.toBuf, StableHlo.TRef.ofBuf, cast_cast, cast_eq, ↓StableHlo.readPieces]
  clean_types
  rw [cut h _ _ rfl slices_S16x2048x6644_S16x2048x256_0_0_1036,
    cut h _ _ rfl slices_S16x2048x6644_S16x2048x32_0_0_1292,
    h4]
  rfl

include h in
/-- Result: the keys and values of the forgetting attention. -/
theorem fox_eq : tail V RowsIdeal.main_v162 = StableHlo.after ops V0 (Proc.devRef .tc RowsRefIdeal.main_v148) := by
  refine Eq.trans ?_ ((congrFun (after_ops V0) _).trans (RowsRefIdeal.Value.val5_main_v148 V0)).symm
  after_reads_simp [↓StableHlo.readPieces]
  try simp -implicitDefEqProofs only [StableHlo.TRef.toBuf, StableHlo.TRef.ofBuf, cast_cast, cast_eq, ↓StableHlo.readPieces]
  clean_types
  rw [cut h _ _ rfl slices_S16x2048x6644_S16x2048x128_0_0_1580,
    cut h _ _ rfl slices_S16x2048x6644_S16x2048x128_0_0_1708]
  rfl

include h in
/-- Result: the logarithms of its gates. -/
theorem logf_eq
    (h3 : V (Proc.devRef .tc RowsIdeal.main_arg3) = V0 (Proc.devRef .tc RowsRefIdeal.main_arg3)) : tail V RowsIdeal.main_v166 = StableHlo.after ops V0 (Proc.devRef .tc RowsRefIdeal.main_v152) := by
  refine Eq.trans ?_ ((congrFun (after_ops V0) _).trans (RowsRefIdeal.Value.val5_main_v152 V0)).symm
  after_reads_simp [↓StableHlo.readPieces]
  try simp -implicitDefEqProofs only [StableHlo.TRef.toBuf, StableHlo.TRef.ofBuf, cast_cast, cast_eq, ↓StableHlo.readPieces]
  clean_types
  rw [cut h _ _ rfl slices_S16x2048x6644_S16x2048x4_0_0_1836,
    h3]
  rfl

include h in
/-- Result: the keys, the values and the index keys. -/
theorem dsa_eq : tail V RowsIdeal.main_v229 = StableHlo.after ops V0 (Proc.devRef .tc RowsRefIdeal.main_v215) := by
  refine Eq.trans ?_ ((congrFun (after_ops V0) _).trans (RowsRefIdeal.Value.val5_main_v215 V0)).symm
  simp only [StableHlo.readAfter, StableHlo.nary_result']
  dsimp only [Matrix.cons_val]
  after_reads_simp [↓StableHlo.readPieces]
  try simp -implicitDefEqProofs only [StableHlo.TRef.toBuf, StableHlo.TRef.ofBuf, cast_cast, cast_eq, ↓StableHlo.readPieces]
  clean_types
  rw [cut h _ _ rfl slices_S16x2048x6644_S16x2048x64_0_0_2096,
    cut h _ _ rfl slices_S16x2048x6644_S16x2048x64_0_0_2160,
    cut h _ _ rfl slices_S16x2048x6644_S16x2048x64_0_0_2480]
  rfl

include h in
/-- Result: the window's keys and values. -/
theorem win_eq : tail V RowsIdeal.main_v262 = StableHlo.after ops V0 (Proc.devRef .tc RowsRefIdeal.main_v248) := by
  refine Eq.trans ?_ ((congrFun (after_ops V0) _).trans (RowsRefIdeal.Value.val5_main_v248 V0)).symm
  after_reads_simp [↓StableHlo.readPieces]
  try simp -implicitDefEqProofs only [StableHlo.TRef.toBuf, StableHlo.TRef.ofBuf, cast_cast, cast_eq, ↓StableHlo.readPieces]
  clean_types
  rw [cut h _ _ rfl slices_S16x2048x6644_S16x2048x64_0_0_512,
    cut h _ _ rfl slices_S16x2048x6644_S16x2048x64_0_0_576]
  rfl

end Attn.Rows

end
-- ==== Proof.Rows.Claims.lean ====
module

public import proofs.«01_k».proof.Defs
public import proofs.«01_k».proof.Proof.Rows.Block
public import proofs.«01_k».proof.Proof.Rows.Ref
public import proofs.«01_k».proof.Proof.Rows.Tail
public import proofs.«01_k».proof.Proof.Gen.Rows.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.Rows

open Cert

variable (m : (ℓ : Loc RowsIdeal.nD RowsIdeal.τ RowsIdeal.sig) → Buf (Elt Ideal) ℓ)
  (m' : (ℓ : Loc RowsRefIdeal.nD RowsRefIdeal.τ RowsRefIdeal.sig) → Buf (Elt Ideal) ℓ) (c : Dev RowsIdeal.nD)

/-- What the lines after the product read: the product where the windows' arrays are, the rest as it was before. -/
abbrev left : Valuation RowsIdeal.τ RowsIdeal.sig (Elt Ideal) :=
  Pipeline.withArrays (RowsIdeal.cfgs 0).spec c (RowsIdeal.Gen.V0 m c) fun w => (RowsIdeal.Gen.dats m 0 c).arrAt w (RowsIdeal.cfgs 0).N

/-- The product in it. -/
theorem left_product : left m c (Proc.devRef .tc RowsIdeal.main_v4) = (RowsIdeal.Gen.dats m 0 c).arrAt 3 RowsIdeal.cfg0.N :=
  Pipeline.withArrays_arr (RowsIdeal.cfgs 0).spec (by decide) c (RowsIdeal.Gen.V0 m c) _ 3

/-- An argument that no window stages. -/
theorem left_arg3 : left m c (Proc.devRef .tc RowsIdeal.main_arg3) = m ((c.tc : Thread RowsIdeal.nD RowsIdeal.τ).loc RowsIdeal.main_arg3) :=
  (Pipeline.withArrays_of_ne (RowsIdeal.cfgs 0).spec c (RowsIdeal.Gen.V0 m c) _ RowsIdeal.main_arg3 (by decide)).trans (RowsIdeal.Gen.V_main_arg3 m c)

theorem left_arg4 : left m c (Proc.devRef .tc RowsIdeal.main_arg4) = m ((c.tc : Thread RowsIdeal.nD RowsIdeal.τ).loc RowsIdeal.main_arg4) :=
  (Pipeline.withArrays_of_ne (RowsIdeal.cfgs 0).spec c (RowsIdeal.Gen.V0 m c) _ RowsIdeal.main_arg4 (by decide)).trans (RowsIdeal.Gen.V_main_arg4 m c)

/-- The two products agree when the arguments do. -/
theorem agree
    (h0 : m' ((c.tc : Thread RowsRefIdeal.nD RowsRefIdeal.τ).loc RowsRefIdeal.main_arg0) = m ((c.tc : Thread RowsIdeal.nD RowsIdeal.τ).loc RowsIdeal.main_arg0))
    (h1 : m' ((c.tc : Thread RowsRefIdeal.nD RowsRefIdeal.τ).loc RowsRefIdeal.main_arg1) = m ((c.tc : Thread RowsIdeal.nD RowsIdeal.τ).loc RowsIdeal.main_arg1))
    (h2 : m' ((c.tc : Thread RowsRefIdeal.nD RowsRefIdeal.τ).loc RowsRefIdeal.main_arg2) = m ((c.tc : Thread RowsIdeal.nD RowsIdeal.τ).loc RowsIdeal.main_arg2)) :
    Agree (left m c (Proc.devRef .tc RowsIdeal.main_v4) : FVec Ideal RowsIdeal.S32768x6656 .f32) (RowsRefIdeal.Value.res_main_v16 (StableHlo.launchContents m' c)) := by
  intro b t q r hr
  rw [left_product, RowsIdeal.Rows.final, RowsRefIdeal.Value.proj_at]
  have e0 : RowsRefIdeal.Value.xArr (StableHlo.launchContents m' c) = m ((c.tc : Thread RowsIdeal.nD RowsIdeal.τ).loc RowsIdeal.main_arg0) := h0
  have e1 : RowsRefIdeal.Value.gArr (StableHlo.launchContents m' c) = m ((c.tc : Thread RowsIdeal.nD RowsIdeal.τ).loc RowsIdeal.main_arg1) := h1
  have e2 : RowsRefIdeal.Value.wArr (StableHlo.launchContents m' c) = m ((c.tc : Thread RowsIdeal.nD RowsIdeal.τ).loc RowsIdeal.main_arg2) := h2
  rw [e0, e1, e2]
  show ProjIdeal.Rows.projRow (RowsIdeal.Rows.xRow m c r) (RowsIdeal.Rows.gain m c) _ ⟨q.val, _⟩ = _
  have hb : (⟨r.val / 2048, by omega⟩ : Fin 16) = b := Fin.ext (by show r.val / 2048 = b.val; omega)
  have ht : (⟨r.val % 2048, by omega⟩ : Fin 2048) = t := Fin.ext (by show r.val % 2048 = t.val; omega)
  unfold ProjIdeal.Rows.projRow ProjIdeal.Rows.padded RowsIdeal.Rows.xRow
  simp only [hb, ht, dif_pos q.isLt]

/-- The kernel and the reference leave the same six arrays. -/
theorem algebraic : Cert.algebraic_RowsIdeal_RowsRefIdeal := by
  intro m g m' g' _ hagree
  refine ⟨fun c => tail (left m c) RowsIdeal.main_v116, fun c => tail (left m c) RowsIdeal.main_v161, fun c => tail (left m c) RowsIdeal.main_v162,
    fun c => tail (left m c) RowsIdeal.main_v166, fun c => tail (left m c) RowsIdeal.main_v229, fun c => tail (left m c) RowsIdeal.main_v262, ?_, ?_⟩
  · refine (θ_run RowsIdeal.defs _ _).mono (fun r h c => ?_) (θ_run_and (RowsIdeal.Gen.run_main m g) (RowsIdeal.Gen.unchanged m g))
    exact ⟨(h.1 c).2 _ (by decide), (h.1 c).2 _ (by decide), (h.1 c).2 _ (by decide), (h.1 c).2 _ (by decide), (h.1 c).2 _ (by decide),
      (h.1 c).2 _ (by decide), h.2 c⟩
  · refine (θ_run RowsRefIdeal.defs _ _).mono (fun r h c => ?_) (RowsRefIdeal.Value.run (F := Ideal) m' g')
    obtain ⟨h0, h1, h2, h3, h4⟩ := hagree c
    have e := agree m m' c h0 h1 h2
    have e3 := (left_arg3 m c).trans h3.symm
    have e4 := (left_arg4 m c).trans h4.symm
    have out := fun b => congrFun (RowsRefIdeal.Value.after_ops (StableHlo.launchContents m' c)) b
    obtain ⟨r0, r1, r2, r3, r4, r5, args⟩ := h c
    exact ⟨r0.trans (((out _).trans (RowsRefIdeal.Value.val5_main_v102 _)).symm.trans (nsa_eq _ _ e).symm),
      r1.trans (((out _).trans (RowsRefIdeal.Value.val5_main_v147 _)).symm.trans (mla_eq _ _ e e4).symm),
      r2.trans (((out _).trans (RowsRefIdeal.Value.val5_main_v148 _)).symm.trans (fox_eq _ _ e).symm),
      r3.trans (((out _).trans (RowsRefIdeal.Value.val5_main_v152 _)).symm.trans (logf_eq _ _ e e3).symm),
      r4.trans (((out _).trans (RowsRefIdeal.Value.val5_main_v215 _)).symm.trans (dsa_eq _ _ e).symm),
      r5.trans (((out _).trans (RowsRefIdeal.Value.val5_main_v248 _)).symm.trans (win_eq _ _ e).symm), args⟩

/-- The reference terminates without a fault and leaves its arguments and the semaphores alone. -/
theorem frame_ref : Cert.quiescent_RowsRefIdeal := by
  intro m g _
  refine (θ_run Cert.RowsRefIdeal.defs _ _).mono
    (fun r h => ⟨fun c => (h c).2.2.2.2.2.2, sem_eq_zero_of_no_sems (by decide) r.2⟩) (Cert.RowsRefIdeal.Value.run (F := Ideal) m g)

/-- The kernel terminates without a fault and leaves its arguments and the semaphores alone. -/
theorem frame : Cert.quiescent_Rows := fun m ρ _ => Cert.Rows.Gen.frame m ρ

/-- So does the kernel read over the extended reals. -/
theorem frame_ideal : Cert.quiescent_RowsIdeal := fun m ρ _ => Cert.RowsIdeal.Gen.frame m ρ

end Attn.Rows

end
-- ==== Proof.Sample.Block.lean ====
module

public import proofs.«01_k».proof.Proof.Gen.SampleIdeal.Frame
public import proofs.«01_k».proof.Proof.Proj.Block
public import Idealize.ShloMosaic.Lib.Pipeline.ValueKit
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem

namespace Cert.SampleIdeal.Rows

open Cert.SampleIdeal Cert.SampleIdeal.Gen Attn
open Cert.ProjIdeal.Rows (padded projRow)

/-- The normalised rows that the first step of a sweep stores. -/
theorem pay1_at (x : FVec Ideal S1024x1024 .f32) (g : FVec Ideal S1x1024 .f32) (r j : Fin 1024) :
    k0_pay1 (F := Ideal) x g (ix2 r j) = normed (fun k => x (ix2 r k)) (fun k => g (ix2 0 k)) j := by
  pointwise [k0_pay1]
  rfl

/-- The product of a step is the one of the projection by itself. -/
theorem pay2_eq (h : FVec Ideal S1024x1024 .bf16) (w : FVec Ideal S1024x512 .bf16) : k0_pay2 (F := Ideal) h w = Cert.ProjIdeal.Gen.k0_pay2 (F := Ideal) h w := rfl

variable (m : (ℓ : Loc nD τ sig) → Buf (Elt Ideal) ℓ)

/-- The blocks' positions: grid point `t` is step `t % 13` of the sweep of row block `t / 13`. -/
theorem idx : ∀ t : Fin cfg0.N, win0_0.index t = ![t.val / 13, 0] ∧ win0_1.index t = ![0, 0] ∧ win0_2.index t = ![0, t.val % 13]
    ∧ win0_3.index t = ![t.val / 13, t.val % 13] :=
  (by decide +kernel : ∀ t : Fin grid0.N, _)

/-- The gains, laid out by the host as one row. -/
theorem gain_at (c : Dev nD) (k : Fin 1024) : V m c main_v3 (ix2 0 k) = m ((c.tc : Thread nD τ).loc main_arg2) (ix1 k) := by
  show StableHlo.after (hostOps0 ++ (hostOps0_1 ++ hostOps0_2)) _ _ _ = _
  after_reads_at

/-- The weights after the host's padding and cast. -/
theorem weight_at (c : Dev nD) (k : Fin 1024) (q : Fin 6656) : V m c main_v2 (ix2 k q) = padded (m ((c.tc : Thread nD τ).loc main_arg3)) k q := by
  show StableHlo.after (hostOps0 ++ (hostOps0_1 ++ hostOps0_2)) _ _ _ = _
  after_reads_at
  unfold padded
  rw [fill_zero]

/-- The arguments' rows and gains. -/
abbrev xRow (c : Dev nD) (r : Fin 1024) : Fin 1024 → EReal := fun k => m ((c.tc : Thread nD τ).loc main_arg0) (ix3 ⟨r.val / 8, by omega⟩ ⟨r.val % 8, by omega⟩ k)
abbrev gain (c : Dev nD) : Fin 1024 → EReal := fun k => m ((c.tc : Thread nD τ).loc main_arg2) (ix1 k)

/-- The rows, laid out by the host one after another. -/
theorem rows_at (c : Dev nD) (r : Fin 1024) (k : Fin 1024) : V m c main_v0 (ix2 r k) = xRow m c r k := by
  show StableHlo.after (hostOps0 ++ (hostOps0_1 ++ hostOps0_2)) _ _ _ = _
  after_reads_at

theorem lt_N (t : Fin cfg0.N) : t.val < 13 := lt_of_lt_of_eq t.isLt (show cfg0.N = 13 from N_0)

/-- The row of the arrays that row `r` of grid point `t`'s blocks is. -/
abbrev rowOf (t : Fin cfg0.N) (r : Fin 1024) : Fin 1024 := ⟨1024 * (t.val / 13) + r.val, by have := lt_N t; omega⟩

/-- The column of the projection that column `s` of grid point `t`'s block is. -/
abbrev colOf (t : Fin cfg0.N) (s : Fin 512) : Fin 6656 := ⟨512 * (t.val % 13) + s.val, by omega⟩

theorem blk0_at (c : Dev nD) (t : Fin cfg0.N) (r k : Fin 1024) :
    iblk m c 0 t (ix2 r k) = xRow m c (rowOf t r) k := by
  rw [← rows_at m c]
  blk_ext [iblk, idx t]

theorem blk1_at (c : Dev nD) (t : Fin cfg0.N) (k : Fin 1024) :
    iblk m c 1 t (ix2 0 k) = m ((c.tc : Thread nD τ).loc main_arg2) (ix1 k) := by
  rw [← gain_at m c]
  blk_ext [iblk, idx t]

theorem blk2_at (c : Dev nD) (t : Fin cfg0.N) (k : Fin 1024) (s : Fin 512) :
    iblk m c 2 t (ix2 k s) = padded (m ((c.tc : Thread nD τ).loc main_arg3)) k (colOf t s) := by
  rw [← weight_at m c]
  blk_ext [iblk, idx t]

theorem norm_blk_at (c : Dev nD) (t : Fin cfg0.N) (r j : Fin 1024) :
    k0_pay1 (F := Ideal) (iblk m c 0 t) (iblk m c 1 t) (ix2 r j) = normed (xRow m c (rowOf t r)) (gain m c) j := by
  rw [pay1_at]
  simp only [blk0_at, blk1_at]

/-- One step at a grid point, from normalised rows. -/
theorem step_at (c : Dev nD) (t : Fin cfg0.N) (h : FVec Ideal S1024x1024 .bf16)
    (hh : ∀ r j : Fin 1024, h (ix2 r j) = normed (xRow m c (rowOf t r)) (gain m c) j) (r : Fin 1024) (s : Fin 512) :
    k0_pay2 (F := Ideal) h (iblk m c 2 t) (ix2 r s) =
      projRow (xRow m c (rowOf t r)) (gain m c) (m ((c.tc : Thread nD τ).loc main_arg3)) (colOf t s) := by
  rw [pay2_eq, Cert.ProjIdeal.Rows.pay2_at]
  simp only [hh, blk2_at]
  rfl

/-- What a grid point leaves: its columns of the projection in the block to write, and the normalised rows in the scratch. -/
def Holds (c : Dev nD) (t : Fin cfg0.N) (o : FVec Ideal S1024x512 .f32) (h : FVec Ideal S1024x1024 .bf16) : Prop :=
  (∀ (r : Fin 1024) (s : Fin 512), o (ix2 r s) = projRow (xRow m c (rowOf t r)) (gain m c) (m ((c.tc : Thread nD τ).loc main_arg3)) (colOf t s))
    ∧ ∀ r j : Fin 1024, h (ix2 r j) = normed (xRow m c (rowOf t r)) (gain m c) j

/-- The first step of a sweep. -/
theorem holds_first (c : Dev nD) (t : Fin cfg0.N) (h0 : t.val % 13 = 0) : Holds m c t (outsAt0 m c t.val t.isLt).1 (outsAt0 m c t.val t.isLt).2 := by
  rw [outsAt0_A m c t h0]
  dsimp only
  constructor
  · intro r s
    unfold out0_A_3
    frame_out
    exact step_at m c t _ (norm_blk_at m c t) r s
  · intro r j
    unfold sout0_A_0
    frame_out
    exact norm_blk_at m c t r j

/-- A later step, from what the step before it left. -/
theorem holds_later (c : Dev nD) (t : Fin cfg0.N) (h0 : ¬t.val % 13 = 0)
    (ih : Holds m c ⟨t.val - 1, Nat.lt_of_le_of_lt (Nat.sub_le _ _) t.isLt⟩ (outsAt0 m c (t.val - 1) (Nat.lt_of_le_of_lt (Nat.sub_le _ _) t.isLt)).1
      (outsAt0 m c (t.val - 1) (Nat.lt_of_le_of_lt (Nat.sub_le _ _) t.isLt)).2) :
    Holds m c t (outsAt0 m c t.val t.isLt).1 (outsAt0 m c t.val t.isLt).2 := by
  have hr : ∀ r : Fin 1024, rowOf ⟨t.val - 1, Nat.lt_of_le_of_lt (Nat.sub_le _ _) t.isLt⟩ r = rowOf t r := fun r => Fin.ext (by
    show 1024 * ((t.val - 1) / 13) + r.val = 1024 * (t.val / 13) + r.val
    omega)
  have ih2 := ih.2
  simp only [hr] at ih2
  rw [outsAt0_B m c t h0]
  dsimp only
  constructor
  · intro r s
    unfold out0_B_3
    frame_out
    refine (congrArg (fun h => k0_pay2 (F := Ideal) h (iblk m c 2 t) (ix2 r s)) ((Memref.isWhole_whole cc0_scratch0).read_unread _)).trans ?_
    exact step_at m c t _ ih2 r s
  · exact ih2

/-- After every grid point. -/
theorem holds (c : Dev nD) : ∀ (n : ℕ) (hn : n < cfg0.N), Holds m c ⟨n, hn⟩ (outsAt0 m c n hn).1 (outsAt0 m c n hn).2
  | 0, hn => holds_first m c ⟨0, hn⟩ rfl
  | n + 1, hn => by
    by_cases h0 : (n + 1) % 13 = 0
    · exact holds_first m c ⟨n + 1, hn⟩ h0
    · exact holds_later m c ⟨n + 1, hn⟩ h0 (holds c n (Nat.lt_of_succ_lt hn))

/-- THE PRODUCT, entry by entry. -/
theorem final (c : Dev nD) : (dats m 0 c).arrAt 3 cfg0.N = fun y : S1024x6656.Idx =>
    projRow (xRow m c (y 0)) (gain m c) (m ((c.tc : Thread nD τ).loc main_arg3)) (y 1) := by
  refine (dats m 0 c).arrAt_eq_of_covers 3 _ (by decide +kernel) fun t hf y => ?_
  have i3 := (idx t).2.2.2
  blk_simp
  rw [after0_3]
  have z0 : (win0_3.blk t).view.emb y 0 = rowOf t (y 0) := Fin.ext (by
    blk_simp [i3]
    show _ = 1024 * (t.val / 13) + (y 0).val
    omega)
  have z1 : (win0_3.blk t).view.emb y 1 = colOf t (y 1) := Fin.ext (by
    blk_simp [i3]
    show _ = 512 * (t.val % 13) + (y 1).val
    omega)
  rw [z0, z1]
  exact (congrArg (outsAt0 m c t.val t.isLt).1 (Idealize.ShloMosaic.eq_ix2 (y : S1024x512.Idx))).trans ((holds m c t.val t.isLt).1 (y 0) (y 1))

end Cert.SampleIdeal.Rows

end
-- ==== Proof.Sample.Ref.lean ====
module

public import proofs.«01_k».proof.Proof.Gen.SampleRefIdeal.Run
public import proofs.«01_k».proof.Proof.Math.Norm
public import Idealize.ShloMosaic.Lib.Pointwise

@[expose] public section

set_option maxRecDepth 16384

noncomputable section

open Idealize.ShloMosaic Idealize.ShloMosaic.TcCoe Idealize.SL.Sem

namespace Cert.SampleRefIdeal.Value

open Cert.SampleRefIdeal Cert.SampleRefIdeal.Gen Attn

variable (V0 : Valuation τ sig (Elt Ideal))

/-- The reference's arguments. -/
abbrev xArr : FVec Ideal S128x8x1024 .f32 := V0 (Proc.devRef .tc main_arg0)
abbrev gArr : FVec Ideal S1024 .f32 := V0 (Proc.devRef .tc main_arg2)
abbrev wArr : FVec Ideal S1024x6644 .f32 := V0 (Proc.devRef .tc main_arg3)

/-- The reference's product of the normalised rows with the weights, at an entry. -/
theorem proj_at (b : Fin 128) (t : Fin 8) (q : Fin 6644) :
    res_main_v16 V0 (ix3 b t q) = ∑ k, normed (fun k => xArr V0 (ix3 b t k)) (fun k => gArr V0 (ix1 k)) k * wArr V0 (ix2 k q) := by
  pointwise [res_main_v16]
  rfl

end Cert.SampleRefIdeal.Value

end
-- ==== Proof.Sample.Tail.lean ====
module

public import proofs.«01_k».proof.Proof.Gen.SampleIdeal.Frame
public import proofs.«01_k».proof.Proof.Gen.SampleRefIdeal.Run
public import proofs.«01_k».proof.Proof.Rows.Cut
public import Idealize.ShloMosaic.Lib.StableHlo.ReadAt

@[expose] public section

set_option maxRecDepth 16384

noncomputable section

open Idealize.ShloMosaic Idealize.ShloMosaic.TcCoe Idealize.SL.Sem

namespace Attn.Sample

open Cert
open Cert.SampleRefIdeal.Value (ops after_ops res_main_v16)
open Cert.SampleRefIdeal.Gen

/-- What the kernel's lines after its product leave in a buffer. -/
abbrev tail (V : Valuation SampleIdeal.τ SampleIdeal.sig (Elt Ideal)) (b : Ref SampleIdeal.sig .tc) :=
  StableHlo.after [SampleIdeal.Gen.hostOps1, SampleIdeal.Gen.hostOps1_1, SampleIdeal.Gen.hostOps1_2].flatten V (Proc.devRef .tc b)

variable (V : Valuation SampleIdeal.τ SampleIdeal.sig (Elt Ideal)) (V0 : Valuation SampleRefIdeal.τ SampleRefIdeal.sig (Elt Ideal))
  (h : Agree (V (Proc.devRef .tc SampleIdeal.main_v4) : FVec Ideal SampleIdeal.S1024x6656 .f32) (res_main_v16 V0))

include h in
/-- Result: the compressed and the selected keys and values. -/
theorem nsa_eq : tail V SampleIdeal.main_v116 = StableHlo.after ops V0 (Proc.devRef .tc SampleRefIdeal.main_v102) := by
  refine Eq.trans ?_ ((congrFun (after_ops V0) _).trans (SampleRefIdeal.Value.val5_main_v102 V0)).symm
  simp only [StableHlo.readAfter, StableHlo.nary_result']
  dsimp only [Matrix.cons_val]
  after_reads_simp [↓StableHlo.readPieces]
  try simp -implicitDefEqProofs only [StableHlo.TRef.toBuf, StableHlo.TRef.ofBuf, cast_cast, cast_eq, ↓StableHlo.readPieces]
  clean_types
  rw [cut h _ _ rfl slices_S128x8x6644_S128x8x64_0_0_256,
    cut h _ _ rfl slices_S128x8x6644_S128x8x64_0_0_320,
    cut h _ _ rfl slices_S128x8x6644_S128x8x64_0_0_384,
    cut h _ _ rfl slices_S128x8x6644_S128x8x64_0_0_448]
  rfl

include h in
/-- Result: the latent row and its rotary part. -/
theorem mla_eq
    (h5 : V (Proc.devRef .tc SampleIdeal.main_arg5) = V0 (Proc.devRef .tc SampleRefIdeal.main_arg5)) : tail V SampleIdeal.main_v161 = StableHlo.after ops V0 (Proc.devRef .tc SampleRefIdeal.main_v147) := by
  refine Eq.trans ?_ ((congrFun (after_ops V0) _).trans (SampleRefIdeal.Value.val5_main_v147 V0)).symm
  after_reads_simp [↓StableHlo.readPieces]
  try simp -implicitDefEqProofs only [StableHlo.TRef.toBuf, StableHlo.TRef.ofBuf, cast_cast, cast_eq, ↓StableHlo.readPieces]
  clean_types
  rw [cut h _ _ rfl slices_S128x8x6644_S128x8x256_0_0_1036,
    cut h _ _ rfl slices_S128x8x6644_S128x8x32_0_0_1292,
    h5]
  rfl

include h in
/-- Result: the keys and values of the forgetting attention. -/
theorem fox_eq : tail V SampleIdeal.main_v162 = StableHlo.after ops V0 (Proc.devRef .tc SampleRefIdeal.main_v148) := by
  refine Eq.trans ?_ ((congrFun (after_ops V0) _).trans (SampleRefIdeal.Value.val5_main_v148 V0)).symm
  after_reads_simp [↓StableHlo.readPieces]
  try simp -implicitDefEqProofs only [StableHlo.TRef.toBuf, StableHlo.TRef.ofBuf, cast_cast, cast_eq, ↓StableHlo.readPieces]
  clean_types
  rw [cut h _ _ rfl slices_S128x8x6644_S128x8x128_0_0_1580,
    cut h _ _ rfl slices_S128x8x6644_S128x8x128_0_0_1708]
  rfl

include h in
/-- Result: the logarithms of its gates. -/
theorem logf_eq
    (h4 : V (Proc.devRef .tc SampleIdeal.main_arg4) = V0 (Proc.devRef .tc SampleRefIdeal.main_arg4)) : tail V SampleIdeal.main_v166 = StableHlo.after ops V0 (Proc.devRef .tc SampleRefIdeal.main_v152) := by
  refine Eq.trans ?_ ((congrFun (after_ops V0) _).trans (SampleRefIdeal.Value.val5_main_v152 V0)).symm
  after_reads_simp [↓StableHlo.readPieces]
  try simp -implicitDefEqProofs only [StableHlo.TRef.toBuf, StableHlo.TRef.ofBuf, cast_cast, cast_eq, ↓StableHlo.readPieces]
  clean_types
  rw [cut h _ _ rfl slices_S128x8x6644_S128x8x4_0_0_1836,
    h4]
  rfl

include h in
/-- Result: the keys, the values and the index keys. -/
theorem dsa_eq : tail V SampleIdeal.main_v229 = StableHlo.after ops V0 (Proc.devRef .tc SampleRefIdeal.main_v215) := by
  refine Eq.trans ?_ ((congrFun (after_ops V0) _).trans (SampleRefIdeal.Value.val5_main_v215 V0)).symm
  simp only [StableHlo.readAfter, StableHlo.nary_result']
  dsimp only [Matrix.cons_val]
  after_reads_simp [↓StableHlo.readPieces]
  try simp -implicitDefEqProofs only [StableHlo.TRef.toBuf, StableHlo.TRef.ofBuf, cast_cast, cast_eq, ↓StableHlo.readPieces]
  clean_types
  rw [cut h _ _ rfl slices_S128x8x6644_S128x8x64_0_0_2096,
    cut h _ _ rfl slices_S128x8x6644_S128x8x64_0_0_2160,
    cut h _ _ rfl slices_S128x8x6644_S128x8x64_0_0_2480]
  rfl

include h in
/-- Result: the window's keys and values. -/
theorem win_eq
    (h1 : V (Proc.devRef .tc SampleIdeal.main_arg1) = V0 (Proc.devRef .tc SampleRefIdeal.main_arg1)) : tail V SampleIdeal.main_v263 = StableHlo.after ops V0 (Proc.devRef .tc SampleRefIdeal.main_v249) := by
  refine Eq.trans ?_ ((congrFun (after_ops V0) _).trans (SampleRefIdeal.Value.val5_main_v249 V0)).symm
  after_reads_simp [↓StableHlo.readPieces]
  try simp -implicitDefEqProofs only [StableHlo.TRef.toBuf, StableHlo.TRef.ofBuf, cast_cast, cast_eq, ↓StableHlo.readPieces]
  clean_types
  rw [cut h _ _ rfl slices_S128x8x6644_S128x8x64_0_0_512,
    cut h _ _ rfl slices_S128x8x6644_S128x8x64_0_0_576,
    h1]
  rfl

end Attn.Sample

end
-- ==== Proof.Sample.Claims.lean ====
module

public import proofs.«01_k».proof.Defs
public import proofs.«01_k».proof.Proof.Sample.Block
public import proofs.«01_k».proof.Proof.Sample.Ref
public import proofs.«01_k».proof.Proof.Sample.Tail
public import proofs.«01_k».proof.Proof.Gen.Sample.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.Sample

open Cert

variable (m : (ℓ : Loc SampleIdeal.nD SampleIdeal.τ SampleIdeal.sig) → Buf (Elt Ideal) ℓ)
  (m' : (ℓ : Loc SampleRefIdeal.nD SampleRefIdeal.τ SampleRefIdeal.sig) → Buf (Elt Ideal) ℓ) (c : Dev SampleIdeal.nD)

/-- What the lines after the product read: the product where the windows' arrays are, the rest as it was before. -/
abbrev left : Valuation SampleIdeal.τ SampleIdeal.sig (Elt Ideal) :=
  Pipeline.withArrays (SampleIdeal.cfgs 0).spec c (SampleIdeal.Gen.V0 m c) fun w => (SampleIdeal.Gen.dats m 0 c).arrAt w (SampleIdeal.cfgs 0).N

/-- The product in it. -/
theorem left_product : left m c (Proc.devRef .tc SampleIdeal.main_v4) = (SampleIdeal.Gen.dats m 0 c).arrAt 3 SampleIdeal.cfg0.N :=
  Pipeline.withArrays_arr (SampleIdeal.cfgs 0).spec (by decide) c (SampleIdeal.Gen.V0 m c) _ 3

/-- An argument that no window stages. -/
theorem left_arg1 : left m c (Proc.devRef .tc SampleIdeal.main_arg1) = m ((c.tc : Thread SampleIdeal.nD SampleIdeal.τ).loc SampleIdeal.main_arg1) :=
  (Pipeline.withArrays_of_ne (SampleIdeal.cfgs 0).spec c (SampleIdeal.Gen.V0 m c) _ SampleIdeal.main_arg1 (by decide)).trans (SampleIdeal.Gen.V_main_arg1 m c)

theorem left_arg4 : left m c (Proc.devRef .tc SampleIdeal.main_arg4) = m ((c.tc : Thread SampleIdeal.nD SampleIdeal.τ).loc SampleIdeal.main_arg4) :=
  (Pipeline.withArrays_of_ne (SampleIdeal.cfgs 0).spec c (SampleIdeal.Gen.V0 m c) _ SampleIdeal.main_arg4 (by decide)).trans (SampleIdeal.Gen.V_main_arg4 m c)

theorem left_arg5 : left m c (Proc.devRef .tc SampleIdeal.main_arg5) = m ((c.tc : Thread SampleIdeal.nD SampleIdeal.τ).loc SampleIdeal.main_arg5) :=
  (Pipeline.withArrays_of_ne (SampleIdeal.cfgs 0).spec c (SampleIdeal.Gen.V0 m c) _ SampleIdeal.main_arg5 (by decide)).trans (SampleIdeal.Gen.V_main_arg5 m c)

/-- The two products agree when the arguments do. -/
theorem agree
    (h0 : m' ((c.tc : Thread SampleRefIdeal.nD SampleRefIdeal.τ).loc SampleRefIdeal.main_arg0) = m ((c.tc : Thread SampleIdeal.nD SampleIdeal.τ).loc SampleIdeal.main_arg0))
    (h1 : m' ((c.tc : Thread SampleRefIdeal.nD SampleRefIdeal.τ).loc SampleRefIdeal.main_arg2) = m ((c.tc : Thread SampleIdeal.nD SampleIdeal.τ).loc SampleIdeal.main_arg2))
    (h2 : m' ((c.tc : Thread SampleRefIdeal.nD SampleRefIdeal.τ).loc SampleRefIdeal.main_arg3) = m ((c.tc : Thread SampleIdeal.nD SampleIdeal.τ).loc SampleIdeal.main_arg3)) :
    Agree (left m c (Proc.devRef .tc SampleIdeal.main_v4) : FVec Ideal SampleIdeal.S1024x6656 .f32) (SampleRefIdeal.Value.res_main_v16 (StableHlo.launchContents m' c)) := by
  intro b t q r hr
  rw [left_product, SampleIdeal.Rows.final, SampleRefIdeal.Value.proj_at]
  have e0 : SampleRefIdeal.Value.xArr (StableHlo.launchContents m' c) = m ((c.tc : Thread SampleIdeal.nD SampleIdeal.τ).loc SampleIdeal.main_arg0) := h0
  have e1 : SampleRefIdeal.Value.gArr (StableHlo.launchContents m' c) = m ((c.tc : Thread SampleIdeal.nD SampleIdeal.τ).loc SampleIdeal.main_arg2) := h1
  have e2 : SampleRefIdeal.Value.wArr (StableHlo.launchContents m' c) = m ((c.tc : Thread SampleIdeal.nD SampleIdeal.τ).loc SampleIdeal.main_arg3) := h2
  rw [e0, e1, e2]
  show ProjIdeal.Rows.projRow (SampleIdeal.Rows.xRow m c r) (SampleIdeal.Rows.gain m c) _ ⟨q.val, _⟩ = _
  have hb : (⟨r.val / 8, by omega⟩ : Fin 128) = b := Fin.ext (by show r.val / 8 = b.val; omega)
  have ht : (⟨r.val % 8, by omega⟩ : Fin 8) = t := Fin.ext (by show r.val % 8 = t.val; omega)
  unfold ProjIdeal.Rows.projRow ProjIdeal.Rows.padded SampleIdeal.Rows.xRow
  simp only [hb, ht, dif_pos q.isLt]

/-- The kernel and the reference leave the same six arrays. -/
theorem algebraic : Cert.algebraic_SampleIdeal_SampleRefIdeal := by
  intro m g m' g' _ hagree
  refine ⟨fun c => tail (left m c) SampleIdeal.main_v116, fun c => tail (left m c) SampleIdeal.main_v161, fun c => tail (left m c) SampleIdeal.main_v162,
    fun c => tail (left m c) SampleIdeal.main_v166, fun c => tail (left m c) SampleIdeal.main_v229, fun c => tail (left m c) SampleIdeal.main_v263, ?_, ?_⟩
  · refine (θ_run SampleIdeal.defs _ _).mono (fun r h c => ?_) (θ_run_and (SampleIdeal.Gen.run_main m g) (SampleIdeal.Gen.unchanged m g))
    exact ⟨(h.1 c).2 _ (by decide), (h.1 c).2 _ (by decide), (h.1 c).2 _ (by decide), (h.1 c).2 _ (by decide), (h.1 c).2 _ (by decide),
      (h.1 c).2 _ (by decide), h.2 c⟩
  · refine (θ_run SampleRefIdeal.defs _ _).mono (fun r h c => ?_) (SampleRefIdeal.Value.run (F := Ideal) m' g')
    obtain ⟨h0, hw, h1, h2, h3, h4⟩ := hagree c
    have e := agree m m' c h0 h1 h2
    have ew := (left_arg1 m c).trans hw.symm
    have e3 := (left_arg4 m c).trans h3.symm
    have e4 := (left_arg5 m c).trans h4.symm
    have out := fun b => congrFun (SampleRefIdeal.Value.after_ops (StableHlo.launchContents m' c)) b
    obtain ⟨r0, r1, r2, r3, r4, r5, args⟩ := h c
    exact ⟨r0.trans (((out _).trans (SampleRefIdeal.Value.val5_main_v102 _)).symm.trans (nsa_eq _ _ e).symm),
      r1.trans (((out _).trans (SampleRefIdeal.Value.val5_main_v147 _)).symm.trans (mla_eq _ _ e e4).symm),
      r2.trans (((out _).trans (SampleRefIdeal.Value.val5_main_v148 _)).symm.trans (fox_eq _ _ e).symm),
      r3.trans (((out _).trans (SampleRefIdeal.Value.val5_main_v152 _)).symm.trans (logf_eq _ _ e e3).symm),
      r4.trans (((out _).trans (SampleRefIdeal.Value.val5_main_v215 _)).symm.trans (dsa_eq _ _ e).symm),
      r5.trans (((out _).trans (SampleRefIdeal.Value.val5_main_v249 _)).symm.trans (win_eq _ _ e ew).symm), args⟩

/-- The reference terminates without a fault and leaves its arguments and the semaphores alone. -/
theorem frame_ref : Cert.quiescent_SampleRefIdeal := by
  intro m g _
  refine (θ_run Cert.SampleRefIdeal.defs _ _).mono
    (fun r h => ⟨fun c => (h c).2.2.2.2.2.2, sem_eq_zero_of_no_sems (by decide) r.2⟩) (Cert.SampleRefIdeal.Value.run (F := Ideal) m g)

/-- The kernel terminates without a fault and leaves its arguments and the semaphores alone. -/
theorem frame : Cert.quiescent_Sample := fun m ρ _ => Cert.Sample.Gen.frame m ρ

/-- So does the kernel read over the extended reals. -/
theorem frame_ideal : Cert.quiescent_SampleIdeal := fun m ρ _ => Cert.SampleIdeal.Gen.frame m ρ

end Attn.Sample

end
-- ==== Proof.Math.Compress.lean ====
module

public import Idealize.ShloMosaic.PureOps.Ideal
public import Idealize.ShloMosaic.Lib.ValueIdx

@[expose] public section

noncomputable section

open Idealize.ShloMosaic

namespace Attn

/-- The activation of the compression's hidden layer. -/
def silu (h : EReal) : EReal := h * Ideal.logistic h

/-- The hidden layer of block `i`: its 32 rows of 64 numbers, each with its place's embedding added, through the first weights;
    the embeddings' part, the first half's and the second half's apart. -/
def hiddenRow (x : Fin 2048 → Fin 64 → EReal) (pe : Fin 32 → Fin 64 → EReal) (w1 : Fin 2048 → Fin 64 → EReal) (i : Fin 127) (j : Fin 64) : EReal :=
  (∑ e : Fin 2048, pe ⟨e.val / 64, by omega⟩ ⟨e.val % 64, by omega⟩ * w1 e j)
    + (∑ e : Fin 1024, x ⟨i.val * 16 + e.val / 64, by omega⟩ ⟨e.val % 64, by omega⟩ * w1 ⟨e.val, by omega⟩ j)
    + ∑ e : Fin 1024, x ⟨(1 + i.val) * 16 + e.val / 64, by omega⟩ ⟨e.val % 64, by omega⟩ * w1 ⟨1024 + e.val, by omega⟩ j

/-- The compressed block: the activated hidden layer through the second weights. -/
def compressed (x : Fin 2048 → Fin 64 → EReal) (pe : Fin 32 → Fin 64 → EReal) (w1 : Fin 2048 → Fin 64 → EReal) (w2 : Fin 64 → Fin 64 → EReal)
    (i : Fin 127) (j : Fin 64) : EReal :=
  ∑ k, silu (hiddenRow x pe w1 i k) * w2 k j

/-- A sum over the 1024 numbers of 16 rows is one over the rows and one over each row's 64 numbers. -/
theorem sum_rows (f : Fin 16 → Fin 64 → EReal) :
    ∑ e : Fin 1024, f ⟨e.val / 64, by omega⟩ ⟨e.val % 64, by omega⟩ = ∑ r, ∑ d, f r d := by
  rw [← Fintype.sum_prod_type']
  refine (Fintype.sum_equiv (finProdFinEquiv (m := 16) (n := 64)) _ _ fun p => ?_).symm
  obtain ⟨r, d⟩ := p
  have h1 : (⟨(finProdFinEquiv (r, d)).val / 64, by omega⟩ : Fin 16) = r := Fin.ext (by
    show (d.val + 64 * r.val) / 64 = r.val
    omega)
  have h2 : (⟨(finProdFinEquiv (r, d)).val % 64, by omega⟩ : Fin 64) = d := Fin.ext (by
    show (d.val + 64 * r.val) % 64 = d.val
    omega)
  exact (congrArg₂ f h1 h2).symm

end Attn

end
-- ==== Proof.Cmp.Block.lean ====
module

public import proofs.«01_k».proof.Proof.Gen.CmpIdeal.Frame
public import proofs.«01_k».proof.Proof.Math.Compress
public import Idealize.ShloMosaic.Lib.Pipeline.ValueKit
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem

namespace Cert.CmpIdeal.Rows

open Cert.CmpIdeal Cert.CmpIdeal.Gen Attn

/-- Every sixteenth row from row `k` on. -/
theorem rows_at (a : Memref sig .tc .vmem S1x2048x128 .f32) (ha : a.IsWhole) (x : FVec Ideal S1x2048x128 .f32) (k : ℕ) (hk : k < 16) (inb) (r d : Fin 128) :
    View.readAt (Elt Ideal) a.view { off := ![0, k, 0], size := ![1, 128, 128], stride := ![1, 16, 1], inb := inb } (ha.unread x) (ix3 0 r d)
      = x (ix3 0 ⟨r.val * 16 + k, by omega⟩ d) := by
  rw [View.readAt_apply, ha.read_unread]
  congr 1
  funext a
  apply Fin.ext
  fin_cases a
  · rfl
  · show k + 16 * r.val = r.val * 16 + k
    omega
  · show 0 + 1 * d.val = d.val
    omega

/-- One of the sixteen weight blocks. -/
theorem weights_at (w : Vec Ideal S16x128x256 .bf16) (k : ℕ) (hk : k < 16) (inb) (d : Fin 128) (q : Fin 256) :
    (View.ld (Val := Elt Ideal) (e' := .bf16) w (Rect.unit ![k, 0, 0] ![1, 128, 256] inb) : FVec Ideal S1x128x256 .bf16) (ix3 0 d q) = w (ix3 ⟨k, hk⟩ d q) := by
  refine View.ld_unit_apply_of _ _ _ _ _ (ix3 ⟨k, hk⟩ d q) fun a => ?_
  fin_cases a <;> simp

/-- A sum of sixteen terms, written out. -/
theorem sum_sixteen (f : Fin 16 → EReal) : ∑ k, f k = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

theorem pay6_at (a : FVec Ideal S128x256 .f32) (x : FVec Ideal S128x128 .f32) (w : FVec Ideal S1x128x256 .bf16) (x1 : FVec Ideal S1x128x128 .f32)
    (w1 : FVec Ideal S1x128x256 .bf16) (x2 : FVec Ideal S1x128x128 .f32) (w2 : FVec Ideal S1x128x256 .bf16) (x3 : FVec Ideal S1x128x128 .f32)
    (w3 : FVec Ideal S1x128x256 .bf16) (r : Fin 128) (q : Fin 256) :
    k0_pay6 (F := Ideal) a x w x1 w1 x2 w2 x3 w3 (ix2 r q) = a (ix2 r q) + (∑ d, x (ix2 r d) * w (ix3 0 d q)) + (∑ d, x1 (ix3 0 r d) * w1 (ix3 0 d q))
      + (∑ d, x2 (ix3 0 r d) * w2 (ix3 0 d q)) + ∑ d, x3 (ix3 0 r d) * w3 (ix3 0 d q) := by
  pointwise [k0_pay6]

theorem pay4_at (a : FVec Ideal S128x256 .f32) (x : FVec Ideal S128x128 .f32) (w : FVec Ideal S1x128x256 .bf16) (x1 : FVec Ideal S1x128x128 .f32)
    (w1 : FVec Ideal S1x128x256 .bf16) (x2 : FVec Ideal S1x128x128 .f32) (w2 : FVec Ideal S1x128x256 .bf16) (x3 : FVec Ideal S1x128x128 .f32)
    (w3 : FVec Ideal S1x128x256 .bf16) (r : Fin 128) (q : Fin 256) :
    k0_pay4 (F := Ideal) a x w x1 w1 x2 w2 x3 w3 (ix2 r q) = a (ix2 r q) + (∑ d, x (ix2 r d) * w (ix3 0 d q)) + (∑ d, x1 (ix3 0 r d) * w1 (ix3 0 d q))
      + (∑ d, x2 (ix3 0 r d) * w2 (ix3 0 d q)) + ∑ d, x3 (ix3 0 r d) * w3 (ix3 0 d q) := by
  pointwise [k0_pay4]

theorem pay2_at (a : FVec Ideal S128x256 .f32) (x : FVec Ideal S1x128x128 .f32) (w : FVec Ideal S1x128x256 .bf16) (x1 : FVec Ideal S1x128x128 .f32)
    (w1 : FVec Ideal S1x128x256 .bf16) (x2 : FVec Ideal S1x128x128 .f32) (w2 : FVec Ideal S1x128x256 .bf16) (x3 : FVec Ideal S1x128x128 .f32)
    (w3 : FVec Ideal S1x128x256 .bf16) (r : Fin 128) (q : Fin 256) :
    k0_pay2 (F := Ideal) a x w x1 w1 x2 w2 x3 w3 (ix2 r q) = a (ix2 r q) + (∑ d, x (ix3 0 r d) * w (ix3 0 d q)) + (∑ d, x1 (ix3 0 r d) * w1 (ix3 0 d q))
      + (∑ d, x2 (ix3 0 r d) * w2 (ix3 0 d q)) + ∑ d, x3 (ix3 0 r d) * w3 (ix3 0 d q) := by
  pointwise [k0_pay2]

theorem pay1_at (x : FVec Ideal S1x128x128 .f32) (w : FVec Ideal S1x128x256 .bf16) (x1 : FVec Ideal S1x128x128 .f32)
    (w1 : FVec Ideal S1x128x256 .bf16) (x2 : FVec Ideal S1x128x128 .f32) (w2 : FVec Ideal S1x128x256 .bf16) (x3 : FVec Ideal S1x128x128 .f32)
    (w3 : FVec Ideal S1x128x256 .bf16) (r : Fin 128) (q : Fin 256) :
    k0_pay1 (F := Ideal) x w x1 w1 x2 w2 x3 w3 (ix2 r q) = (∑ d, x (ix3 0 r d) * w (ix3 0 d q)) + (∑ d, x1 (ix3 0 r d) * w1 (ix3 0 d q))
      + (∑ d, x2 (ix3 0 r d) * w2 (ix3 0 d q)) + ∑ d, x3 (ix3 0 r d) * w3 (ix3 0 d q) := by
  pointwise [k0_pay1]

theorem pay3_at (x : FVec Ideal S1x128x128 .f32) (r d : Fin 128) : k0_pay3 (F := Ideal) x (ix2 r d) = x (ix3 0 r d) := by
  pointwise [k0_pay3]

theorem pay5_at (x : FVec Ideal S1x128x128 .f32) (r d : Fin 128) : k0_pay5 (F := Ideal) x (ix2 r d) = x (ix3 0 r d) := by
  pointwise [k0_pay5]

theorem pay9_at (p : FVec Ideal S2048x1 .f32) (e : Fin 2048) (j : Fin 64) : k0_pay9 (F := Ideal) p (ix2 e j) = p (ix2 e 0) := by
  pointwise [k0_pay9]

/-- The row after `r`, the last one's being the first. -/
abbrev next (r : Fin 128) : Fin 128 := ⟨(r.val + 128 - 127) % 128, by omega⟩

theorem pay7_at (a : FVec Ideal S128x256 .f32) (x : FVec Ideal S128x128 .f32) (w : FVec Ideal S1x128x256 .bf16) (x1 : FVec Ideal S1x128x128 .f32)
    (w1 : FVec Ideal S1x128x256 .bf16) (x2 : FVec Ideal S1x128x128 .f32) (w2 : FVec Ideal S1x128x256 .bf16) (x3 : FVec Ideal S1x128x128 .f32)
    (w3 : FVec Ideal S1x128x256 .bf16) (r : Fin 128) (q : Fin 256) :
    k0_pay7 (F := Ideal) a x w x1 w1 x2 w2 x3 w3 (ix2 r q) = k0_pay6 (F := Ideal) a x w x1 w1 x2 w2 x3 w3 (ix2 (next r) q) := by
  pointwise [k0_pay7]

theorem pay8_at (a : FVec Ideal S128x256 .f32) (x : FVec Ideal S128x128 .f32) (w : FVec Ideal S1x128x256 .bf16) (x1 : FVec Ideal S1x128x128 .f32)
    (w1 : FVec Ideal S1x128x256 .bf16) (x2 : FVec Ideal S1x128x128 .f32) (w2 : FVec Ideal S1x128x256 .bf16) (x3 : FVec Ideal S1x128x128 .f32)
    (w3 : FVec Ideal S1x128x256 .bf16) (r : Fin 128) (j : Fin 64) :
    k0_pay8 (F := Ideal) a x w x1 w1 x2 w2 x3 w3 (ix2 r j) = k0_pay6 (F := Ideal) a x w x1 w1 x2 w2 x3 w3 (ix2 r ⟨j.val, by omega⟩)
      + k0_pay6 (F := Ideal) a x w x1 w1 x2 w2 x3 w3 (ix2 (next r) ⟨64 + j.val, by omega⟩) := by
  rw [← pay7_at]
  pointwise [k0_pay8]

/-- The keys' block, from its hidden rows. -/
theorem pay11_at (h : FVec Ideal S128x64 .f32) (w1 : FVec Ideal S2048x64 .f32) (p : FVec Ideal S2048x64 .f32) (w2 : FVec Ideal S64x64 .bf16) (r : Fin 128) (q : Fin 64) :
    k0_pay11 (F := Ideal) h w1 p w2 (ix2 r q)
      = ∑ j, silu (h (ix2 r j) + ∑ e, p (ix2 e j) * w1 (ix2 e j)) * w2 (ix2 j q) := by
  pointwise [k0_pay11, silu]

/-- The values' block. -/
theorem pay12_at (a b : FVec Ideal S128x256 .f32) (p : FVec Ideal S2048x1 .f32) (w1 : FVec Ideal S2048x64 .f32) (w2 : FVec Ideal S64x64 .bf16) (r : Fin 128) (q : Fin 64) :
    k0_pay12 (F := Ideal) a b p w1 w2 (ix2 r q)
      = ∑ j, silu (a (ix2 r ⟨128 + j.val, by omega⟩) + b (ix2 r ⟨192 + j.val, by omega⟩) + ∑ e, p (ix2 e 0) * w1 (ix2 e j)) * w2 (ix2 j q) := by
  pointwise [k0_pay12, silu]

variable (m : (ℓ : Loc nD τ sig) → Buf (Elt Ideal) ℓ)

/-- The product of a block's sixteen rows with the weights, all sixteen positions together. -/
def part (x : FVec Ideal S1x2048x128 .f32) (w : FVec Ideal S16x128x256 .bf16) (r : Fin 128) (q : Fin 256) : EReal :=
  ∑ k : Fin 16, ∑ d : Fin 128, x (ix3 0 ⟨r.val * 16 + k.val, by omega⟩ d) * w (ix3 k d q)

/-- The accumulated product, of sixteen blocks of rows with sixteen of weights. -/
def acc (x : Fin 16 → FVec Ideal S1x128x128 .f32) (w : Fin 16 → FVec Ideal S1x128x256 .bf16) : FVec Ideal S128x256 .f32 :=
  k0_pay6 (F := Ideal)
    (k0_pay4 (F := Ideal)
      (k0_pay2 (F := Ideal) (k0_pay1 (F := Ideal) (x 0) (w 0) (x 1) (w 1) (x 2) (w 2) (x 3) (w 3)) (x 4) (w 4) (x 5) (w 5) (x 6) (w 6) (x 7) (w 7))
      (k0_pay3 (F := Ideal) (x 8)) (w 8) (x 9) (w 9) (x 10) (w 10) (x 11) (w 11))
    (k0_pay5 (F := Ideal) (x 12)) (w 12) (x 13) (w 13) (x 14) (w 14) (x 15) (w 15)

theorem acc_at (x : Fin 16 → FVec Ideal S1x128x128 .f32) (w : Fin 16 → FVec Ideal S1x128x256 .bf16) (r : Fin 128) (q : Fin 256) :
    acc x w (ix2 r q) = ∑ k, ∑ d, x k (ix3 0 r d) * w k (ix3 0 d q) := by
  unfold acc
  simp only [pay6_at, pay5_at, pay4_at, pay3_at, pay2_at, pay1_at, sum_sixteen]

/-- The sixteen loads of rows and of weights stay inside their arrays. -/
theorem rows_inb (k : Fin 16) (a : Fin 3) : (![1, 128, 128] : Fin 3 → ℕ) a = 0 ∨
    (![0, k.val, 0] : Fin 3 → ℕ) a + (![1, 16, 1] : Fin 3 → ℕ) a * ((![1, 128, 128] : Fin 3 → ℕ) a - 1) < S1x2048x128.size a := by
  right
  fin_cases a
  · exact (by decide : 0 + 1 * (1 - 1) < 1)
  · show k.val + 16 * (128 - 1) < 2048
    omega
  · exact (by decide : 0 + 1 * (128 - 1) < 128)

theorem weights_inb (k : Fin 16) (a : Fin 3) : (![k.val, 0, 0] : Fin 3 → ℕ) a + (![1, 128, 256] : Fin 3 → ℕ) a ≤ S16x128x256.size a := by
  fin_cases a
  · show k.val + 1 ≤ 16
    omega
  · exact (by decide : 0 + 128 ≤ 128)
  · exact (by decide : 0 + 256 ≤ 256)

theorem part_eq (a : Memref sig .tc .vmem S1x2048x128 .f32) (ha : a.IsWhole) (x : FVec Ideal S1x2048x128 .f32) (w : FVec Ideal S16x128x256 .bf16) (r : Fin 128) (q : Fin 256) :
    acc (fun k => View.readAt (Elt Ideal) a.view { off := ![0, k.val, 0], size := ![1, 128, 128], stride := ![1, 16, 1], inb := rows_inb k } (ha.unread x))
      (fun k => View.ld (Val := Elt Ideal) (e' := .bf16) w (Rect.unit ![k.val, 0, 0] ![1, 128, 256] (weights_inb k))) (ix2 r q) = part x w r q := by
  rw [acc_at]
  refine Finset.sum_congr rfl fun k _ => Finset.sum_congr rfl fun d _ => ?_
  rw [rows_at a ha x k.val k.isLt]
  exact congrArg _ (weights_at w k.val k.isLt _ d q)

/-- One half of the written block: its hidden rows take columns `a` of a row's product and columns `b` of the next row's. -/
def half (x : FVec Ideal S1x2048x128 .f32) (w : FVec Ideal S16x128x256 .bf16) (p : FVec Ideal S2048x1 .f32) (w1 : FVec Ideal S2048x64 .f32)
    (w2 : FVec Ideal S64x64 .bf16) (a b : Fin 64 → Fin 256) (r : Fin 128) (q : Fin 64) : EReal :=
  ∑ j : Fin 64, silu (part x w r (a j) + part x w (next r) (b j) + ∑ e : Fin 2048, p (ix2 e 0) * w1 (ix2 e j)) * w2 (ix2 j q)

/-- The keys' half of the block written at a grid point. -/
theorem out_key (c : Dev nD) (t : Fin cfg0.N) (r : Fin 128) (q : Fin 64) : outsAt0 m c t (ix3 0 r ⟨q.val, by omega⟩)
    = half (iblk m c 0 t) (iblk m c 1 t) (iblk m c 2 t) (iblk m c 4 t) (iblk m c 6 t) (fun j => ⟨j.val, by omega⟩) (fun j => ⟨64 + j.val, by omega⟩) r q := by
  unfold half outsAt0 out0_A_8
  frame_out
  rw [View.canon_cons_of_not_mem]
  case h =>
    intro h
    obtain ⟨x, hx⟩ := LoadRect.exists_idx_of_mem _ h
    have e : 0 + 64 + 1 * (x 2).val = q.val := congrArg (fun y : S1x128x128.Idx => (y 2).val) hx
    have := q.isLt
    omega
  refine Eq.trans (congrArg _ ?_) ((View.canon_cons_emb _ _ _ (ix3 0 r q)).trans ((Rect.payAlong_consLift _ _ _ _ _ _ _ (ix2 r q) ?_).trans ?_))
  · funext a
    apply Fin.ext
    fin_cases a
    · rfl
    · show r.val = 0 + 0 + 1 * r.val
      omega
    · show q.val = 0 + 0 + 1 * q.val
      omega
  · intro i
    fin_cases i <;> rfl
  · rw [pay11_at]
    simp only [pay8_at, pay9_at]
    refine Finset.sum_congr rfl fun j _ => ?_
    rw [← part_eq (ms0_0 t) (hs0_0 t) _ _ r, ← part_eq (ms0_0 t) (hs0_0 t) _ _ (next r)]
    rfl

/-- The values' half. -/
theorem out_value (c : Dev nD) (t : Fin cfg0.N) (r : Fin 128) (q : Fin 64) : outsAt0 m c t (ix3 0 r ⟨64 + q.val, by omega⟩)
    = half (iblk m c 0 t) (iblk m c 1 t) (iblk m c 3 t) (iblk m c 5 t) (iblk m c 7 t) (fun j => ⟨128 + j.val, by omega⟩) (fun j => ⟨192 + j.val, by omega⟩) r q := by
  unfold half outsAt0 out0_A_8
  frame_out
  refine Eq.trans (congrArg _ ?_) ((View.canon_cons_emb _ _ _ (ix3 0 r q)).trans ((Rect.payAlong_consLift _ _ _ _ _ _ _ (ix2 r q) ?_).trans ?_))
  · funext a
    apply Fin.ext
    fin_cases a
    · rfl
    · show r.val = 0 + 0 + 1 * r.val
      omega
    · show 64 + q.val = 0 + 64 + 1 * q.val
      omega
  · intro i
    fin_cases i <;> rfl
  · rw [pay12_at]
    simp only [pay7_at]
    refine Finset.sum_congr rfl fun j _ => ?_
    rw [← part_eq (ms0_0 t) (hs0_0 t) _ _ r, ← part_eq (ms0_0 t) (hs0_0 t) _ _ (next r)]
    rfl

end Cert.CmpIdeal.Rows

end
-- ==== Proof.Cmp.Weights.lean ====
module

public import proofs.«01_k».proof.Proof.Gen.CmpIdeal.Frame
public import proofs.«01_k».proof.Proof.Math.Compress
public import proofs.«01_k».proof.Proof.Cmp.Block
public import Idealize.ShloMosaic.Lib.Pipeline.ValueKit
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem

namespace Cert.CmpIdeal.Rows

open Cert.CmpIdeal Cert.CmpIdeal.Gen Attn

/-- Four arrays side by side, as the host lays out the weights of one half of the columns. -/
def four (a b c e : FVec Ideal S16x64x64 .f32) : FVec Ideal S16x64x256 .f32 :=
  concatenate S16x64x256 2 [⟨S16x64x64, a⟩, ⟨S16x64x64, b⟩, ⟨S16x64x64, c⟩, ⟨S16x64x64, e⟩] concatenates_S16x64x64_S16x64x64_S16x64x64_S16x64x64_S16x64x256_d2

/-- Two such, one above the other, in the stored format. -/
def both (a b : FVec Ideal S16x64x256 .f32) : FVec Ideal S16x128x256 .bf16 :=
  truncf .bf16 (concatenate S16x128x256 1 [⟨S16x64x256, a⟩, ⟨S16x64x256, b⟩] concatenates_S16x64x256_S16x64x256_S16x128x256_d1) bitsLt_bf16_f32

/-- The weights of a block's first sixteen rows, and of its last. -/
def front (w : FVec Ideal S2048x64 .f32) : FVec Ideal S16x64x64 .f32 :=
  shapeCast S16x64x64 (extractStridedSlice S1x16x64x64 ![0, 0, 0, 0] (shapeCast S2x16x64x64 w shapeCasts_S2048x64_S2x16x64x64) slices_S2x16x64x64_S1x16x64x64_0_0_0_0)
    shapeCasts_S1x16x64x64_S16x64x64

def back (w : FVec Ideal S2048x64 .f32) : FVec Ideal S16x64x64 .f32 :=
  shapeCast S16x64x64 (extractStridedSlice S1x16x64x64 ![1, 0, 0, 0] (shapeCast S2x16x64x64 w shapeCasts_S2048x64_S2x16x64x64) slices_S2x16x64x64_S1x16x64x64_1_0_0_0)
    shapeCasts_S1x16x64x64_S16x64x64

def none : FVec Ideal S16x64x64 .f32 := broadcastInDim S16x64x64 ![] bcast_S_S16x64x64 (constant S_ .f32 0x00000000#32)

theorem front_at (w : FVec Ideal S2048x64 .f32) (k : Fin 16) (d j : Fin 64) : front w (ix3 k d j) = w (ix2 ⟨k.val * 64 + d.val, by omega⟩ j) := by
  pointwise [front]

theorem back_at (w : FVec Ideal S2048x64 .f32) (k : Fin 16) (d j : Fin 64) : back w (ix3 k d j) = w (ix2 ⟨1024 + k.val * 64 + d.val, by omega⟩ j) := by
  pointwise [back]

theorem none_at (k : Fin 16) (d j : Fin 64) : none (ix3 k d j) = 0 := by
  pointwise [none]

variable (a b c e : FVec Ideal S16x64x64 .f32) (k : Fin 16) (d j : Fin 64)

theorem four_at0 : four a b c e (ix3 k d ⟨j.val, by omega⟩) = a (ix3 k d j) := by
  pointwise [four]

theorem four_at1 : four a b c e (ix3 k d ⟨64 + j.val, by omega⟩) = b (ix3 k d j) := by
  pointwise [four]

theorem four_at2 : four a b c e (ix3 k d ⟨128 + j.val, by omega⟩) = c (ix3 k d j) := by
  pointwise [four]
  rw [dif_neg (by omega), dif_neg (by omega), dif_pos (by omega)]
  exact congrArg (fun q => c (ix3 k d q)) (Fin.ext (by show 128 + j.val - 64 - 64 = j.val; omega))

theorem four_at3 : four a b c e (ix3 k d ⟨192 + j.val, by omega⟩) = e (ix3 k d j) := by
  pointwise [four]
  rw [dif_neg (by omega), dif_neg (by omega), dif_neg (by omega)]
  exact congrArg (fun q => e (ix3 k d q)) (Fin.ext (by show 192 + j.val - 64 - 64 - 64 = j.val; omega))

theorem both_at0 (a b : FVec Ideal S16x64x256 .f32) (q : Fin 256) : both a b (ix3 k ⟨d.val, by omega⟩ q) = a (ix3 k d q) := by
  pointwise [both]

theorem both_at1 (a b : FVec Ideal S16x64x256 .f32) (q : Fin 256) : both a b (ix3 k ⟨64 + d.val, by omega⟩ q) = b (ix3 k d q) := by
  pointwise [both]

variable (m : (ℓ : Loc nD τ sig) → Buf (Elt Ideal) ℓ)

/-- The weights as the host lays them out for the kernel. -/
theorem packed (c : Dev nD) : V m c main_v16 =
    both (four (front (m ((c.tc : Thread nD τ).loc main_arg3))) (back (m ((c.tc : Thread nD τ).loc main_arg3))) none none)
      (four none none (front (m ((c.tc : Thread nD τ).loc main_arg5))) (back (m ((c.tc : Thread nD τ).loc main_arg5)))) := by
  show StableHlo.after hostOps0 _ _ = _
  after_reads_simp [↓StableHlo.readPieces, StableHlo.nary_result', Matrix.cons_val]
  rfl

/-- A sum over 128 columns, the first 64 and the last. -/
theorem sum_halves (f : Fin 128 → EReal) : ∑ d, f d = (∑ d : Fin 64, f ⟨d.val, by omega⟩) + ∑ d : Fin 64, f ⟨64 + d.val, by omega⟩ :=
  Fin.sum_univ_add (a := 64) (b := 64) f

variable (x : FVec Ideal S1x2048x128 .f32) (wk wv : FVec Ideal S2048x64 .f32) (r : Fin 128)

/-- The packed weights of the keys and of the values. -/
abbrev packs : FVec Ideal S16x128x256 .bf16 := both (four (front wk) (back wk) none none) (four none none (front wv) (back wv))

/-- The four column groups of the accumulated product: sixteen rows' keys with the front of the keys' weights and with the back, -/
theorem part_key0 : part x (packs wk wv) r ⟨j.val, by omega⟩ =
    ∑ e : Fin 1024, x (ix3 0 ⟨r.val * 16 + e.val / 64, by omega⟩ ⟨e.val % 64, by omega⟩) * wk (ix2 ⟨e.val, by omega⟩ j) := by
  unfold part
  simp only [sum_halves, both_at0, both_at1, four_at0, none_at, front_at, mul_zero, Finset.sum_const_zero, add_zero]
  rw [← sum_rows fun (k : Fin 16) (d : Fin 64) => x (ix3 0 ⟨r.val * 16 + k.val, by omega⟩ ⟨d.val, by omega⟩) * wk (ix2 ⟨k.val * 64 + d.val, by omega⟩ j)]
  exact Finset.sum_congr rfl fun e _ => congrArg (fun i => _ * wk (ix2 i j)) (Fin.ext (by show e.val / 64 * 64 + e.val % 64 = e.val; omega))

theorem part_key1 : part x (packs wk wv) r ⟨64 + j.val, by omega⟩ =
    ∑ e : Fin 1024, x (ix3 0 ⟨r.val * 16 + e.val / 64, by omega⟩ ⟨e.val % 64, by omega⟩) * wk (ix2 ⟨1024 + e.val, by omega⟩ j) := by
  unfold part
  simp only [sum_halves, both_at0, both_at1, four_at1, none_at, back_at, mul_zero, Finset.sum_const_zero, add_zero]
  rw [← sum_rows fun (k : Fin 16) (d : Fin 64) => x (ix3 0 ⟨r.val * 16 + k.val, by omega⟩ ⟨d.val, by omega⟩) * wk (ix2 ⟨1024 + k.val * 64 + d.val, by omega⟩ j)]
  exact Finset.sum_congr rfl fun e _ => congrArg (fun i => _ * wk (ix2 i j)) (Fin.ext (by show 1024 + e.val / 64 * 64 + e.val % 64 = 1024 + e.val; omega))

/-- and their values with those of the values' weights. -/
theorem part_value0 : part x (packs wk wv) r ⟨128 + j.val, by omega⟩ =
    ∑ e : Fin 1024, x (ix3 0 ⟨r.val * 16 + e.val / 64, by omega⟩ ⟨64 + e.val % 64, by omega⟩) * wv (ix2 ⟨e.val, by omega⟩ j) := by
  unfold part
  simp only [sum_halves, both_at0, both_at1, four_at2, none_at, front_at, mul_zero, Finset.sum_const_zero, zero_add]
  rw [← sum_rows fun (k : Fin 16) (d : Fin 64) => x (ix3 0 ⟨r.val * 16 + k.val, by omega⟩ ⟨64 + d.val, by omega⟩) * wv (ix2 ⟨k.val * 64 + d.val, by omega⟩ j)]
  exact Finset.sum_congr rfl fun e _ => congrArg (fun i => _ * wv (ix2 i j)) (Fin.ext (by show e.val / 64 * 64 + e.val % 64 = e.val; omega))

theorem part_value1 : part x (packs wk wv) r ⟨192 + j.val, by omega⟩ =
    ∑ e : Fin 1024, x (ix3 0 ⟨r.val * 16 + e.val / 64, by omega⟩ ⟨64 + e.val % 64, by omega⟩) * wv (ix2 ⟨1024 + e.val, by omega⟩ j) := by
  unfold part
  simp only [sum_halves, both_at0, both_at1, four_at3, none_at, back_at, mul_zero, Finset.sum_const_zero, zero_add]
  rw [← sum_rows fun (k : Fin 16) (d : Fin 64) => x (ix3 0 ⟨r.val * 16 + k.val, by omega⟩ ⟨64 + d.val, by omega⟩) * wv (ix2 ⟨1024 + k.val * 64 + d.val, by omega⟩ j)]
  exact Finset.sum_congr rfl fun e _ => congrArg (fun i => _ * wv (ix2 i j)) (Fin.ext (by show 1024 + e.val / 64 * 64 + e.val % 64 = 1024 + e.val; omega))

end Cert.CmpIdeal.Rows

end
-- ==== Proof.Cmp.Grid.lean ====
module

public import proofs.«01_k».proof.Proof.Cmp.Weights
public import Idealize.ShloMosaic.Lib.Pipeline.ValueKit
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem

namespace Cert.CmpIdeal.Rows

open Cert.CmpIdeal Cert.CmpIdeal.Gen Attn

/-- A half of the written block in a row other than the last: a compressed block of the keys, -/
theorem half_key (x : FVec Ideal S1x2048x128 .f32) (wk wv : FVec Ideal S2048x64 .f32) (p : FVec Ideal S2048x1 .f32) (w2 : FVec Ideal S64x64 .bf16)
    (pe : Fin 32 → Fin 64 → EReal) (hp : ∀ e : Fin 2048, p (ix2 e 0) = pe ⟨e.val / 64, by omega⟩ ⟨e.val % 64, by omega⟩) (i : Fin 127) (q : Fin 64) :
    half x (packs wk wv) p wk w2 (fun j => ⟨j.val, by omega⟩) (fun j => ⟨64 + j.val, by omega⟩) ⟨i.val, by omega⟩ q
      = compressed (fun t d => x (ix3 0 t ⟨d.val, by omega⟩)) pe (fun e j => wk (ix2 e j)) (fun k j => w2 (ix2 k j)) i q := by
  have hn : next ⟨i.val, by omega⟩ = (⟨1 + i.val, by omega⟩ : Fin 128) := Fin.ext (by show (i.val + 128 - 127) % 128 = 1 + i.val; omega)
  unfold half compressed hiddenRow
  refine Finset.sum_congr rfl fun j _ => ?_
  rw [hn, part_key0, part_key1, add_comm (_ + _) (∑ e : Fin 2048, _), ← add_assoc]
  simp only [hp]

/-- and one of the values. -/
theorem half_value (x : FVec Ideal S1x2048x128 .f32) (wk wv : FVec Ideal S2048x64 .f32) (p : FVec Ideal S2048x1 .f32) (w2 : FVec Ideal S64x64 .bf16)
    (pe : Fin 32 → Fin 64 → EReal) (hp : ∀ e : Fin 2048, p (ix2 e 0) = pe ⟨e.val / 64, by omega⟩ ⟨e.val % 64, by omega⟩) (i : Fin 127) (q : Fin 64) :
    half x (packs wk wv) p wv w2 (fun j => ⟨128 + j.val, by omega⟩) (fun j => ⟨192 + j.val, by omega⟩) ⟨i.val, by omega⟩ q
      = compressed (fun t d => x (ix3 0 t ⟨64 + d.val, by omega⟩)) pe (fun e j => wv (ix2 e j)) (fun k j => w2 (ix2 k j)) i q := by
  have hn : next ⟨i.val, by omega⟩ = (⟨1 + i.val, by omega⟩ : Fin 128) := Fin.ext (by show (i.val + 128 - 127) % 128 = 1 + i.val; omega)
  unfold half compressed hiddenRow
  refine Finset.sum_congr rfl fun j _ => ?_
  rw [hn, part_value0, part_value1, add_comm (_ + _) (∑ e : Fin 2048, _), ← add_assoc]
  simp only [hp]

variable (m : (ℓ : Loc nD τ sig) → Buf (Elt Ideal) ℓ)

/-- The blocks' positions: grid point `t` takes and writes example `t`; every weight comes whole. -/
theorem idx : ∀ t : Fin cfg0.N, win0_0.index t = ![t.val, 0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0, 0] :=
  (by decide +kernel : ∀ t : Fin grid0.N, _)

/-- The example of a grid point. -/
abbrev exampleOf (t : Fin cfg0.N) : Fin 16 := ⟨t.val, lt_of_lt_of_eq t.isLt (show cfg0.N = 16 from N_0)⟩

/-- The embeddings, laid out by the host as columns. -/
theorem pe_key_at (c : Dev nD) (e : Fin 2048) : V m c main_v17 (ix2 e 0) = m ((c.tc : Thread nD τ).loc main_arg1) (ix2 ⟨e.val / 64, by omega⟩ ⟨e.val % 64, by omega⟩) := by
  show StableHlo.after hostOps0 _ _ _ = _
  after_reads_at

theorem pe_value_at (c : Dev nD) (e : Fin 2048) : V m c main_v18 (ix2 e 0) = m ((c.tc : Thread nD τ).loc main_arg2) (ix2 ⟨e.val / 64, by omega⟩ ⟨e.val % 64, by omega⟩) := by
  show StableHlo.after hostOps0 _ _ _ = _
  after_reads_at

/-- The second weights in the stored format. -/
theorem w2_key_at (c : Dev nD) (k j : Fin 64) : V m c main_v19 (ix2 k j) = m ((c.tc : Thread nD τ).loc main_arg4) (ix2 k j) := by
  show StableHlo.after hostOps0 _ _ _ = _
  after_reads_at

theorem w2_value_at (c : Dev nD) (k j : Fin 64) : V m c main_v20 (ix2 k j) = m ((c.tc : Thread nD τ).loc main_arg6) (ix2 k j) := by
  show StableHlo.after hostOps0 _ _ _ = _
  after_reads_at

theorem blk0_at (c : Dev nD) (t : Fin cfg0.N) (r : Fin 2048) (d : Fin 128) :
    iblk m c 0 t (ix3 0 r d) = m ((c.tc : Thread nD τ).loc main_arg0) (ix3 (exampleOf t) r ⟨d.val, by omega⟩) := by
  blk_ext [iblk, V, idx t]

theorem blk1 (c : Dev nD) (t : Fin cfg0.N) :
    iblk m c 1 t = packs (m ((c.tc : Thread nD τ).loc main_arg3)) (m ((c.tc : Thread nD τ).loc main_arg5)) := by
  refine Eq.trans (funext fun y => ?_) (packed m c)
  blk_ext [iblk, idx t]

theorem blk2_at (c : Dev nD) (t : Fin cfg0.N) (e : Fin 2048) :
    iblk m c 2 t (ix2 e 0) = m ((c.tc : Thread nD τ).loc main_arg1) (ix2 ⟨e.val / 64, by omega⟩ ⟨e.val % 64, by omega⟩) := by
  rw [← pe_key_at m c]
  blk_ext [iblk, idx t]

theorem blk3_at (c : Dev nD) (t : Fin cfg0.N) (e : Fin 2048) :
    iblk m c 3 t (ix2 e 0) = m ((c.tc : Thread nD τ).loc main_arg2) (ix2 ⟨e.val / 64, by omega⟩ ⟨e.val % 64, by omega⟩) := by
  rw [← pe_value_at m c]
  blk_ext [iblk, idx t]

theorem blk4 (c : Dev nD) (t : Fin cfg0.N) : iblk m c 4 t = m ((c.tc : Thread nD τ).loc main_arg3) := by
  refine Eq.trans (funext fun y => ?_) (V_main_arg3 m c)
  blk_ext [iblk, idx t]

theorem blk5 (c : Dev nD) (t : Fin cfg0.N) : iblk m c 5 t = m ((c.tc : Thread nD τ).loc main_arg5) := by
  refine Eq.trans (funext fun y => ?_) (V_main_arg5 m c)
  blk_ext [iblk, idx t]

theorem blk6_at (c : Dev nD) (t : Fin cfg0.N) (k j : Fin 64) : iblk m c 6 t (ix2 k j) = m ((c.tc : Thread nD τ).loc main_arg4) (ix2 k j) := by
  rw [← w2_key_at m c]
  blk_ext [iblk, idx t]

theorem blk7_at (c : Dev nD) (t : Fin cfg0.N) (k j : Fin 64) : iblk m c 7 t (ix2 k j) = m ((c.tc : Thread nD τ).loc main_arg6) (ix2 k j) := by
  rw [← w2_value_at m c]
  blk_ext [iblk, idx t]

/-- The grid point of an example. -/
def point (b : Fin 16) : Fin cfg0.N := ⟨b.val, lt_of_lt_of_eq b.isLt (show 16 = cfg0.N from N_0.symm)⟩

/-- THE ARRAY THE KERNEL WRITES: the blocks, example by example. -/
theorem final (c : Dev nD) : (dats m 0 c).arrAt 8 cfg0.N = fun y : S16x128x128.Idx =>
    outsAt0 m c (point (y 0)) (ix3 0 (y 1) (y 2)) := by
  refine (dats m 0 c).arrAt_eq_of_covers 8 _ (by decide +kernel) fun t hf y => ?_
  have i8 := (idx t).2.2.2.2.2.2.2.2
  blk_simp
  rw [after0_8]
  have z0 : (win0_8.blk t).view.emb y 0 = exampleOf t := Fin.ext (by
    blk_simp [i8])
  have z1 : (win0_8.blk t).view.emb y 1 = (y 1 : Fin 128) := Fin.ext (by
    blk_simp [i8])
  have z2 : (win0_8.blk t).view.emb y 2 = (y 2 : Fin 128) := Fin.ext (by
    blk_simp [i8])
  rw [z0, z1, z2, show point (exampleOf t) = t from rfl]
  refine congrArg (outsAt0 m c t) ((Idealize.ShloMosaic.eq_ix3 (y : S1x128x128.Idx)).trans ?_)
  exact congrArg (fun a : Fin 1 => ix3 a (y 1) (y 2)) (Subsingleton.elim _ _)

/-- Its entries in the rows that are kept: the keys' half, -/
theorem final_key (c : Dev nD) (b : Fin 16) (i : Fin 127) (j : Fin 64) :
    ((dats m 0 c).arrAt 8 cfg0.N : FVec Ideal S16x128x128 .f32) (ix3 b ⟨i.val, by omega⟩ ⟨j.val, by omega⟩) =
      compressed (fun t d => m ((c.tc : Thread nD τ).loc main_arg0) (ix3 b t ⟨d.val, by omega⟩)) (fun r d => m ((c.tc : Thread nD τ).loc main_arg1) (ix2 r d))
        (fun e j => m ((c.tc : Thread nD τ).loc main_arg3) (ix2 e j)) (fun k j => m ((c.tc : Thread nD τ).loc main_arg4) (ix2 k j)) i j := by
  rw [final]
  refine (out_key m c (point b) ⟨i.val, by omega⟩ j).trans ?_
  rw [blk1, blk4, half_key _ _ _ _ _ (fun r d => m ((c.tc : Thread nD τ).loc main_arg1) (ix2 r d)) (blk2_at m c _)]
  simp only [blk0_at, blk6_at]
  rfl

/-- and the values'. -/
theorem final_value (c : Dev nD) (b : Fin 16) (i : Fin 127) (j : Fin 64) :
    ((dats m 0 c).arrAt 8 cfg0.N : FVec Ideal S16x128x128 .f32) (ix3 b ⟨i.val, by omega⟩ ⟨64 + j.val, by omega⟩) =
      compressed (fun t d => m ((c.tc : Thread nD τ).loc main_arg0) (ix3 b t ⟨64 + d.val, by omega⟩)) (fun r d => m ((c.tc : Thread nD τ).loc main_arg2) (ix2 r d))
        (fun e j => m ((c.tc : Thread nD τ).loc main_arg5) (ix2 e j)) (fun k j => m ((c.tc : Thread nD τ).loc main_arg6) (ix2 k j)) i j := by
  rw [final]
  refine (out_value m c (point b) ⟨i.val, by omega⟩ j).trans ?_
  rw [blk1, blk5, half_value _ _ _ _ _ (fun r d => m ((c.tc : Thread nD τ).loc main_arg2) (ix2 r d)) (blk3_at m c _)]
  simp only [blk0_at, blk7_at]
  rfl

end Cert.CmpIdeal.Rows

end
-- ==== Proof.Cmp.Ref.lean ====
module

public import proofs.«01_k».proof.Proof.Gen.CmpRefIdeal.Run
public import proofs.«01_k».proof.Proof.Math.Compress
public import Idealize.ShloMosaic.Lib.Pointwise

@[expose] public section

set_option maxRecDepth 16384

noncomputable section

open Idealize.ShloMosaic Idealize.ShloMosaic.TcCoe Idealize.SL.Sem

namespace Cert.CmpRefIdeal.Value

open Cert.CmpRefIdeal Cert.CmpRefIdeal.Gen Attn

/-- The reference's lines for the hidden layer. -/
abbrev hiddenT (x : FVec Ideal S16x2048x64 .f32) (pe : FVec Ideal S32x64 .f32) (w1 : FVec Ideal S2048x64 .f32) : FVec Ideal S16x127x64 .f32 :=
  addf (addf (broadcastInDim S16x127x64 ![0, 1, 2] bcast_S1x1x64_S16x127x64_0_1_2 (broadcastInDim S1x1x64 ![2] bcast_S64_S1x1x64_2 (Host.dotGeneral dot_S2048_S2048x64_S64_0_0_n_1_n_n none (shapeCast _ pe shapeCasts_S32x64_S2048) w1)))
    (Host.dotGeneral dot_S16x127x1024_S1024x64_S16x127x64_2_0_01_1_n_n none (extractStridedSlice S16x127x1024 ![0, 0, 0] (shapeCast _ (pad S16x2048x64 ![0, 0, 0] ![0, 0, 0] ![0, 0, 0] x (sitofp .f32 (constantI S_ 32 0#32)) pads_S16x2048x64_S16x2048x64_000_000_000 h_S_) shapeCasts_S16x2048x64_S16x128x1024) slices_S16x128x1024_S16x127x1024_0_0_0) (shapeCast _ (extractStridedSlice S1x1024x64 ![0, 0, 0] (shapeCast _ w1 shapeCasts_S2048x64_S2x1024x64) slices_S2x1024x64_S1x1024x64_0_0_0) shapeCasts_S1x1024x64_S1024x64)))
    (Host.dotGeneral dot_S16x127x1024_S1024x64_S16x127x64_2_0_01_1_n_n none (extractStridedSlice S16x127x1024 ![0, 1, 0] (shapeCast _ (pad S16x2048x64 ![0, 0, 0] ![0, 0, 0] ![0, 0, 0] x (sitofp .f32 (constantI S_ 32 0#32)) pads_S16x2048x64_S16x2048x64_000_000_000 h_S_) shapeCasts_S16x2048x64_S16x128x1024) slices_S16x128x1024_S16x127x1024_0_1_0) (shapeCast _ (extractStridedSlice S1x1024x64 ![1, 0, 0] (shapeCast _ w1 shapeCasts_S2048x64_S2x1024x64) slices_S2x1024x64_S1x1024x64_1_0_0) shapeCasts_S1x1024x64_S1024x64))

/-- Read at an entry. -/
theorem hidden_at (x : FVec Ideal S16x2048x64 .f32) (pe : FVec Ideal S32x64 .f32) (w1 : FVec Ideal S2048x64 .f32) (b : Fin 16) (i : Fin 127) (j : Fin 64) :
    hiddenT x pe w1 (ix3 b i j) = hiddenRow (fun t d => x (ix3 b t d)) (fun r d => pe (ix2 r d)) (fun e j => w1 (ix2 e j)) i j := by
  unfold hiddenRow
  pointwise [hiddenT]
  exact congrArg₂ (· + ·)
    (congrArg₂ (· + ·) rfl (Finset.sum_congr rfl fun e _ => congrArg (· * _) (dif_pos ⟨by omega, by omega⟩)))
    (Finset.sum_congr rfl fun e _ => congrArg (· * _) (dif_pos ⟨by omega, by omega⟩))

/-- The reference's lines for one compressed half, from its hidden layer. -/
abbrev halfT (h : FVec Ideal S16x127x64 .f32) (w2 : FVec Ideal S64x64 .f32) : FVec Ideal S16x127x64 .f32 :=
  Host.dotGeneral dot_S16x127x64_S64x64_S16x127x64_2_0_01_1_n_n none (mulf h (Host.divf (broadcastInDim S16x127x64 ![] bcast_S_S16x127x64 (constant S_ .f32 0x3F800000#32)) (addf (broadcastInDim S16x127x64 ![] bcast_S_S16x127x64 (constant S_ .f32 0x3F800000#32)) (Host.exp (Host.negf h))))) w2

/-- Read at an entry. -/
theorem half_at (h : FVec Ideal S16x127x64 .f32) (w2 : FVec Ideal S64x64 .f32) (b : Fin 16) (i : Fin 127) (j : Fin 64) :
    halfT h w2 (ix3 b i j) = ∑ k, silu (h (ix3 b i k)) * w2 (ix2 k j) := by
  pointwise [halfT]
  rfl

/-- The reference's result. -/
abbrev cmpT (x : FVec Ideal S16x2048x256 .f32) (pk pv : FVec Ideal S32x64 .f32) (wk1 : FVec Ideal S2048x64 .f32) (wk2 : FVec Ideal S64x64 .f32)
    (wv1 : FVec Ideal S2048x64 .f32) (wv2 : FVec Ideal S64x64 .f32) : FVec Ideal S16x127x128 .f32 :=
  concatenate S16x127x128 2 [⟨S16x127x64, halfT (hiddenT (extractStridedSlice S16x2048x64 ![0, 0, 0] x slices_S16x2048x256_S16x2048x64_0_0_0) pk wk1) wk2⟩,
    ⟨S16x127x64, halfT (hiddenT (extractStridedSlice S16x2048x64 ![0, 0, 64] x slices_S16x2048x256_S16x2048x64_0_0_64) pv wv1) wv2⟩]
    concatenates_S16x127x64_S16x127x64_S16x127x128_d2

variable (x : FVec Ideal S16x2048x256 .f32) (pk pv : FVec Ideal S32x64 .f32) (wk1 : FVec Ideal S2048x64 .f32) (wk2 : FVec Ideal S64x64 .f32)
  (wv1 : FVec Ideal S2048x64 .f32) (wv2 : FVec Ideal S64x64 .f32)

/-- The rows' keys and values that are to be compressed. -/
theorem cut_key_at (b : Fin 16) (t : Fin 2048) (d : Fin 64) :
    extractStridedSlice S16x2048x64 ![0, 0, 0] x slices_S16x2048x256_S16x2048x64_0_0_0 (ix3 b t d) = x (ix3 b t ⟨d.val, by omega⟩) := by
  pointwise

theorem cut_val_at (b : Fin 16) (t : Fin 2048) (d : Fin 64) :
    extractStridedSlice S16x2048x64 ![0, 0, 64] x slices_S16x2048x256_S16x2048x64_0_0_64 (ix3 b t d) = x (ix3 b t ⟨64 + d.val, by omega⟩) := by
  pointwise

/-- The compressed keys in it. -/
theorem cmp_key_at (b : Fin 16) (i : Fin 127) (j : Fin 64) :
    cmpT x pk pv wk1 wk2 wv1 wv2 (ix3 b i ⟨j.val, by omega⟩) =
      compressed (fun t d => x (ix3 b t ⟨d.val, by omega⟩)) (fun r d => pk (ix2 r d)) (fun e j => wk1 (ix2 e j)) (fun k j => wk2 (ix2 k j)) i j := by
  refine Eq.trans (b := halfT (hiddenT (extractStridedSlice S16x2048x64 ![0, 0, 0] x slices_S16x2048x256_S16x2048x64_0_0_0) pk wk1) wk2 (ix3 b i j)) ?_ ?_
  · pointwise [cmpT]
  · rw [half_at]
    simp only [hidden_at]
    unfold compressed
    simp only [cut_key_at]

/-- The compressed values in it. -/
theorem cmp_val_at (b : Fin 16) (i : Fin 127) (j : Fin 64) :
    cmpT x pk pv wk1 wk2 wv1 wv2 (ix3 b i ⟨64 + j.val, by omega⟩) =
      compressed (fun t d => x (ix3 b t ⟨64 + d.val, by omega⟩)) (fun r d => pv (ix2 r d)) (fun e j => wv1 (ix2 e j)) (fun k j => wv2 (ix2 k j)) i j := by
  refine Eq.trans (b := halfT (hiddenT (extractStridedSlice S16x2048x64 ![0, 0, 64] x slices_S16x2048x256_S16x2048x64_0_0_64) pv wv1) wv2 (ix3 b i j)) ?_ ?_
  · pointwise [cmpT]
  · rw [half_at]
    simp only [hidden_at]
    unfold compressed
    simp only [cut_val_at]

/-- The run's own name for it. -/
theorem out_eq (m : (ℓ : Loc nD τ sig) → Buf (Elt Ideal) ℓ) (c : Dev nD) : res_out0 m c =
    cmpT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  unfold res_out0 res_main_v40
  rfl

end Cert.CmpRefIdeal.Value

end
-- ==== Proof.Cmp.Claims.lean ====
module

public import proofs.«01_k».proof.Defs
public import proofs.«01_k».proof.Proof.Cmp.Grid
public import proofs.«01_k».proof.Proof.Cmp.Ref
public import proofs.«01_k».proof.Proof.Gen.Cmp.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.Cmp

open Cert

variable (m : (ℓ : Loc CmpIdeal.nD CmpIdeal.τ CmpIdeal.sig) → Buf (Elt Ideal) ℓ) (c : Dev CmpIdeal.nD)

/-- What the line after the kernel reads: the compressed blocks where the windows' arrays are, the rest as it was before. -/
abbrev left : Valuation CmpIdeal.τ CmpIdeal.sig (Elt Ideal) :=
  Pipeline.withArrays (CmpIdeal.cfgs 0).spec c (CmpIdeal.Gen.V0 m c) fun w => (CmpIdeal.Gen.dats m 0 c).arrAt w (CmpIdeal.cfgs 0).N

/-- The array the kernel writes, in it. -/
theorem left_blocks : left m c (Proc.devRef .tc CmpIdeal.main_v21) = (CmpIdeal.Gen.dats m 0 c).arrAt 8 CmpIdeal.cfg0.N :=
  Pipeline.withArrays_arr (CmpIdeal.cfgs 0).spec (by decide) c (CmpIdeal.Gen.V0 m c) _ 8

/-- The result: the array without its last row. -/
abbrev kept : Buf (Elt Ideal) ((c.tc : Thread CmpIdeal.nD CmpIdeal.τ).loc CmpIdeal.main_v22) :=
  StableHlo.after [CmpIdeal.Gen.hostOps1].flatten (left m c) (Proc.devRef .tc CmpIdeal.main_v22)

theorem kept_at (b : Fin 16) (i : Fin 127) (q : Fin 128) : kept m c (ix3 b i q) =
    ((CmpIdeal.Gen.dats m 0 c).arrAt 8 CmpIdeal.cfg0.N : FVec Ideal CmpIdeal.S16x128x128 .f32) (ix3 b ⟨i.val, by omega⟩ q) := by
  rw [← left_blocks]
  show StableHlo.after CmpIdeal.Gen.hostOps1 _ _ _ = _
  after_reads_at

/-- The result is the reference's. -/
theorem kept_eq : kept m c =
    CmpRefIdeal.Value.cmpT (m ((c.tc : Thread CmpIdeal.nD CmpIdeal.τ).loc CmpIdeal.main_arg0)) (m ((c.tc : Thread CmpIdeal.nD CmpIdeal.τ).loc CmpIdeal.main_arg1))
      (m ((c.tc : Thread CmpIdeal.nD CmpIdeal.τ).loc CmpIdeal.main_arg2)) (m ((c.tc : Thread CmpIdeal.nD CmpIdeal.τ).loc CmpIdeal.main_arg3))
      (m ((c.tc : Thread CmpIdeal.nD CmpIdeal.τ).loc CmpIdeal.main_arg4)) (m ((c.tc : Thread CmpIdeal.nD CmpIdeal.τ).loc CmpIdeal.main_arg5))
      (m ((c.tc : Thread CmpIdeal.nD CmpIdeal.τ).loc CmpIdeal.main_arg6)) := by
  funext (y : CmpIdeal.S16x127x128.Idx)
  obtain ⟨b, i, q, rfl⟩ : ∃ (b : Fin 16) (i : Fin 127) (q : Fin 128), y = ix3 b i q := ⟨y 0, y 1, y 2, eq_ix3 y⟩
  rw [kept_at]
  rcases Nat.lt_or_ge q.val 64 with hq | hq
  · obtain ⟨j, rfl⟩ : ∃ j : Fin 64, q = ⟨j.val, j.isLt.trans (by decide)⟩ := ⟨⟨q.val, hq⟩, rfl⟩
    exact (CmpIdeal.Rows.final_key m c b i j).trans (CmpRefIdeal.Value.cmp_key_at _ _ _ _ _ _ _ b i j).symm
  · obtain ⟨j, rfl⟩ : ∃ j : Fin 64, q = ⟨64 + j.val, Nat.add_lt_add_left j.isLt 64⟩ := ⟨⟨q.val - 64, by omega⟩, Fin.ext (by show q.val = 64 + (q.val - 64); omega)⟩
    exact (CmpIdeal.Rows.final_value m c b i j).trans (CmpRefIdeal.Value.cmp_val_at _ _ _ _ _ _ _ b i j).symm

/-- The kernel and the reference leave the same compressed keys and values. -/
theorem algebraic : Cert.algebraic_CmpIdeal_CmpRefIdeal := by
  intro m g m' g' _ hagree
  refine ⟨fun c => kept m c, ?_, ?_⟩
  · refine (θ_run CmpIdeal.defs _ _).mono (fun r h c => ?_) (θ_run_and (CmpIdeal.Gen.run_main m g) (CmpIdeal.Gen.unchanged m g))
    exact ⟨(h.1 c).2 _ (by decide), h.2 c⟩
  · refine (θ_run CmpRefIdeal.defs _ _).mono (fun r h c => ?_) (CmpRefIdeal.Value.run (F := Ideal) m' g')
    obtain ⟨h0, h1, h2, h3, h4, h5, h6⟩ := hagree c
    refine ⟨(h c).1.trans ((CmpRefIdeal.Value.out_eq m' c).trans ?_), (h c).2⟩
    rw [h0, h1, h2, h3, h4, h5, h6]
    exact (kept_eq m c).symm

/-- The reference terminates without a fault and leaves its arguments and the semaphores alone. -/
theorem frame_ref : Cert.quiescent_CmpRefIdeal := by
  intro m g _
  refine (θ_run Cert.CmpRefIdeal.defs _ _).mono
    (fun r h => ⟨fun c => (h c).2, sem_eq_zero_of_no_sems (by decide) r.2⟩) (Cert.CmpRefIdeal.Value.run (F := Ideal) m g)

/-- The kernel terminates without a fault and leaves its arguments and the semaphores alone. -/
theorem frame : Cert.quiescent_Cmp := fun m ρ _ => Cert.Cmp.Gen.frame m ρ

/-- So does the kernel read over the extended reals. -/
theorem frame_ideal : Cert.quiescent_CmpIdeal := fun m ρ _ => Cert.CmpIdeal.Gen.frame m ρ

end Attn.Cmp

end
-- ==== Proof.Joint.Query.lean ====
module

public import proofs.«01_k».proof.Proof.Gen.JointIdeal.Frame
public import proofs.«01_k».proof.Proof.Mla.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.JointIdeal.Rows

open Cert.JointIdeal Cert.JointIdeal.Gen
open Attn.Mla (lat score SCALE FLOOR)

/-- Row `128 h + q` of the 512 stacked rows: head `h`, query `q` of the block. -/
abbrev row (h : Fin 4) (q : Fin 128) : Fin 512 := ⟨128 * h.val + q.val, by omega⟩

variable (x0 : FVec Ideal S1x128x256 .f32) (x1 : FVec Ideal S1x128x128 .f32) (w : Fin 4 → FVec Ideal S1x64x256 .bf16)

/-- The stacked query matrix the kernel builds: head `h`'s latent query, then its rotary one. -/
theorem query_at (h : Fin 4) (q : Fin 128) (j : Fin 288) :
    k0_pay5 (F := Ideal) (k0_pay1 x0) (k0_pay2 x1) (k0_pay3 x0 x1 (w 0)) (k0_pay4 x0) (w 1) (w 2) (w 3) (ix2 (row h q) j)
      = if hj : j.val < 256 then lat (fun a => x0 (ix3 0 q a)) (fun h d r => w h (ix3 0 d r)) h ⟨j.val, hj⟩
        else x1 (ix3 0 q ⟨32 * h.val + (j.val - 256), by omega⟩) := by
  pointwise [k0_pay5, k0_pay1, k0_pay2, k0_pay3, k0_pay4]
  unfold lat
  have hq := q.isLt
  obtain ⟨n, hn⟩ := h
  by_cases hj : j.val < 256
  · simp only [dif_pos hj]
    interval_cases n <;> split_ifs <;> first | (exfalso; omega) | skip
    all_goals (refine Finset.sum_congr rfl fun d _ => ?_; refine congrArg₂ (· * ·) ?_ rfl; blk_ext [])
  · simp only [dif_neg hj]
    interval_cases n <;> split_ifs <;> first | (exfalso; omega) | blk_ext []

/-- The mask word at key `512 k + t` of row `(h, q)` of query block `i`: kept when the key is not after the query. -/
theorem mask_at (i : grid0.Coords) (hi : (i 1).val < 16) (k : Fin (k0_t1_loop i).trips) (hk : k.val < 4) (h : Fin 4) (q : Fin 128) (t : Fin 512) :
    k0_pay11 i (Scalar.muli (BitVec.ofNat 32 (i 1).val) 128#32) k (ix2 (row h q) t)
      = BitVec.ofBool (decide (512 * k.val + t.val ≤ 128 * (i 1).val + q.val)) := by
  pointwise [k0_pay11, k0_pay6]
  have hq := q.isLt
  have hh := h.isLt
  have ht := t.isLt
  have hL : IntOp.addi (Scalar.muli (Scf.iv 0#32 1#32 k.val) 512#32) (BitVec.ofNat 32 t.val) = BitVec.ofNat 32 (512 * k.val + t.val) := by
    show (0#32 + BitVec.ofNat 32 k.val * 1#32) * 512#32 + BitVec.ofNat 32 t.val = _
    rw [BitVec.zero_add, BitVec.mul_one, ← BitVec.ofNat_mul, ← BitVec.ofNat_add, mul_comm]
  have hR : ∀ n : ℕ, IntOp.addi (Scalar.muli (BitVec.ofNat 32 (i 1).val) 128#32) (BitVec.ofNat 32 n) = BitVec.ofNat 32 (128 * (i 1).val + n) := fun n => by
    show BitVec.ofNat 32 (i 1).val * 128#32 + BitVec.ofNat 32 n = _
    rw [← BitVec.ofNat_mul, ← BitVec.ofNat_add, mul_comm]
  simp only [hR, dite_eq_ite, hL]
  generalize (i 1).val = a at *
  rw [(show (∀ c : ℕ, c = 128 * h.val + q.val → (if c < 128 then BitVec.ofNat 32 (128 * a + c) else
    if c - 128 < 128 then BitVec.ofNat 32 (128 * a + (c - 128)) else
    if c - 128 - 128 < 128 then BitVec.ofNat 32 (128 * a + (c - 128 - 128)) else
    BitVec.ofNat 32 (128 * a + (c - 128 - 128 - 128))) = BitVec.ofNat 32 (128 * a + q.val)) from fun c hc => by
      split_ifs <;> congr 2 <;> omega) _ rfl]
  exact WordCmp.cmpi_sle_ofNat (by simp; omega) (by simp; omega)

/-- The tile's masked scores: at row `(h, q)` and key `512 k + t`, the row's score where the key is kept, `⊥` elsewhere. -/
theorem tile_at (i : grid0.Coords) (hi : (i 1).val < 16) (k : Fin (k0_t1_loop i).trips) (hk : k.val < 4) (v : FVec Ideal S1x512x288 .f32) (kv : ℕ → Fin 288 → EReal)
    (hv : ∀ (t : Fin 512) (j : Fin 288), v (ix3 0 t j) = kv (512 * k.val + t.val) j) (h : Fin 4) (q : Fin 128) (t : Fin 512) :
    k0_pay12 (F := Ideal) i (k0_pay1 x0) (k0_pay2 x1) (Scalar.muli (BitVec.ofNat 32 (i 1).val) 128#32) (k0_pay3 x0 x1 (w 0)) (k0_pay4 x0) (w 1) (w 2) (w 3) k v (ix2 (row h q) t)
      = Attn.kept (score (fun a => x0 (ix3 0 q a)) (fun a => x1 (ix3 0 q a)) kv (fun h d r => w h (ix3 0 d r)) h)
          (fun n => n ≤ 128 * (i 1).val + q.val) (512 * k.val + t.val) := by
  pointwise [k0_pay12, k0_pay10, mask_at i hi k hk]
  unfold Attn.kept
  refine if_congr Iff.rfl ?_ rfl
  unfold score
  refine congrArg₂ (· * ·) ?_ rfl
  rw [Fin.sum_univ_two_halves 256 32 rfl]
  refine congrArg₂ (· + ·) (Finset.sum_congr rfl fun r _ => ?_) (Finset.sum_congr rfl fun r _ => ?_)
  · refine congrArg₂ (· * ·) ((query_at x0 x1 w h q _).trans ?_) (hv t _)
    rw [dif_pos (show r.val < 256 from r.isLt)]
  · refine congrArg₂ (· * ·) ((query_at x0 x1 w h q _).trans ?_) (hv t _)
    rw [dif_neg (by simp)]
    simp

end Cert.JointIdeal.Rows

end
-- ==== Proof.Joint.Tile.lean ====
module

public import proofs.«01_k».proof.Proof.Gen.JointIdeal.Frame
public import proofs.«01_k».proof.Proof.Joint.Query
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.JointIdeal.Rows

open Cert.JointIdeal Cert.JointIdeal.Gen
open Attn.Mla (lat score SCALE FLOOR)

/-! ### One row across one tile of keys -/

section Tile

variable (i : grid0.Coords) (v1 : FVec Ideal S128x256 .f32) (v3 : FVec Ideal S128x128 .f32) (v4 : BitVec 32)
  (v31 : FVec Ideal S128x288 .f32) (v32 : FVec Ideal S128x64 .f32) (v33 v40 v47 : FVec Ideal S1x64x256 .bf16)
  (k : Fin (k0_t1_loop i).trips) (v : FVec Ideal S1x512x288 .f32) (M L : FVec Ideal S512x1 .f32) (A : FVec Ideal S512x256 .f32)
  (kv : ℕ → Fin 288 → EReal) (s : ℕ → EReal) (keep : ℕ → Prop) [DecidablePred keep] (r : Fin 512)

/-- The running maximum after tile `k`, the tile's scores being the kept ones of the row. -/
theorem max_at
    (hs : ∀ t : Fin 512, k0_pay12 (F := Ideal) i v1 v3 v4 v31 v32 v33 v40 v47 k v (ix2 r t) = Attn.kept s keep (512 * k.val + t.val))
    (hM : M (ix2 r 0) = Attn.top s keep (512 * k.val)) :
    k0_pay13 (F := Ideal) i v1 v3 v4 v31 v32 v33 v40 v47 k M v (ix2 r 0) = Attn.top s keep (512 * (k.val + 1)) := by
  pointwise [k0_pay13, hs, hM]
  rw [show 512 * (k.val + 1) = 512 * k.val + 512 from by ring, Attn.top_add]
  refine congrArg (max _) ?_
  rw [show Ideal.ofBits FTy.f32 4286578688#32 = ⊥ from by simp [Ideal.ofBits, Ideal.ieee], Attn.fold_max_eq_sup]
  exact Attn.sup_fin 512 fun t => Attn.kept s keep (512 * k.val + t)

variable (hs : ∀ t : Fin 512, k0_pay12 (F := Ideal) i v1 v3 v4 v31 v32 v33 v40 v47 k v (ix2 r t) = Attn.kept s keep (512 * k.val + t.val))
  (hm : ∀ t : Fin 512, k0_pay11 i v4 k (ix2 r t) = BitVec.ofBool (decide (keep (512 * k.val + t.val))))
  (hM : M (ix2 r 0) = Attn.top s keep (512 * k.val))
include hs hm hM

/-- The weight a key of tile `k` has: zero where the key is dropped. -/
theorem weight_at (t : Fin 512) :
    k0_pay14 (F := Ideal) i v1 v3 v4 v31 v32 v33 v40 v47 k M v (ix2 r t)
      = Attn.wt s keep (Attn.top s keep (512 * (k.val + 1))) (512 * k.val + t.val) := by
  have e := max_at i v1 v3 v4 v31 v32 v33 v40 v47 k v M s keep r hs hM
  pointwise [k0_pay14, hs, hm, e]
  unfold Attn.wt Attn.kept
  split_ifs <;> rfl

/-- What the older sums are multiplied by. -/
theorem rebase_at :
    k0_pay15 (F := Ideal) i v1 v3 v4 v31 v32 v33 v40 v47 k M v (ix2 r 0)
      = Ideal.exp (Attn.top s keep (512 * k.val) - Attn.top s keep (512 * (k.val + 1))) := by
  have e := max_at i v1 v3 v4 v31 v32 v33 v40 v47 k v M s keep r hs hM
  pointwise [k0_pay15, e, hM]

/-- The running sum of weights after tile `k`. -/
theorem den_at (hL : L (ix2 r 0) = Attn.den s keep (512 * k.val)) :
    k0_pay16 (F := Ideal) i v1 v3 v4 v31 v32 v33 v40 v47 k M L v (ix2 r 0) = Attn.den s keep (512 * (k.val + 1)) := by
  have e1 := weight_at i v1 v3 v4 v31 v32 v33 v40 v47 k v M s keep r hs hm hM
  have e2 := rebase_at i v1 v3 v4 v31 v32 v33 v40 v47 k v M s keep r hs hm hM
  pointwise [k0_pay16, e1, e2, hL]
  rw [show 512 * (k.val + 1) = 512 * k.val + 512 from by ring, Attn.den_add, Finset.sum_range]

/-- The running weighted sum of the cached rows after tile `k`. -/
theorem num_at (j : Fin 256) (hv : ∀ t : Fin 512, v (ix3 0 t ⟨j.val, by omega⟩) = kv (512 * k.val + t.val) ⟨j.val, by omega⟩)
    (hA : A (ix2 r j) = Attn.num s keep (fun n => kv n ⟨j.val, by omega⟩) (512 * k.val)) :
    k0_pay17 (F := Ideal) i v1 v3 v4 v31 v32 v33 v40 v47 k M A v (ix2 r j)
      = Attn.num s keep (fun n => kv n ⟨j.val, by omega⟩) (512 * (k.val + 1)) := by
  have e1 := weight_at i v1 v3 v4 v31 v32 v33 v40 v47 k v M s keep r hs hm hM
  have e2 := rebase_at i v1 v3 v4 v31 v32 v33 v40 v47 k v M s keep r hs hm hM
  pointwise [k0_pay17, k0_pay10, e1, e2, hA]
  rw [show 512 * (k.val + 1) = 512 * k.val + 512 from by ring, Attn.num_add, Finset.sum_range]
  simp only [hv]

end Tile

end Cert.JointIdeal.Rows

end
-- ==== Proof.Joint.Loop.lean ====
module

public import proofs.«01_k».proof.Proof.Gen.JointIdeal.Frame
public import proofs.«01_k».proof.Proof.Joint.Tile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.JointIdeal.Rows

open Cert.JointIdeal Cert.JointIdeal.Gen
open Attn.Mla (lat score SCALE FLOOR)

/-- How far the two loops over the keys run at each grid point: the first to the tile that holds the block's last
    position, the second (left for a part that is not whole) not at all. -/
theorem points : ∀ t : Fin cfg0.N, (k0_t1_loop (grid0.coords t)).trips = ((grid0.coords t 1).val * 128 + 127) / 512 + 1
    ∧ (k0_t2_loop (grid0.coords t)).trips = 0 :=
  (by decide +kernel : ∀ t : Fin grid0.N, _)

/-- Where tile `k` begins among the cached rows. -/
theorem offs : ∀ (t : Fin cfg0.N) (k : Fin (k0_t1_loop (grid0.coords t)).trips), k0_off1 (grid0.coords t) k = ![0, 512 * k.val, 0] :=
  (by decide +kernel : ∀ (t : Fin grid0.N) (k : Fin (k0_t1_loop (grid0.coords t)).trips), _)

/-! ### The loop over the tiles of keys -/

section Trip

variable (c : Dev nD) (bd : Option Variants.none.V) (i : grid0.Coords)
  (arg2 : Memref sig .tc .vmem S1x128x256 .f32) (harg2 : arg2.IsWhole) (arg3 : Memref sig .tc .vmem S1x128x128 .f32) (harg3 : arg3.IsWhole)
  (arg4 : Memref sig .tc .vmem S1x2048x288 .f32) (harg4 : arg4.IsWhole) (arg5 : Memref sig .tc .vmem S4x64x256 .bf16) (harg5 : arg5.IsWhole)
  (arg6 : Memref sig .tc .vmem S4x256x64 .bf16) (harg6 : arg6.IsWhole) (arg7 : Memref sig .tc .vmem S1x128x256 .f32) (harg7 : arg7.IsWhole)
  (v1 : FVec Ideal S128x256 .f32) (v3 : FVec Ideal S128x128 .f32) (v4 v24 : BitVec 32) (v31 : FVec Ideal S128x288 .f32) (v32 : FVec Ideal S128x64 .f32)
  (v33 v40 v47 : Vec Ideal S1x64x256 .bf16) (x2 : Vec Ideal S1x2048x288 .f32)

/-- One trip, as the three values it carries. -/
theorem trip_eq (k : Fin (k0_t1_loop i).trips) (acc : FVec Ideal S512x1 .f32 × FVec Ideal S512x1 .f32 × FVec Ideal S512x256 .f32) :
    tripR_k0_t1 Variants.none c bd i arg2 harg2 arg3 harg3 arg4 harg4 arg5 harg5 arg6 harg6 arg7 harg7 v1 v3 v4 v24 v31 v32 v33 v40 v47
        (harg4.unread x2) k acc
      = (k0_pay13 i v1 v3 v4 v31 v32 v33 v40 v47 k acc.1 (View.ld x2 (Rect.unit (k0_off1 i k) S1x512x288.size (k0_off1_inb i k))),
         k0_pay16 i v1 v3 v4 v31 v32 v33 v40 v47 k acc.1 acc.2.1 (View.ld x2 (Rect.unit (k0_off1 i k) S1x512x288.size (k0_off1_inb i k))),
         k0_pay17 i v1 v3 v4 v31 v32 v33 v40 v47 k acc.1 acc.2.2 (View.ld x2 (Rect.unit (k0_off1 i k) S1x512x288.size (k0_off1_inb i k)))) := by
  unfold tripR_k0_t1 trip_k0_t1
  dsimp only
  simp only [View.readAt_eq_ld, harg4.read_unread]

/-- The cached rows as a sequence. -/
def rows (x2 : Vec Ideal S1x2048x288 .f32) (n : ℕ) (j : Fin 288) : EReal := if h : n < 2048 then x2 (ix3 0 ⟨n, h⟩ j) else 0

/-- The scores of row `(h, q)`. -/
abbrev rowScore (x0 : FVec Ideal S1x128x256 .f32) (x1 : FVec Ideal S1x128x128 .f32) (w : Fin 4 → FVec Ideal S1x64x256 .bf16)
    (x2 : Vec Ideal S1x2048x288 .f32) (h : Fin 4) (q : Fin 128) : ℕ → EReal :=
  score (fun a => x0 (ix3 0 q a)) (fun a => x1 (ix3 0 q a)) (rows x2) (fun h d r => w h (ix3 0 d r)) h

/-- What the loop carries after `n` tiles, at row `(h, q)`: the maximum, the sum of the weights and the weighted sum of
    the cached rows over the first `512 n` keys. -/
theorem carried (t : Fin cfg0.N) (x0 : FVec Ideal S1x128x256 .f32) (x1 : FVec Ideal S1x128x128 .f32) (w : Fin 4 → FVec Ideal S1x64x256 .bf16)
    (h : Fin 4) (q : Fin 128) (n : ℕ) (hn : n ≤ (k0_t1_loop (grid0.coords t)).trips) :
    let st := st_k0_t1 (F := Ideal) Variants.none c bd (grid0.coords t) arg2 harg2 arg3 harg3 arg4 harg4 arg5 harg5 arg6 harg6 arg7 harg7
      (k0_pay1 x0) (k0_pay2 x1) (Scalar.muli (BitVec.ofNat 32 (grid0.coords t 1).val) 128#32) v24 (k0_pay3 x0 x1 (w 0)) (k0_pay4 x0) (w 1) (w 2) (w 3)
      (harg4.unread x2) (k0_pay7, k0_pay8, k0_pay9) n
    st.1 (ix2 (row h q) 0) = Attn.top (rowScore x0 x1 w x2 h q) (fun n => n ≤ 128 * (grid0.coords t 1).val + q.val) (512 * n)
    ∧ st.2.1 (ix2 (row h q) 0) = Attn.den (rowScore x0 x1 w x2 h q) (fun n => n ≤ 128 * (grid0.coords t 1).val + q.val) (512 * n)
    ∧ ∀ r : Fin 256, st.2.2 (ix2 (row h q) r)
        = Attn.num (rowScore x0 x1 w x2 h q) (fun n => n ≤ 128 * (grid0.coords t 1).val + q.val) (fun n => rows x2 n ⟨r.val, by omega⟩) (512 * n) := by
  have hi : (grid0.coords t 1).val < 16 := (grid0.coords t 1).isLt
  induction n with
  | zero =>
    dsimp only
    rw [st_k0_t1_zero, Nat.mul_zero, Attn.top_zero, Attn.den_zero]
    refine ⟨?_, ?_, fun r => ?_⟩
    · pointwise [k0_pay7]
      rfl
    · pointwise [k0_pay8]
    · rw [Attn.num_zero]
      pointwise [k0_pay9]
  | succ n ih =>
    obtain ⟨ihM, ihL, ihA⟩ := ih (by omega)
    have hk : n < 4 := by
      have := (points t).1
      omega
    have hv : ∀ (x : Fin 512) (j : Fin 288), View.ld x2 (Rect.unit (k0_off1 (grid0.coords t) ⟨n, hn⟩) S1x512x288.size (k0_off1_inb (grid0.coords t) ⟨n, hn⟩)) (ix3 0 x j)
        = rows x2 (512 * n + x.val) j := by
      intro x j
      unfold rows
      rw [dif_pos (by omega)]
      refine View.ld_unit_apply_of x2 _ _ _ _ (ix3 0 ⟨512 * n + x.val, by omega⟩ j) fun a => ?_
      refine Eq.trans ?_ (congrArg (· + _) (congrFun (offs t ⟨n, hn⟩) a).symm)
      fin_cases a <;> simp
    have hs := fun x => tile_at x0 x1 w (grid0.coords t) hi ⟨n, hn⟩ hk _ (rows x2) hv h q x
    have hm := fun x => mask_at (grid0.coords t) hi ⟨n, hn⟩ hk h q x
    dsimp only
    rw [st_k0_t1_succ (k := ⟨n, hn⟩), trip_eq]
    refine ⟨?_, ?_, fun r => ?_⟩
    · exact max_at _ _ _ _ _ _ _ _ _ _ _ _ _ _ _ hs ihM
    · exact den_at _ _ _ _ _ _ _ _ _ _ _ _ _ _ _ _ hs hm ihM ihL
    · exact num_at _ _ _ _ _ _ _ _ _ _ _ _ _ (rows x2) _ _ _ hs hm ihM r (fun x => hv x _) (ihA r)

end Trip

/-- A loop of no trips leaves what it was given. -/
theorem st2_none {n : ℕ} (𝒱 : Variants) (c : Dev nD) (bd : Option 𝒱.V) (i : grid0.Coords)
  (arg2 : Memref sig .tc .vmem S1x128x256 .f32) (harg2 : arg2.IsWhole) (arg3 : Memref sig .tc .vmem S1x128x128 .f32) (harg3 : arg3.IsWhole)
  (arg4 : Memref sig .tc .vmem S1x2048x288 .f32) (harg4 : arg4.IsWhole) (arg5 : Memref sig .tc .vmem S4x64x256 .bf16) (harg5 : arg5.IsWhole)
  (arg6 : Memref sig .tc .vmem S4x256x64 .bf16) (harg6 : arg6.IsWhole) (arg7 : Memref sig .tc .vmem S1x128x256 .f32) (harg7 : arg7.IsWhole)
  (v1 : FVec Ideal S128x256 .f32) (v3 : FVec Ideal S128x128 .f32) (v4 v24 : BitVec 32) (v31 : FVec Ideal S128x288 .f32) (v32 : FVec Ideal S128x64 .f32)
  (v33 v40 v47 : Vec Ideal S1x64x256 .bf16) (X) (init) (hn : n = 0) :
    st_k0_t2 (F := Ideal) 𝒱 c bd i arg2 harg2 arg3 harg3 arg4 harg4 arg5 harg5 arg6 harg6 arg7 harg7 v1 v3 v4 v24 v31 v32 v33 v40 v47 X init n = init := by
  subst hn; rfl

end Cert.JointIdeal.Rows

end
-- ==== Proof.Joint.Out.lean ====
module

public import proofs.«01_k».proof.Proof.Gen.JointIdeal.Frame
public import proofs.«01_k».proof.Proof.Joint.Loop
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.JointIdeal.Rows

open Cert.JointIdeal Cert.JointIdeal.Gen
open Attn.Mla (lat score out SCALE FLOOR)

variable (V : (c : Dev nD) → (b : Ref sig .tc) → Buf (Elt Ideal) ((c : Thread nD τ).loc b))

/-- What the loop leaves at row `(h, q)`, once all the tiles that hold kept keys are done: dropping the tiles after them
    changes nothing, so the sums are those over all 2048 keys. -/
theorem fin_at (c : Dev nD) (t : Fin cfg0.N) (bd) (v24 : BitVec 32)
    (arg2 : Memref sig .tc .vmem S1x128x256 .f32) (harg2 : arg2.IsWhole) (arg3 : Memref sig .tc .vmem S1x128x128 .f32) (harg3 : arg3.IsWhole)
    (arg4 : Memref sig .tc .vmem S1x2048x288 .f32) (harg4 : arg4.IsWhole) (arg5 : Memref sig .tc .vmem S4x64x256 .bf16) (harg5 : arg5.IsWhole)
    (arg6 : Memref sig .tc .vmem S4x256x64 .bf16) (harg6 : arg6.IsWhole) (arg7 : Memref sig .tc .vmem S1x128x256 .f32) (harg7 : arg7.IsWhole)
    (x0 : FVec Ideal S1x128x256 .f32) (x1 : FVec Ideal S1x128x128 .f32) (w : Fin 4 → FVec Ideal S1x64x256 .bf16) (x2 : Vec Ideal S1x2048x288 .f32)
    (FIN : FVec Ideal S512x1 .f32 × FVec Ideal S512x1 .f32 × FVec Ideal S512x256 .f32)
    (hF : st_k0_t1 (F := Ideal) Variants.none c bd (grid0.coords t) arg2 harg2 arg3 harg3 arg4 harg4 arg5 harg5 arg6 harg6 arg7 harg7
      (k0_pay1 x0) (k0_pay2 x1) (Scalar.muli (BitVec.ofNat 32 (grid0.coords t 1).val) 128#32) v24 (k0_pay3 x0 x1 (w 0)) (k0_pay4 x0) (w 1) (w 2) (w 3)
      (harg4.unread x2) (k0_pay7, k0_pay8, k0_pay9) (k0_t1_loop (grid0.coords t)).trips = FIN)
    (h : Fin 4) (q : Fin 128) (r : Fin 256) :
    Ideal.div (FIN.2.2 (ix2 (row h q) r)) (max (FIN.2.1 (ix2 (row h q) 0)) FLOOR)
      = ∑ n ∈ Finset.range 2048, Attn.prob (rowScore x0 x1 w x2 h q) (fun n => n ≤ 128 * (grid0.coords t 1).val + q.val) FLOOR 2048 n
          * rows x2 n ⟨r.val, by omega⟩ := by
  obtain ⟨_, hL, hA⟩ := carried c bd arg2 harg2 arg3 harg3 arg4 harg4 arg5 harg5 arg6 harg6 arg7 harg7 v24 x2 t x0 x1 w h q _ le_rfl
  have hi : (grid0.coords t 1).val < 16 := (grid0.coords t 1).isLt
  have hT := (points t).1
  have hq := q.isLt
  rw [hF] at hL hA
  have hle : 512 * (k0_t1_loop (grid0.coords t)).trips ≤ 2048 := by omega
  have hdrop : ∀ k, 512 * (k0_t1_loop (grid0.coords t)).trips ≤ k → k < 2048 → ¬ k ≤ 128 * (grid0.coords t 1).val + q.val := by omega
  rw [hL, hA r, ← Attn.den_of_dropped _ _ hle hdrop, ← Attn.num_of_dropped _ _ _ hle hdrop]
  exact Attn.quotient_eq _ _ _ Attn.Mla.floor_pos 2048

/-- One entry of the block written at a grid point. -/
theorem out_at (c : Dev nD) (t : Fin cfg0.N) (h : Fin 4) (q : Fin 128) (d : Fin 64) (y : S1x128x256.Idx) (hy1 : (y 1).val = q.val) (hy2 : (y 2).val = 64 * h.val + d.val) :
    outsAt0 V c t y = out (fun a => iblk0 V c 0 t (ix3 0 q a)) (fun a => iblk0 V c 1 t (ix3 0 q a)) (rows (iblk0 V c 2 t))
      (fun h d r => iblk0 V c 3 t (ix3 h d r)) (fun r => iblk0 V c 4 t (ix3 h r d)) (128 * (grid0.coords t 1).val + q.val) h := by
  have hh := h.isLt
  have hd := d.isLt
  unfold outsAt0
  frame_out
  rw [st2_none]
  case hn => exact (points t).2
  generalize hF : st_k0_t1 (F := Ideal) _ _ _ _ _ _ _ _ _ _ _ _ _ _ _ _ _ _ _ _ _ _ _ _ _ _ _ _ = FIN
  have hw : ∀ (h : Fin 4) (d : Fin 64) (r : Fin 256),
      (![View.ld (iblk0 V c 3 t) (Rect.unit ![0, 0, 0] ![1, 64, 256] inb_S4x64x256_S1x64x256_0_0_0), View.ld (iblk0 V c 3 t) (Rect.unit ![1, 0, 0] ![1, 64, 256] inb_S4x64x256_S1x64x256_1_0_0),
         View.ld (iblk0 V c 3 t) (Rect.unit ![2, 0, 0] ![1, 64, 256] inb_S4x64x256_S1x64x256_2_0_0), View.ld (iblk0 V c 3 t) (Rect.unit ![3, 0, 0] ![1, 64, 256] inb_S4x64x256_S1x64x256_3_0_0)]
        : Fin 4 → FVec Ideal S1x64x256 .bf16) h (ix3 0 d r) = iblk0 V c 3 t (ix3 h d r) := by
    intro h d r
    have hld : ∀ (o : Fin 4) (inb), View.ld (iblk0 V c 3 t) (Rect.unit ![o.val, 0, 0] ![1, 64, 256] inb) (ix3 0 d r) = iblk0 V c 3 t (ix3 o d r) := by
      intro o inb
      refine View.ld_unit_apply_of _ _ _ _ _ (ix3 o d r) fun a => ?_
      fin_cases a <;> simp
    fin_cases h
    · exact hld 0 _
    · exact hld 1 _
    · exact hld 2 _
    · exact hld 3 _
  have e := fin_at c t none _ _ _ _ _ _ _ _ _ _ _ _ _ (iblk0 V c 0 t) (iblk0 V c 1 t)
    ![View.ld (iblk0 V c 3 t) (Rect.unit ![0, 0, 0] ![1, 64, 256] inb_S4x64x256_S1x64x256_0_0_0), View.ld (iblk0 V c 3 t) (Rect.unit ![1, 0, 0] ![1, 64, 256] inb_S4x64x256_S1x64x256_1_0_0),
      View.ld (iblk0 V c 3 t) (Rect.unit ![2, 0, 0] ![1, 64, 256] inb_S4x64x256_S1x64x256_2_0_0), View.ld (iblk0 V c 3 t) (Rect.unit ![3, 0, 0] ![1, 64, 256] inb_S4x64x256_S1x64x256_3_0_0)]
    (iblk0 V c 2 t) FIN hF h q
  clear hF
  simp only [rowScore, hw] at e
  unfold out
  simp only [← e]
  clear e hw
  canon_tiles x hx
  all_goals pointwise [k0_pay29, k0_pay28, k0_pay30, k0_pay31, k0_pay27, k0_pay26]
  all_goals
    obtain rfl : q = ⟨(x 1).val, x1_lt⟩ := Fin.ext (show q.val = (x 1).val by omega)
  · have hk : h.val = 3 := by omega
    obtain rfl : d = ⟨(x 2).val, x2_lt⟩ := Fin.ext (show d.val = (x 2).val by omega)
    obtain rfl : h = 3 := Fin.ext hk
    rfl
  · have hk : h.val = 2 := by omega
    obtain rfl : d = ⟨(x 2).val, x2_lt⟩ := Fin.ext (show d.val = (x 2).val by omega)
    obtain rfl : h = 2 := Fin.ext hk
    rfl
  · have hk : h.val = 1 := by omega
    obtain rfl : d = ⟨(x 2).val, x2_lt⟩ := Fin.ext (show d.val = (x 2).val by omega)
    obtain rfl : h = 1 := Fin.ext hk
    rfl
  · have hk : h.val = 0 := by omega
    obtain rfl : d = ⟨(x 2).val, x2_lt⟩ := Fin.ext (show d.val = (x 2).val by omega)
    obtain rfl : h = 0 := Fin.ext hk
    rw [show row 0 ⟨(x 1).val, x1_lt⟩ = ⟨(x 1).val, by omega⟩ from Fin.ext (by simp [row])]
    rfl

end Cert.JointIdeal.Rows

end
-- ==== Proof.Joint.Attend.lean ====
module

public import proofs.«01_k».proof.Proof.Gen.JointIdeal.Frame
public import proofs.«01_k».proof.Proof.Joint.Out
public import proofs.«01_k».proof.Proof.Mla.Entry
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.JointIdeal.Rows

open Cert.JointIdeal Cert.JointIdeal.Gen
open Attn.Mla (lat score out entry SCALE FLOOR)

variable (V : (c : Dev nD) → (b : Ref sig .tc) → Buf (Elt Ideal) ((c : Thread nD τ).loc b))

theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, 0, 0] ∧ win0_3.index t = ![0, 0, 0] ∧ win0_4.index t = ![0, 0, 0]
    ∧ win0_5.index t = ![(grid0.coords t 0).val, (grid0.coords t 1).val, 0] :=
  (by decide +kernel : ∀ t : Fin grid0.N, _)

/-- The batch entry and the query position that row `q` of a grid point's block has in the arrays. -/
abbrev bat (t : Fin cfg0.N) : Fin 16 := ⟨(grid0.coords t 0).val, (grid0.coords t 0).isLt⟩
abbrev qpos (t : Fin cfg0.N) (q : Fin 128) : Fin 2048 :=
  ⟨128 * (grid0.coords t 1).val + q.val, by have h : (grid0.coords t 1).val < 16 := (grid0.coords t 1).isLt; have := q.isLt; omega⟩

theorem blk0_at (c : Dev nD) (t : Fin cfg0.N) (q : Fin 128) (a : Fin 256) :
    iblk0 V c 0 t (ix3 0 q a) = V c main_arg0 (ix3 (bat t) (qpos t q) a) := by
  blk_ext [iblk0, idx t]

theorem blk1_at (c : Dev nD) (t : Fin cfg0.N) (q : Fin 128) (a : Fin 128) :
    iblk0 V c 1 t (ix3 0 q a) = V c main_arg1 (ix3 (bat t) (qpos t q) a) := by
  blk_ext [iblk0, idx t]

theorem blk2_at (c : Dev nD) (t : Fin cfg0.N) (n : Fin 2048) (a : Fin 288) :
    iblk0 V c 2 t (ix3 0 n a) = V c main_arg2 (ix3 (bat t) n a) := by
  blk_ext [iblk0, idx t]

theorem blk3_at (c : Dev nD) (A3 : (⟨3, ![256, 4, 64]⟩ : Shape).Idx → EReal)
    (h3 : ∀ (h : Fin 4) (d : Fin 64) (r : Fin 256), V c main_v1 (ix3 h d r) = A3 (ix3 r h d))
    (t : Fin cfg0.N) (h : Fin 4) (d : Fin 64) (r : Fin 256) :
    iblk0 V c 3 t (ix3 h d r) = A3 (ix3 r h d) := by
  rw [← h3]
  blk_ext [iblk0, idx t]

theorem blk4_at (c : Dev nD) (A4 : (⟨3, ![256, 4, 64]⟩ : Shape).Idx → EReal)
    (h4 : ∀ (h : Fin 4) (r : Fin 256) (d : Fin 64), V c main_v3 (ix3 h r d) = A4 (ix3 r h d))
    (t : Fin cfg0.N) (h : Fin 4) (r : Fin 256) (d : Fin 64) :
    iblk0 V c 4 t (ix3 h r d) = A4 (ix3 r h d) := by
  rw [← h4]
  blk_ext [iblk0, idx t]

theorem emb_at (t : Fin cfg0.N) (q : Fin 128) (j : Fin 256) : (win0_5.blk t).view.emb (ix3 0 q j) = ix3 (bat t) (qpos t q) j := by
  blk_ext [idx t]

/-- The block written at a grid point, in the arrays' terms. -/
theorem block_at (c : Dev nD) (A3 A4 : (⟨3, ![256, 4, 64]⟩ : Shape).Idx → EReal)
    (h3 : ∀ (h : Fin 4) (d : Fin 64) (r : Fin 256), V c main_v1 (ix3 h d r) = A3 (ix3 r h d))
    (h4 : ∀ (h : Fin 4) (r : Fin 256) (d : Fin 64), V c main_v3 (ix3 h r d) = A4 (ix3 r h d))
    (t : Fin cfg0.N) (h : Fin 4) (q : Fin 128) (d : Fin 64) (y : S1x128x256.Idx) (hy1 : (y 1).val = q.val)
    (hy2 : (y 2).val = 64 * h.val + d.val) :
    outsAt0 V c t y = entry (V c main_arg0) (V c main_arg1) (V c main_arg2)
      A3 A4 (bat t) (qpos t q) h d := by
  unfold entry
  rw [out_at V c t h q d y hy1 hy2]
  simp only [blk0_at, blk1_at, blk3_at V c A3 h3, blk4_at V c A4 h4]
  unfold rows
  simp only [blk2_at]

theorem head_lt (y : S16x2048x256.Idx) : (y 2).val / 64 < 4 := by
  have h : (y 2).val < 256 := (y 2).isLt
  omega

/-- THE ATTENTION'S ARRAY, entry by entry, from whatever the first kernel finds in its arrays. -/
theorem final (c : Dev nD) (A3 A4 : (⟨3, ![256, 4, 64]⟩ : Shape).Idx → EReal)
    (h3 : ∀ (h : Fin 4) (d : Fin 64) (r : Fin 256), V c main_v1 (ix3 h d r) = A3 (ix3 r h d))
    (h4 : ∀ (h : Fin 4) (r : Fin 256) (d : Fin 64), V c main_v3 (ix3 h r d) = A4 (ix3 r h d)) :
    (dat0 V c).arrAt 5 cfg0.N = fun y : S16x2048x256.Idx =>
    entry (V c main_arg0) (V c main_arg1) (V c main_arg2)
      A3 A4 (y 0) (y 1)
      ⟨(y 2).val / 64, head_lt y⟩ ⟨(y 2).val % 64, Nat.mod_lt _ (by decide)⟩ := by
  refine (dat0 V c).arrAt_eq_of_covers 5 _ (by decide +kernel) fun t hf y => ?_
  have i5 := (idx t).2.2.2.2.2
  blk_simp
  rw [after0_5]
  have y2 : (y 2).val < 256 := (y 2).isLt
  rw [block_at V c A3 A4 h3 h4 t ⟨(y 2).val / 64, by omega⟩ (y 1) ⟨(y 2).val % 64, by omega⟩ y rfl (show (y 2).val = 64 * ((y 2).val / 64) + (y 2).val % 64 by omega)]
  have z0 : (win0_5.blk t).view.emb y 0 = bat t := Fin.ext (by
    have y0 : (y 0).val < 1 := (y 0).isLt
    blk_simp [i5])
  have z1 : (win0_5.blk t).view.emb y 1 = qpos t (y 1) := Fin.ext (by
    blk_simp [i5]
    show _ = 128 * (grid0.coords t 1).val + (y 1).val
    omega)
  have z2 : win0_5.index t 2 * 256 + (y 2).val = (y 2).val := by rw [i5]; simp
  rw [z0, z1]
  simp only [z2]

end Cert.JointIdeal.Rows

end
-- ==== Proof.Joint.Block.lean ====
module

public import proofs.«01_k».proof.Proof.Gen.JointIdeal.Frame
public import proofs.«01_k».proof.Proof.Math.Merge
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.JointIdeal.Merged

open Cert.JointIdeal Cert.JointIdeal.Gen Attn

/-- The block written at a grid point, row by row. -/
theorem out_at (x0 : FVec Ideal S256x1024 .f32) (x1 x2 x3 x4 : FVec Ideal S256x256 .f32) (x5 : FVec Ideal S256x4096 .f32) (x6 : FVec Ideal S4x256x1024 .bf16) (x7 : FVec Ideal S1024x1024 .bf16) (r : Fin 256) (j : Fin 1024) :
    out1_8 (F := Ideal) x0 x1 x2 x3 x4 x5 x6 x7 (ix2 r j) =
      mergedRow (fun k => x0 (ix2 r k)) (fun d => x1 (ix2 r d)) (fun d => x2 (ix2 r d)) (fun d => x3 (ix2 r d)) (fun d => x4 (ix2 r d))
        (fun k => x5 (ix2 r k)) (fun b d k => x6 (ix3 b d k)) (fun k j => x7 (ix2 k j)) j := by
  unfold out1_8
  frame_out
  pointwise [k1_pay1, k1_pay2, k1_pay3]
  rfl

variable (V : (c : Dev nD) → (b : Ref sig .tc) → Buf (Elt Ideal) ((c : Thread nD τ).loc b))

/-- The blocks' positions: grid point `t` takes and writes rows `256 t` on, and the weights whole. -/
theorem idx : ∀ t : Fin cfg1.N, win1_0.index t = ![t.val, 0] ∧ win1_1.index t = ![t.val, 0] ∧ win1_2.index t = ![t.val, 0] ∧ win1_3.index t = ![t.val, 0]
    ∧ win1_4.index t = ![t.val, 0] ∧ win1_5.index t = ![t.val, 0] ∧ win1_6.index t = ![0, 0, 0] ∧ win1_7.index t = ![0, 0] ∧ win1_8.index t = ![t.val, 0] :=
  (by decide +kernel : ∀ t : Fin grid1.N, _)

/-- The row of the arrays that row `r` of grid point `t`'s blocks is. -/
abbrev rowOf (t : Fin cfg1.N) (r : Fin 256) : Fin 32768 :=
  ⟨256 * t.val + r.val, by have := lt_of_lt_of_eq t.isLt (show cfg1.N = 128 from N_1); omega⟩

theorem blk0_at (c : Dev nD) (t : Fin cfg1.N) (r : Fin 256) (k : Fin 1024) :
    iblk1 V c 0 t (ix2 r k) = V c main_arg5 (ix2 (rowOf t r) k) := by
  blk_ext [iblk1, idx t]

theorem blk1_at (c : Dev nD) (t : Fin cfg1.N) (r d : Fin 256) :
    iblk1 V c 1 t (ix2 r d) = V c main_arg6 (ix2 (rowOf t r) d) := by
  blk_ext [iblk1, idx t]

theorem blk2_at (c : Dev nD) (t : Fin cfg1.N) (r d : Fin 256) :
    iblk1 V c 2 t (ix2 r d) = V c main_v5 (ix2 (rowOf t r) d) := by
  blk_ext [iblk1, idx t]

theorem blk3_at (c : Dev nD) (t : Fin cfg1.N) (r d : Fin 256) :
    iblk1 V c 3 t (ix2 r d) = V c main_arg7 (ix2 (rowOf t r) d) := by
  blk_ext [iblk1, idx t]

theorem blk4_at (c : Dev nD) (t : Fin cfg1.N) (r d : Fin 256) :
    iblk1 V c 4 t (ix2 r d) = V c main_arg8 (ix2 (rowOf t r) d) := by
  blk_ext [iblk1, idx t]

theorem blk5_at (c : Dev nD) (t : Fin cfg1.N) (r : Fin 256) (k : Fin 4096) :
    iblk1 V c 5 t (ix2 r k) = V c main_arg9 (ix2 (rowOf t r) k) := by
  blk_ext [iblk1, idx t]

theorem blk6_at (c : Dev nD) (A6 : FVec Ideal S4x256x1024 .f32)
    (h6 : ∀ (b : Fin 4) (d : Fin 256) (k : Fin 1024), V c main_v6 (ix3 b d k) = A6 (ix3 b d k))
    (t : Fin cfg1.N) (b : Fin 4) (d : Fin 256) (k : Fin 1024) :
    iblk1 V c 6 t (ix3 b d k) = A6 (ix3 b d k) := by
  rw [← h6]
  blk_ext [iblk1, idx t]

theorem blk7_at (c : Dev nD) (A7 : FVec Ideal S1024x1024 .f32)
    (h7 : ∀ k j : Fin 1024, V c main_v7 (ix2 k j) = A7 (ix2 k j))
    (t : Fin cfg1.N) (k j : Fin 1024) :
    iblk1 V c 7 t (ix2 k j) = A7 (ix2 k j) := by
  rw [← h7]
  blk_ext [iblk1, idx t]

/-- An entry of the result, in the arguments' terms. -/
def entry (a0 : FVec Ideal S32768x1024 .f32) (a1 a2 a3 a4 : FVec Ideal S32768x256 .f32) (a5 : FVec Ideal S32768x4096 .f32)
    (a6 : FVec Ideal S4x256x1024 .f32) (a7 : FVec Ideal S1024x1024 .f32) (r : Fin 32768) (j : Fin 1024) : EReal :=
  mergedRow (fun k => a0 (ix2 r k)) (fun d => a1 (ix2 r d)) (fun d => a2 (ix2 r d)) (fun d => a3 (ix2 r d)) (fun d => a4 (ix2 r d))
    (fun k => a5 (ix2 r k)) (fun b d k => a6 (ix3 b d k)) (fun k j => a7 (ix2 k j)) j

/-- The block written at a grid point, in the arguments' terms. -/
theorem block_at (c : Dev nD) (A6 : FVec Ideal S4x256x1024 .f32) (A7 : FVec Ideal S1024x1024 .f32)
    (h6 : ∀ (b : Fin 4) (d : Fin 256) (k : Fin 1024), V c main_v6 (ix3 b d k) = A6 (ix3 b d k))
    (h7 : ∀ k j : Fin 1024, V c main_v7 (ix2 k j) = A7 (ix2 k j))
    (t : Fin cfg1.N) (r : Fin 256) (j : Fin 1024) :
    out1_8 (F := Ideal) (iblk1 V c 0 t) (iblk1 V c 1 t) (iblk1 V c 2 t) (iblk1 V c 3 t) (iblk1 V c 4 t) (iblk1 V c 5 t) (iblk1 V c 6 t) (iblk1 V c 7 t) (ix2 r j) =
      entry (V c main_arg5) (V c main_arg6) (V c main_v5)
        (V c main_arg7) (V c main_arg8) (V c main_arg9)
        A6 A7 (rowOf t r) j := by
  rw [out_at]
  simp only [blk0_at, blk1_at, blk2_at, blk3_at, blk4_at, blk5_at, blk6_at V c A6 h6, blk7_at V c A7 h7]
  rfl

/-- THE RESULT ARRAY, entry by entry, from whatever the second kernel finds in its arrays. -/
theorem final (c : Dev nD) (A6 : FVec Ideal S4x256x1024 .f32) (A7 : FVec Ideal S1024x1024 .f32)
    (h6 : ∀ (b : Fin 4) (d : Fin 256) (k : Fin 1024), V c main_v6 (ix3 b d k) = A6 (ix3 b d k))
    (h7 : ∀ k j : Fin 1024, V c main_v7 (ix2 k j) = A7 (ix2 k j)) :
    (dat1 V c).arrAt 8 cfg1.N = fun y : S32768x1024.Idx =>
    entry (V c main_arg5) (V c main_arg6) (V c main_v5)
      (V c main_arg7) (V c main_arg8) (V c main_arg9)
      A6 A7 (y 0) (y 1) := by
  refine (dat1 V c).arrAt_eq_of_covers 8 _ (by decide +kernel) fun t hf y => ?_
  have i8 := (idx t).2.2.2.2.2.2.2.2
  blk_simp
  rw [after1_8]
  have z0 : (win1_8.blk t).view.emb y 0 = rowOf t (y 0) := Fin.ext (by
    blk_simp [i8]
    show _ = 256 * t.val + (y 0).val
    omega)
  have z1 : (win1_8.blk t).view.emb y 1 = (y 1 : Fin 1024) := Fin.ext (by
    blk_simp [i8])
  rw [z0, z1]
  exact (congrArg (out1_8 (F := Ideal) (iblk1 V c 0 t) (iblk1 V c 1 t) (iblk1 V c 2 t) (iblk1 V c 3 t) (iblk1 V c 4 t) (iblk1 V c 5 t) (iblk1 V c 6 t) (iblk1 V c 7 t))
    (Idealize.ShloMosaic.eq_ix2 (y : S256x1024.Idx))).trans (block_at V c A6 A7 h6 h7 t (y 0) (y 1))

end Cert.JointIdeal.Merged

end
-- ==== Proof.Joint.Whole.lean ====
module

public import proofs.«01_k».proof.Proof.Joint.Attend
public import proofs.«01_k».proof.Proof.Joint.Block
public import Idealize.ShloMosaic.Lib.Claim
public import Idealize.ShloMosaic.Lib.Pointwise

@[expose] public section

set_option maxRecDepth 16384

noncomputable section

namespace Cert.JointIdeal.Whole

open Cert.JointIdeal Cert.JointIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F] [Named F]
variable (m : (ℓ : Loc nD τ sig) → Buf (Elt F) ℓ) (ρ : Dev nD → PrngReg)

set_option backward.isDefEq.respectTransparency.types false in
/-- The run of the two kernels, one after the other: the result buffer ends as the second kernel's pipeline leaves it, and
    the arguments end as launched. -/
theorem run : θ_run defs (onTc (τ := τ) (main (F := F))) ⟨m, fun _ => 0, ρ⟩ (fun r => ∀ c : Dev nD,
      r.2.mem ((c.tc : Thread nD τ).loc main_v8) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v8 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Run

variable (m : (ℓ : Loc nD τ sig) → Buf (Elt Ideal) ℓ) (ρ : Dev nD → PrngReg)

/-! ### What the first kernel finds -/

theorem wuk_at (c : Dev nD) (h : Fin 4) (d : Fin 64) (r : Fin 256) :
    V1 m ρ c main_v1 (ix3 h d r) = m ((c.tc : Thread nD τ).loc main_arg3) (ix3 r h d) := by
  show StableHlo.after hostOps0 (fun b => m (c, b)) (Proc.devRef .tc main_v1) (ix3 h d r) = _
  entry_read
  pointwise

theorem wuv_at (c : Dev nD) (h : Fin 4) (r : Fin 256) (d : Fin 64) :
    V1 m ρ c main_v3 (ix3 h r d) = m ((c.tc : Thread nD τ).loc main_arg4) (ix3 r h d) := by
  show StableHlo.after hostOps0 (fun b => m (c, b)) (Proc.devRef .tc main_v3) (ix3 h r d) = _
  entry_read
  pointwise

/-- The attention of the arguments, as an array. -/
def attention (c : Dev nD) : FVec Ideal S16x2048x256 .f32 := fun y =>
  Attn.Mla.entry (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (y 0) (y 1)
    ⟨(y 2).val / 64, Rows.head_lt y⟩ ⟨(y 2).val % 64, Nat.mod_lt _ (by decide)⟩

/-- The first kernel leaves the attention. -/
theorem attention_at (c : Dev nD) : (dat0 (V1 m ρ) c).arrAt 5 cfg0.N = attention m c := by
  have e0 : V1 m ρ c main_arg0 = m ((c.tc : Thread nD τ).loc main_arg0) := W1_args m ρ c main_arg0 (by decide)
  have e1 : V1 m ρ c main_arg1 = m ((c.tc : Thread nD τ).loc main_arg1) := W1_args m ρ c main_arg1 (by decide)
  have e2 : V1 m ρ c main_arg2 = m ((c.tc : Thread nD τ).loc main_arg2) := W1_args m ρ c main_arg2 (by decide)
  rw [Rows.final (V1 m ρ) c _ _ (wuk_at m ρ c) (wuv_at m ρ c), e0, e1, e2]
  rfl

/-! ### What the second kernel finds -/

/-- The first kernel's result, a row per position. -/
theorem mla_rows (c : Dev nD) : V3 m ρ c main_v5 = shapeCast S32768x256 (attention m c) shapeCasts_S16x2048x256_S32768x256 := by
  rw [← attention_at m ρ c]
  refine Eq.trans ?_ (congrArg (fun X : FVec Ideal S16x2048x256 .f32 => shapeCast S32768x256 X shapeCasts_S16x2048x256_S32768x256) (W2_arr m ρ c 5))
  show StableHlo.after hostOps1 (W2 m ρ c) (Proc.devRef .tc main_v5) = _
  entry_read
  rfl

theorem wb_at (c : Dev nD) (b : Fin 4) (d : Fin 256) (k : Fin 1024) :
    V3 m ρ c main_v6 (ix3 b d k) = m ((c.tc : Thread nD τ).loc main_arg10) (ix3 b d k) := by
  rw [← W2_args m ρ c main_arg10 (by decide)]
  show StableHlo.after hostOps1 (W2 m ρ c) (Proc.devRef .tc main_v6) (ix3 b d k) = _
  entry_read
  pointwise

theorem wo_at (c : Dev nD) (k j : Fin 1024) : V3 m ρ c main_v7 (ix2 k j) = m ((c.tc : Thread nD τ).loc main_arg11) (ix2 k j) := by
  rw [← W2_args m ρ c main_arg11 (by decide)]
  show StableHlo.after hostOps1 (W2 m ρ c) (Proc.devRef .tc main_v7) (ix2 k j) = _
  entry_read
  pointwise

/-- THE RESULT ARRAY of the two kernels, entry by entry, in the arguments' terms. -/
theorem final (c : Dev nD) : (dat1 (V3 m ρ) c).arrAt 8 cfg1.N = fun y : S32768x1024.Idx =>
    Merged.entry (m ((c.tc : Thread nD τ).loc main_arg5)) (m ((c.tc : Thread nD τ).loc main_arg6))
      (shapeCast S32768x256 (attention m c) shapeCasts_S16x2048x256_S32768x256)
      (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) (y 0) (y 1) := by
  have e5 : V3 m ρ c main_arg5 = m ((c.tc : Thread nD τ).loc main_arg5) := W3_args m ρ c main_arg5 (by decide)
  have e6 : V3 m ρ c main_arg6 = m ((c.tc : Thread nD τ).loc main_arg6) := W3_args m ρ c main_arg6 (by decide)
  have e7 : V3 m ρ c main_arg7 = m ((c.tc : Thread nD τ).loc main_arg7) := W3_args m ρ c main_arg7 (by decide)
  have e8 : V3 m ρ c main_arg8 = m ((c.tc : Thread nD τ).loc main_arg8) := W3_args m ρ c main_arg8 (by decide)
  have e9 : V3 m ρ c main_arg9 = m ((c.tc : Thread nD τ).loc main_arg9) := W3_args m ρ c main_arg9 (by decide)
  rw [Merged.final (V3 m ρ) c _ _ (wb_at m ρ c) (wo_at m ρ c), e5, e6, e7, e8, e9, mla_rows]

end Cert.JointIdeal.Whole

end
-- ==== Proof.Joint.Ref.lean ====
module

public import proofs.«01_k».proof.Proof.Gen.JointRefIdeal.Run
public import proofs.«01_k».proof.Proof.Mla.Entry
public import proofs.«01_k».proof.Proof.Math.Merge
public import Idealize.ShloMosaic.Lib.Pointwise
public import Idealize.ShloMosaic.Lib.WordCmp
public import Idealize.ShloMosaic.PureOps.Ideal.Laws

@[expose] public section

set_option maxRecDepth 16384

noncomputable section

open Idealize.ShloMosaic Idealize.ShloMosaic.TcCoe Idealize.SL.Sem

namespace Cert.JointRefIdeal.Value

open Cert.JointRefIdeal Cert.JointRefIdeal.Gen
open Attn.Mla (lat score out entry SCALE FLOOR)

variable (m : (ℓ : Loc nD τ sig) → Buf (Elt Ideal) ℓ)

/-- The test for a finite maximum, and the shift it leaves. -/
theorem base_eq (x z : EReal) (hz : z = 0) : (if FloatOps.absf (F := Ideal) (φ := .f32) x < Ideal.ofBits FTy.f32 2139095040#32 then x else z) = Attn.base x := by
  subst hz
  rw [show Ideal.ofBits FTy.f32 2139095040#32 = ⊤ from by simp [Ideal.ofBits, Ideal.ieee]]
  show (if max x (-x) < ⊤ then x else 0) = Attn.base x
  unfold Attn.base
  induction x <;> simp [EReal.coe_ne_top, EReal.coe_ne_bot]

/-- The reference's score at a key, dropped keys at `⊥`. -/
theorem kept_at (A0 : S16x2048x256.Idx → EReal) (A1 : S16x2048x128.Idx → EReal) (A2 : S16x2048x288.Idx → EReal) (A3 : S256x4x64.Idx → EReal)
    (b : Fin 16) (q : Fin 2048) (h : Fin 4) (x : Fin 2048) (z : EReal) (hz : z = ⊥) :
    Scalar.select (IntOp.cmpi CmpIPredicate.sle (BitVec.ofNat 32 x.val) (BitVec.ofNat 32 q.val))
        ((∑ r : Fin 256, A2 (ix3 b x ⟨r.val, by omega⟩) * ∑ d : Fin 64, A3 (ix3 r h d) * A0 (ix3 b q ⟨h.val * 64 + d.val, by omega⟩)
          + ∑ r : Fin 32, A2 (ix3 b x ⟨256 + r.val, by omega⟩) * A1 (ix3 b q ⟨h.val * 32 + r.val, by omega⟩)) * Ideal.ofBits FTy.f32 1037108716#32) z
      = Attn.kept (score (fun a => A0 (ix3 b q a)) (fun a => A1 (ix3 b q a)) (fun n j => if h : n < 2048 then A2 (ix3 b ⟨n, h⟩ j) else 0)
          (fun h d r => A3 (ix3 r h d)) h) (fun n => n ≤ q.val) x.val := by
  subst hz
  rw [show IntOp.cmpi CmpIPredicate.sle (BitVec.ofNat 32 x.val) (BitVec.ofNat 32 q.val) = BitVec.ofBool (decide (x.val ≤ q.val)) from
    Idealize.ShloMosaic.WordCmp.cmpi_sle_ofNat (by omega) (by omega)]
  unfold Attn.kept score lat
  have hx := x.isLt
  simp only [hx, dif_pos]
  by_cases hk : x.val ≤ q.val
  · simp only [hk, decide_true, if_true]
    show _ * _ = _
    refine congrArg₂ (· * ·) (congrArg₂ (· + ·) (Finset.sum_congr rfl fun r _ => ?_) (Finset.sum_congr rfl fun r _ => ?_)) rfl
    · rw [mul_comm]
      refine congrArg₂ (· * ·) (Finset.sum_congr rfl fun d _ => ?_) rfl
      rw [mul_comm]
      simp only [mul_comm 64]
    · rw [mul_comm]
      simp only [mul_comm 32]
  · simp only [hk, decide_false, if_false]
    rfl

theorem bot_lit : id (constant (F := Ideal) S_ FTy.f32 4286578688#32) ix0 = (⊥ : EReal) := by
  show Ideal.ofBits FTy.f32 4286578688#32 = ⊥
  simp [Ideal.ofBits, Ideal.ieee]

theorem neg_inf : Ideal.ofBits FTy.f32 4286578688#32 = ⊥ := by
  simp [Ideal.ofBits, Ideal.ieee]

theorem zero_lit : id (constant (F := Ideal) S_ FTy.f32 0#32) ix0 = (0 : EReal) := by
  show Ideal.ofBits FTy.f32 0#32 = 0
  simp [Ideal.ofBits, Ideal.ieee]

/-! ### The reference's term, stage by stage -/

/-- The masked scores. -/
def scoresT (A0 : FVec Ideal S16x2048x256 .f32) (A1 : FVec Ideal S16x2048x128 .f32) (A2 : FVec Ideal S16x2048x288 .f32) (A3 : FVec Ideal S256x4x64 .f32) :
    FVec Ideal S16x4x2048x2048 .f32 :=
  select (broadcastInDim S16x4x2048x2048 ![2, 3] bcast_S2048x2048_S16x4x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (transpose S16x4x2048x2048 [0, 3, 2, 1] (Host.dotGeneral dot_S16x2048x256_S16x2048x4x256_S16x2048x2048x4_2_3_1_12_0_0 none (extractStridedSlice S16x2048x256 ![0, 0, 0] A2 slices_S16x2048x288_S16x2048x256_0_0_0) (transpose S16x2048x4x256 [2, 3, 0, 1] (Host.dotGeneral dot_S256x4x64_S16x2048x4x64_S4x256x16x2048_2_3_0_01_1_2 none A3 (shapeCast _ A0 shapeCasts_S16x2048x256_S16x2048x4x64)) transposes_S4x256x16x2048_S16x2048x4x256_2_3_0_1)) transposes_S16x2048x2048x4_S16x4x2048x2048_0_3_2_1) (transpose S16x4x2048x2048 [0, 3, 2, 1] (Host.dotGeneral dot_S16x2048x32_S16x2048x4x32_S16x2048x2048x4_2_3_1_12_0_0 none (extractStridedSlice S16x2048x32 ![0, 0, 256] A2 slices_S16x2048x288_S16x2048x32_0_0_256) (shapeCast _ A1 shapeCasts_S16x2048x128_S16x2048x4x32)) transposes_S16x2048x2048x4_S16x4x2048x2048_0_3_2_1)) (broadcastInDim S16x4x2048x2048 ![] bcast_S_S16x4x2048x2048 (constant S_ .f32 0x3DD105EC#32))) (broadcastInDim S16x4x2048x2048 ![] bcast_S_S16x4x2048x2048 (id (constant S_ .f32 0xFF800000#32)))

/-- Each row's maximum. -/
def maxT (S : FVec Ideal S16x4x2048x2048 .f32) : FVec Ideal S16x4x2048 .f32 :=
  Host.reduce FloatOps.maximumf S (constant S_ .f32 0xFF800000#32) reducesTo_S16x4x2048x2048_S16x4x2048_d3 h_S_

/-- The exponentials, shifted by the maximum where it is finite. -/
def expT (S : FVec Ideal S16x4x2048x2048 .f32) (M : FVec Ideal S16x4x2048 .f32) : FVec Ideal S16x4x2048x2048 .f32 :=
  Host.exp (subf S (broadcastInDim S16x4x2048x2048 ![0, 1, 2, 3] bcast_S16x4x2048x1_S16x4x2048x2048_0_1_2_3 (select (cmpf .olt (Host.absf (broadcastInDim S16x4x2048x1 ![0, 1, 2] bcast_S16x4x2048_S16x4x2048x1_0_1_2 M)) (broadcastInDim S16x4x2048x1 ![] bcast_S_S16x4x2048x1 (constant S_ .f32 0x7F800000#32))) (broadcastInDim S16x4x2048x1 ![0, 1, 2] bcast_S16x4x2048_S16x4x2048x1_0_1_2 M) (broadcastInDim S16x4x2048x1 ![] bcast_S_S16x4x2048x1 (id (constant S_ .f32 0x00000000#32))))))

/-- The probabilities. -/
def probT (E : FVec Ideal S16x4x2048x2048 .f32) : FVec Ideal S16x4x2048x2048 .f32 :=
  Host.divf E (broadcastInDim S16x4x2048x2048 ![0, 1, 2, 3] bcast_S16x4x2048x1_S16x4x2048x2048_0_1_2_3 (maximumf (broadcastInDim S16x4x2048x1 ![0, 1, 2] bcast_S16x4x2048_S16x4x2048x1_0_1_2 (Host.reduceAdd E (constant S_ .f32 0x00000000#32) reducesTo_S16x4x2048x2048_S16x4x2048_d3 h_S_)) (broadcastInDim S16x4x2048x1 ![] bcast_S_S16x4x2048x1 (constant S_ .f32 0x0DA24260#32))))

/-- The result from the probabilities. -/
def outT (P : FVec Ideal S16x4x2048x2048 .f32) (A2 : FVec Ideal S16x2048x288 .f32) (A4 : FVec Ideal S256x4x64 .f32) : FVec Ideal S16x2048x256 .f32 :=
  shapeCast _ (transpose S16x2048x4x64 [2, 3, 0, 1] (Host.dotGeneral dot_S256x4x64_S16x2048x4x256_S4x64x16x2048_0_3_2_01_1_2 none A4 (transpose S16x2048x4x256 [0, 3, 2, 1] (Host.dotGeneral dot_S16x2048x256_S16x4x2048x2048_S16x256x4x2048_1_3_2_12_0_0 none (extractStridedSlice S16x2048x256 ![0, 0, 0] A2 slices_S16x2048x288_S16x2048x256_0_0_0) P) transposes_S16x256x4x2048_S16x2048x4x256_0_3_2_1)) transposes_S4x64x16x2048_S16x2048x4x64_2_3_0_1) shapeCasts_S16x2048x4x64_S16x2048x256

theorem scores_at (A0 : FVec Ideal S16x2048x256 .f32) (A1 : FVec Ideal S16x2048x128 .f32) (A2 : FVec Ideal S16x2048x288 .f32) (A3 : FVec Ideal S256x4x64 .f32)
    (b : Fin 16) (h : Fin 4) (q k : Fin 2048) :
    scoresT A0 A1 A2 A3 (ix4 b h q k) = Attn.kept (score (fun a => A0 (ix3 b q a)) (fun a => A1 (ix3 b q a))
      (fun n j => if h : n < 2048 then A2 (ix3 b ⟨n, h⟩ j) else 0) (fun h d r => A3 (ix3 r h d)) h) (fun n => n ≤ q.val) k.val := by
  pointwise [scoresT]
  exact kept_at A0 A1 A2 A3 b q h k _ bot_lit

section Row

variable (S : FVec Ideal S16x4x2048x2048 .f32) (M : FVec Ideal S16x4x2048 .f32) (E : FVec Ideal S16x4x2048x2048 .f32)
  (s : ℕ → EReal) (keep : ℕ → Prop) [DecidablePred keep] (b : Fin 16) (h : Fin 4) (q : Fin 2048)

theorem max_at (hS : ∀ k : Fin 2048, S (ix4 b h q k) = Attn.kept s keep k.val) : maxT S (ix3 b h q) = Attn.top s keep 2048 := by
  pointwise [maxT, hS]
  rw [neg_inf, Attn.fold_max_eq_sup, Attn.top]
  exact Attn.sup_fin 2048 (Attn.kept s keep)

theorem exp_at (hS : ∀ k : Fin 2048, S (ix4 b h q k) = Attn.kept s keep k.val) (hM : M (ix3 b h q) = Attn.top s keep 2048) (k : Fin 2048) :
    expT S M (ix4 b h q k) = Attn.expo s keep 2048 k.val := by
  pointwise [expT, hS, hM]
  rw [base_eq _ _ zero_lit, Attn.expo]

theorem div_at (hE : ∀ k : Fin 2048, E (ix4 b h q k) = Attn.expo s keep 2048 k.val) (k : Fin 2048) :
    probT E (ix4 b h q k) = Attn.prob s keep FLOOR 2048 k.val := by
  pointwise [probT, hE]
  rw [Attn.prob, Finset.sum_range, FLOOR]

/-- The probabilities of one row, its masked scores being the kept ones of a sequence. -/
theorem prob_at (hS : ∀ k : Fin 2048, S (ix4 b h q k) = Attn.kept s keep k.val) (k : Fin 2048) :
    probT (expT S (maxT S)) (ix4 b h q k) = Attn.prob s keep FLOOR 2048 k.val :=
  div_at _ s keep b h q (exp_at S (maxT S) s keep b h q hS (max_at S s keep b h q hS)) k

end Row

theorem out_at (A0 : FVec Ideal S16x2048x256 .f32) (A1 : FVec Ideal S16x2048x128 .f32) (A2 : FVec Ideal S16x2048x288 .f32) (A3 A4 : FVec Ideal S256x4x64 .f32)
    (P : FVec Ideal S16x4x2048x2048 .f32) (b : Fin 16) (q : Fin 2048) (j : Fin 256)
    (hP : ∀ k : Fin 2048, P (ix4 b ⟨j.val / 64, by omega⟩ q k) = Attn.prob (score (fun a => A0 (ix3 b q a)) (fun a => A1 (ix3 b q a))
      (fun n j => if h : n < 2048 then A2 (ix3 b ⟨n, h⟩ j) else 0) (fun h d r => A3 (ix3 r h d)) ⟨j.val / 64, by omega⟩) (fun n => n ≤ q.val) FLOOR 2048 k.val) :
    outT P A2 A4 (ix3 b q j) = entry A0 A1 A2 A3 A4 b q ⟨j.val / 64, by omega⟩ ⟨j.val % 64, by omega⟩ := by
  pointwise [outT, hP]
  unfold entry out
  refine Finset.sum_congr rfl fun r _ => (mul_comm (G := EReal) _ _).trans ?_
  rw [Finset.sum_range]
  refine congrArg₂ (· * ·) (Finset.sum_congr rfl fun n _ => (mul_comm (G := EReal) _ _).trans ?_) rfl
  refine congrArg₂ (· * ·) rfl (Eq.symm ?_)
  exact dif_pos (c := n.val < 2048) n.isLt

/-- The reference's merge, as its lines compose it from its operands. -/
def mergeT (a0 : FVec Ideal S32768x1024 .f32) (a1 a2 a3 a4 : FVec Ideal S32768x256 .f32) (a5 : FVec Ideal S32768x4096 .f32)
    (a6 : FVec Ideal S4x256x1024 .f32) (a7 : FVec Ideal S1024x1024 .f32) : FVec Ideal S32768x1024 .f32 :=
  addf a0 (Host.dotGeneral dot_S32768x1024_S1024x1024_S32768x1024_1_0_0_1_n_n none (addf (addf (addf (mulf (shapeCast _ (extractStridedSlice S32768x1x1024 ![0, 0, 0] (shapeCast _ (Host.divf (broadcastInDim S32768x4096 ![] bcast_S_S32768x4096 (constant S_ .f32 0x3F800000#32)) (addf (broadcastInDim S32768x4096 ![] bcast_S_S32768x4096 (constant S_ .f32 0x3F800000#32)) (Host.exp (Host.negf a5)))) shapeCasts_S32768x4096_S32768x4x1024) slices_S32768x4x1024_S32768x1x1024_0_0_0) shapeCasts_S32768x1x1024_S32768x1024) (Host.dotGeneral dot_S32768x256_S256x1024_S32768x1024_1_0_0_1_n_n none a1 (shapeCast _ (extractStridedSlice S1x256x1024 ![0, 0, 0] a6 slices_S4x256x1024_S1x256x1024_0_0_0) shapeCasts_S1x256x1024_S256x1024))) (mulf (shapeCast _ (extractStridedSlice S32768x1x1024 ![0, 1, 0] (shapeCast _ (Host.divf (broadcastInDim S32768x4096 ![] bcast_S_S32768x4096 (constant S_ .f32 0x3F800000#32)) (addf (broadcastInDim S32768x4096 ![] bcast_S_S32768x4096 (constant S_ .f32 0x3F800000#32)) (Host.exp (Host.negf a5)))) shapeCasts_S32768x4096_S32768x4x1024) slices_S32768x4x1024_S32768x1x1024_0_1_0) shapeCasts_S32768x1x1024_S32768x1024) (Host.dotGeneral dot_S32768x256_S256x1024_S32768x1024_1_0_0_1_n_n none a2 (shapeCast _ (extractStridedSlice S1x256x1024 ![1, 0, 0] a6 slices_S4x256x1024_S1x256x1024_1_0_0) shapeCasts_S1x256x1024_S256x1024)))) (mulf (shapeCast _ (extractStridedSlice S32768x1x1024 ![0, 2, 0] (shapeCast _ (Host.divf (broadcastInDim S32768x4096 ![] bcast_S_S32768x4096 (constant S_ .f32 0x3F800000#32)) (addf (broadcastInDim S32768x4096 ![] bcast_S_S32768x4096 (constant S_ .f32 0x3F800000#32)) (Host.exp (Host.negf a5)))) shapeCasts_S32768x4096_S32768x4x1024) slices_S32768x4x1024_S32768x1x1024_0_2_0) shapeCasts_S32768x1x1024_S32768x1024) (Host.dotGeneral dot_S32768x256_S256x1024_S32768x1024_1_0_0_1_n_n none a3 (shapeCast _ (extractStridedSlice S1x256x1024 ![2, 0, 0] a6 slices_S4x256x1024_S1x256x1024_2_0_0) shapeCasts_S1x256x1024_S256x1024)))) (mulf (shapeCast _ (extractStridedSlice S32768x1x1024 ![0, 3, 0] (shapeCast _ (Host.divf (broadcastInDim S32768x4096 ![] bcast_S_S32768x4096 (constant S_ .f32 0x3F800000#32)) (addf (broadcastInDim S32768x4096 ![] bcast_S_S32768x4096 (constant S_ .f32 0x3F800000#32)) (Host.exp (Host.negf a5)))) shapeCasts_S32768x4096_S32768x4x1024) slices_S32768x4x1024_S32768x1x1024_0_3_0) shapeCasts_S32768x1x1024_S32768x1024) (Host.dotGeneral dot_S32768x256_S256x1024_S32768x1024_1_0_0_1_n_n none a4 (shapeCast _ (extractStridedSlice S1x256x1024 ![3, 0, 0] a6 slices_S4x256x1024_S1x256x1024_3_0_0) shapeCasts_S1x256x1024_S256x1024)))) a7)

/-- Read at an entry. -/
theorem merge_at (a0 : FVec Ideal S32768x1024 .f32) (a1 a2 a3 a4 : FVec Ideal S32768x256 .f32) (a5 : FVec Ideal S32768x4096 .f32)
    (a6 : FVec Ideal S4x256x1024 .f32) (a7 : FVec Ideal S1024x1024 .f32) (r : Fin 32768) (j : Fin 1024) :
    mergeT a0 a1 a2 a3 a4 a5 a6 a7 (ix2 r j) =
      Attn.mergedRow (fun k => a0 (ix2 r k)) (fun d => a1 (ix2 r d)) (fun d => a2 (ix2 r d)) (fun d => a3 (ix2 r d)) (fun d => a4 (ix2 r d))
        (fun k => a5 (ix2 r k)) (fun b d k => a6 (ix3 b d k)) (fun k j => a7 (ix2 k j)) j := by
  pointwise [mergeT]
  rfl

/-- The reference's attention, as its lines compose it from the arguments. -/
def mlaT (a0 : FVec Ideal S16x2048x256 .f32) (a1 : FVec Ideal S16x2048x128 .f32) (a2 : FVec Ideal S16x2048x288 .f32)
    (a3 a4 : FVec Ideal S256x4x64 .f32) : FVec Ideal S16x2048x256 .f32 :=
  outT (probT (expT (scoresT a0 a1 a2 a3) (maxT (scoresT a0 a1 a2 a3)))) a2 a4

/-- Read at an entry. -/
theorem mla_at (a0 : FVec Ideal S16x2048x256 .f32) (a1 : FVec Ideal S16x2048x128 .f32) (a2 : FVec Ideal S16x2048x288 .f32)
    (a3 a4 : FVec Ideal S256x4x64 .f32) (b : Fin 16) (q : Fin 2048) (j : Fin 256) :
    mlaT a0 a1 a2 a3 a4 (ix3 b q j) = Attn.Mla.entry a0 a1 a2 a3 a4 b q ⟨j.val / 64, by omega⟩ ⟨j.val % 64, by omega⟩ :=
  out_at _ _ _ _ _ _ b q j fun k =>
    prob_at _ _ _ b _ q (fun k => scores_at _ _ _ _ b _ q k) k

set_option maxHeartbeats 4000000 in
/-- The reference's result is its merge with its attention as the second branch. -/
theorem res_stages (c : Dev nD) : res_main_v77 m c =
    mergeT (m ((c.tc : Thread nD τ).loc main_arg5)) (m ((c.tc : Thread nD τ).loc main_arg6))
      (shapeCast S32768x256 (mlaT (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) shapeCasts_S16x2048x256_S32768x256)
      (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) := rfl

end Cert.JointRefIdeal.Value

end
-- ==== Proof.Joint.Claims.lean ====
module

public import proofs.«01_k».proof.Defs
public import proofs.«01_k».proof.Proof.Joint.Whole
public import proofs.«01_k».proof.Proof.Joint.Ref
public import proofs.«01_k».proof.Proof.Gen.Joint.Frame
public import proofs.«01_k».proof.Proof.Gen.JointIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.Joint

open Cert

/-- The reference's attention, as the function of its index that the first kernel's array is. -/
theorem attention_ref (a0 : FVec Ideal JointIdeal.S16x2048x256 .f32) (a1 : FVec Ideal JointIdeal.S16x2048x128 .f32)
    (a2 : FVec Ideal JointIdeal.S16x2048x288 .f32) (a3 a4 : FVec Ideal JointIdeal.S256x4x64 .f32) :
    JointRefIdeal.Value.mlaT a0 a1 a2 a3 a4 = fun y : JointIdeal.S16x2048x256.Idx =>
      Attn.Mla.entry a0 a1 a2 a3 a4 (y 0) (y 1) ⟨(y 2).val / 64, JointIdeal.Rows.head_lt y⟩ ⟨(y 2).val % 64, Nat.mod_lt _ (by decide)⟩ :=
  funext fun y : JointIdeal.S16x2048x256.Idx =>
    (congrArg (JointRefIdeal.Value.mlaT a0 a1 a2 a3 a4) (Idealize.ShloMosaic.eq_ix3 y)).trans
      (JointRefIdeal.Value.mla_at a0 a1 a2 a3 a4 (y 0) (y 1) (y 2))

/-- The reference's merge, as the function of its index that the second kernel's array is. -/
theorem merge_ref (a0 : FVec Ideal JointIdeal.S32768x1024 .f32) (a1 a2 a3 a4 : FVec Ideal JointIdeal.S32768x256 .f32)
    (a5 : FVec Ideal JointIdeal.S32768x4096 .f32) (a6 : FVec Ideal JointIdeal.S4x256x1024 .f32) (a7 : FVec Ideal JointIdeal.S1024x1024 .f32) :
    JointRefIdeal.Value.mergeT a0 a1 a2 a3 a4 a5 a6 a7 = fun y : JointIdeal.S32768x1024.Idx =>
      JointIdeal.Merged.entry a0 a1 a2 a3 a4 a5 a6 a7 (y 0) (y 1) :=
  funext fun y : JointIdeal.S32768x1024.Idx =>
    (congrArg (JointRefIdeal.Value.mergeT a0 a1 a2 a3 a4 a5 a6 a7) (Idealize.ShloMosaic.eq_ix2 y)).trans
      (JointRefIdeal.Value.merge_at a0 a1 a2 a3 a4 a5 a6 a7 (y 0) (y 1))

/-- The two kernels one after the other and the reference leave the same array. -/
theorem algebraic : Cert.algebraic_JointIdeal_JointRefIdeal := by
  pair_intro
  · run_from Cert.JointIdeal.Whole.run m g
  · run_from Cert.JointRefIdeal.Value.run m' g'
    obtain ⟨h0, h1, h2, h3, h4, h5, h6, h7, h8, h9, h10, h11⟩ := hagree c
    refine (JointRefIdeal.Value.res_stages m' c).trans (Eq.trans ?_ (Cert.JointIdeal.Whole.final m g c).symm)
    rw [h0, h1, h2, h3, h4, h5, h6, h7, h8, h9, h10, h11, attention_ref]
    exact merge_ref _ _ _ _ _ _ _ _

/-- The reference terminates without a fault and leaves its arguments and the semaphores alone. -/
theorem frame_ref : Cert.quiescent_JointRefIdeal := by
  intro m g _
  refine (θ_run Cert.JointRefIdeal.defs _ _).mono
    (fun r h => ⟨fun c => (h c).2, sem_eq_zero_of_no_sems (by decide) r.2⟩) (Cert.JointRefIdeal.Value.run (F := Ideal) m g)

/-- The two kernels terminate without a fault and leave their arguments and the semaphores alone. -/
theorem frame : Cert.quiescent_Joint := fun m ρ _ => Cert.Joint.Gen.frame m ρ

/-- So do they read over the extended reals. -/
theorem frame_ideal : Cert.quiescent_JointIdeal := fun m ρ _ => Cert.JointIdeal.Gen.frame m ρ

/-- The kernels and their idealization differ in the constant named `mask` alone. -/
theorem preserves : Cert.preserves_Joint_JointIdeal := by
  exact IdealRules.named_const.statement Cert.JointIdeal.κ "mask" .f32 0xF149F2CA#32 ⊥ rfl

end Attn.Joint

end
-- ==== Proof.MlpSample.Block.lean ====
module

public import proofs.«01_k».proof.Proof.Gen.MlpSampleIdeal.Value
public import proofs.«01_k».proof.Proof.Math.Mlp
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MlpSampleIdeal.Rows

open Cert.MlpSampleIdeal Cert.MlpSampleIdeal.Gen Attn

/-- The normalised rows that the first step of a sweep stores. -/
theorem pay1_at (x : FVec Ideal S1024x1024 .f32) (g : FVec Ideal S1x1024 .f32) (r j : Fin 1024) :
    k0_pay1 (F := Ideal) x g (ix2 r j) = normed (fun k => x (ix2 r k)) (fun k => g (ix2 0 k)) j := by
  pointwise [k0_pay1]
  rfl

/-- What the sum starts from: the rows themselves. -/
theorem pay2_at (x : FVec Ideal S1024x1024 .f32) (r j : Fin 1024) : k0_pay2 (F := Ideal) x (ix2 r j) = x (ix2 r j) := by
  pointwise [k0_pay2]

/-- One step: 512 hidden units added to the sum. -/
theorem pay3_at (h : FVec Ideal S1024x1024 .bf16) (wu : FVec Ideal S1024x512 .bf16) (acc : FVec Ideal S1024x1024 .f32) (wd : FVec Ideal S512x1024 .bf16) (r j : Fin 1024) :
    k0_pay3 (F := Ideal) h wu acc wd (ix2 r j) =
      acc (ix2 r j) + ∑ s : Fin 512, max (∑ k, h (ix2 r k) * wu (ix2 k s)) 0 * max (∑ k, h (ix2 r k) * wu (ix2 k s)) 0 * wd (ix2 s j) := by
  pointwise [k0_pay3]

variable (m : (ℓ : Loc nD τ sig) → Buf (Elt Ideal) ℓ)

/-- The blocks' positions: grid point `t` is step `t % 8` of the one sweep, since `t / 8` is zero. -/
theorem idx : ∀ t : Fin cfg0.N, win0_0.index t = ![t.val / 8, 0] ∧ win0_1.index t = ![0, 0] ∧ win0_2.index t = ![0, t.val % 8]
    ∧ win0_3.index t = ![t.val % 8, 0] ∧ win0_4.index t = ![t.val / 8, 0] :=
  (by decide +kernel : ∀ t : Fin grid0.N, _)

/-- The gains, laid out by the host as one row. -/
theorem gain_at (c : Dev nD) (k : Fin 1024) : V m c main_v2 (ix2 0 k) = m ((c.tc : Thread nD τ).loc main_arg1) (ix1 k) := by
  entry_read
  pointwise

/-- The first weights after the host's cast. -/
theorem up_at (c : Dev nD) (k : Fin 1024) (p : Fin 4096) : V m c main_v0 (ix2 k p) = m ((c.tc : Thread nD τ).loc main_arg2) (ix2 k p) := by
  entry_read
  pointwise

/-- The second weights after the host's cast. -/
theorem down_at (c : Dev nD) (p : Fin 4096) (j : Fin 1024) : V m c main_v1 (ix2 p j) = m ((c.tc : Thread nD τ).loc main_arg3) (ix2 p j) := by
  entry_read
  pointwise

theorem lt_N (t : Fin cfg0.N) : t.val < 8 := lt_of_lt_of_eq t.isLt (show cfg0.N = 8 from N_0)

/-- The row of the arrays that row `r` of grid point `t`'s blocks is. -/
abbrev rowOf (t : Fin cfg0.N) (r : Fin 1024) : Fin 1024 := ⟨1024 * (t.val / 8) + r.val, by have := lt_N t; omega⟩

/-- The hidden unit that column `s` of grid point `t`'s weights is. -/
abbrev hidOf (t : Fin cfg0.N) (s : Fin 512) : Fin 4096 := ⟨512 * (t.val % 8) + s.val, by omega⟩

theorem blk0_at (c : Dev nD) (t : Fin cfg0.N) (r k : Fin 1024) :
    iblk m c 0 t (ix2 r k) = m ((c.tc : Thread nD τ).loc main_arg0) (ix2 (rowOf t r) k) := by
  blk_ext [iblk, V, idx t]

theorem blk1_at (c : Dev nD) (t : Fin cfg0.N) (k : Fin 1024) :
    iblk m c 1 t (ix2 0 k) = m ((c.tc : Thread nD τ).loc main_arg1) (ix1 k) := by
  rw [← gain_at m c]
  blk_ext [iblk, idx t]

theorem blk2_at (c : Dev nD) (t : Fin cfg0.N) (k : Fin 1024) (s : Fin 512) :
    iblk m c 2 t (ix2 k s) = m ((c.tc : Thread nD τ).loc main_arg2) (ix2 k (hidOf t s)) := by
  rw [← up_at m c]
  blk_ext [iblk, idx t]

theorem blk3_at (c : Dev nD) (t : Fin cfg0.N) (s : Fin 512) (j : Fin 1024) :
    iblk m c 3 t (ix2 s j) = m ((c.tc : Thread nD τ).loc main_arg3) (ix2 (hidOf t s) j) := by
  rw [← down_at m c]
  blk_ext [iblk, idx t]

/-- The arguments by row and column. -/
abbrev xRow (c : Dev nD) (r : Fin 1024) : Fin 1024 → EReal := fun k => m ((c.tc : Thread nD τ).loc main_arg0) (ix2 r k)
abbrev gain (c : Dev nD) : Fin 1024 → EReal := fun k => m ((c.tc : Thread nD τ).loc main_arg1) (ix1 k)
abbrev up (c : Dev nD) : Fin 1024 → Fin 4096 → EReal := fun k p => m ((c.tc : Thread nD τ).loc main_arg2) (ix2 k p)
abbrev down (c : Dev nD) : Fin 4096 → Fin 1024 → EReal := fun p j => m ((c.tc : Thread nD τ).loc main_arg3) (ix2 p j)

/-- One step at a grid point, from normalised rows and a sum that has reached this step's hidden units. -/
theorem step_at (c : Dev nD) (t : Fin cfg0.N) (h : FVec Ideal S1024x1024 .bf16) (acc : FVec Ideal S1024x1024 .f32)
    (hh : ∀ r j : Fin 1024, h (ix2 r j) = normed (xRow m c (rowOf t r)) (gain m c) j)
    (ha : ∀ r j : Fin 1024, acc (ix2 r j) = upTo (xRow m c (rowOf t r)) (gain m c) (up m c) (down m c) j (512 * (t.val % 8))) (r j : Fin 1024) :
    k0_pay3 (F := Ideal) h (iblk m c 2 t) acc (iblk m c 3 t) (ix2 r j) =
      upTo (xRow m c (rowOf t r)) (gain m c) (up m c) (down m c) j (512 * (t.val % 8) + 512) := by
  rw [pay3_at, upTo_add _ _ _ _ _ _ (by omega), ha]
  simp only [hh, blk2_at, blk3_at]
  rfl

theorem norm_blk_at (c : Dev nD) (t : Fin cfg0.N) (r j : Fin 1024) :
    k0_pay1 (F := Ideal) (iblk m c 0 t) (iblk m c 1 t) (ix2 r j) = normed (xRow m c (rowOf t r)) (gain m c) j := by
  rw [pay1_at]
  simp only [blk0_at, blk1_at]

/-- What the two scratches hold after a grid point: the normalised rows, and the sum over the hidden units so far. -/
def Holds (c : Dev nD) (t : Fin cfg0.N) (h : FVec Ideal S1024x1024 .bf16) (acc : FVec Ideal S1024x1024 .f32) : Prop :=
  ∀ r j : Fin 1024, h (ix2 r j) = normed (xRow m c (rowOf t r)) (gain m c) j
    ∧ acc (ix2 r j) = upTo (xRow m c (rowOf t r)) (gain m c) (up m c) (down m c) j (512 * (t.val % 8) + 512)

/-- The first step of a sweep. -/
theorem holds_first (c : Dev nD) (t : Fin cfg0.N) (h0 : t.val % 8 = 0) :
    Holds m c t (outsAt0 m c t.val t.isLt).2.1 (outsAt0 m c t.val t.isLt).2.2 := by
  rw [outsAt0_A m c t h0 (by omega)]
  intro r j
  dsimp only
  constructor
  · unfold sout0_A_0
    frame_out
    exact norm_blk_at m c t r j
  · unfold sout0_A_1
    frame_out
    refine step_at m c t _ _ (norm_blk_at m c t) (fun r j => ?_) r j
    rw [pay2_at, blk0_at, h0, Nat.mul_zero, upTo_zero]

/-- A later step, from what the step before it left. -/
theorem holds_later (c : Dev nD) (t : Fin cfg0.N) (h0 : ¬t.val % 8 = 0)
    (ih : Holds m c ⟨t.val - 1, Nat.lt_of_le_of_lt (Nat.sub_le _ _) t.isLt⟩ (outsAt0 m c (t.val - 1) (Nat.lt_of_le_of_lt (Nat.sub_le _ _) t.isLt)).2.1
      (outsAt0 m c (t.val - 1) (Nat.lt_of_le_of_lt (Nat.sub_le _ _) t.isLt)).2.2) :
    Holds m c t (outsAt0 m c t.val t.isLt).2.1 (outsAt0 m c t.val t.isLt).2.2 := by
  have hr : ∀ r : Fin 1024, rowOf ⟨t.val - 1, Nat.lt_of_le_of_lt (Nat.sub_le _ _) t.isLt⟩ r = rowOf t r := fun r => Fin.ext (by
    show 1024 * ((t.val - 1) / 8) + r.val = 1024 * (t.val / 8) + r.val
    omega)
  have hn : 512 * ((t.val - 1) % 8) + 512 = 512 * (t.val % 8) := by omega
  have ih1 := fun r j => (ih r j).1
  have ih2 := fun r j => (ih r j).2
  simp only [hr, hn] at ih1 ih2
  intro r j
  by_cases h1 : t.val % 8 = 7
  · rw [outsAt0_C m c t h0 h1]
    dsimp only
    constructor
    · exact ih1 r j
    · unfold sout0_C_1
      frame_out
      refine (congrArg₂ (fun h a => k0_pay3 (F := Ideal) h (iblk m c 2 t) a (iblk m c 3 t) (ix2 r j))
        ((Memref.isWhole_whole cc0_scratch0).read_unread _) ((Memref.isWhole_whole cc0_scratch1).read_unread _)).trans ?_
      exact step_at m c t _ _ ih1 ih2 r j
  · rw [outsAt0_B m c t h0 h1]
    dsimp only
    constructor
    · exact ih1 r j
    · unfold sout0_B_1
      frame_out
      refine (congrArg₂ (fun h a => k0_pay3 (F := Ideal) h (iblk m c 2 t) a (iblk m c 3 t) (ix2 r j))
        ((Memref.isWhole_whole cc0_scratch0).read_unread _) ((Memref.isWhole_whole cc0_scratch1).read_unread _)).trans ?_
      exact step_at m c t _ _ ih1 ih2 r j

end Cert.MlpSampleIdeal.Rows

end
-- ==== Proof.MlpSample.Array.lean ====
module

public import proofs.«01_k».proof.Proof.MlpSample.Block

@[expose] public section

set_option maxRecDepth 16384

noncomputable section

open Idealize.ShloMosaic Idealize.ShloMosaic.TcCoe Idealize.SL.Sem

namespace Cert.MlpSampleIdeal.Rows

open Cert.MlpSampleIdeal Cert.MlpSampleIdeal.Gen Attn

variable (m : (ℓ : Loc nD τ sig) → Buf (Elt Ideal) ℓ)

/-- After every grid point the scratches hold the normalised rows and the sum so far. -/
theorem holds (c : Dev nD) : ∀ (n : ℕ) (hn : n < cfg0.N), Holds m c ⟨n, hn⟩ (outsAt0 m c n hn).2.1 (outsAt0 m c n hn).2.2
  | 0, hn => holds_first m c ⟨0, hn⟩ rfl
  | n + 1, hn => by
    by_cases h0 : (n + 1) % 8 = 0
    · exact holds_first m c ⟨n + 1, hn⟩ h0
    · exact holds_later m c ⟨n + 1, hn⟩ h0 (holds c n (Nat.lt_of_succ_lt hn))

/-- The last step of a sweep writes the whole sum. -/
theorem out_at (c : Dev nD) (t : Fin cfg0.N) (h1 : t.val % 8 = 7) (r j : Fin 1024) :
    (outsAt0 m c t.val t.isLt).1 (ix2 r j) = fedRow (xRow m c (rowOf t r)) (gain m c) (up m c) (down m c) j := by
  have e : (outsAt0 m c t.val t.isLt).1 = (outsAt0 m c t.val t.isLt).2.2 := by
    rw [outsAt0_C m c t (by omega) h1]
    dsimp only
    unfold out0_C_4 sout0_C_1
    frame_out
  rw [e, (holds m c t.val t.isLt r j).2]
  show upTo _ _ _ _ _ (512 * (t.val % 8) + 512) = _
  rw [h1]
  exact upTo_all _ _ _ _ _

/-- An entry of the result, in the arguments' terms. -/
def entry (a0 : FVec Ideal S1024x1024 .f32) (a1 : FVec Ideal S1024 .f32) (a2 : FVec Ideal S1024x4096 .f32) (a3 : FVec Ideal S4096x1024 .f32)
    (r : Fin 1024) (j : Fin 1024) : EReal :=
  fedRow (fun k => a0 (ix2 r k)) (fun k => a1 (ix1 k)) (fun k p => a2 (ix2 k p)) (fun p j => a3 (ix2 p j)) j

/-- THE RESULT ARRAY, entry by entry. -/
theorem final (c : Dev nD) : (dats m 0 c).arrAt 4 cfg0.N = fun y : S1024x1024.Idx =>
    entry (m ((c.tc : Thread nD τ).loc main_arg0)) (m ((c.tc : Thread nD τ).loc main_arg1)) (m ((c.tc : Thread nD τ).loc main_arg2))
      (m ((c.tc : Thread nD τ).loc main_arg3)) (y 0) (y 1) := by
  refine (dats m 0 c).arrAt_eq_of_covers 4 _ (by decide +kernel) fun t hf y => ?_
  have i4 := (idx t).2.2.2.2
  have h1 : t.val % 8 = 7 := (flush0_4 t).mp hf
  blk_simp
  rw [after0_4]
  have z0 : (win0_4.blk t).view.emb y 0 = rowOf t (y 0) := Fin.ext (by
    blk_simp [i4]
    show _ = 1024 * (t.val / 8) + (y 0).val
    omega)
  have z1 : (win0_4.blk t).view.emb y 1 = (y 1 : Fin 1024) := Fin.ext (by
    blk_simp [i4])
  rw [z0, z1]
  exact (congrArg (outsAt0 m c t.val t.isLt).1 (Idealize.ShloMosaic.eq_ix2 (y : S1024x1024.Idx))).trans (out_at m c t h1 (y 0) (y 1))

end Cert.MlpSampleIdeal.Rows

end
-- ==== Proof.MlpSample.Ref.lean ====
module

public import proofs.«01_k».proof.Proof.Gen.MlpSampleRefIdeal.Run
public import proofs.«01_k».proof.Proof.Last.Ref
public import proofs.«01_k».proof.Proof.Math.Mlp
public import Idealize.ShloMosaic.Lib.Pointwise

@[expose] public section

set_option maxRecDepth 16384

noncomputable section

open Idealize.ShloMosaic Idealize.ShloMosaic.TcCoe Idealize.SL.Sem

namespace Cert.MlpSampleRefIdeal.Value

open Cert.MlpSampleRefIdeal Cert.MlpSampleRefIdeal.Gen Attn

/-- The reference's lines after the normalisation, from the rows and the normalised rows. -/
abbrev feedT (a0 h : FVec Ideal S1024x1024 .f32) (a2 : FVec Ideal S1024x4096 .f32) (a3 : FVec Ideal S4096x1024 .f32) :
    FVec Ideal S1024x1024 .f32 :=
  addf a0 (Host.dotGeneral dot_S1024x4096_S4096x1024_S1024x1024_1_0_0_1_n_n none
    (mulf (maximumf (Host.dotGeneral dot_S1024x1024_S1024x4096_S1024x4096_1_0_0_1_n_n none h a2) (broadcastInDim S1024x4096 ![] bcast_S_S1024x4096 (constant S_ .f32 0x00000000#32)))
      (maximumf (Host.dotGeneral dot_S1024x1024_S1024x4096_S1024x4096_1_0_0_1_n_n none h a2) (broadcastInDim S1024x4096 ![] bcast_S_S1024x4096 (constant S_ .f32 0x00000000#32)))) a3)

/-- Read at an entry. -/
theorem feed_at (a0 h : FVec Ideal S1024x1024 .f32) (a2 : FVec Ideal S1024x4096 .f32) (a3 : FVec Ideal S4096x1024 .f32) (r : Fin 1024) (j : Fin 1024) :
    feedT a0 h a2 a3 (ix2 r j) = a0 (ix2 r j) + ∑ p, unit (fun k => h (ix2 r k)) (fun k p => a2 (ix2 k p)) (fun p j => a3 (ix2 p j)) j p := by
  pointwise [feedT]
  rfl

/-- The reference's result at an entry. -/
theorem fed_at (a0 : FVec Ideal S1024x1024 .f32) (a1 : FVec Ideal S1024 .f32) (a2 : FVec Ideal S1024x4096 .f32) (a3 : FVec Ideal S4096x1024 .f32)
    (r : Fin 1024) (j : Fin 1024) :
    feedT a0 (Cert.LastRefIdeal.Value.normT a0 a1) a2 a3 (ix2 r j) =
      fedRow (fun k => a0 (ix2 r k)) (fun k => a1 (ix1 k)) (fun k p => a2 (ix2 k p)) (fun p j => a3 (ix2 p j)) j := by
  rw [feed_at]
  unfold fedRow
  have e : (fun k => Cert.LastRefIdeal.Value.normT a0 a1 (ix2 r k)) = normed (fun k => a0 (ix2 r k)) (fun k => a1 (ix1 k)) :=
    funext fun k => Cert.LastRefIdeal.Value.norm_at a0 a1 r k
  rw [e]

end Cert.MlpSampleRefIdeal.Value

end
-- ==== Proof.MlpSample.Claims.lean ====
module

public import proofs.«01_k».proof.Defs
public import proofs.«01_k».proof.Proof.MlpSample.Array
public import proofs.«01_k».proof.Proof.MlpSample.Ref
public import proofs.«01_k».proof.Proof.Gen.MlpSample.Frame
public import proofs.«01_k».proof.Proof.Gen.MlpSampleIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.MlpSample

open Cert

/-- The reference's whole result, as the function of its index that `entry` gives. -/
theorem ref_array (a0 : FVec Ideal MlpSampleIdeal.S1024x1024 .f32) (a1 : FVec Ideal MlpSampleIdeal.S1024 .f32) (a2 : FVec Ideal MlpSampleIdeal.S1024x4096 .f32)
    (a3 : FVec Ideal MlpSampleIdeal.S4096x1024 .f32) :
    MlpSampleRefIdeal.Value.feedT a0 (LastRefIdeal.Value.normT a0 a1) a2 a3 = fun y : MlpSampleIdeal.S1024x1024.Idx =>
      MlpSampleIdeal.Rows.entry a0 a1 a2 a3 (y 0) (y 1) :=
  funext fun y : MlpSampleIdeal.S1024x1024.Idx =>
    (congrArg (MlpSampleRefIdeal.Value.feedT a0 (LastRefIdeal.Value.normT a0 a1) a2 a3) (Idealize.ShloMosaic.eq_ix2 y)).trans
      (MlpSampleRefIdeal.Value.fed_at a0 a1 a2 a3 (y 0) (y 1))

/-- The kernel and the reference leave the same array. -/
theorem algebraic : Cert.algebraic_MlpSampleIdeal_MlpSampleRefIdeal := by
  pair_intro
  · run_from Cert.MlpSampleIdeal.Gen.run_main m g
  · run_from Cert.MlpSampleRefIdeal.Value.run m' g'
    exact (ref_array _ _ _ _).trans (Cert.MlpSampleIdeal.Rows.final m c).symm

/-- The reference terminates without a fault and leaves its arguments and the semaphores alone. -/
theorem frame_ref : Cert.quiescent_MlpSampleRefIdeal := by
  intro m g _
  refine (θ_run Cert.MlpSampleRefIdeal.defs _ _).mono
    (fun r h => ⟨fun c => (h c).2, sem_eq_zero_of_no_sems (by decide) r.2⟩) (Cert.MlpSampleRefIdeal.Value.run (F := Ideal) m g)

/-- The kernel terminates without a fault and leaves its arguments and the semaphores alone. -/
theorem frame : Cert.quiescent_MlpSample := fun m ρ _ => Cert.MlpSample.Gen.frame m ρ

/-- So does the kernel read over the extended reals. -/
theorem frame_ideal : Cert.quiescent_MlpSampleIdeal := fun m ρ _ => Cert.MlpSampleIdeal.Gen.frame m ρ

end Attn.MlpSample

end
-- ==== Proof.MergeSample.Block.lean ====
module

public import proofs.«01_k».proof.Proof.Gen.MergeSampleIdeal.Value
public import proofs.«01_k».proof.Proof.Math.Merge
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MergeSampleIdeal.Rows

open Cert.MergeSampleIdeal Cert.MergeSampleIdeal.Gen Attn

/-- The block written at a grid point, row by row. -/
theorem out_at (x0 : FVec Ideal S256x1024 .f32) (x1 x2 x3 x4 : FVec Ideal S256x256 .f32) (x5 : FVec Ideal S256x4096 .f32) (x6 : FVec Ideal S4x256x1024 .bf16) (x7 : FVec Ideal S1024x1024 .bf16) (r : Fin 256) (j : Fin 1024) :
    out0_8 (F := Ideal) x0 x1 x2 x3 x4 x5 x6 x7 (ix2 r j) =
      mergedRow (fun k => x0 (ix2 r k)) (fun d => x1 (ix2 r d)) (fun d => x2 (ix2 r d)) (fun d => x3 (ix2 r d)) (fun d => x4 (ix2 r d))
        (fun k => x5 (ix2 r k)) (fun b d k => x6 (ix3 b d k)) (fun k j => x7 (ix2 k j)) j := by
  unfold out0_8
  frame_out
  pointwise [k0_pay1, k0_pay2, k0_pay3]
  rfl

variable (m : (ℓ : Loc nD τ sig) → Buf (Elt Ideal) ℓ)

/-- The blocks' positions: grid point `t` takes and writes rows `256 t` on, and the weights whole. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0, 0] ∧ win0_7.index t = ![0, 0] ∧ win0_8.index t = ![t.val, 0] :=
  (by decide +kernel : ∀ t : Fin grid0.N, _)

/-- The branches' weights after the host's cast. -/
theorem wb_at (c : Dev nD) (b : Fin 4) (d : Fin 256) (k : Fin 1024) :
    V m c main_v0 (ix3 b d k) = m ((c.tc : Thread nD τ).loc main_arg6) (ix3 b d k) := by
  entry_read
  pointwise

/-- The output weights after the host's cast. -/
theorem wo_at (c : Dev nD) (k j : Fin 1024) : V m c main_v1 (ix2 k j) = m ((c.tc : Thread nD τ).loc main_arg7) (ix2 k j) := by
  entry_read
  pointwise

/-- The row of the arrays that row `r` of grid point `t`'s blocks is. -/
abbrev rowOf (t : Fin cfg0.N) (r : Fin 256) : Fin 1024 :=
  ⟨256 * t.val + r.val, by have := lt_of_lt_of_eq t.isLt (show cfg0.N = 4 from N_0); omega⟩

theorem blk0_at (c : Dev nD) (t : Fin cfg0.N) (r : Fin 256) (k : Fin 1024) :
    iblk m c 0 t (ix2 r k) = m ((c.tc : Thread nD τ).loc main_arg0) (ix2 (rowOf t r) k) := by
  blk_ext [iblk, V, idx t]

theorem blk1_at (c : Dev nD) (t : Fin cfg0.N) (r d : Fin 256) :
    iblk m c 1 t (ix2 r d) = m ((c.tc : Thread nD τ).loc main_arg1) (ix2 (rowOf t r) d) := by
  blk_ext [iblk, V, idx t]

theorem blk2_at (c : Dev nD) (t : Fin cfg0.N) (r d : Fin 256) :
    iblk m c 2 t (ix2 r d) = m ((c.tc : Thread nD τ).loc main_arg2) (ix2 (rowOf t r) d) := by
  blk_ext [iblk, V, idx t]

theorem blk3_at (c : Dev nD) (t : Fin cfg0.N) (r d : Fin 256) :
    iblk m c 3 t (ix2 r d) = m ((c.tc : Thread nD τ).loc main_arg3) (ix2 (rowOf t r) d) := by
  blk_ext [iblk, V, idx t]

theorem blk4_at (c : Dev nD) (t : Fin cfg0.N) (r d : Fin 256) :
    iblk m c 4 t (ix2 r d) = m ((c.tc : Thread nD τ).loc main_arg4) (ix2 (rowOf t r) d) := by
  blk_ext [iblk, V, idx t]

theorem blk5_at (c : Dev nD) (t : Fin cfg0.N) (r : Fin 256) (k : Fin 4096) :
    iblk m c 5 t (ix2 r k) = m ((c.tc : Thread nD τ).loc main_arg5) (ix2 (rowOf t r) k) := by
  blk_ext [iblk, V, idx t]

theorem blk6_at (c : Dev nD) (t : Fin cfg0.N) (b : Fin 4) (d : Fin 256) (k : Fin 1024) :
    iblk m c 6 t (ix3 b d k) = m ((c.tc : Thread nD τ).loc main_arg6) (ix3 b d k) := by
  rw [← wb_at m c]
  blk_ext [iblk, idx t]

theorem blk7_at (c : Dev nD) (t : Fin cfg0.N) (k j : Fin 1024) :
    iblk m c 7 t (ix2 k j) = m ((c.tc : Thread nD τ).loc main_arg7) (ix2 k j) := by
  rw [← wo_at m c]
  blk_ext [iblk, idx t]

/-- An entry of the result, in the arguments' terms. -/
def entry (a0 : FVec Ideal S1024x1024 .f32) (a1 a2 a3 a4 : FVec Ideal S1024x256 .f32) (a5 : FVec Ideal S1024x4096 .f32)
    (a6 : FVec Ideal S4x256x1024 .f32) (a7 : FVec Ideal S1024x1024 .f32) (r : Fin 1024) (j : Fin 1024) : EReal :=
  mergedRow (fun k => a0 (ix2 r k)) (fun d => a1 (ix2 r d)) (fun d => a2 (ix2 r d)) (fun d => a3 (ix2 r d)) (fun d => a4 (ix2 r d))
    (fun k => a5 (ix2 r k)) (fun b d k => a6 (ix3 b d k)) (fun k j => a7 (ix2 k j)) j

/-- The block written at a grid point, in the arguments' terms. -/
theorem block_at (c : Dev nD) (t : Fin cfg0.N) (r : Fin 256) (j : Fin 1024) :
    out0_8 (F := Ideal) (iblk m c 0 t) (iblk m c 1 t) (iblk m c 2 t) (iblk m c 3 t) (iblk m c 4 t) (iblk m c 5 t) (iblk m c 6 t) (iblk m c 7 t) (ix2 r j) =
      entry (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (rowOf t r) j := by
  rw [out_at]
  simp only [blk0_at, blk1_at, blk2_at, blk3_at, blk4_at, blk5_at, blk6_at, blk7_at]
  rfl

/-- THE RESULT ARRAY, entry by entry. -/
theorem final (c : Dev nD) : (dats m 0 c).arrAt 8 cfg0.N = fun y : S1024x1024.Idx =>
    entry (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (y 0) (y 1) := by
  refine (dats m 0 c).arrAt_eq_of_covers 8 _ (by decide +kernel) fun t hf y => ?_
  have i8 := (idx t).2.2.2.2.2.2.2.2
  blk_simp
  rw [after0_8]
  have z0 : (win0_8.blk t).view.emb y 0 = rowOf t (y 0) := Fin.ext (by
    blk_simp [i8]
    show _ = 256 * t.val + (y 0).val
    omega)
  have z1 : (win0_8.blk t).view.emb y 1 = (y 1 : Fin 1024) := Fin.ext (by
    blk_simp [i8])
  rw [z0, z1]
  exact (congrArg (out0_8 (F := Ideal) (iblk m c 0 t) (iblk m c 1 t) (iblk m c 2 t) (iblk m c 3 t) (iblk m c 4 t) (iblk m c 5 t) (iblk m c 6 t) (iblk m c 7 t))
    (Idealize.ShloMosaic.eq_ix2 (y : S256x1024.Idx))).trans (block_at m c t (y 0) (y 1))

end Cert.MergeSampleIdeal.Rows

end
-- ==== Proof.MergeSample.Ref.lean ====
module

public import proofs.«01_k».proof.Proof.Gen.MergeSampleRefIdeal.Run
public import proofs.«01_k».proof.Proof.Math.Merge
public import Idealize.ShloMosaic.Lib.Pointwise

@[expose] public section

set_option maxRecDepth 16384

noncomputable section

open Idealize.ShloMosaic Idealize.ShloMosaic.TcCoe Idealize.SL.Sem

namespace Cert.MergeSampleRefIdeal.Value

open Cert.MergeSampleRefIdeal Cert.MergeSampleRefIdeal.Gen Attn

/-- The reference's result, as its lines compose it from the arguments. -/
abbrev mergeT (a0 : FVec Ideal S1024x1024 .f32) (a1 a2 a3 a4 : FVec Ideal S1024x256 .f32) (a5 : FVec Ideal S1024x4096 .f32)
    (a6 : FVec Ideal S4x256x1024 .f32) (a7 : FVec Ideal S1024x1024 .f32) : FVec Ideal S1024x1024 .f32 :=
  addf a0 (Host.dotGeneral dot_S1024x1024_S1024x1024_S1024x1024_1_0_0_1_n_n none (addf (addf (addf (mulf (shapeCast _ (extractStridedSlice S1024x1x1024 ![0, 0, 0] (shapeCast _ (Host.divf (broadcastInDim S1024x4096 ![] bcast_S_S1024x4096 (constant S_ .f32 0x3F800000#32)) (addf (broadcastInDim S1024x4096 ![] bcast_S_S1024x4096 (constant S_ .f32 0x3F800000#32)) (Host.exp (Host.negf a5)))) shapeCasts_S1024x4096_S1024x4x1024) slices_S1024x4x1024_S1024x1x1024_0_0_0) shapeCasts_S1024x1x1024_S1024x1024) (Host.dotGeneral dot_S1024x256_S256x1024_S1024x1024_1_0_0_1_n_n none a1 (shapeCast _ (extractStridedSlice S1x256x1024 ![0, 0, 0] a6 slices_S4x256x1024_S1x256x1024_0_0_0) shapeCasts_S1x256x1024_S256x1024))) (mulf (shapeCast _ (extractStridedSlice S1024x1x1024 ![0, 1, 0] (shapeCast _ (Host.divf (broadcastInDim S1024x4096 ![] bcast_S_S1024x4096 (constant S_ .f32 0x3F800000#32)) (addf (broadcastInDim S1024x4096 ![] bcast_S_S1024x4096 (constant S_ .f32 0x3F800000#32)) (Host.exp (Host.negf a5)))) shapeCasts_S1024x4096_S1024x4x1024) slices_S1024x4x1024_S1024x1x1024_0_1_0) shapeCasts_S1024x1x1024_S1024x1024) (Host.dotGeneral dot_S1024x256_S256x1024_S1024x1024_1_0_0_1_n_n none a2 (shapeCast _ (extractStridedSlice S1x256x1024 ![1, 0, 0] a6 slices_S4x256x1024_S1x256x1024_1_0_0) shapeCasts_S1x256x1024_S256x1024)))) (mulf (shapeCast _ (extractStridedSlice S1024x1x1024 ![0, 2, 0] (shapeCast _ (Host.divf (broadcastInDim S1024x4096 ![] bcast_S_S1024x4096 (constant S_ .f32 0x3F800000#32)) (addf (broadcastInDim S1024x4096 ![] bcast_S_S1024x4096 (constant S_ .f32 0x3F800000#32)) (Host.exp (Host.negf a5)))) shapeCasts_S1024x4096_S1024x4x1024) slices_S1024x4x1024_S1024x1x1024_0_2_0) shapeCasts_S1024x1x1024_S1024x1024) (Host.dotGeneral dot_S1024x256_S256x1024_S1024x1024_1_0_0_1_n_n none a3 (shapeCast _ (extractStridedSlice S1x256x1024 ![2, 0, 0] a6 slices_S4x256x1024_S1x256x1024_2_0_0) shapeCasts_S1x256x1024_S256x1024)))) (mulf (shapeCast _ (extractStridedSlice S1024x1x1024 ![0, 3, 0] (shapeCast _ (Host.divf (broadcastInDim S1024x4096 ![] bcast_S_S1024x4096 (constant S_ .f32 0x3F800000#32)) (addf (broadcastInDim S1024x4096 ![] bcast_S_S1024x4096 (constant S_ .f32 0x3F800000#32)) (Host.exp (Host.negf a5)))) shapeCasts_S1024x4096_S1024x4x1024) slices_S1024x4x1024_S1024x1x1024_0_3_0) shapeCasts_S1024x1x1024_S1024x1024) (Host.dotGeneral dot_S1024x256_S256x1024_S1024x1024_1_0_0_1_n_n none a4 (shapeCast _ (extractStridedSlice S1x256x1024 ![3, 0, 0] a6 slices_S4x256x1024_S1x256x1024_3_0_0) shapeCasts_S1x256x1024_S256x1024)))) a7)

/-- Read at an entry. -/
theorem merge_at (a0 : FVec Ideal S1024x1024 .f32) (a1 a2 a3 a4 : FVec Ideal S1024x256 .f32) (a5 : FVec Ideal S1024x4096 .f32)
    (a6 : FVec Ideal S4x256x1024 .f32) (a7 : FVec Ideal S1024x1024 .f32) (r : Fin 1024) (j : Fin 1024) :
    mergeT a0 a1 a2 a3 a4 a5 a6 a7 (ix2 r j) =
      mergedRow (fun k => a0 (ix2 r k)) (fun d => a1 (ix2 r d)) (fun d => a2 (ix2 r d)) (fun d => a3 (ix2 r d)) (fun d => a4 (ix2 r d))
        (fun k => a5 (ix2 r k)) (fun b d k => a6 (ix3 b d k)) (fun k j => a7 (ix2 k j)) j := by
  pointwise [mergeT]
  rfl

end Cert.MergeSampleRefIdeal.Value

end
-- ==== Proof.MergeSample.Claims.lean ====
module

public import proofs.«01_k».proof.Defs
public import proofs.«01_k».proof.Proof.MergeSample.Block
public import proofs.«01_k».proof.Proof.MergeSample.Ref
public import proofs.«01_k».proof.Proof.Gen.MergeSample.Frame
public import proofs.«01_k».proof.Proof.Gen.MergeSampleIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Attn.MergeSample

open Cert

/-- The reference's whole result, as the function of its index that `entry` gives. -/
theorem ref_array (a0 : FVec Ideal MergeSampleIdeal.S1024x1024 .f32) (a1 a2 a3 a4 : FVec Ideal MergeSampleIdeal.S1024x256 .f32)
    (a5 : FVec Ideal MergeSampleIdeal.S1024x4096 .f32) (a6 : FVec Ideal MergeSampleIdeal.S4x256x1024 .f32) (a7 : FVec Ideal MergeSampleIdeal.S1024x1024 .f32) :
    MergeSampleRefIdeal.Value.mergeT a0 a1 a2 a3 a4 a5 a6 a7 = fun y : MergeSampleIdeal.S1024x1024.Idx =>
      MergeSampleIdeal.Rows.entry a0 a1 a2 a3 a4 a5 a6 a7 (y 0) (y 1) :=
  funext fun y : MergeSampleIdeal.S1024x1024.Idx =>
    (congrArg (MergeSampleRefIdeal.Value.mergeT a0 a1 a2 a3 a4 a5 a6 a7) (Idealize.ShloMosaic.eq_ix2 y)).trans
      (MergeSampleRefIdeal.Value.merge_at a0 a1 a2 a3 a4 a5 a6 a7 (y 0) (y 1))

/-- The kernel and the reference leave the same array. -/
theorem algebraic : Cert.algebraic_MergeSampleIdeal_MergeSampleRefIdeal := by
  pair_intro
  · run_from Cert.MergeSampleIdeal.Gen.run_main m g
  · run_from Cert.MergeSampleRefIdeal.Value.run m' g'
    exact (ref_array _ _ _ _ _ _ _ _).trans (Cert.MergeSampleIdeal.Rows.final m c).symm

/-- The reference terminates without a fault and leaves its arguments and the semaphores alone. -/
theorem frame_ref : Cert.quiescent_MergeSampleRefIdeal := by
  intro m g _
  refine (θ_run Cert.MergeSampleRefIdeal.defs _ _).mono
    (fun r h => ⟨fun c => (h c).2, sem_eq_zero_of_no_sems (by decide) r.2⟩) (Cert.MergeSampleRefIdeal.Value.run (F := Ideal) m g)

/-- The kernel terminates without a fault and leaves its arguments and the semaphores alone. -/
theorem frame : Cert.quiescent_MergeSample := fun m ρ _ => Cert.MergeSample.Gen.frame m ρ

/-- So does the kernel read over the extended reals. -/
theorem frame_ideal : Cert.quiescent_MergeSampleIdeal := fun m ρ _ => Cert.MergeSampleIdeal.Gen.frame m ρ

end Attn.MergeSample

end
-- ==== Proof.lean ====
module

public import proofs.«01_k».proof.Defs
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaIdeal.Value
public import proofs.«01_k».proof.Proof.Gen.MlaRefIdeal.Run
public import proofs.«01_k».proof.Proof.Gen.MlpIdeal.Value
public import proofs.«01_k».proof.Proof.Gen.MlpRefIdeal.Run
public import proofs.«01_k».proof.Proof.Gen.MergeIdeal.Value
public import proofs.«01_k».proof.Proof.Gen.MergeRefIdeal.Run
public import proofs.«01_k».proof.Proof.Gen.LastIdeal.Value
public import proofs.«01_k».proof.Proof.Gen.LastRefIdeal.Run
public import proofs.«01_k».proof.Proof.Gen.FinalIdeal.Value
public import proofs.«01_k».proof.Proof.Gen.FinalRefIdeal.Run
public import proofs.«01_k».proof.Proof.Gen.ProjIdeal.Value
public import proofs.«01_k».proof.Proof.Gen.ProjRefIdeal.Run
public import proofs.«01_k».proof.Proof.Gen.Mlp
public import proofs.«01_k».proof.Proof.Gen.Mlp.Frame
public import proofs.«01_k».proof.Proof.Gen.Merge
public import proofs.«01_k».proof.Proof.Gen.Merge.Frame
public import proofs.«01_k».proof.Proof.Gen.Last
public import proofs.«01_k».proof.Proof.Gen.Last.Frame
public import proofs.«01_k».proof.Proof.Gen.Final
public import proofs.«01_k».proof.Proof.Gen.Final.Frame
public import proofs.«01_k».proof.Proof.Gen.Proj
public import proofs.«01_k».proof.Proof.Gen.Proj.Frame
public import proofs.«01_k».proof.Proof.Gen.Cmp
public import proofs.«01_k».proof.Proof.Gen.Cmp.Frame
public import proofs.«01_k».proof.Proof.Gen.CmpIdeal
public import proofs.«01_k».proof.Proof.Gen.CmpIdeal.Frame
public import proofs.«01_k».proof.Proof.Gen.CmpRefIdeal
public import proofs.«01_k».proof.Proof.Gen.CmpRefIdeal.Run
public import proofs.«01_k».proof.Proof.Gen.Rows
public import proofs.«01_k».proof.Proof.Gen.Rows.Frame
public import proofs.«01_k».proof.Proof.Gen.RowsIdeal
public import proofs.«01_k».proof.Proof.Gen.RowsIdeal.Frame
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Gen.RowsRefIdeal
public import proofs.«01_k».proof.Proof.Gen.RowsRefIdeal.Run
public import proofs.«01_k».proof.Proof.Gen.SampleRefIdeal
public import proofs.«01_k».proof.Proof.Gen.SampleRefIdeal.Run
public import proofs.«01_k».proof.Proof.Mla.Claims
public import proofs.«01_k».proof.Proof.Mlp.Claims
public import proofs.«01_k».proof.Proof.Merge.Claims
public import proofs.«01_k».proof.Proof.Final.Claims
public import proofs.«01_k».proof.Proof.Last.Claims
public import proofs.«01_k».proof.Proof.Proj.Claims
public import proofs.«01_k».proof.Proof.Rows.Claims
public import proofs.«01_k».proof.Proof.Sample.Claims
public import proofs.«01_k».proof.Proof.Cmp.Claims
public import proofs.«01_k».proof.Proof.Gen.Joint
public import proofs.«01_k».proof.Proof.Gen.Joint.Frame
public import proofs.«01_k».proof.Proof.Gen.JointIdeal
public import proofs.«01_k».proof.Proof.Gen.JointIdeal.Frame
public import proofs.«01_k».proof.Proof.Gen.JointRefIdeal
public import proofs.«01_k».proof.Proof.Gen.JointRefIdeal.Run
public import proofs.«01_k».proof.Proof.Joint.Claims
public import proofs.«01_k».proof.Proof.Gen.MlpSample
public import proofs.«01_k».proof.Proof.Gen.MlpSample.Frame
public import proofs.«01_k».proof.Proof.Gen.MlpSampleIdeal
public import proofs.«01_k».proof.Proof.Gen.MlpSampleIdeal.Frame
public import proofs.«01_k».proof.Proof.Gen.MlpSampleRefIdeal
public import proofs.«01_k».proof.Proof.Gen.MlpSampleRefIdeal.Run
public import proofs.«01_k».proof.Proof.MlpSample.Claims
public import proofs.«01_k».proof.Proof.Gen.MergeSample
public import proofs.«01_k».proof.Proof.Gen.MergeSample.Frame
public import proofs.«01_k».proof.Proof.Gen.MergeSampleIdeal
public import proofs.«01_k».proof.Proof.Gen.MergeSampleIdeal.Frame
public import proofs.«01_k».proof.Proof.Gen.MergeSampleRefIdeal
public import proofs.«01_k».proof.Proof.Gen.MergeSampleRefIdeal.Run
public import proofs.«01_k».proof.Proof.MergeSample.Claims
public import Idealize.ShloMosaic.Adequacy
public import Idealize.ShloMosaic.Init

@[expose] public section

noncomputable section

namespace Cert.Proof

open Idealize.ShloMosaic Idealize.SL.Sem

theorem claim : Cert.Claim := ⟨Cert.Mla.Gen.facts, Cert.MlaIdeal.Gen.facts, Cert.MlaRefIdeal.Gen.facts,
  Cert.Mlp.Gen.facts, Cert.MlpIdeal.Gen.facts, Cert.MlpRefIdeal.Gen.facts,
  Cert.Merge.Gen.facts, Cert.MergeIdeal.Gen.facts, Cert.MergeRefIdeal.Gen.facts,
  Cert.Final.Gen.facts, Cert.FinalIdeal.Gen.facts, Cert.FinalRefIdeal.Gen.facts,
  Cert.Last.Gen.facts, Cert.LastIdeal.Gen.facts, Cert.LastRefIdeal.Gen.facts,
  Cert.Proj.Gen.facts, Cert.ProjIdeal.Gen.facts, Cert.ProjRefIdeal.Gen.facts,
  Cert.Rows.Gen.facts, Cert.RowsIdeal.Gen.facts, Cert.RowsRefIdeal.Gen.facts,
  Cert.Sample.Gen.facts, Cert.SampleIdeal.Gen.facts, Cert.SampleRefIdeal.Gen.facts,
  Cert.Cmp.Gen.facts, Cert.CmpIdeal.Gen.facts, Cert.CmpRefIdeal.Gen.facts,
  Cert.MlpSample.Gen.facts, Cert.MlpSampleIdeal.Gen.facts, Cert.MlpSampleRefIdeal.Gen.facts,
  Cert.MergeSample.Gen.facts, Cert.MergeSampleIdeal.Gen.facts, Cert.MergeSampleRefIdeal.Gen.facts,
  Cert.Joint.Gen.facts, Cert.JointIdeal.Gen.facts, Cert.JointRefIdeal.Gen.facts,
  fun m ρ _ => Cert.Mla.Gen.frame m ρ, fun m ρ _ => Cert.MlaIdeal.Gen.frame m ρ, Attn.Mla.frame_ref,
  Attn.Mlp.frame, Attn.Mlp.frame_ideal, Attn.Mlp.frame_ref,
  Attn.Merge.frame, Attn.Merge.frame_ideal, Attn.Merge.frame_ref,
  Attn.Final.frame, Attn.Final.frame_ideal, Attn.Final.frame_ref,
  Attn.Last.frame, Attn.Last.frame_ideal, Attn.Last.frame_ref,
  Attn.Proj.frame, Attn.Proj.frame_ideal, Attn.Proj.frame_ref,
  Attn.Rows.frame, Attn.Rows.frame_ideal, Attn.Rows.frame_ref,
  Attn.Sample.frame, Attn.Sample.frame_ideal, Attn.Sample.frame_ref,
  Attn.Cmp.frame, Attn.Cmp.frame_ideal, Attn.Cmp.frame_ref,
  Attn.MlpSample.frame, Attn.MlpSample.frame_ideal, Attn.MlpSample.frame_ref,
  Attn.MergeSample.frame, Attn.MergeSample.frame_ideal, Attn.MergeSample.frame_ref,
  Attn.Joint.frame, Attn.Joint.frame_ideal, Attn.Joint.frame_ref,
  Attn.Mla.preserves, Attn.Mla.algebraic,
  trivial, Attn.Mlp.algebraic,
  trivial, Attn.Merge.algebraic,
  trivial, Attn.Final.algebraic,
  trivial, Attn.Last.algebraic,
  trivial, Attn.Proj.algebraic,
  trivial, Attn.Rows.algebraic,
  trivial, Attn.Sample.algebraic,
  trivial, Attn.Cmp.algebraic,
  trivial, Attn.MlpSample.algebraic,
  trivial, Attn.MergeSample.algebraic,
  Attn.Joint.preserves, Attn.Joint.algebraic⟩

end Cert.Proof

end
